-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmRefIdeal (m : (ℓ : Loc Cert.MlstmRefIdeal.nD Cert.MlstmRefIdeal.τ Cert.MlstmRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1))
      ∧ r.2.sem = fun _ => 0)

def preserves_Attn_AttnIdeal : Prop :=
  IdealRules.named_const.Statement Cert.AttnIdeal.κ "mask" .f32 0xF149F2CA#32 ⊥

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)) (v2 : (c : Dev Cert.ProjIdeal.nD) → Buf (Elt Ideal) ((c.tc : Thread Cert.ProjIdeal.nD Cert.ProjIdeal.τ).loc Cert.ProjIdeal.main_v9_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_v9_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v33) = v0 c
          ∧ r.2.mem ((c.tc : Thread Cert.ProjRefIdeal.nD Cert.ProjRefIdeal.τ).loc Cert.ProjRefIdeal.main_v34) = v1 c
          ∧ r.2.mem ((c.tc : Thread Cert.ProjRefIdeal.nD Cert.ProjRefIdeal.τ).loc Cert.ProjRefIdeal.main_v35) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)) →
    ∃ (v0 : (c : Dev Cert.MergeIdeal.nD) → Buf (Elt Ideal) ((c.tc : Thread Cert.MergeIdeal.nD Cert.MergeIdeal.τ).loc Cert.MergeIdeal.main_v24_0)) (v1 : (c : Dev Cert.MergeIdeal.nD) → Buf (Elt Ideal) ((c.tc : Thread Cert.MergeIdeal.nD Cert.MergeIdeal.τ).loc Cert.MergeIdeal.main_v24_1)) (v2 : (c : Dev Cert.MergeIdeal.nD) → Buf (Elt Ideal) ((c.tc : Thread Cert.MergeIdeal.nD Cert.MergeIdeal.τ).loc Cert.MergeIdeal.main_v24_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v24_0) = v0 c
          ∧ r.2.mem ((c.tc : Thread Cert.MergeIdeal.nD Cert.MergeIdeal.τ).loc Cert.MergeIdeal.main_v24_1) = v1 c
          ∧ r.2.mem ((c.tc : Thread Cert.MergeIdeal.nD Cert.MergeIdeal.τ).loc Cert.MergeIdeal.main_v24_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v118) = v0 c
          ∧ r.2.mem ((c.tc : Thread Cert.MergeRefIdeal.nD Cert.MergeRefIdeal.τ).loc Cert.MergeRefIdeal.main_v121) = v1 c
          ∧ r.2.mem ((c.tc : Thread Cert.MergeRefIdeal.nD Cert.MergeRefIdeal.τ).loc Cert.MergeRefIdeal.main_v123) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16))

def preserves_Mlstm_MlstmIdeal : Prop :=
  True

def algebraic_MlstmIdeal_MlstmRefIdeal [hMlstmIdeal : Cert.MlstmIdeal.Facts] [hMlstmRefIdeal : Cert.MlstmRefIdeal.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)) →
    ∃ (v0 : (c : Dev Cert.MlstmIdeal.nD) → Buf (Elt Ideal) ((c.tc : Thread Cert.MlstmIdeal.nD Cert.MlstmIdeal.τ).loc Cert.MlstmIdeal.main_v12_0)) (v1 : (c : Dev Cert.MlstmIdeal.nD) → Buf (Elt Ideal) ((c.tc : Thread Cert.MlstmIdeal.nD Cert.MlstmIdeal.τ).loc Cert.MlstmIdeal.main_v12_1)) (v2 : (c : Dev Cert.MlstmIdeal.nD) → Buf (Elt Ideal) ((c.tc : Thread Cert.MlstmIdeal.nD Cert.MlstmIdeal.τ).loc Cert.MlstmIdeal.main_v12_2)) (v3 : (c : Dev Cert.MlstmIdeal.nD) → Buf (Elt Ideal) ((c.tc : Thread Cert.MlstmIdeal.nD Cert.MlstmIdeal.τ).loc Cert.MlstmIdeal.main_v12_3)) (v4 : (c : Dev Cert.MlstmIdeal.nD) → Buf (Elt Ideal) ((c.tc : Thread Cert.MlstmIdeal.nD Cert.MlstmIdeal.τ).loc Cert.MlstmIdeal.main_v12_4)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v12_0) = v0 c
          ∧ r.2.mem ((c.tc : Thread Cert.MlstmIdeal.nD Cert.MlstmIdeal.τ).loc Cert.MlstmIdeal.main_v12_1) = v1 c
          ∧ r.2.mem ((c.tc : Thread Cert.MlstmIdeal.nD Cert.MlstmIdeal.τ).loc Cert.MlstmIdeal.main_v12_2) = v2 c
          ∧ r.2.mem ((c.tc : Thread Cert.MlstmIdeal.nD Cert.MlstmIdeal.τ).loc Cert.MlstmIdeal.main_v12_3) = v3 c
          ∧ r.2.mem ((c.tc : Thread Cert.MlstmIdeal.nD Cert.MlstmIdeal.τ).loc Cert.MlstmIdeal.main_v12_4) = v4 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v364) = v0 c
          ∧ r.2.mem ((c.tc : Thread Cert.MlstmRefIdeal.nD Cert.MlstmRefIdeal.τ).loc Cert.MlstmRefIdeal.main_v366) = v1 c
          ∧ r.2.mem ((c.tc : Thread Cert.MlstmRefIdeal.nD Cert.MlstmRefIdeal.τ).loc Cert.MlstmRefIdeal.main_v367) = v2 c
          ∧ r.2.mem ((c.tc : Thread Cert.MlstmRefIdeal.nD Cert.MlstmRefIdeal.τ).loc Cert.MlstmRefIdeal.main_v368) = v3 c
          ∧ r.2.mem ((c.tc : Thread Cert.MlstmRefIdeal.nD Cert.MlstmRefIdeal.τ).loc Cert.MlstmRefIdeal.main_v371) = v4 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hMlstm : Cert.Mlstm.Facts) (hMlstmIdeal : Cert.MlstmIdeal.Facts) (hMlstmRefIdeal : Cert.MlstmRefIdeal.Facts),
    quiescent_Attn (hAttn := hAttn)
    ∧ quiescent_AttnIdeal (hAttnIdeal := hAttnIdeal)
    ∧ quiescent_AttnRefIdeal (hAttnRefIdeal := hAttnRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mlstm (hMlstm := hMlstm)
    ∧ quiescent_MlstmIdeal (hMlstmIdeal := hMlstmIdeal)
    ∧ quiescent_MlstmRefIdeal (hMlstmRefIdeal := hMlstmRefIdeal)
    ∧ preserves_Attn_AttnIdeal
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Mlstm_MlstmIdeal
    ∧ algebraic_MlstmIdeal_MlstmRefIdeal (hMlstmIdeal := hMlstmIdeal) (hMlstmRefIdeal := hMlstmRefIdeal)
-- ==== Attn.lean ====
abbrev S8x2048x3856 : Shape := ⟨3, ![8, 2048, 3856]⟩
abbrev S8x2x256x2x64 : Shape := ⟨5, ![8, 2, 256, 2, 64]⟩
abbrev S2x8 : Shape := ⟨2, ![2, 8]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S8x2x256x128 : Shape := ⟨4, ![8, 2, 256, 128]⟩
abbrev S16384x3856 : Shape := ⟨2, ![16384, 3856]⟩
abbrev S16384x2048 : Shape := ⟨2, ![16384, 2048]⟩
abbrev S16384x16 : Shape := ⟨2, ![16384, 16]⟩
abbrev S16384x1792 : Shape := ⟨2, ![16384, 1792]⟩
abbrev S16384x112 : Shape := ⟨2, ![16384, 112]⟩
abbrev S16384x3968 : Shape := ⟨2, ![16384, 3968]⟩
abbrev S16384x512 : Shape := ⟨2, ![16384, 512]⟩
abbrev S128x512 : Shape := ⟨2, ![128, 512]⟩
abbrev S128x128 : Shape := ⟨2, ![128, 128]⟩
abbrev S1x1x256x128 : Shape := ⟨4, ![1, 1, 256, 128]⟩
abbrev S256x128 : Shape := ⟨2, ![256, 128]⟩
abbrev S640x128 : Shape := ⟨2, ![640, 128]⟩
abbrev S128x640 : Shape := ⟨2, ![128, 640]⟩
abbrev S1x1 : Shape := ⟨2, ![1, 1]⟩
abbrev S128 : Shape := ⟨1, ![128]⟩
abbrev S128x1 : Shape := ⟨2, ![128, 1]⟩

abbrev nBuf : Space → Nat
  | .hbm => 87
  | .vmem => 32
  | .smem => 1
  | _ => 0

abbrev bufTy : (tb : Table) → Fin (tcTables nBuf tb) → BufTy
  | .hbm, ⟨0, _⟩ => ⟨S8x2048x3856, .f32⟩
  | .hbm, ⟨1, _⟩ => ⟨S8x2x256x2x64, .f32⟩
  | .hbm, ⟨2, _⟩ => ⟨S8x2x256x2x64, .f32⟩
  | .hbm, ⟨3, _⟩ => ⟨S2x8, .f32⟩
  | .hbm, ⟨4, _⟩ => ⟨S2048, .i32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048, .f32⟩
  | .hbm, ⟨32, _⟩ => ⟨S2048x1, .f32⟩
  | .hbm, ⟨33, _⟩ => ⟨S1x16, .f32⟩
  | .hbm, ⟨34, _⟩ => ⟨S2048x16, .f32⟩
  | .hbm, ⟨35, _⟩ => ⟨S2048x16, .f32⟩
  | .hbm, ⟨36, _⟩ => ⟨S2048x16, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S_, .i32⟩
  | .hbm, ⟨49, _⟩ => ⟨S2048, .i32⟩
  | .hbm, ⟨50, _⟩ => ⟨S2048, .i1⟩
  | .hbm, ⟨51, _⟩ => ⟨S_, .i32⟩
  | .hbm, ⟨52, _⟩ => ⟨S_, .i1⟩
  | .hbm, ⟨53, _⟩ => ⟨S2048, .i1⟩
  | .hbm, ⟨54, _⟩ => ⟨S2048, .i1⟩
  | .hbm, ⟨55, _⟩ => ⟨S2048, .i1⟩
  | .hbm, ⟨56, _⟩ => ⟨S2048, .i32⟩
  | .hbm, ⟨57, _⟩ => ⟨S2048, .i32⟩
  | .hbm, ⟨58, _⟩ => ⟨S2048, .i32⟩
  | .hbm, ⟨59, _⟩ => ⟨S2048, .f32⟩
  | .hbm, ⟨60, _⟩ => ⟨S2048x1, .f32⟩
  | .hbm, ⟨61, _⟩ => ⟨S1x16, .f32⟩
  | .hbm, ⟨62, _⟩ => ⟨S2048x16, .f32⟩
  | .hbm, ⟨63, _⟩ => ⟨S2048x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S2048x64, .f32⟩
  | .hbm, ⟨68, _⟩ => ⟨S2048x16, .f32⟩
  | .hbm, ⟨69, _⟩ => ⟨S2048x16, .f32⟩
  | .hbm, ⟨70, _⟩ => ⟨S2048x16, .f32⟩
  | .hbm, ⟨71, _⟩ => ⟨S2048x16, .f32⟩
  | .hbm, ⟨72, _⟩ => ⟨S2048x16, .f32⟩
  | .hbm, ⟨73, _⟩ => ⟨S2048x16, .f32⟩
  | .hbm, ⟨74, _⟩ => ⟨S2048x64, .f32⟩
  | .hbm, ⟨75, _⟩ => ⟨S2048x128, .f32⟩
  | .hbm, ⟨76, _⟩ => ⟨S2048x128, .f32⟩
  | .hbm, ⟨77, _⟩ => ⟨S8x2x256x128, .f32⟩
  | .hbm, ⟨78, _⟩ => ⟨S8x2x256x128, .f32⟩
  | .hbm, ⟨79, _⟩ => ⟨S16384x3856, .f32⟩
  | .hbm, ⟨80, _⟩ => ⟨S16384x2048, .f32⟩
  | .hbm, ⟨81, _⟩ => ⟨S16384x16, .f32⟩
  | .hbm, ⟨82, _⟩ => ⟨S16384x1792, .f32⟩
  | .hbm, ⟨83, _⟩ => ⟨S_, .f32⟩
  | .hbm, ⟨84, _⟩ => ⟨S16384x112, .f32⟩
  | .hbm, ⟨85, _⟩ => ⟨S16384x3968, .f32⟩
  | .hbm, ⟨86, _⟩ => ⟨S16384x512, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S1x1x256x128, .f32⟩
  | .local _ .vmem, ⟨27, _⟩ => ⟨S1x1x256x128, .f32⟩
  | .local _ .vmem, ⟨28, _⟩ => ⟨S1x1x256x128, .f32⟩
  | .local _ .vmem, ⟨29, _⟩ => ⟨S1x1x256x128, .f32⟩
  | .local _ .vmem, ⟨30, _⟩ => ⟨S128x512, .f32⟩
  | .local _ .vmem, ⟨31, _⟩ => ⟨S128x512, .f32⟩
  | .local _ .smem, ⟨0, _⟩ => ⟨S2x8, .f32⟩
  | _, _ => ⟨S8x2048x3856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_1 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_2 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi arg1 c0_i32
  let c0_i32_0 : BitVec 32 := 0#32
  let c15_i32 : BitVec 32 := 15#32
  let v2 : BitVec 32 := Scalar.maxsi c0_i32_0 v1
  let v3 : BitVec 32 := Scalar.minsi c15_i32 v2
  let v4 : BitVec 32 := Scalar.addi v0 v3
  let c6_i32 : BitVec 32 := 6#32
  let c0_i32_1 : BitVec 32 := 0#32
  ![v4.toNat, c6_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c_m1_i32 : BitVec 32 := 4294967295#32
  let v1 : BitVec 32 := Scalar.addi arg1 c_m1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c28_i32 : BitVec 32 := 28#32
  let c0_i32_0 : BitVec 32 := 0#32
  ![v4.toNat, c28_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi arg1 c0_i32
  let c0_i32_0 : BitVec 32 := 0#32
  let c15_i32 : BitVec 32 := 15#32
  let v2 : BitVec 32 := Scalar.maxsi c0_i32_0 v1
  let v3 : BitVec 32 := Scalar.minsi c15_i32 v2
  let v4 : BitVec 32 := Scalar.addi v0 v3
  let c28_i32 : BitVec 32 := 28#32
  let c0_i32_1 : BitVec 32 := 0#32
  ![v4.toNat, c28_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c28_i32 : BitVec 32 := 28#32
  let c0_i32_0 : BitVec 32 := 0#32
  ![v4.toNat, c28_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c_m1_i32 : BitVec 32 := 4294967295#32
  let v1 : BitVec 32 := Scalar.addi arg1 c_m1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c29_i32 : BitVec 32 := 29#32
  let c0_i32_0 : BitVec 32 := 0#32
  ![v4.toNat, c29_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi arg1 c0_i32
  let c0_i32_0 : BitVec 32 := 0#32
  let c15_i32 : BitVec 32 := 15#32
  let v2 : BitVec 32 := Scalar.maxsi c0_i32_0 v1
  let v3 : BitVec 32 := Scalar.minsi c15_i32 v2
  let v4 : BitVec 32 := Scalar.addi v0 v3
  let c29_i32 : BitVec 32 := 29#32
  let c0_i32_1 : BitVec 32 := 0#32
  ![v4.toNat, c29_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c29_i32 : BitVec 32 := 29#32
  let c0_i32_0 : BitVec 32 := 0#32
  ![v4.toNat, c29_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_10 (i : grid0.Coords) : Fin 2 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8x2048x3856 : Shape := ⟨3, ![8, 2048, 3856]⟩
abbrev S8x2x256x2x64 : Shape := ⟨5, ![8, 2, 256, 2, 64]⟩
abbrev S2x8 : Shape := ⟨2, ![2, 8]⟩
abbrev S8x2048x512 : Shape := ⟨3, ![8, 2048, 512]⟩
abbrev S8x2048x8x64 : Shape := ⟨4, ![8, 2048, 8, 64]⟩
abbrev S2048 : Shape := ⟨1, ![2048]⟩
abbrev S16 : Shape := ⟨1, ![16]⟩
abbrev S_ : Shape := ⟨0, ![]⟩
abbrev S8x2048x8x32 : Shape := ⟨4, ![8, 2048, 8, 32]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S8x2048x8x16 : Shape := ⟨4, ![8, 2048, 8, 16]⟩
abbrev S8x2048x128 : Shape := ⟨3, ![8, 2048, 128]⟩
abbrev S8x2048x2x64 : Shape := ⟨4, ![8, 2048, 2, 64]⟩
abbrev S8x2048x2x32 : Shape := ⟨4, ![8, 2048, 2, 32]⟩
abbrev S8x2048x2x16 : Shape := ⟨4, ![8, 2048, 2, 16]⟩
abbrev S8x1x256x2x64 : Shape := ⟨5, ![8, 1, 256, 2, 64]⟩
abbrev S8x256x2x64 : Shape := ⟨4, ![8, 256, 2, 64]⟩
abbrev S8x2048x2x4x64 : Shape := ⟨5, ![8, 2048, 2, 4, 64]⟩
abbrev S1x8 : Shape := ⟨2, ![1, 8]⟩
abbrev S8 : Shape := ⟨1, ![8]⟩
abbrev S1x2x4x1x1 : Shape := ⟨5, ![1, 2, 4, 1, 1]⟩
abbrev S8x2x4x2048x1 : Shape := ⟨5, ![8, 2, 4, 2048, 1]⟩
abbrev S8x2x256x2048x4 : Shape := ⟨5, ![8, 2, 256, 2048, 4]⟩
abbrev S8x2x4x2048x256 : Shape := ⟨5, ![8, 2, 4, 2048, 256]⟩
abbrev S8x2x2048x2048x4 : Shape := ⟨5, ![8, 2, 2048, 2048, 4]⟩
abbrev S8x2x4x2048x2048 : Shape := ⟨5, ![8, 2, 4, 2048, 2048]⟩
abbrev S1x2048 : Shape := ⟨2, ![1, 2048]⟩
abbrev S2048x2048 : Shape := ⟨2, ![2048, 2048]⟩
abbrev S1x1x1x2048x2048 : Shape := ⟨5, ![1, 1, 1, 2048, 2048]⟩
abbrev S8x2x4x2048x2305 : Shape := ⟨5, ![8, 2, 4, 2048, 2305]⟩
abbrev S8x2x4x2048 : Shape := ⟨4, ![8, 2, 4, 2048]⟩
abbrev S8x2x64x4x2048 : Shape := ⟨5, ![8, 2, 64, 4, 2048]⟩
abbrev S16384x512 : Shape := ⟨2, ![16384, 512]⟩

abbrev nBuf : Space → Nat
  | .hbm => 264
  | .vmem => 0
  | .smem => 0
  | _ => 0

abbrev hbmTy0_0 (i : Nat) : BufTy := match i % 128 with
  | 0 => ⟨S8x2048x3856, .f32⟩
  | 1 => ⟨S8x2x256x2x64, .f32⟩
  | 2 => ⟨S8x2x256x2x64, .f32⟩
  | 3 => ⟨S2x8, .f32⟩
  | 4 => ⟨S8x2048x512, .f32⟩
  | 5 => ⟨S8x2048x8x64, .f32⟩
  | 6 => ⟨S2048, .i32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S8x2048x8x32, .f32⟩
  | 16 => ⟨S_, .i32⟩
  | 17 => ⟨S_, .i32⟩
  | 18 => ⟨S2048, .i32⟩
  | 19 => ⟨S2048, .i32⟩
  | 20 => ⟨S2048, .i32⟩
  | 21 => ⟨S_, .i32⟩
  | 22 => ⟨S2048, .i32⟩
  | 23 => ⟨S2048, .i1⟩
  | 24 => ⟨S2048, .i32⟩
  | 25 => ⟨S2048, .i32⟩
  | 26 => ⟨S_, .i32⟩
  | 27 => ⟨S2048, .i32⟩
  | 28 => ⟨S2048, .i1⟩
  | 29 => ⟨S2048, .i1⟩
  | 30 => ⟨S_, .i32⟩
  | 31 => ⟨S2048, .i32⟩
  | 32 => ⟨S2048, .i32⟩
  | 33 => ⟨S2048, .i32⟩
  | 34 => ⟨S2048, .f32⟩
  | 35 => ⟨S2048x1, .f32⟩
  | 36 => ⟨S1x16, .f32⟩
  | 37 => ⟨S2048x16, .f32⟩
  | 38 => ⟨S2048x16, .f32⟩
  | 39 => ⟨S2048x16, .f32⟩
  | 40 => ⟨S2048x16, .f32⟩
  | 41 => ⟨S1x2048x1x16, .f32⟩
  | 42 => ⟨S2048x16, .f32⟩
  | 43 => ⟨S1x2048x1x16, .f32⟩
  | 44 => ⟨S8x2048x8x16, .f32⟩
  | 45 => ⟨S8x2048x8x16, .f32⟩
  | 46 => ⟨S8x2048x8x16, .f32⟩
  | 47 => ⟨S8x2048x8x16, .f32⟩
  | 48 => ⟨S8x2048x8x16, .f32⟩
  | 49 => ⟨S8x2048x8x16, .f32⟩
  | 50 => ⟨S8x2048x8x16, .f32⟩
  | 51 => ⟨S8x2048x8x16, .f32⟩
  | 52 => ⟨S8x2048x8x16, .f32⟩
  | 53 => ⟨S8x2048x8x16, .f32⟩
  | 54 => ⟨S8x2048x8x16, .f32⟩
  | 55 => ⟨S8x2048x8x16, .f32⟩
  | 56 => ⟨S8x2048x8x32, .f32⟩
  | 57 => ⟨S8x2048x8x32, .f32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S2048, .i32⟩
  | 65 => ⟨S2048, .i32⟩
  | 66 => ⟨S_, .i32⟩
  | 67 => ⟨S2048, .i32⟩
  | 68 => ⟨S2048, .i1⟩
  | 69 => ⟨S_, .i32⟩
  | 70 => ⟨S2048, .i32⟩
  | 71 => ⟨S2048, .i1⟩
  | 72 => ⟨S_, .i32⟩
  | 73 => ⟨S_, .i1⟩
  | 74 => ⟨S2048, .i1⟩
  | 75 => ⟨S2048, .i1⟩
  | 76 => ⟨S2048, .i1⟩
  | 77 => ⟨S2048, .i32⟩
  | 78 => ⟨S2048, .i32⟩
  | 79 => ⟨S2048, .i32⟩
  | 80 => ⟨S2048, .f32⟩
  | 81 => ⟨S2048x1, .f32⟩
  | 82 => ⟨S1x16, .f32⟩
  | 83 => ⟨S2048x16, .f32⟩
  | 84 => ⟨S2048x16, .f32⟩
  | 85 => ⟨S2048x16, .f32⟩
  | 86 => ⟨S2048x16, .f32⟩
  | 87 => ⟨S1x2048x1x16, .f32⟩
  | 88 => ⟨S2048x16, .f32⟩
  | 89 => ⟨S1x2048x1x16, .f32⟩
  | 90 => ⟨S8x2048x8x16, .f32⟩
  | 91 => ⟨S8x2048x8x16, .f32⟩
  | 92 => ⟨S8x2048x8x16, .f32⟩
  | 93 => ⟨S8x2048x8x16, .f32⟩
  | 94 => ⟨S8x2048x8x16, .f32⟩
  | 95 => ⟨S8x2048x8x16, .f32⟩
  | 96 => ⟨S8x2048x8x16, .f32⟩
  | 97 => ⟨S8x2048x8x16, .f32⟩
  | 98 => ⟨S8x2048x8x16, .f32⟩
  | 99 => ⟨S8x2048x8x16, .f32⟩
  | 100 => ⟨S8x2048x8x16, .f32⟩
  | 101 => ⟨S8x2048x8x16, .f32⟩
  | 102 => ⟨S8x2048x8x32, .f32⟩
  | 103 => ⟨S8x2048x8x64, .f32⟩
  | 104 => ⟨S8x2048x128, .f32⟩
  | 105 => ⟨S8x2048x2x64, .f32⟩
  | 106 => ⟨S2048, .i32⟩
  | 107 => ⟨S16, .f32⟩
  | 108 => ⟨S16, .f32⟩
  | 109 => ⟨S_, .f32⟩
  | 110 => ⟨S16, .f32⟩
  | 111 => ⟨S16, .f32⟩
  | 112 => ⟨S_, .f32⟩
  | 113 => ⟨S16, .f32⟩
  | 114 => ⟨S16, .f32⟩
  | 115 => ⟨S8x2048x2x32, .f32⟩
  | 116 => ⟨S_, .i32⟩
  | 117 => ⟨S_, .i32⟩
  | 118 => ⟨S2048, .i32⟩
  | 119 => ⟨S2048, .i32⟩
  | 120 => ⟨S2048, .i32⟩
  | 121 => ⟨S_, .i32⟩
  | 122 => ⟨S2048, .i32⟩
  | 123 => ⟨S2048, .i1⟩
  | 124 => ⟨S2048, .i32⟩
  | 125 => ⟨S2048, .i32⟩
  | 126 => ⟨S_, .i32⟩
  | 127 => ⟨S2048, .i32⟩
  | _ => ⟨S8x2048x3856, .f32⟩

abbrev hbmTy0_1 (i : Nat) : BufTy := match i % 128 with
  | 0 => ⟨S2048, .i1⟩
  | 1 => ⟨S2048, .i1⟩
  | 2 => ⟨S_, .i32⟩
  | 3 => ⟨S2048, .i32⟩
  | 4 => ⟨S2048, .i32⟩
  | 5 => ⟨S2048, .i32⟩
  | 6 => ⟨S2048, .f32⟩
  | 7 => ⟨S2048x1, .f32⟩
  | 8 => ⟨S1x16, .f32⟩
  | 9 => ⟨S2048x16, .f32⟩
  | 10 => ⟨S2048x16, .f32⟩
  | 11 => ⟨S2048x16, .f32⟩
  | 12 => ⟨S2048x16, .f32⟩
  | 13 => ⟨S1x2048x1x16, .f32⟩
  | 14 => ⟨S2048x16, .f32⟩
  | 15 => ⟨S1x2048x1x16, .f32⟩
  | 16 => ⟨S8x2048x2x16, .f32⟩
  | 17 => ⟨S8x2048x2x16, .f32⟩
  | 18 => ⟨S8x2048x2x16, .f32⟩
  | 19 => ⟨S8x2048x2x16, .f32⟩
  | 20 => ⟨S8x2048x2x16, .f32⟩
  | 21 => ⟨S8x2048x2x16, .f32⟩
  | 22 => ⟨S8x2048x2x16, .f32⟩
  | 23 => ⟨S8x2048x2x16, .f32⟩
  | 24 => ⟨S8x2048x2x16, .f32⟩
  | 25 => ⟨S8x2048x2x16, .f32⟩
  | 26 => ⟨S8x2048x2x16, .f32⟩
  | 27 => ⟨S8x2048x2x16, .f32⟩
  | 28 => ⟨S8x2048x2x32, .f32⟩
  | 29 => ⟨S8x2048x2x32, .f32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S2048, .i32⟩
  | 37 => ⟨S2048, .i32⟩
  | 38 => ⟨S_, .i32⟩
  | 39 => ⟨S2048, .i32⟩
  | 40 => ⟨S2048, .i1⟩
  | 41 => ⟨S_, .i32⟩
  | 42 => ⟨S2048, .i32⟩
  | 43 => ⟨S2048, .i1⟩
  | 44 => ⟨S_, .i32⟩
  | 45 => ⟨S_, .i1⟩
  | 46 => ⟨S2048, .i1⟩
  | 47 => ⟨S2048, .i1⟩
  | 48 => ⟨S2048, .i1⟩
  | 49 => ⟨S2048, .i32⟩
  | 50 => ⟨S2048, .i32⟩
  | 51 => ⟨S2048, .i32⟩
  | 52 => ⟨S2048, .f32⟩
  | 53 => ⟨S2048x1, .f32⟩
  | 54 => ⟨S1x16, .f32⟩
  | 55 => ⟨S2048x16, .f32⟩
  | 56 => ⟨S2048x16, .f32⟩
  | 57 => ⟨S2048x16, .f32⟩
  | 58 => ⟨S2048x16, .f32⟩
  | 59 => ⟨S1x2048x1x16, .f32⟩
  | 60 => ⟨S2048x16, .f32⟩
  | 61 => ⟨S1x2048x1x16, .f32⟩
  | 62 => ⟨S8x2048x2x16, .f32⟩
  | 63 => ⟨S8x2048x2x16, .f32⟩
  | 64 => ⟨S8x2048x2x16, .f32⟩
  | 65 => ⟨S8x2048x2x16, .f32⟩
  | 66 => ⟨S8x2048x2x16, .f32⟩
  | 67 => ⟨S8x2048x2x16, .f32⟩
  | 68 => ⟨S8x2048x2x16, .f32⟩
  | 69 => ⟨S8x2048x2x16, .f32⟩
  | 70 => ⟨S8x2048x2x16, .f32⟩
  | 71 => ⟨S8x2048x2x16, .f32⟩
  | 72 => ⟨S8x2048x2x16, .f32⟩
  | 73 => ⟨S8x2048x2x16, .f32⟩
  | 74 => ⟨S8x2048x2x32, .f32⟩
  | 75 => ⟨S8x2048x2x64, .f32⟩
  | 76 => ⟨S8x2048x128, .f32⟩
  | 77 => ⟨S8x2048x2x64, .f32⟩
  | 78 => ⟨S8x1x256x2x64, .f32⟩
  | 79 => ⟨S8x256x2x64, .f32⟩
  | 80 => ⟨S8x1x256x2x64, .f32⟩
  | 81 => ⟨S8x256x2x64, .f32⟩
  | 82 => ⟨S8x2048x2x4x64, .f32⟩
  | 83 => ⟨S1x8, .f32⟩
  | 84 => ⟨S8, .f32⟩
  | 85 => ⟨S1x2x4x1x1, .f32⟩
  | 86 => ⟨S8x2x4x2048x1, .f32⟩
  | 87 => ⟨S8x2x256x2048x4, .f32⟩
  | 88 => ⟨S8x2x4x2048x256, .f32⟩
  | 89 => ⟨S_, .f32⟩
  | 90 => ⟨S8x2x4x2048x256, .f32⟩
  | 91 => ⟨S8x2x4x2048x256, .f32⟩
  | 92 => ⟨S8x2x2048x2048x4, .f32⟩
  | 93 => ⟨S8x2x4x2048x2048, .f32⟩
  | 94 => ⟨S_, .f32⟩
  | 95 => ⟨S8x2x4x2048x2048, .f32⟩
  | 96 => ⟨S8x2x4x2048x2048, .f32⟩
  | 97 => ⟨S2048, .i32⟩
  | 98 => ⟨S2048x1, .i32⟩
  | 99 => ⟨S1x2048, .i32⟩
  | 100 => ⟨S2048x2048, .i32⟩
  | 101 => ⟨S2048x2048, .i32⟩
  | 102 => ⟨S2048x2048, .i32⟩
  | 103 => ⟨S2048x2048, .i32⟩
  | 104 => ⟨S_, .i32⟩
  | 105 => ⟨S2048x2048, .i32⟩
  | 106 => ⟨S2048x2048, .i1⟩
  | 107 => ⟨S1x1x1x2048x2048, .i1⟩
  | 108 => ⟨S_, .f32⟩
  | 109 => ⟨S_, .f32⟩
  | 110 => ⟨S8x2x4x2048x2048, .i1⟩
  | 111 => ⟨S8x2x4x2048x2048, .f32⟩
  | 112 => ⟨S8x2x4x2048x2048, .f32⟩
  | 113 => ⟨S8x2x4x2048x2305, .f32⟩
  | 114 => ⟨S_, .f32⟩
  | 115 => ⟨S8x2x4x2048, .f32⟩
  | 116 => ⟨S_, .f32⟩
  | 117 => ⟨S8x2x4x2048, .f32⟩
  | 118 => ⟨S8x2x4x2048, .f32⟩
  | 119 => ⟨S8x2x4x2048x1, .f32⟩
  | 120 => ⟨S8x2x4x2048x2305, .f32⟩
  | 121 => ⟨S8x2x4x2048x2305, .f32⟩
  | 122 => ⟨S8x2x4x2048x2305, .f32⟩
  | 123 => ⟨S_, .f32⟩
  | 124 => ⟨S8x2x4x2048, .f32⟩
  | 125 => ⟨S8x2x4x2048x1, .f32⟩
  | 126 => ⟨S8x2x4x2048x2305, .f32⟩
  | 127 => ⟨S8x2x4x2048x2305, .f32⟩
  | _ => ⟨S8x2048x3856, .f32⟩

abbrev hbmTy0_2 (i : Nat) : BufTy := match i % 128 with
  | 0 => ⟨S8x2x4x2048x256, .f32⟩
  | 1 => ⟨S8x2x64x4x2048, .f32⟩
  | 2 => ⟨S8x2048x2x4x64, .f32⟩
  | 3 => ⟨S8x2x4x2048x2048, .f32⟩
  | 4 => ⟨S8x2x64x4x2048, .f32⟩
  | 5 => ⟨S8x2048x2x4x64, .f32⟩
  | 6 => ⟨S8x2048x2x4x64, .f32⟩
  | 7 => ⟨S16384x512, .f32⟩
  | _ => ⟨S8x2048x3856, .f32⟩

abbrev hbmTy (i : Nat) : BufTy := match i / 128 with
  | 0 => hbmTy0_0 i
  | 1 => hbmTy0_1 i
  | 2 => hbmTy0_2 i
  | _ => ⟨S8x2048x3856, .f32⟩

abbrev bufTy : (tb : Table) → Fin (tcTables nBuf tb) → BufTy
  | .hbm, ⟨i, _⟩ => hbmTy i
  | _, _ => ⟨S8x2048x3856, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_1 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_1 : Ref sig .tc := ⟨.hbm, 66, rfl⟩
abbrev main_call1_v5 : Ref sig .tc := ⟨.hbm, 67, rfl⟩
abbrev main_call1_v6 : Ref sig .tc := ⟨.hbm, 68, rfl⟩
abbrev main_call1_c_2 : Ref sig .tc := ⟨.hbm, 69, rfl⟩
abbrev main_call1_v7 : Ref sig .tc := ⟨.hbm, 70, rfl⟩
abbrev main_call1_v8 : Ref sig .tc := ⟨.hbm, 71, rfl⟩
abbrev main_call1_c_3 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_2 : Ref sig .tc := ⟨.hbm, 109, rfl⟩
abbrev main_v65 : Ref sig .tc := ⟨.hbm, 110, rfl⟩
abbrev main_v66 : Ref sig .tc := ⟨.hbm, 111, rfl⟩
abbrev main_cst_3 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_c_4 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_c : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_c_0 : Ref sig .tc := ⟨.hbm, 130, rfl⟩
abbrev main_call2_v12 : Ref sig .tc := ⟨.hbm, 131, rfl⟩
abbrev main_call2_v13 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_c_5 : Ref sig .tc := ⟨.hbm, 158, rfl⟩
abbrev main_call3_v0 : Ref sig .tc := ⟨.hbm, 159, rfl⟩
abbrev main_call3_c : Ref sig .tc := ⟨.hbm, 160, rfl⟩
abbrev main_call3_v1 : Ref sig .tc := ⟨.hbm, 161, rfl⟩
abbrev main_call3_c_0 : Ref sig .tc := ⟨.hbm, 162, rfl⟩
abbrev main_call3_v2 : Ref sig .tc := ⟨.hbm, 163, rfl⟩
abbrev main_call3_v3 : Ref sig .tc := ⟨.hbm, 164, rfl⟩
abbrev main_call3_v4 : Ref sig .tc := ⟨.hbm, 165, rfl⟩
abbrev main_call3_c_1 : Ref sig .tc := ⟨.hbm, 166, rfl⟩
abbrev main_call3_v5 : Ref sig .tc := ⟨.hbm, 167, rfl⟩
abbrev main_call3_v6 : Ref sig .tc := ⟨.hbm, 168, rfl⟩
abbrev main_call3_c_2 : Ref sig .tc := ⟨.hbm, 169, rfl⟩
abbrev main_call3_v7 : Ref sig .tc := ⟨.hbm, 170, rfl⟩
abbrev main_call3_v8 : Ref sig .tc := ⟨.hbm, 171, rfl⟩
abbrev main_call3_c_3 : Ref sig .tc := ⟨.hbm, 172, rfl⟩
abbrev main_call3_v9 : Ref sig .tc := ⟨.hbm, 173, rfl⟩
abbrev main_call3_v10 : Ref sig .tc := ⟨.hbm, 174, rfl⟩
abbrev main_call3_v11 : Ref sig .tc := ⟨.hbm, 175, rfl⟩
abbrev main_call3_v12 : Ref sig .tc := ⟨.hbm, 176, rfl⟩
abbrev main_call3_v13 : Ref sig .tc := ⟨.hbm, 177, rfl⟩
abbrev main_call3_v14 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_cst_6 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_cst_7 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_c_8 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_cst_9 : Ref sig .tc := ⟨.hbm, 236, rfl⟩
abbrev main_call4_v0 : Ref sig .tc := ⟨.hbm, 237, rfl⟩
abbrev main_call4_v1 : Ref sig .tc := ⟨.hbm, 238, rfl⟩
abbrev main_call4_v2 : Ref sig .tc := ⟨.hbm, 239, rfl⟩
abbrev main_v149 : Ref sig .tc := ⟨.hbm, 240, rfl⟩
abbrev main_v150 : Ref sig .tc := ⟨.hbm, 241, rfl⟩
abbrev main_cst_10 : Ref sig .tc := ⟨.hbm, 242, rfl⟩
abbrev main_v151 : Ref sig .tc := ⟨.hbm, 243, rfl⟩
abbrev main_cst_11 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_cst_12 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩

abbrev nD : Nat := 1
abbrev τ : Topo := Topo.v7x

variable {F : FTy → Type} [FloatOps F]
-- ==== Proj.lean ====
abbrev S16x256x1024 : Shape := ⟨3, ![16, 256, 1024]⟩
abbrev S16x6144 : Shape := ⟨2, ![16, 6144]⟩
abbrev S1024 : Shape := ⟨1, ![1024]⟩
abbrev S1024x3856 : Shape := ⟨2, ![1024, 3856]⟩
abbrev S1x1024 : Shape := ⟨2, ![1, 1024]⟩
abbrev S4096x1024 : Shape := ⟨2, ![4096, 1024]⟩
abbrev S16x6x1024 : Shape := ⟨3, ![16, 6, 1024]⟩
abbrev S1024x2048 : Shape := ⟨2, ![1024, 2048]⟩
abbrev S1024x16 : Shape := ⟨2, ![1024, 16]⟩
abbrev S1024x1792 : Shape := ⟨2, ![1024, 1792]⟩
abbrev S_ : Shape := ⟨0, ![]⟩
abbrev S1024x112 : Shape := ⟨2, ![1024, 112]⟩
abbrev S1024x3968 : Shape := ⟨2, ![1024, 3968]⟩
abbrev S4096x3968 : Shape := ⟨2, ![4096, 3968]⟩
abbrev S4096x128 : Shape := ⟨2, ![4096, 128]⟩
abbrev S256x1024 : Shape := ⟨2, ![256, 1024]⟩
abbrev S1x6x1024 : Shape := ⟨3, ![1, 6, 1024]⟩
abbrev S256x3968 : Shape := ⟨2, ![256, 3968]⟩
abbrev S256x128 : Shape := ⟨2, ![256, 128]⟩
abbrev S1x1x1024 : Shape := ⟨3, ![1, 1, 1024]⟩
abbrev S256 : Shape := ⟨1, ![256]⟩
abbrev S256x1 : Shape := ⟨2, ![256, 1]⟩

abbrev nBuf : Space → Nat
  | .hbm => 17
  | .vmem => 11
  | .smem => 0
  | _ => 0

abbrev bufTy : (tb : Table) → Fin (tcTables nBuf tb) → BufTy
  | .hbm, ⟨0, _⟩ => ⟨S16x256x1024, .f32⟩
  | .hbm, ⟨1, _⟩ => ⟨S16x6144, .f32⟩
  | .hbm, ⟨2, _⟩ => ⟨S1024, .f32⟩
  | .hbm, ⟨3, _⟩ => ⟨S1024x3856, .f32⟩
  | .hbm, ⟨4, _⟩ => ⟨S1x1024, .f32⟩
  | .hbm, ⟨5, _⟩ => ⟨S4096x1024, .f32⟩
  | .hbm, ⟨6, _⟩ => ⟨S16x6x1024, .f32⟩
  | .hbm, ⟨7, _⟩ => ⟨S1024x2048, .f32⟩
  | .hbm, ⟨8, _⟩ => ⟨S1024x16, .f32⟩
  | .hbm, ⟨9, _⟩ => ⟨S1024x1792, .f32⟩
  | .hbm, ⟨10, _⟩ => ⟨S_, .f32⟩
  | .hbm, ⟨11, _⟩ => ⟨S1024x112, .f32⟩
  | .hbm, ⟨12, _⟩ => ⟨S1024x3968, .f32⟩
  | .hbm, ⟨13, _⟩ => ⟨S1024x3968, .bf16⟩
  | .hbm, ⟨14, _⟩ => ⟨S4096x3968, .f32⟩
  | .hbm, ⟨15, _⟩ => ⟨S4096x128, .f32⟩
  | .hbm, ⟨16, _⟩ => ⟨S4096x128, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x1024, .f32⟩
  | .local _ .vmem, ⟨4, _⟩ => ⟨S1024x3968, .bf16⟩
  | .local _ .vmem, ⟨5, _⟩ => ⟨S256x3968, .f32⟩
  | .local _ .vmem, ⟨6, _⟩ => ⟨S256x3968, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3968 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3968 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S16x256x1024 : Shape := ⟨3, ![16, 256, 1024]⟩
abbrev S16x6144 : Shape := ⟨2, ![16, 6144]⟩
abbrev S1024 : Shape := ⟨1, ![1024]⟩
abbrev S1024x3856 : Shape := ⟨2, ![1024, 3856]⟩
abbrev S1x6144 : Shape := ⟨2, ![1, 6144]⟩
abbrev S1x1x6144 : Shape := ⟨3, ![1, 1, 6144]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x3856 : Shape := ⟨3, ![16, 256, 3856]⟩
abbrev S4096x3856 : Shape := ⟨2, ![4096, 3856]⟩
abbrev S4096x2048 : Shape := ⟨2, ![4096, 2048]⟩
abbrev S4096x1792 : Shape := ⟨2, ![4096, 1792]⟩
abbrev S4096x16 : Shape := ⟨2, ![4096, 16]⟩
abbrev S4096x112 : Shape := ⟨2, ![4096, 112]⟩
abbrev S4096x3968 : Shape := ⟨2, ![4096, 3968]⟩
abbrev S4096x128 : Shape := ⟨2, ![4096, 128]⟩

abbrev nBuf : Space → Nat
  | .hbm => 45
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x6144, .f32⟩
  | .hbm, ⟨2, _⟩ => ⟨S1024, .f32⟩
  | .hbm, ⟨3, _⟩ => ⟨S1024x3856, .f32⟩
  | .hbm, ⟨4, _⟩ => ⟨S1x6144, .f32⟩
  | .hbm, ⟨5, _⟩ => ⟨S1x1x6144, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S16x256x1024, .f32⟩
  | .hbm, ⟨13, _⟩ => ⟨S_, .f32⟩
  | .hbm, ⟨14, _⟩ => ⟨S16x256, .f32⟩
  | .hbm, ⟨15, _⟩ => ⟨S16x256x1, .f32⟩
  | .hbm, ⟨16, _⟩ => ⟨S_, .f32⟩
  | .hbm, ⟨17, _⟩ => ⟨S16x256x1, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x1, .f32⟩
  | .hbm, ⟨23, _⟩ => ⟨S16x256x1024, .f32⟩
  | .hbm, ⟨24, _⟩ => ⟨S16x256x1024, .f32⟩
  | .hbm, ⟨25, _⟩ => ⟨S1x1x1024, .f32⟩
  | .hbm, ⟨26, _⟩ => ⟨S16x256x1024, .f32⟩
  | .hbm, ⟨27, _⟩ => ⟨S16x256x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S16x256x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x3856, .f32⟩
  | .hbm, ⟨36, _⟩ => ⟨S4096x3856, .f32⟩
  | .hbm, ⟨37, _⟩ => ⟨S4096x2048, .f32⟩
  | .hbm, ⟨38, _⟩ => ⟨S4096x1792, .f32⟩
  | .hbm, ⟨39, _⟩ => ⟨S4096x16, .f32⟩
  | .hbm, ⟨40, _⟩ => ⟨S_, .f32⟩
  | .hbm, ⟨41, _⟩ => ⟨S4096x112, .f32⟩
  | .hbm, ⟨42, _⟩ => ⟨S4096x3968, .f32⟩
  | .hbm, ⟨43, _⟩ => ⟨S4096x128, .f32⟩
  | .hbm, ⟨44, _⟩ => ⟨S4096x128, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Merge.lean ====
abbrev S8x2048x1024 : Shape := ⟨3, ![8, 2048, 1024]⟩
abbrev S16x6144 : Shape := ⟨2, ![16, 6144]⟩
abbrev S1024 : Shape := ⟨1, ![1024]⟩
abbrev S8x2048x512 : Shape := ⟨3, ![8, 2048, 512]⟩
abbrev S8x2048x3856 : Shape := ⟨3, ![8, 2048, 3856]⟩
abbrev S4x128 : Shape := ⟨2, ![4, 128]⟩
abbrev S4x128x128 : Shape := ⟨3, ![4, 128, 128]⟩
abbrev S1024x3072 : Shape := ⟨2, ![1024, 3072]⟩
abbrev S3072 : Shape := ⟨1, ![3072]⟩
abbrev S3x512x1024 : Shape := ⟨3, ![3, 512, 1024]⟩
abbrev S1024x1024 : Shape := ⟨2, ![1024, 1024]⟩
abbrev S1024x2048 : Shape := ⟨2, ![1024, 2048]⟩
abbrev S8x2x128x128 : Shape := ⟨4, ![8, 2, 128, 128]⟩
abbrev S1x1024 : Shape := ⟨2, ![1, 1024]⟩
abbrev S1x512 : Shape := ⟨2, ![1, 512]⟩
abbrev S128x4 : Shape := ⟨2, ![128, 4]⟩
abbrev S_ : Shape := ⟨0, ![]⟩
abbrev S128x128 : Shape := ⟨2, ![128, 128]⟩
abbrev S1x3072 : Shape := ⟨2, ![1, 3072]⟩
abbrev S16x128x128 : Shape := ⟨3, ![16, 128, 128]⟩
abbrev S16384x1024 : Shape := ⟨2, ![16384, 1024]⟩
abbrev S16x6x1024 : Shape := ⟨3, ![16, 6, 1024]⟩
abbrev S16384x512 : Shape := ⟨2, ![16384, 512]⟩
abbrev S16384x3856 : Shape := ⟨2, ![16384, 3856]⟩
abbrev S16384x2048 : Shape := ⟨2, ![16384, 2048]⟩
abbrev S16384x16 : Shape := ⟨2, ![16384, 16]⟩
abbrev S16384x1792 : Shape := ⟨2, ![16384, 1792]⟩
abbrev S16384x112 : Shape := ⟨2, ![16384, 112]⟩
abbrev S16384x3968 : Shape := ⟨2, ![16384, 3968]⟩
abbrev S1024x16384 : Shape := ⟨2, ![1024, 16384]⟩
abbrev S16x128x16384 : Shape := ⟨3, ![16, 128, 16384]⟩
abbrev S256x1024 : Shape := ⟨2, ![256, 1024]⟩
abbrev S1x6x1024 : Shape := ⟨3, ![1, 6, 1024]⟩
abbrev S256x512 : Shape := ⟨2, ![256, 512]⟩
abbrev S1024x256 : Shape := ⟨2, ![1024, 256]⟩
abbrev S16x128x256 : Shape := ⟨3, ![16, 128, 256]⟩
abbrev S6x1024 : Shape := ⟨2, ![6, 1024]⟩
abbrev S256 : Shape := ⟨1, ![256]⟩
abbrev S256x1 : Shape := ⟨2, ![256, 1]⟩
abbrev S256x128 : Shape := ⟨2, ![256, 128]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩
abbrev S128x512 : Shape := ⟨2, ![128, 512]⟩
abbrev S1x512x1024 : Shape := ⟨3, ![1, 512, 1024]⟩
abbrev S512x1024 : Shape := ⟨2, ![512, 1024]⟩
abbrev S256x2048 : Shape := ⟨2, ![256, 2048]⟩
abbrev S128x256 : Shape := ⟨2, ![128, 256]⟩
abbrev S1x128x256 : Shape := ⟨3, ![1, 128, 256]⟩

abbrev nBuf : Space → Nat
  | .hbm => 47
  | .vmem => 33
  | .smem => 0
  | _ => 0

abbrev bufTy : (tb : Table) → Fin (tcTables nBuf tb) → BufTy
  | .hbm, ⟨0, _⟩ => ⟨S8x2048x1024, .f32⟩
  | .hbm, ⟨1, _⟩ => ⟨S16x6144, .f32⟩
  | .hbm, ⟨2, _⟩ => ⟨S1024, .f32⟩
  | .hbm, ⟨3, _⟩ => ⟨S1024, .f32⟩
  | .hbm, ⟨4, _⟩ => ⟨S8x2048x512, .f32⟩
  | .hbm, ⟨5, _⟩ => ⟨S8x2048x512, .f32⟩
  | .hbm, ⟨6, _⟩ => ⟨S8x2048x3856, .f32⟩
  | .hbm, ⟨7, _⟩ => ⟨S8x2048x512, .f32⟩
  | .hbm, ⟨8, _⟩ => ⟨S4x128, .f32⟩
  | .hbm, ⟨9, _⟩ => ⟨S4x128x128, .f32⟩
  | .hbm, ⟨10, _⟩ => ⟨S4x128, .f32⟩
  | .hbm, ⟨11, _⟩ => ⟨S1024x3072, .f32⟩
  | .hbm, ⟨12, _⟩ => ⟨S3072, .f32⟩
  | .hbm, ⟨13, _⟩ => ⟨S3x512x1024, .f32⟩
  | .hbm, ⟨14, _⟩ => ⟨S1024x1024, .f32⟩
  | .hbm, ⟨15, _⟩ => ⟨S1024x2048, .f32⟩
  | .hbm, ⟨16, _⟩ => ⟨S8x2x128x128, .f32⟩
  | .hbm, ⟨17, _⟩ => ⟨S1x1024, .f32⟩
  | .hbm, ⟨18, _⟩ => ⟨S1x1024, .f32⟩
  | .hbm, ⟨19, _⟩ => ⟨S1x512, .f32⟩
  | .hbm, ⟨20, _⟩ => ⟨S4x128x128, .bf16⟩
  | .hbm, ⟨21, _⟩ => ⟨S128x4, .f32⟩
  | .hbm, ⟨22, _⟩ => ⟨S_, .i32⟩
  | .hbm, ⟨23, _⟩ => ⟨S_, .f32⟩
  | .hbm, ⟨24, _⟩ => ⟨S128x128, .f32⟩
  | .hbm, ⟨25, _⟩ => ⟨S1024x3072, .bf16⟩
  | .hbm, ⟨26, _⟩ => ⟨S1x3072, .f32⟩
  | .hbm, ⟨27, _⟩ => ⟨S3x512x1024, .bf16⟩
  | .hbm, ⟨28, _⟩ => ⟨S1024x1024, .bf16⟩
  | .hbm, ⟨29, _⟩ => ⟨S1024x2048, .bf16⟩
  | .hbm, ⟨30, _⟩ => ⟨S16x128x128, .f32⟩
  | .hbm, ⟨31, _⟩ => ⟨S16x128x128, .bf16⟩
  | .hbm, ⟨32, _⟩ => ⟨S16384x1024, .f32⟩
  | .hbm, ⟨33, _⟩ => ⟨S16x6x1024, .f32⟩
  | .hbm, ⟨34, _⟩ => ⟨S16384x512, .f32⟩
  | .hbm, ⟨35, _⟩ => ⟨S16384x512, .f32⟩
  | .hbm, ⟨36, _⟩ => ⟨S16384x3856, .f32⟩
  | .hbm, ⟨37, _⟩ => ⟨S16384x2048, .f32⟩
  | .hbm, ⟨38, _⟩ => ⟨S16384x16, .f32⟩
  | .hbm, ⟨39, _⟩ => ⟨S16384x1792, .f32⟩
  | .hbm, ⟨40, _⟩ => ⟨S_, .f32⟩
  | .hbm, ⟨41, _⟩ => ⟨S16384x112, .f32⟩
  | .hbm, ⟨42, _⟩ => ⟨S16384x3968, .f32⟩
  | .hbm, ⟨43, _⟩ => ⟨S16384x512, .f32⟩
  | .hbm, ⟨44, _⟩ => ⟨S16384x1024, .f32⟩
  | .hbm, ⟨45, _⟩ => ⟨S1024x16384, .bf16⟩
  | .hbm, ⟨46, _⟩ => ⟨S16x128x16384, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S1x512, .f32⟩
  | .local _ .vmem, ⟨19, _⟩ => ⟨S4x128x128, .bf16⟩
  | .local _ .vmem, ⟨20, _⟩ => ⟨S128x128, .f32⟩
  | .local _ .vmem, ⟨21, _⟩ => ⟨S1024x3072, .bf16⟩
  | .local _ .vmem, ⟨22, _⟩ => ⟨S1x3072, .f32⟩
  | .local _ .vmem, ⟨23, _⟩ => ⟨S3x512x1024, .bf16⟩
  | .local _ .vmem, ⟨24, _⟩ => ⟨S1024x1024, .bf16⟩
  | .local _ .vmem, ⟨25, _⟩ => ⟨S1024x2048, .bf16⟩
  | .local _ .vmem, ⟨26, _⟩ => ⟨S16x128x128, .bf16⟩
  | .local _ .vmem, ⟨27, _⟩ => ⟨S256x1024, .f32⟩
  | .local _ .vmem, ⟨28, _⟩ => ⟨S256x1024, .f32⟩
  | .local _ .vmem, ⟨29, _⟩ => ⟨S1024x256, .bf16⟩
  | .local _ .vmem, ⟨30, _⟩ => ⟨S1024x256, .bf16⟩
  | .local _ .vmem, ⟨31, _⟩ => ⟨S16x128x256, .f32⟩
  | .local _ .vmem, ⟨32, _⟩ => ⟨S16x128x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v24_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x3072 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x128x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x128x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MergeRefIdeal.lean ====
abbrev S8x2048x1024 : Shape := ⟨3, ![8, 2048, 1024]⟩
abbrev S16x6144 : Shape := ⟨2, ![16, 6144]⟩
abbrev S1024 : Shape := ⟨1, ![1024]⟩
abbrev S8x2048x512 : Shape := ⟨3, ![8, 2048, 512]⟩
abbrev S8x2048x3856 : Shape := ⟨3, ![8, 2048, 3856]⟩
abbrev S4x128 : Shape := ⟨2, ![4, 128]⟩
abbrev S4x128x128 : Shape := ⟨3, ![4, 128, 128]⟩
abbrev S1024x3072 : Shape := ⟨2, ![1024, 3072]⟩
abbrev S3072 : Shape := ⟨1, ![3072]⟩
abbrev S3x512x1024 : Shape := ⟨3, ![3, 512, 1024]⟩
abbrev S1024x1024 : Shape := ⟨2, ![1024, 1024]⟩
abbrev S1024x2048 : Shape := ⟨2, ![1024, 2048]⟩
abbrev S8x2x128x128 : Shape := ⟨4, ![8, 2, 128, 128]⟩
abbrev S8x6144 : Shape := ⟨2, ![8, 6144]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S1x1x4x128 : Shape := ⟨4, ![1, 1, 4, 128]⟩
abbrev S8x16x128x4x128 : Shape := ⟨5, ![8, 16, 128, 4, 128]⟩
abbrev S4x8x16x128x128 : Shape := ⟨5, ![4, 8, 16, 128, 128]⟩
abbrev S128x4 : Shape := ⟨2, ![128, 4]⟩
abbrev S1x1x128x4x1 : Shape := ⟨5, ![1, 1, 128, 4, 1]⟩
abbrev S8x2048x3072 : Shape := ⟨3, ![8, 2048, 3072]⟩
abbrev S1x1x3072 : Shape := ⟨3, ![1, 1, 3072]⟩
abbrev S8x2048x3x1024 : Shape := ⟨4, ![8, 2048, 3, 1024]⟩
abbrev S8x2048x1x512 : Shape := ⟨4, ![8, 2048, 1, 512]⟩
abbrev S8x2048x3x512 : Shape := ⟨4, ![8, 2048, 3, 512]⟩
abbrev S3x1024x8x2048 : Shape := ⟨4, ![3, 1024, 8, 2048]⟩
abbrev S8x2048x2048 : Shape := ⟨3, ![8, 2048, 2048]⟩
abbrev S16384x8x2x128 : Shape := ⟨4, ![16384, 8, 2, 128]⟩
abbrev S8x2x128x16384 : Shape := ⟨4, ![8, 2, 128, 16384]⟩
abbrev S16384x1024 : Shape := ⟨2, ![16384, 1024]⟩
abbrev S1024x16384 : Shape := ⟨2, ![1024, 16384]⟩
abbrev S16384x16x128 : Shape := ⟨3, ![16384, 16, 128]⟩
abbrev S16x128x16384 : Shape := ⟨3, ![16, 128, 16384]⟩

abbrev nBuf : Space → Nat
  | .hbm => 160
  | .vmem => 0
  | .smem => 0
  | _ => 0

abbrev hbmTy0_0 (i : Nat) : BufTy := match i % 128 with
  | 0 => ⟨S8x2048x1024, .f32⟩
  | 1 => ⟨S16x6144, .f32⟩
  | 2 => ⟨S1024, .f32⟩
  | 3 => ⟨S1024, .f32⟩
  | 4 => ⟨S8x2048x512, .f32⟩
  | 5 => ⟨S8x2048x512, .f32⟩
  | 6 => ⟨S8x2048x3856, .f32⟩
  | 7 => ⟨S8x2048x512, .f32⟩
  | 8 => ⟨S4x128, .f32⟩
  | 9 => ⟨S4x128x128, .f32⟩
  | 10 => ⟨S4x128, .f32⟩
  | 11 => ⟨S1024x3072, .f32⟩
  | 12 => ⟨S3072, .f32⟩
  | 13 => ⟨S3x512x1024, .f32⟩
  | 14 => ⟨S1024x1024, .f32⟩
  | 15 => ⟨S1024x2048, .f32⟩
  | 16 => ⟨S8x2x128x128, .f32⟩
  | 17 => ⟨S8x6144, .f32⟩
  | 18 => ⟨S8x1x6144, .f32⟩
  | 19 => ⟨S8x1x1024, .f32⟩
  | 20 => ⟨S8x1x1024, .f32⟩
  | 21 => ⟨S8x1x1024, .f32⟩
  | 22 => ⟨S8x1x1024, .f32⟩
  | 23 => ⟨S8x1x1024, .f32⟩
  | 24 => ⟨S8x1x1024, .f32⟩
  | 25 => ⟨S8x2048x1024, .f32⟩
  | 26 => ⟨S_, .f32⟩
  | 27 => ⟨S8x2048, .f32⟩
  | 28 => ⟨S8x2048x1, .f32⟩
  | 29 => ⟨S_, .f32⟩
  | 30 => ⟨S8x2048x1, .f32⟩
  | 31 => ⟨S8x2048x1, .f32⟩
  | 32 => ⟨S_, .f32⟩
  | 33 => ⟨S8x2048x1, .f32⟩
  | 34 => ⟨S8x2048x1, .f32⟩
  | 35 => ⟨S8x2048x1, .f32⟩
  | 36 => ⟨S8x2048x1024, .f32⟩
  | 37 => ⟨S8x2048x1024, .f32⟩
  | 38 => ⟨S1x1x1024, .f32⟩
  | 39 => ⟨S8x2048x1024, .f32⟩
  | 40 => ⟨S8x2048x1024, .f32⟩
  | 41 => ⟨S_, .f32⟩
  | 42 => ⟨S8x1x1024, .f32⟩
  | 43 => ⟨S8x1x1024, .f32⟩
  | 44 => ⟨S8x2048x1024, .f32⟩
  | 45 => ⟨S8x2048x1024, .f32⟩
  | 46 => ⟨S8x2048x1024, .f32⟩
  | 47 => ⟨S8x2048x1024, .f32⟩
  | 48 => ⟨S8x2048x512, .f32⟩
  | 49 => ⟨S8x2048x512, .f32⟩
  | 50 => ⟨S8x2048x512, .f32⟩
  | 51 => ⟨S8x2048x512, .f32⟩
  | 52 => ⟨S8x2048x4x128, .f32⟩
  | 53 => ⟨S8x2048x4x128, .f32⟩
  | 54 => ⟨S_, .f32⟩
  | 55 => ⟨S8x2048x4, .f32⟩
  | 56 => ⟨S8x2048x4x1, .f32⟩
  | 57 => ⟨S_, .f32⟩
  | 58 => ⟨S8x2048x4x1, .f32⟩
  | 59 => ⟨S8x2048x4x1, .f32⟩
  | 60 => ⟨S_, .f32⟩
  | 61 => ⟨S8x2048x4x1, .f32⟩
  | 62 => ⟨S8x2048x4x1, .f32⟩
  | 63 => ⟨S8x2048x4x1, .f32⟩
  | 64 => ⟨S8x2048x4x128, .f32⟩
  | 65 => ⟨S8x2048x4x128, .f32⟩
  | 66 => ⟨S1x1x4x128, .f32⟩
  | 67 => ⟨S8x2048x4x128, .f32⟩
  | 68 => ⟨S8x2048x4x128, .f32⟩
  | 69 => ⟨S8x2048x512, .f32⟩
  | 70 => ⟨S8x2048x512, .f32⟩
  | 71 => ⟨S8x2048x512, .f32⟩
  | 72 => ⟨S_, .f32⟩
  | 73 => ⟨S8x2048x512, .f32⟩
  | 74 => ⟨S8x2048x512, .f32⟩
  | 75 => ⟨S_, .f32⟩
  | 76 => ⟨S8x2048x512, .f32⟩
  | 77 => ⟨S8x2048x512, .f32⟩
  | 78 => ⟨S8x2048x512, .f32⟩
  | 79 => ⟨S8x2048x512, .f32⟩
  | 80 => ⟨S_, .f32⟩
  | 81 => ⟨S8x2048, .f32⟩
  | 82 => ⟨S8x2048x1, .f32⟩
  | 83 => ⟨S_, .f32⟩
  | 84 => ⟨S8x2048x1, .f32⟩
  | 85 => ⟨S8x2048x1, .f32⟩
  | 86 => ⟨S_, .f32⟩
  | 87 => ⟨S8x2048x1, .f32⟩
  | 88 => ⟨S8x2048x1, .f32⟩
  | 89 => ⟨S8x2048x1, .f32⟩
  | 90 => ⟨S8x2048x512, .f32⟩
  | 91 => ⟨S8x2048x512, .f32⟩
  | 92 => ⟨S8x16x128x4x128, .f32⟩
  | 93 => ⟨S4x8x16x128x128, .f32⟩
  | 94 => ⟨S8x16x128x4x128, .f32⟩
  | 95 => ⟨S128x4, .f32⟩
  | 96 => ⟨S1x1x128x4x1, .f32⟩
  | 97 => ⟨S8x16x128x4x128, .f32⟩
  | 98 => ⟨S8x16x128x4x128, .f32⟩
  | 99 => ⟨S8x2048x512, .f32⟩
  | 100 => ⟨S8x2048x512, .f32⟩
  | 101 => ⟨S8x2048x3072, .f32⟩
  | 102 => ⟨S1x1x3072, .f32⟩
  | 103 => ⟨S8x2048x3072, .f32⟩
  | 104 => ⟨S8x2048x3072, .f32⟩
  | 105 => ⟨S8x2048x3072, .f32⟩
  | 106 => ⟨S8x2048x3072, .f32⟩
  | 107 => ⟨S_, .f32⟩
  | 108 => ⟨S8x2048x3072, .f32⟩
  | 109 => ⟨S8x2048x3072, .f32⟩
  | 110 => ⟨S_, .f32⟩
  | 111 => ⟨S8x2048x3072, .f32⟩
  | 112 => ⟨S8x2048x3072, .f32⟩
  | 113 => ⟨S8x2048x3x1024, .f32⟩
  | 114 => ⟨S8x2048x1x512, .f32⟩
  | 115 => ⟨S8x2048x1x512, .f32⟩
  | 116 => ⟨S8x2048x1x512, .f32⟩
  | 117 => ⟨S8x2048x3x512, .f32⟩
  | 118 => ⟨S3x1024x8x2048, .f32⟩
  | 119 => ⟨S8x2048x3x1024, .f32⟩
  | 120 => ⟨S8x2048x3x1024, .f32⟩
  | 121 => ⟨S_, .f32⟩
  | 122 => ⟨S8x2048x1024, .f32⟩
  | 123 => ⟨S8x2048x1024, .f32⟩
  | 124 => ⟨S8x2048x1024, .f32⟩
  | 125 => ⟨S8x2048x1024, .f32⟩
  | 126 => ⟨S8x2048x1024, .f32⟩
  | 127 => ⟨S8x2048x1024, .f32⟩
  | _ => ⟨S8x2048x1024, .f32⟩

abbrev hbmTy0_1 (i : Nat) : BufTy := match i % 128 with
  | 0 => ⟨S_, .f32⟩
  | 1 => ⟨S8x2048, .f32⟩
  | 2 => ⟨S8x2048x1, .f32⟩
  | 3 => ⟨S_, .f32⟩
  | 4 => ⟨S8x2048x1, .f32⟩
  | 5 => ⟨S8x2048x1, .f32⟩
  | 6 => ⟨S_, .f32⟩
  | 7 => ⟨S8x2048x1, .f32⟩
  | 8 => ⟨S8x2048x1, .f32⟩
  | 9 => ⟨S8x2048x1, .f32⟩
  | 10 => ⟨S8x2048x1024, .f32⟩
  | 11 => ⟨S8x2048x1024, .f32⟩
  | 12 => ⟨S1x1x1024, .f32⟩
  | 13 => ⟨S8x2048x1024, .f32⟩
  | 14 => ⟨S8x2048x1024, .f32⟩
  | 15 => ⟨S_, .f32⟩
  | 16 => ⟨S8x1x1024, .f32⟩
  | 17 => ⟨S8x1x1024, .f32⟩
  | 18 => ⟨S8x2048x1024, .f32⟩
  | 19 => ⟨S8x2048x1024, .f32⟩
  | 20 => ⟨S8x2048x1024, .f32⟩
  | 21 => ⟨S8x2048x1024, .f32⟩
  | 22 => ⟨S8x2048x2048, .f32⟩
  | 23 => ⟨S16384x8x2x128, .f32⟩
  | 24 => ⟨S8x2x128x16384, .f32⟩
  | 25 => ⟨S16384x8x2x128, .f32⟩
  | 26 => ⟨S16384x1024, .f32⟩
  | 27 => ⟨S16384x1024, .f32⟩
  | 28 => ⟨S1024x16384, .f32⟩
  | 29 => ⟨S1024x16384, .bf16⟩
  | 30 => ⟨S16384x16x128, .f32⟩
  | 31 => ⟨S16x128x16384, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_11 : Ref sig .tc := ⟨.hbm, 107, rfl⟩
abbrev main_v78 : Ref sig .tc := ⟨.hbm, 108, rfl⟩
abbrev main_v79 : Ref sig .tc := ⟨.hbm, 109, rfl⟩
abbrev main_cst_12 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_13 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_14 : Ref sig .tc := ⟨.hbm, 128, rfl⟩
abbrev main_v96 : Ref sig .tc := ⟨.hbm, 129, rfl⟩
abbrev main_v97 : Ref sig .tc := ⟨.hbm, 130, rfl⟩
abbrev main_cst_15 : Ref sig .tc := ⟨.hbm, 131, rfl⟩
abbrev main_v98 : Ref sig .tc := ⟨.hbm, 132, rfl⟩
abbrev main_v99 : Ref sig .tc := ⟨.hbm, 133, rfl⟩
abbrev main_cst_16 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_17 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩

abbrev nD : Nat := 1
abbrev τ : Topo := Topo.v7x

variable {F : FTy → Type} [FloatOps F]
-- ==== Mlstm.lean ====
abbrev S16x256x3856 : Shape := ⟨3, ![16, 256, 3856]⟩
abbrev S4x4 : Shape := ⟨2, ![4, 4]⟩
abbrev S1x16 : Shape := ⟨2, ![1, 16]⟩
abbrev S_ : Shape := ⟨0, ![]⟩
abbrev S1x128 : Shape := ⟨2, ![1, 128]⟩
abbrev S16x8x128x128 : Shape := ⟨4, ![16, 8, 128, 128]⟩
abbrev S16x8x128 : Shape := ⟨3, ![16, 8, 128]⟩
abbrev S4096x3856 : Shape := ⟨2, ![4096, 3856]⟩
abbrev S4096x2048 : Shape := ⟨2, ![4096, 2048]⟩
abbrev S4096x16 : Shape := ⟨2, ![4096, 16]⟩
abbrev S4096x1792 : Shape := ⟨2, ![4096, 1792]⟩
abbrev S4096x112 : Shape := ⟨2, ![4096, 112]⟩
abbrev S4096x3968 : Shape := ⟨2, ![4096, 3968]⟩
abbrev S16x256x3968 : Shape := ⟨3, ![16, 256, 3968]⟩
abbrev S16x256x512 : Shape := ⟨3, ![16, 256, 512]⟩
abbrev S2x128x512 : Shape := ⟨3, ![2, 128, 512]⟩
abbrev S2x128x128 : Shape := ⟨3, ![2, 128, 128]⟩
abbrev S2x8x128x128 : Shape := ⟨4, ![2, 8, 128, 128]⟩
abbrev S2x8x128 : Shape := ⟨3, ![2, 8, 128]⟩
abbrev S16x128x128 : Shape := ⟨3, ![16, 128, 128]⟩
abbrev S16x128 : Shape := ⟨2, ![16, 128]⟩
abbrev S1x1x128x128 : Shape := ⟨4, ![1, 1, 128, 128]⟩
abbrev S128x128 : Shape := ⟨2, ![128, 128]⟩
abbrev S1x128x128 : Shape := ⟨3, ![1, 128, 128]⟩
abbrev S1x8x128 : Shape := ⟨3, ![1, 8, 128]⟩
abbrev S8x128 : Shape := ⟨2, ![8, 128]⟩
abbrev S128x512 : Shape := ⟨2, ![128, 512]⟩
abbrev S128 : Shape := ⟨1, ![128]⟩
abbrev S128x1 : Shape := ⟨2, ![128, 1]⟩

abbrev nBuf : Space → Nat
  | .hbm => 25
  | .vmem => 36
  | .smem => 0
  | _ => 0

abbrev bufTy : (tb : Table) → Fin (tcTables nBuf tb) → BufTy
  | .hbm, ⟨0, _⟩ => ⟨S16x256x3856, .f32⟩
  | .hbm, ⟨1, _⟩ => ⟨S4x4, .f32⟩
  | .hbm, ⟨2, _⟩ => ⟨S1x16, .f32⟩
  | .hbm, ⟨3, _⟩ => ⟨S_, .i32⟩
  | .hbm, ⟨4, _⟩ => ⟨S_, .f32⟩
  | .hbm, ⟨5, _⟩ => ⟨S1x128, .f32⟩
  | .hbm, ⟨6, _⟩ => ⟨S_, .f32⟩
  | .hbm, ⟨7, _⟩ => ⟨S16x8x128x128, .f32⟩
  | .hbm, ⟨8, _⟩ => ⟨S_, .f32⟩
  | .hbm, ⟨9, _⟩ => ⟨S16x8x128, .f32⟩
  | .hbm, ⟨10, _⟩ => ⟨S_, .f32⟩
  | .hbm, ⟨11, _⟩ => ⟨S16x8x128, .f32⟩
  | .hbm, ⟨12, _⟩ => ⟨S4096x3856, .f32⟩
  | .hbm, ⟨13, _⟩ => ⟨S4096x2048, .f32⟩
  | .hbm, ⟨14, _⟩ => ⟨S4096x16, .f32⟩
  | .hbm, ⟨15, _⟩ => ⟨S4096x1792, .f32⟩
  | .hbm, ⟨16, _⟩ => ⟨S_, .f32⟩
  | .hbm, ⟨17, _⟩ => ⟨S4096x112, .f32⟩
  | .hbm, ⟨18, _⟩ => ⟨S4096x3968, .f32⟩
  | .hbm, ⟨19, _⟩ => ⟨S16x256x3968, .f32⟩
  | .hbm, ⟨20, _⟩ => ⟨S16x256x512, .f32⟩
  | .hbm, ⟨21, _⟩ => ⟨S16x256x512, .f32⟩
  | .hbm, ⟨22, _⟩ => ⟨S16x8x128x128, .f32⟩
  | .hbm, ⟨23, _⟩ => ⟨S16x8x128, .f32⟩
  | .hbm, ⟨24, _⟩ => ⟨S16x8x128, .f32⟩
  | .local _ .vmem, ⟨0, _⟩ => ⟨S2x128x512, .f32⟩
  | .local _ .vmem, ⟨1, _⟩ => ⟨S2x128x512, .f32⟩
  | .local _ .vmem, ⟨2, _⟩ => ⟨S2x128x512, .f32⟩
  | .local _ .vmem, ⟨3, _⟩ => ⟨S2x128x512, .f32⟩
  | .local _ .vmem, ⟨4, _⟩ => ⟨S2x128x512, .f32⟩
  | .local _ .vmem, ⟨5, _⟩ => ⟨S2x128x512, .f32⟩
  | .local _ .vmem, ⟨6, _⟩ => ⟨S2x128x128, .f32⟩
  | .local _ .vmem, ⟨7, _⟩ => ⟨S2x128x128, .f32⟩
  | .local _ .vmem, ⟨8, _⟩ => ⟨S2x128x512, .f32⟩
  | .local _ .vmem, ⟨9, _⟩ => ⟨S2x128x512, .f32⟩
  | .local _ .vmem, ⟨10, _⟩ => ⟨S2x128x512, .f32⟩
  | .local _ .vmem, ⟨11, _⟩ => ⟨S2x128x512, .f32⟩
  | .local _ .vmem, ⟨12, _⟩ => ⟨S2x128x512, .f32⟩
  | .local _ .vmem, ⟨13, _⟩ => ⟨S2x128x512, .f32⟩
  | .local _ .vmem, ⟨14, _⟩ => ⟨S2x128x128, .f32⟩
  | .local _ .vmem, ⟨15, _⟩ => ⟨S2x128x128, .f32⟩
  | .local _ .vmem, ⟨16, _⟩ => ⟨S1x128, .f32⟩
  | .local _ .vmem, ⟨17, _⟩ => ⟨S2x8x128x128, .f32⟩
  | .local _ .vmem, ⟨18, _⟩ => ⟨S2x8x128x128, .f32⟩
  | .local _ .vmem, ⟨19, _⟩ => ⟨S2x8x128, .f32⟩
  | .local _ .vmem, ⟨20, _⟩ => ⟨S2x8x128, .f32⟩
  | .local _ .vmem, ⟨21, _⟩ => ⟨S2x8x128, .f32⟩
  | .local _ .vmem, ⟨22, _⟩ => ⟨S2x8x128, .f32⟩
  | .local _ .vmem, ⟨23, _⟩ => ⟨S2x128x512, .f32⟩
  | .local _ .vmem, ⟨24, _⟩ => ⟨S2x128x512, .f32⟩
  | .local _ .vmem, ⟨25, _⟩ => ⟨S2x128x512, .f32⟩
  | .local _ .vmem, ⟨26, _⟩ => ⟨S2x128x512, .f32⟩
  | .local _ .vmem, ⟨27, _⟩ => ⟨S2x8x128x128, .f32⟩
  | .local _ .vmem, ⟨28, _⟩ => ⟨S2x8x128x128, .f32⟩
  | .local _ .vmem, ⟨29, _⟩ => ⟨S2x8x128, .f32⟩
  | .local _ .vmem, ⟨30, _⟩ => ⟨S2x8x128, .f32⟩
  | .local _ .vmem, ⟨31, _⟩ => ⟨S2x8x128, .f32⟩
  | .local _ .vmem, ⟨32, _⟩ => ⟨S2x8x128, .f32⟩
  | .local _ .vmem, ⟨33, _⟩ => ⟨S16x128x128, .f32⟩
  | .local _ .vmem, ⟨34, _⟩ => ⟨S16x128, .f32⟩
  | .local _ .vmem, ⟨35, _⟩ => ⟨S16x128, .f32⟩
  | _, _ => ⟨S16x256x3856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32_660 : BitVec 32 := 1#32
  let v1852 : BitVec 1 := Scalar.cmpi .eq arg1 c1_i32_660
  let v1853 : BitVec 32 := Scalar.extui v1852
  let c0_i32_661 : BitVec 32 := 0#32
  let v1854 : BitVec 1 := Scalar.cmpi .ne v1853 c0_i32_661
  v1854

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c30_i32 : BitVec 32 := 30#32
  let c0_i32 : BitVec 32 := 0#32
  ![arg0.toNat, arg1.toNat, c30_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c1_i32_0 : BitVec 32 := 1#32
  let c0_i32 : BitVec 32 := 0#32
  ![arg0.toNat, v0.toNat, c1_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c2_i32 : BitVec 32 := 2#32
  let c0_i32 : BitVec 32 := 0#32
  ![arg0.toNat, v0.toNat, c2_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c30_i32 : BitVec 32 := 30#32
  let c0_i32 : BitVec 32 := 0#32
  ![arg0.toNat, v0.toNat, c30_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x8x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S2x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S2x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== MlstmRefIdeal.lean ====
abbrev S16x256x3856 : Shape := ⟨3, ![16, 256, 3856]⟩
abbrev S4x4 : Shape := ⟨2, ![4, 4]⟩
abbrev S16x256x512 : Shape := ⟨3, ![16, 256, 512]⟩
abbrev S16x256x4x128 : Shape := ⟨4, ![16, 256, 4, 128]⟩
abbrev S_ : Shape := ⟨0, ![]⟩
abbrev S16x256x16 : Shape := ⟨3, ![16, 256, 16]⟩
abbrev S16x256x4x4 : Shape := ⟨4, ![16, 256, 4, 4]⟩
abbrev S1x1x4x4 : Shape := ⟨4, ![1, 1, 4, 4]⟩
abbrev S16x256x1x4 : Shape := ⟨4, ![16, 256, 1, 4]⟩
abbrev S16x256x4 : Shape := ⟨3, ![16, 256, 4]⟩
abbrev S16x2x128x4x128 : Shape := ⟨5, ![16, 2, 128, 4, 128]⟩
abbrev S2x16x4x128x128 : Shape := ⟨5, ![2, 16, 4, 128, 128]⟩
abbrev S16x2x128x4 : Shape := ⟨4, ![16, 2, 128, 4]⟩
abbrev S2x16x4x128 : Shape := ⟨4, ![2, 16, 4, 128]⟩
abbrev S16x4x128x128 : Shape := ⟨4, ![16, 4, 128, 128]⟩
abbrev S16x4x128 : Shape := ⟨3, ![16, 4, 128]⟩
abbrev S16x4 : Shape := ⟨2, ![16, 4]⟩
abbrev S1x16x4x128x128 : Shape := ⟨5, ![1, 16, 4, 128, 128]⟩
abbrev S1x16x4x128 : Shape := ⟨4, ![1, 16, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16x4x1 : Shape := ⟨3, ![16, 4, 1]⟩
abbrev S16x4x128x1 : Shape := ⟨4, ![16, 4, 128, 1]⟩
abbrev S16x4x1x128 : Shape := ⟨4, ![16, 4, 1, 128]⟩
abbrev S16x4x1x1 : Shape := ⟨4, ![16, 4, 1, 1]⟩
abbrev S16x8x128x128 : Shape := ⟨4, ![16, 8, 128, 128]⟩
abbrev S16x8x128 : Shape := ⟨3, ![16, 8, 128]⟩
abbrev S16x8 : Shape := ⟨2, ![16, 8]⟩
abbrev S16x8x1 : Shape := ⟨3, ![16, 8, 1]⟩

abbrev nBuf : Space → Nat
  | .hbm => 443
  | .vmem => 0
  | .smem => 0
  | _ => 0

abbrev hbmTy0_0 (i : Nat) : BufTy := match i % 128 with
  | 0 => ⟨S16x256x3856, .f32⟩
  | 1 => ⟨S4x4, .f32⟩
  | 2 => ⟨S16x256x512, .f32⟩
  | 3 => ⟨S16x256x4x128, .f32⟩
  | 4 => ⟨S16x256x512, .f32⟩
  | 5 => ⟨S16x256x4x128, .f32⟩
  | 6 => ⟨S_, .f32⟩
  | 7 => ⟨S16x256x4x128, .f32⟩
  | 8 => ⟨S16x256x4x128, .f32⟩
  | 9 => ⟨S16x256x512, .f32⟩
  | 10 => ⟨S16x256x4x128, .f32⟩
  | 11 => ⟨S16x256x16, .f32⟩
  | 12 => ⟨S16x256x4x4, .f32⟩
  | 13 => ⟨S1x1x4x4, .f32⟩
  | 14 => ⟨S16x256x4x4, .f32⟩
  | 15 => ⟨S16x256x4x4, .f32⟩
  | 16 => ⟨S16x256x1x4, .f32⟩
  | 17 => ⟨S16x256x4, .f32⟩
  | 18 => ⟨S16x256x1x4, .f32⟩
  | 19 => ⟨S16x256x4, .f32⟩
  | 20 => ⟨S16x256x4, .f32⟩
  | 21 => ⟨S_, .f32⟩
  | 22 => ⟨S16x256x4, .f32⟩
  | 23 => ⟨S16x256x4, .f32⟩
  | 24 => ⟨S16x256x4, .f32⟩
  | 25 => ⟨S16x256x4, .f32⟩
  | 26 => ⟨S16x256x4, .i1⟩
  | 27 => ⟨S16x256x4, .f32⟩
  | 28 => ⟨S16x256x4, .f32⟩
  | 29 => ⟨S16x256x4, .f32⟩
  | 30 => ⟨S16x256x4, .f32⟩
  | 31 => ⟨S16x256x4, .f32⟩
  | 32 => ⟨S16x256x4, .f32⟩
  | 33 => ⟨S16x256x4, .f32⟩
  | 34 => ⟨S16x256x4, .f32⟩
  | 35 => ⟨S16x256x4, .f32⟩
  | 36 => ⟨S16x2x128x4x128, .f32⟩
  | 37 => ⟨S2x16x4x128x128, .f32⟩
  | 38 => ⟨S16x2x128x4x128, .f32⟩
  | 39 => ⟨S2x16x4x128x128, .f32⟩
  | 40 => ⟨S16x2x128x4x128, .f32⟩
  | 41 => ⟨S2x16x4x128x128, .f32⟩
  | 42 => ⟨S16x2x128x4, .f32⟩
  | 43 => ⟨S2x16x4x128, .f32⟩
  | 44 => ⟨S16x2x128x4, .f32⟩
  | 45 => ⟨S2x16x4x128, .f32⟩
  | 46 => ⟨S_, .f32⟩
  | 47 => ⟨S16x4x128x128, .f32⟩
  | 48 => ⟨S_, .f32⟩
  | 49 => ⟨S16x4x128, .f32⟩
  | 50 => ⟨S_, .f32⟩
  | 51 => ⟨S16x4, .f32⟩
  | 52 => ⟨S1x16x4x128x128, .f32⟩
  | 53 => ⟨S16x4x128x128, .f32⟩
  | 54 => ⟨S1x16x4x128x128, .f32⟩
  | 55 => ⟨S16x4x128x128, .f32⟩
  | 56 => ⟨S1x16x4x128x128, .f32⟩
  | 57 => ⟨S16x4x128x128, .f32⟩
  | 58 => ⟨S1x16x4x128, .f32⟩
  | 59 => ⟨S16x4x128, .f32⟩
  | 60 => ⟨S1x16x4x128, .f32⟩
  | 61 => ⟨S16x4x128, .f32⟩
  | 62 => ⟨S128, .i32⟩
  | 63 => ⟨S128x1, .i32⟩
  | 64 => ⟨S1x128, .i32⟩
  | 65 => ⟨S128x128, .i32⟩
  | 66 => ⟨S128x128, .i32⟩
  | 67 => ⟨S128x128, .i1⟩
  | 68 => ⟨S_, .f32⟩
  | 69 => ⟨S_, .f32⟩
  | 70 => ⟨S16x4x128, .f32⟩
  | 71 => ⟨S16x4x1, .f32⟩
  | 72 => ⟨S16x4x128, .f32⟩
  | 73 => ⟨S16x4x128, .f32⟩
  | 74 => ⟨S16x4x128x1, .f32⟩
  | 75 => ⟨S16x4x1x128, .f32⟩
  | 76 => ⟨S16x4x128x128, .f32⟩
  | 77 => ⟨S16x4x128x128, .f32⟩
  | 78 => ⟨S16x4x128x128, .f32⟩
  | 79 => ⟨S16x4x1x128, .f32⟩
  | 80 => ⟨S16x4x128x128, .f32⟩
  | 81 => ⟨S16x4x128x128, .f32⟩
  | 82 => ⟨S_, .f32⟩
  | 83 => ⟨S_, .f32⟩
  | 84 => ⟨S16x4x128x128, .i1⟩
  | 85 => ⟨S16x4x128x128, .f32⟩
  | 86 => ⟨S16x4x128x128, .f32⟩
  | 87 => ⟨S_, .f32⟩
  | 88 => ⟨S16x4x128, .f32⟩
  | 89 => ⟨S16x4x128, .f32⟩
  | 90 => ⟨S16x4x128x1, .f32⟩
  | 91 => ⟨S16x4x128x128, .f32⟩
  | 92 => ⟨S16x4x128x128, .f32⟩
  | 93 => ⟨S16x4x128x128, .f32⟩
  | 94 => ⟨S16x4x128, .f32⟩
  | 95 => ⟨S16x4x128, .f32⟩
  | 96 => ⟨S16x4x128x128, .f32⟩
  | 97 => ⟨S16x4x128x128, .f32⟩
  | 98 => ⟨S16x4x128x1, .f32⟩
  | 99 => ⟨S16x4x128x128, .f32⟩
  | 100 => ⟨S16x4x128x128, .f32⟩
  | 101 => ⟨S16x4x128x128, .f32⟩
  | 102 => ⟨S16x4x128x128, .f32⟩
  | 103 => ⟨S16x4x128x128, .f32⟩
  | 104 => ⟨S16x4x128, .f32⟩
  | 105 => ⟨S16x4x128, .f32⟩
  | 106 => ⟨S_, .f32⟩
  | 107 => ⟨S16x4x128, .f32⟩
  | 108 => ⟨S16x4x128, .f32⟩
  | 109 => ⟨S16x4x128, .f32⟩
  | 110 => ⟨S16x4x128, .f32⟩
  | 111 => ⟨S16x4x128, .f32⟩
  | 112 => ⟨S16x4x128, .f32⟩
  | 113 => ⟨S16x4x128x1, .f32⟩
  | 114 => ⟨S16x4x128x128, .f32⟩
  | 115 => ⟨S16x4x128x128, .f32⟩
  | 116 => ⟨S16x4x1, .f32⟩
  | 117 => ⟨S16x4, .f32⟩
  | 118 => ⟨S16x4x1x128, .f32⟩
  | 119 => ⟨S16x4x128, .f32⟩
  | 120 => ⟨S16x4x1, .f32⟩
  | 121 => ⟨S16x4, .f32⟩
  | 122 => ⟨S16x4x1x1, .f32⟩
  | 123 => ⟨S16x4x128x128, .f32⟩
  | 124 => ⟨S16x4x128x128, .f32⟩
  | 125 => ⟨S16x4x128x1, .f32⟩
  | 126 => ⟨S16x4x128x128, .f32⟩
  | 127 => ⟨S16x4x128x128, .f32⟩
  | _ => ⟨S16x256x3856, .f32⟩

abbrev hbmTy0_1 (i : Nat) : BufTy := match i % 128 with
  | 0 => ⟨S16x4x128x128, .f32⟩
  | 1 => ⟨S16x4x128x128, .f32⟩
  | 2 => ⟨S16x4x1, .f32⟩
  | 3 => ⟨S16x4x128, .f32⟩
  | 4 => ⟨S16x4x128, .f32⟩
  | 5 => ⟨S16x4x128, .f32⟩
  | 6 => ⟨S16x4x128, .f32⟩
  | 7 => ⟨S1x16x4x128x128, .f32⟩
  | 8 => ⟨S16x4x128x128, .f32⟩
  | 9 => ⟨S1x16x4x128x128, .f32⟩
  | 10 => ⟨S16x4x128x128, .f32⟩
  | 11 => ⟨S1x16x4x128x128, .f32⟩
  | 12 => ⟨S16x4x128x128, .f32⟩
  | 13 => ⟨S1x16x4x128, .f32⟩
  | 14 => ⟨S16x4x128, .f32⟩
  | 15 => ⟨S1x16x4x128, .f32⟩
  | 16 => ⟨S16x4x128, .f32⟩
  | 17 => ⟨S128, .i32⟩
  | 18 => ⟨S128x1, .i32⟩
  | 19 => ⟨S1x128, .i32⟩
  | 20 => ⟨S128x128, .i32⟩
  | 21 => ⟨S128x128, .i32⟩
  | 22 => ⟨S128x128, .i1⟩
  | 23 => ⟨S_, .f32⟩
  | 24 => ⟨S_, .f32⟩
  | 25 => ⟨S16x4x128, .f32⟩
  | 26 => ⟨S16x4x1, .f32⟩
  | 27 => ⟨S16x4x128, .f32⟩
  | 28 => ⟨S16x4x128, .f32⟩
  | 29 => ⟨S16x4x128x1, .f32⟩
  | 30 => ⟨S16x4x1x128, .f32⟩
  | 31 => ⟨S16x4x128x128, .f32⟩
  | 32 => ⟨S16x4x128x128, .f32⟩
  | 33 => ⟨S16x4x128x128, .f32⟩
  | 34 => ⟨S16x4x1x128, .f32⟩
  | 35 => ⟨S16x4x128x128, .f32⟩
  | 36 => ⟨S16x4x128x128, .f32⟩
  | 37 => ⟨S_, .f32⟩
  | 38 => ⟨S_, .f32⟩
  | 39 => ⟨S16x4x128x128, .i1⟩
  | 40 => ⟨S16x4x128x128, .f32⟩
  | 41 => ⟨S16x4x128x128, .f32⟩
  | 42 => ⟨S_, .f32⟩
  | 43 => ⟨S16x4x128, .f32⟩
  | 44 => ⟨S16x4x128, .f32⟩
  | 45 => ⟨S16x4x128x1, .f32⟩
  | 46 => ⟨S16x4x128x128, .f32⟩
  | 47 => ⟨S16x4x128x128, .f32⟩
  | 48 => ⟨S16x4x128x128, .f32⟩
  | 49 => ⟨S16x4x128, .f32⟩
  | 50 => ⟨S16x4x128, .f32⟩
  | 51 => ⟨S16x4x128x128, .f32⟩
  | 52 => ⟨S16x4x128x128, .f32⟩
  | 53 => ⟨S16x4x128x1, .f32⟩
  | 54 => ⟨S16x4x128x128, .f32⟩
  | 55 => ⟨S16x4x128x128, .f32⟩
  | 56 => ⟨S16x4x128x128, .f32⟩
  | 57 => ⟨S16x4x128x128, .f32⟩
  | 58 => ⟨S16x4x128x128, .f32⟩
  | 59 => ⟨S16x4x128, .f32⟩
  | 60 => ⟨S16x4x128, .f32⟩
  | 61 => ⟨S_, .f32⟩
  | 62 => ⟨S16x4x128, .f32⟩
  | 63 => ⟨S16x4x128, .f32⟩
  | 64 => ⟨S16x4x128, .f32⟩
  | 65 => ⟨S16x4x128, .f32⟩
  | 66 => ⟨S16x4x128, .f32⟩
  | 67 => ⟨S16x4x128, .f32⟩
  | 68 => ⟨S16x4x128x1, .f32⟩
  | 69 => ⟨S16x4x128x128, .f32⟩
  | 70 => ⟨S16x4x128x128, .f32⟩
  | 71 => ⟨S16x4x1, .f32⟩
  | 72 => ⟨S16x4, .f32⟩
  | 73 => ⟨S16x4x1x128, .f32⟩
  | 74 => ⟨S16x4x128, .f32⟩
  | 75 => ⟨S16x4x1, .f32⟩
  | 76 => ⟨S16x4, .f32⟩
  | 77 => ⟨S16x4x1x1, .f32⟩
  | 78 => ⟨S16x4x128x128, .f32⟩
  | 79 => ⟨S16x4x128x128, .f32⟩
  | 80 => ⟨S16x4x128x1, .f32⟩
  | 81 => ⟨S16x4x128x128, .f32⟩
  | 82 => ⟨S16x4x128x128, .f32⟩
  | 83 => ⟨S16x4x128x128, .f32⟩
  | 84 => ⟨S16x4x128x128, .f32⟩
  | 85 => ⟨S16x4x1, .f32⟩
  | 86 => ⟨S16x4x128, .f32⟩
  | 87 => ⟨S16x4x128, .f32⟩
  | 88 => ⟨S16x4x128, .f32⟩
  | 89 => ⟨S16x4x128, .f32⟩
  | 90 => ⟨S1x16x4x128x128, .f32⟩
  | 91 => ⟨S1x16x4x128x128, .f32⟩
  | 92 => ⟨S2x16x4x128x128, .f32⟩
  | 93 => ⟨S16x2x128x4x128, .f32⟩
  | 94 => ⟨S16x256x4x128, .f32⟩
  | 95 => ⟨S16x256x4x128, .f32⟩
  | 96 => ⟨S16x256x4x128, .f32⟩
  | 97 => ⟨S16x256x4x128, .f32⟩
  | 98 => ⟨S16x256x1x4, .f32⟩
  | 99 => ⟨S16x256x4, .f32⟩
  | 100 => ⟨S16x256x4, .f32⟩
  | 101 => ⟨S16x256x1x4, .f32⟩
  | 102 => ⟨S16x256x4, .f32⟩
  | 103 => ⟨S16x256x4, .f32⟩
  | 104 => ⟨S_, .f32⟩
  | 105 => ⟨S16x256x4, .f32⟩
  | 106 => ⟨S16x256x4, .f32⟩
  | 107 => ⟨S16x256x4, .f32⟩
  | 108 => ⟨S16x256x4, .f32⟩
  | 109 => ⟨S16x256x4, .i1⟩
  | 110 => ⟨S16x256x4, .f32⟩
  | 111 => ⟨S16x256x4, .f32⟩
  | 112 => ⟨S16x256x4, .f32⟩
  | 113 => ⟨S16x256x4, .f32⟩
  | 114 => ⟨S16x256x4, .f32⟩
  | 115 => ⟨S16x256x4, .f32⟩
  | 116 => ⟨S16x256x4, .f32⟩
  | 117 => ⟨S16x256x4, .f32⟩
  | 118 => ⟨S16x256x4, .f32⟩
  | 119 => ⟨S16x256x4, .f32⟩
  | 120 => ⟨S16x2x128x4x128, .f32⟩
  | 121 => ⟨S2x16x4x128x128, .f32⟩
  | 122 => ⟨S16x2x128x4x128, .f32⟩
  | 123 => ⟨S2x16x4x128x128, .f32⟩
  | 124 => ⟨S16x2x128x4x128, .f32⟩
  | 125 => ⟨S2x16x4x128x128, .f32⟩
  | 126 => ⟨S16x2x128x4, .f32⟩
  | 127 => ⟨S2x16x4x128, .f32⟩
  | _ => ⟨S16x256x3856, .f32⟩

abbrev hbmTy0_2 (i : Nat) : BufTy := match i % 128 with
  | 0 => ⟨S16x2x128x4, .f32⟩
  | 1 => ⟨S2x16x4x128, .f32⟩
  | 2 => ⟨S_, .f32⟩
  | 3 => ⟨S16x4x128x128, .f32⟩
  | 4 => ⟨S_, .f32⟩
  | 5 => ⟨S16x4x128, .f32⟩
  | 6 => ⟨S_, .f32⟩
  | 7 => ⟨S16x4, .f32⟩
  | 8 => ⟨S1x16x4x128x128, .f32⟩
  | 9 => ⟨S16x4x128x128, .f32⟩
  | 10 => ⟨S1x16x4x128x128, .f32⟩
  | 11 => ⟨S16x4x128x128, .f32⟩
  | 12 => ⟨S1x16x4x128x128, .f32⟩
  | 13 => ⟨S16x4x128x128, .f32⟩
  | 14 => ⟨S1x16x4x128, .f32⟩
  | 15 => ⟨S16x4x128, .f32⟩
  | 16 => ⟨S1x16x4x128, .f32⟩
  | 17 => ⟨S16x4x128, .f32⟩
  | 18 => ⟨S128, .i32⟩
  | 19 => ⟨S128x1, .i32⟩
  | 20 => ⟨S1x128, .i32⟩
  | 21 => ⟨S128x128, .i32⟩
  | 22 => ⟨S128x128, .i32⟩
  | 23 => ⟨S128x128, .i1⟩
  | 24 => ⟨S_, .f32⟩
  | 25 => ⟨S_, .f32⟩
  | 26 => ⟨S16x4x128, .f32⟩
  | 27 => ⟨S16x4x1, .f32⟩
  | 28 => ⟨S16x4x128, .f32⟩
  | 29 => ⟨S16x4x128, .f32⟩
  | 30 => ⟨S16x4x128x1, .f32⟩
  | 31 => ⟨S16x4x1x128, .f32⟩
  | 32 => ⟨S16x4x128x128, .f32⟩
  | 33 => ⟨S16x4x128x128, .f32⟩
  | 34 => ⟨S16x4x128x128, .f32⟩
  | 35 => ⟨S16x4x1x128, .f32⟩
  | 36 => ⟨S16x4x128x128, .f32⟩
  | 37 => ⟨S16x4x128x128, .f32⟩
  | 38 => ⟨S_, .f32⟩
  | 39 => ⟨S_, .f32⟩
  | 40 => ⟨S16x4x128x128, .i1⟩
  | 41 => ⟨S16x4x128x128, .f32⟩
  | 42 => ⟨S16x4x128x128, .f32⟩
  | 43 => ⟨S_, .f32⟩
  | 44 => ⟨S16x4x128, .f32⟩
  | 45 => ⟨S16x4x128, .f32⟩
  | 46 => ⟨S16x4x128x1, .f32⟩
  | 47 => ⟨S16x4x128x128, .f32⟩
  | 48 => ⟨S16x4x128x128, .f32⟩
  | 49 => ⟨S16x4x128x128, .f32⟩
  | 50 => ⟨S16x4x128, .f32⟩
  | 51 => ⟨S16x4x128, .f32⟩
  | 52 => ⟨S16x4x128x128, .f32⟩
  | 53 => ⟨S16x4x128x128, .f32⟩
  | 54 => ⟨S16x4x128x1, .f32⟩
  | 55 => ⟨S16x4x128x128, .f32⟩
  | 56 => ⟨S16x4x128x128, .f32⟩
  | 57 => ⟨S16x4x128x128, .f32⟩
  | 58 => ⟨S16x4x128x128, .f32⟩
  | 59 => ⟨S16x4x128x128, .f32⟩
  | 60 => ⟨S16x4x128, .f32⟩
  | 61 => ⟨S16x4x128, .f32⟩
  | 62 => ⟨S_, .f32⟩
  | 63 => ⟨S16x4x128, .f32⟩
  | 64 => ⟨S16x4x128, .f32⟩
  | 65 => ⟨S16x4x128, .f32⟩
  | 66 => ⟨S16x4x128, .f32⟩
  | 67 => ⟨S16x4x128, .f32⟩
  | 68 => ⟨S16x4x128, .f32⟩
  | 69 => ⟨S16x4x128x1, .f32⟩
  | 70 => ⟨S16x4x128x128, .f32⟩
  | 71 => ⟨S16x4x128x128, .f32⟩
  | 72 => ⟨S16x4x1, .f32⟩
  | 73 => ⟨S16x4, .f32⟩
  | 74 => ⟨S16x4x1x128, .f32⟩
  | 75 => ⟨S16x4x128, .f32⟩
  | 76 => ⟨S16x4x1, .f32⟩
  | 77 => ⟨S16x4, .f32⟩
  | 78 => ⟨S16x4x1x1, .f32⟩
  | 79 => ⟨S16x4x128x128, .f32⟩
  | 80 => ⟨S16x4x128x128, .f32⟩
  | 81 => ⟨S16x4x128x1, .f32⟩
  | 82 => ⟨S16x4x128x128, .f32⟩
  | 83 => ⟨S16x4x128x128, .f32⟩
  | 84 => ⟨S16x4x128x128, .f32⟩
  | 85 => ⟨S16x4x128x128, .f32⟩
  | 86 => ⟨S16x4x1, .f32⟩
  | 87 => ⟨S16x4x128, .f32⟩
  | 88 => ⟨S16x4x128, .f32⟩
  | 89 => ⟨S16x4x128, .f32⟩
  | 90 => ⟨S16x4x128, .f32⟩
  | 91 => ⟨S1x16x4x128x128, .f32⟩
  | 92 => ⟨S16x4x128x128, .f32⟩
  | 93 => ⟨S1x16x4x128x128, .f32⟩
  | 94 => ⟨S16x4x128x128, .f32⟩
  | 95 => ⟨S1x16x4x128x128, .f32⟩
  | 96 => ⟨S16x4x128x128, .f32⟩
  | 97 => ⟨S1x16x4x128, .f32⟩
  | 98 => ⟨S16x4x128, .f32⟩
  | 99 => ⟨S1x16x4x128, .f32⟩
  | 100 => ⟨S16x4x128, .f32⟩
  | 101 => ⟨S128, .i32⟩
  | 102 => ⟨S128x1, .i32⟩
  | 103 => ⟨S1x128, .i32⟩
  | 104 => ⟨S128x128, .i32⟩
  | 105 => ⟨S128x128, .i32⟩
  | 106 => ⟨S128x128, .i1⟩
  | 107 => ⟨S_, .f32⟩
  | 108 => ⟨S_, .f32⟩
  | 109 => ⟨S16x4x128, .f32⟩
  | 110 => ⟨S16x4x1, .f32⟩
  | 111 => ⟨S16x4x128, .f32⟩
  | 112 => ⟨S16x4x128, .f32⟩
  | 113 => ⟨S16x4x128x1, .f32⟩
  | 114 => ⟨S16x4x1x128, .f32⟩
  | 115 => ⟨S16x4x128x128, .f32⟩
  | 116 => ⟨S16x4x128x128, .f32⟩
  | 117 => ⟨S16x4x128x128, .f32⟩
  | 118 => ⟨S16x4x1x128, .f32⟩
  | 119 => ⟨S16x4x128x128, .f32⟩
  | 120 => ⟨S16x4x128x128, .f32⟩
  | 121 => ⟨S_, .f32⟩
  | 122 => ⟨S_, .f32⟩
  | 123 => ⟨S16x4x128x128, .i1⟩
  | 124 => ⟨S16x4x128x128, .f32⟩
  | 125 => ⟨S16x4x128x128, .f32⟩
  | 126 => ⟨S_, .f32⟩
  | 127 => ⟨S16x4x128, .f32⟩
  | _ => ⟨S16x256x3856, .f32⟩

abbrev hbmTy0_3 (i : Nat) : BufTy := match i % 128 with
  | 0 => ⟨S16x4x128, .f32⟩
  | 1 => ⟨S16x4x128x1, .f32⟩
  | 2 => ⟨S16x4x128x128, .f32⟩
  | 3 => ⟨S16x4x128x128, .f32⟩
  | 4 => ⟨S16x4x128x128, .f32⟩
  | 5 => ⟨S16x4x128, .f32⟩
  | 6 => ⟨S16x4x128, .f32⟩
  | 7 => ⟨S16x4x128x128, .f32⟩
  | 8 => ⟨S16x4x128x128, .f32⟩
  | 9 => ⟨S16x4x128x1, .f32⟩
  | 10 => ⟨S16x4x128x128, .f32⟩
  | 11 => ⟨S16x4x128x128, .f32⟩
  | 12 => ⟨S16x4x128x128, .f32⟩
  | 13 => ⟨S16x4x128x128, .f32⟩
  | 14 => ⟨S16x4x128x128, .f32⟩
  | 15 => ⟨S16x4x128, .f32⟩
  | 16 => ⟨S16x4x128, .f32⟩
  | 17 => ⟨S_, .f32⟩
  | 18 => ⟨S16x4x128, .f32⟩
  | 19 => ⟨S16x4x128, .f32⟩
  | 20 => ⟨S16x4x128, .f32⟩
  | 21 => ⟨S16x4x128, .f32⟩
  | 22 => ⟨S16x4x128, .f32⟩
  | 23 => ⟨S16x4x128, .f32⟩
  | 24 => ⟨S16x4x128x1, .f32⟩
  | 25 => ⟨S16x4x128x128, .f32⟩
  | 26 => ⟨S16x4x128x128, .f32⟩
  | 27 => ⟨S16x4x1, .f32⟩
  | 28 => ⟨S16x4, .f32⟩
  | 29 => ⟨S16x4x1x128, .f32⟩
  | 30 => ⟨S16x4x128, .f32⟩
  | 31 => ⟨S16x4x1, .f32⟩
  | 32 => ⟨S16x4, .f32⟩
  | 33 => ⟨S16x4x1x1, .f32⟩
  | 34 => ⟨S16x4x128x128, .f32⟩
  | 35 => ⟨S16x4x128x128, .f32⟩
  | 36 => ⟨S16x4x128x1, .f32⟩
  | 37 => ⟨S16x4x128x128, .f32⟩
  | 38 => ⟨S16x4x128x128, .f32⟩
  | 39 => ⟨S16x4x128x128, .f32⟩
  | 40 => ⟨S16x4x128x128, .f32⟩
  | 41 => ⟨S16x4x1, .f32⟩
  | 42 => ⟨S16x4x128, .f32⟩
  | 43 => ⟨S16x4x128, .f32⟩
  | 44 => ⟨S16x4x128, .f32⟩
  | 45 => ⟨S16x4x128, .f32⟩
  | 46 => ⟨S1x16x4x128x128, .f32⟩
  | 47 => ⟨S1x16x4x128x128, .f32⟩
  | 48 => ⟨S2x16x4x128x128, .f32⟩
  | 49 => ⟨S16x2x128x4x128, .f32⟩
  | 50 => ⟨S16x256x4x128, .f32⟩
  | 51 => ⟨S16x256x512, .f32⟩
  | 52 => ⟨S16x256x4x128, .f32⟩
  | 53 => ⟨S16x256x512, .f32⟩
  | 54 => ⟨S16x8x128x128, .f32⟩
  | 55 => ⟨S16x8x128, .f32⟩
  | 56 => ⟨S16x8, .f32⟩
  | 57 => ⟨S16x8x1, .f32⟩
  | 58 => ⟨S16x8x128, .f32⟩
  | _ => ⟨S16x256x3856, .f32⟩

abbrev hbmTy (i : Nat) : BufTy := match i / 128 with
  | 0 => hbmTy0_0 i
  | 1 => hbmTy0_1 i
  | 2 => hbmTy0_2 i
  | 3 => hbmTy0_3 i
  | _ => ⟨S16x256x3856, .f32⟩

abbrev bufTy : (tb : Table) → Fin (tcTables nBuf tb) → BufTy
  | .hbm, ⟨i, _⟩ => hbmTy i
  | _, _ => ⟨S16x256x3856, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_0 : Ref sig .tc := ⟨.hbm, 46, rfl⟩
abbrev main_v28 : Ref sig .tc := ⟨.hbm, 47, rfl⟩
abbrev main_cst_1 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_call0_cst : Ref sig .tc := ⟨.hbm, 68, rfl⟩
abbrev main_call1_call0_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_3 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v59 : Ref sig .tc := ⟨.hbm, 86, rfl⟩
abbrev main_cst_4 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_5 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_call3_call0_cst : Ref sig .tc := ⟨.hbm, 151, rfl⟩
abbrev main_call3_call0_v0 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_cst_6 : Ref sig .tc := ⟨.hbm, 165, rfl⟩
abbrev main_call4_v0 : Ref sig .tc := ⟨.hbm, 166, rfl⟩
abbrev main_call4_v1 : Ref sig .tc := ⟨.hbm, 167, rfl⟩
abbrev main_call4_v2 : Ref sig .tc := ⟨.hbm, 168, rfl⟩
abbrev main_v134 : Ref sig .tc := ⟨.hbm, 169, rfl⟩
abbrev main_cst_7 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_cst_8 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_call9_v0 : Ref sig .tc := ⟨.hbm, 231, rfl⟩
abbrev main_call9_call0_cst : Ref sig .tc := ⟨.hbm, 232, rfl⟩
abbrev main_call9_call0_v0 : Ref sig .tc := ⟨.hbm, 233, rfl⟩
abbrev main_call9_call0_v1 : Ref sig .tc := ⟨.hbm, 234, rfl⟩
abbrev main_call9_call0_v2 : Ref sig .tc := ⟨.hbm, 235, rfl⟩
abbrev main_call9_call0_v3 : Ref sig .tc := ⟨.hbm, 236, rfl⟩
abbrev main_call9_call0_v4 : Ref sig .tc := ⟨.hbm, 237, rfl⟩
abbrev main_call9_call0_v5 : Ref sig .tc := ⟨.hbm, 238, rfl⟩
abbrev main_call9_call0_v6 : Ref sig .tc := ⟨.hbm, 239, rfl⟩
abbrev main_call9_call0_v7 : Ref sig .tc := ⟨.hbm, 240, rfl⟩
abbrev main_call9_call0_v8 : Ref sig .tc := ⟨.hbm, 241, rfl⟩
abbrev main_call9_call0_v9 : Ref sig .tc := ⟨.hbm, 242, rfl⟩
abbrev main_call9_call0_v10 : Ref sig .tc := ⟨.hbm, 243, rfl⟩
abbrev main_call9_call0_v11 : Ref sig .tc := ⟨.hbm, 244, rfl⟩
abbrev main_call9_v1 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_cst_9 : Ref sig .tc := ⟨.hbm, 258, rfl⟩
abbrev main_v206 : Ref sig .tc := ⟨.hbm, 259, rfl⟩
abbrev main_cst_10 : Ref sig .tc := ⟨.hbm, 260, rfl⟩
abbrev main_v207 : Ref sig .tc := ⟨.hbm, 261, rfl⟩
abbrev main_cst_11 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_call11_call0_cst : Ref sig .tc := ⟨.hbm, 280, rfl⟩
abbrev main_call11_call0_v0 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_cst_12 : Ref sig .tc := ⟨.hbm, 294, rfl⟩
abbrev main_call12_v0 : Ref sig .tc := ⟨.hbm, 295, rfl⟩
abbrev main_call12_v1 : Ref sig .tc := ⟨.hbm, 296, rfl⟩
abbrev main_call12_v2 : Ref sig .tc := ⟨.hbm, 297, rfl⟩
abbrev main_v237 : Ref sig .tc := ⟨.hbm, 298, rfl⟩
abbrev main_cst_13 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_cst_14 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_v294 : Ref sig .tc := ⟨.hbm, 357, rfl⟩
abbrev main_v295 : Ref sig .tc := ⟨.hbm, 358, rfl⟩
abbrev main_v296 : Ref sig .tc := ⟨.hbm, 359, rfl⟩
abbrev main_v297 : Ref sig .tc := ⟨.hbm, 360, rfl⟩
abbrev main_v298 : Ref sig .tc := ⟨.hbm, 361, rfl⟩
abbrev main_v299 : Ref sig .tc := ⟨.hbm, 362, rfl⟩
abbrev main_call13_call0_cst : Ref sig .tc := ⟨.hbm, 363, rfl⟩
abbrev main_call13_call0_v0 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_v311 : Ref sig .tc := ⟨.hbm, 376, rfl⟩
abbrev main_cst_15 : Ref sig .tc := ⟨.hbm, 377, rfl⟩
abbrev main_call14_v0 : Ref sig .tc := ⟨.hbm, 378, rfl⟩
abbrev main_call14_v1 : Ref sig .tc := ⟨.hbm, 379, rfl⟩
abbrev main_call14_v2 : Ref sig .tc := ⟨.hbm, 380, rfl⟩
abbrev main_v312 : Ref sig .tc := ⟨.hbm, 381, rfl⟩
abbrev main_cst_16 : Ref sig .tc := ⟨.hbm, 382, rfl⟩
abbrev main_v313 : Ref sig .tc := ⟨.hbm, 383, rfl⟩
abbrev main_v314 : Ref sig .tc := ⟨.hbm, 384, rfl⟩
abbrev main_v315 : Ref sig .tc := ⟨.hbm, 385, rfl⟩
abbrev main_v316 : Ref sig .tc := ⟨.hbm, 386, rfl⟩
abbrev main_v317 : Ref sig .tc := ⟨.hbm, 387, rfl⟩
abbrev main_v318 : Ref sig .tc := ⟨.hbm, 388, rfl⟩
abbrev main_v319 : Ref sig .tc := ⟨.hbm, 389, rfl⟩
abbrev main_v320 : Ref sig .tc := ⟨.hbm, 390, rfl⟩
abbrev main_v321 : Ref sig .tc := ⟨.hbm, 391, rfl⟩
abbrev main_v322 : Ref sig .tc := ⟨.hbm, 392, rfl⟩
abbrev main_v323 : Ref sig .tc := ⟨.hbm, 393, rfl⟩
abbrev main_v324 : Ref sig .tc := ⟨.hbm, 394, rfl⟩
abbrev main_v325 : Ref sig .tc := ⟨.hbm, 395, rfl⟩
abbrev main_v326 : Ref sig .tc := ⟨.hbm, 396, rfl⟩
abbrev main_v327 : Ref sig .tc := ⟨.hbm, 397, rfl⟩
abbrev main_v328 : Ref sig .tc := ⟨.hbm, 398, rfl⟩
abbrev main_v329 : Ref sig .tc := ⟨.hbm, 399, rfl⟩
abbrev main_v330 : Ref sig .tc := ⟨.hbm, 400, rfl⟩
abbrev main_cst_17 : Ref sig .tc := ⟨.hbm, 401, rfl⟩
abbrev main_v331 : Ref sig .tc := ⟨.hbm, 402, rfl⟩
abbrev main_v332 : Ref sig .tc := ⟨.hbm, 403, rfl⟩
abbrev main_v333 : Ref sig .tc := ⟨.hbm, 404, rfl⟩
abbrev main_v334 : Ref sig .tc := ⟨.hbm, 405, rfl⟩
abbrev main_v335 : Ref sig .tc := ⟨.hbm, 406, rfl⟩
abbrev main_v336 : Ref sig .tc := ⟨.hbm, 407, rfl⟩
abbrev main_v337 : Ref sig .tc := ⟨.hbm, 408, rfl⟩
abbrev main_v338 : Ref sig .tc := ⟨.hbm, 409, rfl⟩
abbrev main_v339 : Ref sig .tc := ⟨.hbm, 410, rfl⟩
abbrev main_v340 : Ref sig .tc := ⟨.hbm, 411, rfl⟩
abbrev main_v341 : Ref sig .tc := ⟨.hbm, 412, rfl⟩
abbrev main_v342 : Ref sig .tc := ⟨.hbm, 413, rfl⟩
abbrev main_v343 : Ref sig .tc := ⟨.hbm, 414, rfl⟩
abbrev main_v344 : Ref sig .tc := ⟨.hbm, 415, rfl⟩
abbrev main_v345 : Ref sig .tc := ⟨.hbm, 416, rfl⟩
abbrev main_v346 : Ref sig .tc := ⟨.hbm, 417, rfl⟩
abbrev main_v347 : Ref sig .tc := ⟨.hbm, 418, rfl⟩
abbrev main_v348 : Ref sig .tc := ⟨.hbm, 419, rfl⟩
abbrev main_v349 : Ref sig .tc := ⟨.hbm, 420, rfl⟩
abbrev main_v350 : Ref sig .tc := ⟨.hbm, 421, rfl⟩
abbrev main_v351 : Ref sig .tc := ⟨.hbm, 422, rfl⟩
abbrev main_v352 : Ref sig .tc := ⟨.hbm, 423, rfl⟩
abbrev main_v353 : Ref sig .tc := ⟨.hbm, 424, rfl⟩
abbrev main_v354 : Ref sig .tc := ⟨.hbm, 425, rfl⟩
abbrev main_v355 : Ref sig .tc := ⟨.hbm, 426, rfl⟩
abbrev main_v356 : Ref sig .tc := ⟨.hbm, 427, rfl⟩
abbrev main_v357 : Ref sig .tc := ⟨.hbm, 428, rfl⟩
abbrev main_v358 : Ref sig .tc := ⟨.hbm, 429, rfl⟩
abbrev main_v359 : Ref sig .tc := ⟨.hbm, 430, rfl⟩
abbrev main_v360 : Ref sig .tc := ⟨.hbm, 431, rfl⟩
abbrev main_v361 : Ref sig .tc := ⟨.hbm, 432, rfl⟩
abbrev main_v362 : Ref sig .tc := ⟨.hbm, 433, rfl⟩
abbrev main_v363 : Ref sig .tc := ⟨.hbm, 434, rfl⟩
abbrev main_v364 : Ref sig .tc := ⟨.hbm, 435, rfl⟩
abbrev main_v365 : Ref sig .tc := ⟨.hbm, 436, rfl⟩
abbrev main_v366 : Ref sig .tc := ⟨.hbm, 437, rfl⟩
abbrev main_v367 : Ref sig .tc := ⟨.hbm, 438, rfl⟩
abbrev main_v368 : Ref sig .tc := ⟨.hbm, 439, rfl⟩
abbrev main_v369 : Ref sig .tc := ⟨.hbm, 440, rfl⟩
abbrev main_v370 : Ref sig .tc := ⟨.hbm, 441, rfl⟩
abbrev main_v371 : Ref sig .tc := ⟨.hbm, 442, rfl⟩

abbrev nD : Nat := 1
abbrev τ : Topo := Topo.v7x

variable {F : FTy → Type} [FloatOps F]
-- ==== Proof.RefFrames.lean ====
module

public import proofs.«01_k».proof.Defs
public import proofs.«01_k».proof.Proof.Gen.AttnRefIdeal
public import proofs.«01_k».proof.Proof.Gen.AttnRefIdeal.Run
public import proofs.«01_k».proof.Proof.Gen.ProjRefIdeal
public import proofs.«01_k».proof.Proof.Gen.ProjRefIdeal.Run
public import proofs.«01_k».proof.Proof.Gen.MergeRefIdeal
public import proofs.«01_k».proof.Proof.Gen.MergeRefIdeal.Run
public import proofs.«01_k».proof.Proof.Gen.MlstmRefIdeal
public import proofs.«01_k».proof.Proof.Gen.MlstmRefIdeal.Run
public import Idealize.ShloMosaic.Lib.Quiescent

@[expose] public section

set_option maxRecDepth 16384

noncomputable section

open Idealize.ShloMosaic Idealize.ShloMosaic.TcCoe Idealize.SL.Sem

namespace Cert.AttnRefIdeal.Read

/-- The reference runs to its end, leaves its arguments as they were, and declares no semaphore that could be left raised. -/
theorem frame : Cert.quiescent_AttnRefIdeal (hAttnRefIdeal := Cert.AttnRefIdeal.Gen.facts) := fun m ρ _ =>
  (θ_run _ _ _).mono (fun r h => ⟨fun c => (h c).2, sem_eq_zero_of_no_sems (by decide) r.2⟩)
    (Cert.AttnRefIdeal.Value.run m ρ)

end Cert.AttnRefIdeal.Read

namespace Cert.ProjRefIdeal.Read

/-- The reference runs to its end, leaves its arguments as they were, and declares no semaphore that could be left raised. -/
theorem frame : Cert.quiescent_ProjRefIdeal (hProjRefIdeal := Cert.ProjRefIdeal.Gen.facts) := fun m ρ _ =>
  (θ_run _ _ _).mono (fun r h => ⟨fun c => (h c).2.2.2, sem_eq_zero_of_no_sems (by decide) r.2⟩)
    (Cert.ProjRefIdeal.Value.run m ρ)

end Cert.ProjRefIdeal.Read

namespace Cert.MergeRefIdeal.Read

/-- The reference runs to its end, leaves its arguments as they were, and declares no semaphore that could be left raised. -/
theorem frame : Cert.quiescent_MergeRefIdeal (hMergeRefIdeal := Cert.MergeRefIdeal.Gen.facts) := fun m ρ _ =>
  (θ_run _ _ _).mono (fun r h => ⟨fun c => (h c).2.2.2, sem_eq_zero_of_no_sems (by decide) r.2⟩)
    (Cert.MergeRefIdeal.Value.run m ρ)

end Cert.MergeRefIdeal.Read

namespace Cert.MlstmRefIdeal.Read

/-- The reference runs to its end, leaves its arguments as they were, and declares no semaphore that could be left raised. -/
theorem frame : Cert.quiescent_MlstmRefIdeal (hMlstmRefIdeal := Cert.MlstmRefIdeal.Gen.facts) := fun m ρ _ =>
  (θ_run _ _ _).mono (fun r h => ⟨fun c => (h c).2.2.2.2.2, sem_eq_zero_of_no_sems (by decide) r.2⟩)
    (Cert.MlstmRefIdeal.Value.run m ρ)

end Cert.MlstmRefIdeal.Read
-- ==== Proof.ProjRefValue.lean ====
module

public import proofs.«01_k».proof.Proof.Gen.ProjRefIdeal.Run
public import Idealize.ShloMosaic.Lib.Pointwise

@[expose] public section

set_option maxRecDepth 16384

noncomputable section

open Idealize.ShloMosaic Idealize.ShloMosaic.TcCoe Idealize.SL.Sem

namespace Cert.ProjRefIdeal.Read

open Cert.ProjRefIdeal Cert.ProjRefIdeal.Gen

/-- The reference's projected rows, batch and token merged, over the argument arrays. -/
def H (x : FVec Ideal S16x256x1024 .f32) (md : FVec Ideal S16x6144 .f32) (g : FVec Ideal S1024 .f32)
    (w : FVec Ideal S1024x3856 .f32) : FVec Ideal S4096x3856 .f32 :=
  (shapeCast S4096x3856 (Host.dotGeneral dot_S16x256x1024_S1024x3856_S16x256x3856_2_0_01_1_n_n none (addf (mulf (mulf (mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 g))) (broadcastInDim S16x256x1024 ![0, 1, 2] bcast_S1x1x1024_S16x256x1024_0_1_2 (addf (broadcastInDim S1x1x1024 ![] bcast_S_S1x1x1024 (constant S_ .f32 0x3F800000#32)) (extractStridedSlice S1x1x1024 ![0, 0, 1024] (broadcastInDim S1x1x6144 ![0, 2] bcast_S1x6144_S1x1x6144_0_2 (extractStridedSlice S1x6144 ![0, 0] md slices_S16x6144_S1x6144_0_0)) slices_S1x1x6144_S1x1x1024_0_0_1024)))) (broadcastInDim S16x256x1024 ![0, 1, 2] bcast_S1x1x1024_S16x256x1024_0_1_2 (extractStridedSlice S1x1x1024 ![0, 0, 0] (broadcastInDim S1x1x6144 ![0, 2] bcast_S1x6144_S1x1x6144_0_2 (extractStridedSlice S1x6144 ![0, 0] md slices_S16x6144_S1x6144_0_0)) slices_S1x1x6144_S1x1x1024_0_0_0))) w) shapeCasts_S16x256x3856_S4096x3856)

/-- The modulated normalized row: `xr` a token's row, `gr` the gain, `sc` and `sh` the modulation's scale and shift. -/
def modRow (xr gr sc sh : Fin 1024 → EReal) (k : Fin 1024) : EReal :=
  xr k * Ideal.rsqrt (Ideal.div (∑ l, xr l * xr l) (Ideal.ofBits FTy.f32 1149239296#32) + Ideal.ofBits FTy.f32 897988541#32)
    * gr k * (1 + sc k) + sh k

theorem H_at (x : FVec Ideal S16x256x1024 .f32) (md : FVec Ideal S16x6144 .f32) (g : FVec Ideal S1024 .f32)
    (w : FVec Ideal S1024x3856 .f32) (r : Fin 4096) (j : Fin 3856) : H x md g w (ix2 r j)
    = ∑ k : Fin 1024, modRow (fun k => x (ix3 ⟨↑r / 256, by omega⟩ ⟨↑r % 256, by omega⟩ k)) (fun k => g (ix1 k))
        (fun k => md (ix2 0 ⟨1024 + ↑k, by omega⟩)) (fun k => md (ix2 0 ⟨↑k, by omega⟩)) k * w (ix2 k j) := by
  pointwise [H, modRow]

end Cert.ProjRefIdeal.Read
-- ==== Proof.ProjValue.lean ====
module

public import proofs.«01_k».proof.Proof.Gen.ProjIdeal.Value
public import proofs.«01_k».proof.Proof.ProjRefValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Read

open Cert.ProjIdeal Cert.ProjIdeal.Gen
open Cert.ProjRefIdeal.Read (modRow H H_at)

variable (m : (ℓ : Loc nD τ sig) → Buf (Elt Ideal) ℓ)

theorem pay1_at (v0 : FVec Ideal S256x1024 .f32) (v2 : FVec Ideal S1x1024 .f32) (v4 v6 : FVec Ideal S1x1x1024 .f32)
    (v26 : FVec Ideal S1024x3968 .bf16) (r : Fin 256) (j : Fin 3968) : k0_pay1 (F := Ideal) v0 v2 v4 v6 v26 (ix2 r j)
    = ∑ k : Fin 1024, modRow (fun k => v0 (ix2 r k)) (fun k => v2 (ix2 0 k)) (fun k => v4 (ix3 0 0 k)) (fun k => v6 (ix3 0 0 k)) k
        * v26 (ix2 k j) := by
  pointwise [k0_pay1, modRow]

theorem idx : ∀ t : Fin cfg0.N, win0_0.index t = ![t.val, 0] ∧ win0_1.index t = ![0, 0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- The projection's weights as the host hands them to the kernel: columns reordered, padded with zeros. -/
def wr (w : FVec Ideal S1024x3856 .f32) : FVec Ideal S1024x3968 .bf16 :=
  truncf .bf16 (concatenate S1024x3968 1 [⟨S1024x2048, extractStridedSlice S1024x2048 ![0, 0] w slices_S1024x3856_S1024x2048_0_0⟩,
    ⟨S1024x1792, extractStridedSlice S1024x1792 ![0, 2064] w slices_S1024x3856_S1024x1792_0_2064⟩,
    ⟨S1024x16, extractStridedSlice S1024x16 ![0, 2048] w slices_S1024x3856_S1024x16_0_2048⟩,
    ⟨S1024x112, broadcastInDim S1024x112 ![] bcast_S_S1024x112 (constant S_ .f32 0x00000000#32)⟩]
    concatenates_S1024x2048_S1024x1792_S1024x16_S1024x112_S1024x3968_d1) bitsLt_bf16_f32

theorem wr_at (w : FVec Ideal S1024x3856 .f32) (k : Fin 1024) (j : Fin 3968) : wr w (ix2 k j)
    = if h : j.val < 2048 then w (ix2 k ⟨j.val, by omega⟩)
      else if h : j.val - 2048 < 1792 then w (ix2 k ⟨2064 + (j.val - 2048), by omega⟩)
      else if h : j.val - 2048 - 1792 < 16 then w (ix2 k ⟨2048 + (j.val - 2048 - 1792), by omega⟩) else 0 := by
  pointwise [wr]

theorem hv8 (c : Dev nD) :
    (V m c main_v8 : FVec Ideal S1024x3968 .bf16) = wr (m ((c : Thread nD τ).loc main_arg3)) := by
  unfold V
  after_results_simp
  rfl

theorem hv1 (c : Dev nD) (b : Fin 16) (r : Fin 256) (k : Fin 1024) :
    (V m c main_v1 : FVec Ideal S4096x1024 .f32) (ix2 ⟨b.val * 256 + r.val, by omega⟩ k)
      = (m ((c : Thread nD τ).loc main_arg0) : FVec Ideal S16x256x1024 .f32) (ix3 b r k) := by
  entry_read
  pointwise
  blk_ext

theorem blk0 (c : Dev nD) (t : Fin cfg0.N) (r : Fin 256) (k : Fin 1024) :
    (iblk m c 0 t : FVec Ideal S256x1024 .f32) (ix2 r k)
      = (m ((c : Thread nD τ).loc main_arg0) : FVec Ideal S16x256x1024 .f32) (ix3 ⟨t.val, t.isLt⟩ r k) := by
  refine Eq.trans ?_ (hv1 m c ⟨t.val, t.isLt⟩ r k)
  blk_ext [iblk, idx t]

theorem blk2 (c : Dev nD) (t : Fin cfg0.N) (k : Fin 1024) :
    (iblk m c 2 t : FVec Ideal S1x1024 .f32) (ix2 0 k)
      = (m ((c : Thread nD τ).loc main_arg2) : FVec Ideal S1024 .f32) (ix1 k) := by
  blk_simp [iblk, idx t]
  entry_read
  pointwise
  blk_ext [idx t]

theorem hv2 (c : Dev nD) (b : Fin 16) (r : Fin 6) (k : Fin 1024) :
    (V m c main_v2 : FVec Ideal S16x6x1024 .f32) (ix3 b r k)
      = (m ((c : Thread nD τ).loc main_arg1) : FVec Ideal S16x6144 .f32) (ix2 b ⟨r.val * 1024 + k.val, by omega⟩) := by
  entry_read
  pointwise

theorem blk1 (c : Dev nD) (t : Fin cfg0.N) (i : Fin 6) (k : Fin 1024) :
    (iblk m c 1 t : FVec Ideal S1x6x1024 .f32) (ix3 0 i k)
      = (m ((c : Thread nD τ).loc main_arg1) : FVec Ideal S16x6144 .f32) (ix2 0 ⟨i.val * 1024 + k.val, by omega⟩) := by
  refine Eq.trans ?_ (hv2 m c 0 i k)
  blk_ext [iblk, idx t]

theorem blk3 (c : Dev nD) (t : Fin cfg0.N) (k : Fin 1024) (j : Fin 3968) :
    (iblk m c 3 t : FVec Ideal S1024x3968 .bf16) (ix2 k j) = wr (m ((c : Thread nD τ).loc main_arg3)) (ix2 k j) := by
  refine Eq.trans ?_ (congrFun (hv8 m c) (ix2 k j))
  blk_ext [iblk, idx t]

/-- What the body leaves in the first output block, element by element. -/
theorem out4_at (x0 : FVec Ideal S256x1024 .f32) (x1 : FVec Ideal S1x6x1024 .f32) (x2 : FVec Ideal S1x1024 .f32)
    (x3 : FVec Ideal S1024x3968 .bf16) (r : Fin 256) (j : Fin 3968) : out0_4 (F := Ideal) x0 x1 x2 x3 (ix2 r j)
    = ∑ k : Fin 1024, modRow (fun k => x0 (ix2 r k)) (fun k => x2 (ix2 0 k)) (fun k => x1 (ix3 0 1 k)) (fun k => x1 (ix3 0 0 k)) k
        * x3 (ix2 k j) := by
  frame_out
  pointwise [k0_pay1, modRow]

theorem out5_at (x0 : FVec Ideal S256x1024 .f32) (x1 : FVec Ideal S1x6x1024 .f32) (x2 : FVec Ideal S1x1024 .f32)
    (x3 : FVec Ideal S1024x3968 .bf16) (r : Fin 256) (j : Fin 128) : out0_5 (F := Ideal) x0 x1 x2 x3 (ix2 r j)
    = ∑ k : Fin 1024, modRow (fun k => x0 (ix2 r k)) (fun k => x2 (ix2 0 k)) (fun k => x1 (ix3 0 1 k)) (fun k => x1 (ix3 0 0 k)) k
        * x3 (ix2 k ⟨3584 + j.val, by omega⟩) := by
  frame_out
  pointwise [k0_pay1, k0_pay2, modRow]

theorem out6_at (x0 : FVec Ideal S256x1024 .f32) (x1 : FVec Ideal S1x6x1024 .f32) (x2 : FVec Ideal S1x1024 .f32)
    (x3 : FVec Ideal S1024x3968 .bf16) (r : Fin 256) (j : Fin 128) : out0_6 (F := Ideal) x0 x1 x2 x3 (ix2 r j)
    = ∑ k : Fin 1024, modRow (fun k => x0 (ix2 r k)) (fun k => x2 (ix2 0 k)) (fun k => x1 (ix3 0 1 k)) (fun k => x1 (ix3 0 0 k)) k
        * x3 (ix2 k ⟨3712 + j.val, by omega⟩) := by
  frame_out
  pointwise [k0_pay1, k0_pay3, modRow]

/-- One row of the product, over the argument arrays. -/
def prod (x : FVec Ideal S16x256x1024 .f32) (md : FVec Ideal S16x6144 .f32) (g : FVec Ideal S1024 .f32)
    (w : FVec Ideal S1024x3856 .f32) (b : Fin 16) (r : Fin 256) (j : Fin 3968) : EReal :=
  ∑ k : Fin 1024, modRow (fun k => x (ix3 b r k)) (fun k => g (ix1 k))
        (fun k => md (ix2 0 ⟨1024 + k.val, by omega⟩)) (fun k => md (ix2 0 ⟨k.val, by omega⟩)) k * wr w (ix2 k j)

/-- The blocks' product is the arrays' product. -/
theorem blocks_prod (c : Dev nD) (t : Fin cfg0.N) (r : Fin 256) (j : Fin 3968)
    (x0 : FVec Ideal S256x1024 .f32) (x1 : FVec Ideal S1x6x1024 .f32) (x2 : FVec Ideal S1x1024 .f32)
    (x3 : FVec Ideal S1024x3968 .bf16) (h0 : x0 = iblk m c 0 t) (h1 : x1 = iblk m c 1 t) (h2 : x2 = iblk m c 2 t) (h3 : x3 = iblk m c 3 t) :
    (∑ k : Fin 1024, modRow (fun k => x0 (ix2 r k)) (fun k => x2 (ix2 0 k)) (fun k => x1 (ix3 0 1 k)) (fun k => x1 (ix3 0 0 k)) k
        * x3 (ix2 k j))
    = prod (m ((c : Thread nD τ).loc main_arg0)) (m ((c : Thread nD τ).loc main_arg1)) (m ((c : Thread nD τ).loc main_arg2))
        (m ((c : Thread nD τ).loc main_arg3)) ⟨t.val, t.isLt⟩ r j := by
  have e0 : ∀ k, x0 (ix2 r k) = _ := fun k => (congrFun h0 _).trans (blk0 m c t r k)
  have e1 : ∀ i k, x1 (ix3 0 i k) = _ := fun i k => (congrFun h1 _).trans (blk1 m c t i k)
  have e2 : ∀ k, x2 (ix2 0 k) = _ := fun k => (congrFun h2 _).trans (blk2 m c t k)
  have e3 : ∀ k, x3 (ix2 k j) = _ := fun k => (congrFun h3 _).trans (blk3 m c t k j)
  simp only [e0, e1, e2, e3]
  unfold prod
  simp only [Fin.val_one, one_mul, Fin.val_zero, zero_mul, zero_add]

/-- The projected rows joined in the kernel's column order: what the reference returns first. -/
def RC (h : FVec Ideal Cert.ProjRefIdeal.S4096x3856 .f32) : FVec Ideal Cert.ProjRefIdeal.S4096x3968 .f32 :=
  concatenate Cert.ProjRefIdeal.S4096x3968 1
    [⟨Cert.ProjRefIdeal.S4096x2048, extractStridedSlice Cert.ProjRefIdeal.S4096x2048 ![0, 0] h Cert.ProjRefIdeal.Gen.slices_S4096x3856_S4096x2048_0_0⟩,
     ⟨Cert.ProjRefIdeal.S4096x1792, extractStridedSlice Cert.ProjRefIdeal.S4096x1792 ![0, 2064] h Cert.ProjRefIdeal.Gen.slices_S4096x3856_S4096x1792_0_2064⟩,
     ⟨Cert.ProjRefIdeal.S4096x16, extractStridedSlice Cert.ProjRefIdeal.S4096x16 ![0, 2048] h Cert.ProjRefIdeal.Gen.slices_S4096x3856_S4096x16_0_2048⟩,
     ⟨Cert.ProjRefIdeal.S4096x112, broadcastInDim Cert.ProjRefIdeal.S4096x112 ![] Cert.ProjRefIdeal.Gen.bcast_S_S4096x112
       (constant Cert.ProjRefIdeal.S_ .f32 0x00000000#32)⟩]
    Cert.ProjRefIdeal.Gen.concatenates_S4096x2048_S4096x1792_S4096x16_S4096x112_S4096x3968_d1

theorem RC_at (h : FVec Ideal Cert.ProjRefIdeal.S4096x3856 .f32) (r : Fin 4096) (j : Fin 3968) : RC h (ix2 r j)
    = if _ : j.val < 2048 then h (ix2 r ⟨j.val, by omega⟩)
      else if _ : j.val - 2048 < 1792 then h (ix2 r ⟨2064 + (j.val - 2048), by omega⟩)
      else if _ : j.val - 2048 - 1792 < 16 then h (ix2 r ⟨2048 + (j.val - 2048 - 1792), by omega⟩) else 0 := by
  pointwise [RC]

section
variable (x : FVec Ideal Cert.ProjRefIdeal.S16x256x1024 .f32) (md : FVec Ideal Cert.ProjRefIdeal.S16x6144 .f32)
  (g : FVec Ideal Cert.ProjRefIdeal.S1024 .f32) (w : FVec Ideal Cert.ProjRefIdeal.S1024x3856 .f32) (b : Fin 16) (r : Fin 256)

theorem H_row (r' : Fin 4096) (hr : r'.val = b.val * 256 + r.val) (j : Fin 3856) : H x md g w (ix2 r' j)
    = ∑ k : Fin 1024, modRow (fun k => x (ix3 b r k)) (fun k => g (ix1 k))
        (fun k => md (ix2 0 ⟨1024 + k.val, by omega⟩)) (fun k => md (ix2 0 ⟨k.val, by omega⟩)) k * w (ix2 k j) := by
  rw [H_at]
  have e1 : (⟨r'.val / 256, by omega⟩ : Fin 16) = b := Fin.ext (by show r'.val / 256 = b.val; omega)
  have e2 : (⟨r'.val % 256, by omega⟩ : Fin 256) = r := Fin.ext (by show r'.val % 256 = r.val; omega)
  rw [e1, e2]

/-- Columns of the kernel's product below the padding are columns of the reference's. -/
theorem prod_RC (r' : Fin 4096) (hr : r'.val = b.val * 256 + r.val) (j : Fin 3968) :
    prod x md g w b r j = RC (H x md g w) (ix2 r' j) := by
  rw [RC_at]
  unfold prod
  simp only [wr_at]
  by_cases h1 : j.val < 2048
  · simp only [dif_pos h1]; exact (H_row x md g w b r r' hr _).symm
  · simp only [dif_neg h1]
    by_cases h2 : j.val - 2048 < 1792
    · simp only [dif_pos h2]; exact (H_row x md g w b r r' hr _).symm
    · simp only [dif_neg h2]
      by_cases h3 : j.val - 2048 - 1792 < 16
      · simp only [dif_pos h3]; exact (H_row x md g w b r r' hr _).symm
      · simp only [dif_neg h3, mul_zero, Finset.sum_const_zero]

theorem prod_H (r' : Fin 4096) (hr : r'.val = b.val * 256 + r.val) (j : Fin 3968) (j' : Fin 3856) (h1 : 2048 ≤ j.val) (h2 : j.val < 3840)
    (hj : j'.val = j.val + 16) : prod x md g w b r j = H x md g w (ix2 r' j') := by
  rw [prod_RC x md g w b r r' hr, RC_at, dif_neg (by omega), dif_pos (by omega)]
  exact congrArg (fun a => H x md g w (ix2 r' a)) (Fin.ext (by show 2064 + (j.val - 2048) = j'.val; omega))

end

theorem final4 (c : Dev nD) : (dats m 0 c).arrAt 4 cfg0.N
    = RC (H (m ((c : Thread nD τ).loc main_arg0)) (m ((c : Thread nD τ).loc main_arg1))
        (m ((c : Thread nD τ).loc main_arg2)) (m ((c : Thread nD τ).loc main_arg3))) := by
  refine (dats m 0 c).arrAt_eq_of_covers 4 _ (by decide +kernel) fun t hf y => ?_
  blk_simp
  rw [after0_4]
  obtain ⟨r, j, rfl⟩ : ∃ (r : Fin 256) (j : Fin 3968), y = (ix2 r j : S256x3968.Idx) := ⟨y 0, y 1, eq_ix2 y⟩
  refine (out4_at _ _ _ _ r j).trans ((blocks_prod m c t r j _ _ _ _ rfl rfl rfl rfl).trans
    ((prod_RC _ _ _ _ _ _ ⟨t.val * 256 + r.val, by have ht : t.val < 16 := t.isLt; omega⟩ rfl j).trans ?_))
  blk_ext [idx t]

theorem final5 (c : Dev nD) : (dats m 0 c).arrAt 5 cfg0.N
    = extractStridedSlice Cert.ProjRefIdeal.S4096x128 ![0, 3600] (H (m ((c : Thread nD τ).loc main_arg0)) (m ((c : Thread nD τ).loc main_arg1))
        (m ((c : Thread nD τ).loc main_arg2)) (m ((c : Thread nD τ).loc main_arg3))) Cert.ProjRefIdeal.Gen.slices_S4096x3856_S4096x128_0_3600 := by
  refine (dats m 0 c).arrAt_eq_of_covers 5 _ (by decide +kernel) fun t hf y => ?_
  blk_simp
  rw [after0_5]
  obtain ⟨r, j, rfl⟩ : ∃ (r : Fin 256) (j : Fin 128), y = (ix2 r j : S256x128.Idx) := ⟨y 0, y 1, eq_ix2 y⟩
  refine (out5_at _ _ _ _ r j).trans ((blocks_prod m c t r _ _ _ _ _ rfl rfl rfl rfl).trans
    ((prod_H _ _ _ _ _ _ ⟨t.val * 256 + r.val, by have ht : t.val < 16 := t.isLt; omega⟩ rfl _ ⟨3600 + j.val, by omega⟩
      (by show 2048 ≤ 3584 + j.val; omega) (by show 3584 + j.val < 3840; omega) (by show 3600 + j.val = 3584 + j.val + 16; omega)).trans ?_))
  pointwise
  blk_ext [idx t]

theorem final6 (c : Dev nD) : (dats m 0 c).arrAt 6 cfg0.N
    = extractStridedSlice Cert.ProjRefIdeal.S4096x128 ![0, 3728] (H (m ((c : Thread nD τ).loc main_arg0)) (m ((c : Thread nD τ).loc main_arg1))
        (m ((c : Thread nD τ).loc main_arg2)) (m ((c : Thread nD τ).loc main_arg3))) Cert.ProjRefIdeal.Gen.slices_S4096x3856_S4096x128_0_3728 := by
  refine (dats m 0 c).arrAt_eq_of_covers 6 _ (by decide +kernel) fun t hf y => ?_
  blk_simp
  rw [after0_6]
  obtain ⟨r, j, rfl⟩ : ∃ (r : Fin 256) (j : Fin 128), y = (ix2 r j : S256x128.Idx) := ⟨y 0, y 1, eq_ix2 y⟩
  refine (out6_at _ _ _ _ r j).trans ((blocks_prod m c t r _ _ _ _ _ rfl rfl rfl rfl).trans
    ((prod_H _ _ _ _ _ _ ⟨t.val * 256 + r.val, by have ht : t.val < 16 := t.isLt; omega⟩ rfl _ ⟨3728 + j.val, by omega⟩
      (by show 2048 ≤ 3712 + j.val; omega) (by show 3712 + j.val < 3840; omega) (by show 3728 + j.val = 3712 + j.val + 16; omega)).trans ?_))
  pointwise
  blk_ext [idx t]

end Cert.ProjIdeal.Read
-- ==== Proof.ProjAlg.lean ====
module

public import proofs.«01_k».proof.Proof.ProjValue
public import proofs.«01_k».proof.Defs
public import Idealize.ShloMosaic.Lib.Claim

@[expose] public section

set_option maxRecDepth 16384

noncomputable section

open Idealize.ShloMosaic Idealize.ShloMosaic.TcCoe Idealize.SL.Sem

namespace Cert.ProjIdeal.Read

open Cert.ProjIdeal Cert.ProjIdeal.Gen
open Cert.ProjRefIdeal.Read (H)

/-- Over the extended reals the projection kernel and the reference return the same three arrays. -/
theorem algebraic : Cert.algebraic_ProjIdeal_ProjRefIdeal (hProjIdeal := Cert.ProjIdeal.Gen.facts) (hProjRefIdeal := Cert.ProjRefIdeal.Gen.facts) :=
  fun m ρ m' ρ' _ hag =>
    ⟨fun c => (dats m 0 c).arrAt 4 cfg0.N, fun c => (dats m 0 c).arrAt 5 cfg0.N, fun c => (dats m 0 c).arrAt 6 cfg0.N,
     Cert.ProjIdeal.Value.run_blocks m ρ,
     (θ_run _ _ _).mono (fun _ h c => by
        obtain ⟨h0, h1, h2, h3⟩ := hag c
        obtain ⟨k0, k1, k2, k3⟩ := h c
        refine ⟨k0.trans ?_, k1.trans ?_, k2.trans ?_, k3⟩
        · refine Eq.trans ?_ (final4 m c).symm
          rw [← h0, ← h1, ← h2, ← h3]
          rfl
        · refine Eq.trans ?_ (final5 m c).symm
          rw [← h0, ← h1, ← h2, ← h3]
          rfl
        · refine Eq.trans ?_ (final6 m c).symm
          rw [← h0, ← h1, ← h2, ← h3]
          rfl) (Cert.ProjRefIdeal.Value.run m' ρ')⟩

end Cert.ProjIdeal.Read
-- ==== Proof.MergeRefValue.lean ====
module

public import proofs.«01_k».proof.Proof.Gen.MergeRefIdeal.Run
public import Idealize.ShloMosaic.Lib.Pointwise

@[expose] public section

set_option maxRecDepth 16384

noncomputable section

open Idealize.ShloMosaic Idealize.ShloMosaic.TcCoe Idealize.SL.Sem

namespace Cert.MergeRefIdeal.Read

open Cert.MergeRefIdeal Cert.MergeRefIdeal.Gen

/-- The logistic function. -/
def sg (x : EReal) : EReal := Ideal.div 1 (1 + Ideal.exp (-x))

/-- A row divided by the root of its mean square: `N` the row's length. -/
def nrm {n : ℕ} (N : EReal) (x : Fin n → EReal) (k : Fin n) : EReal :=
  x k * Ideal.rsqrt (Ideal.div (∑ l, x l * x l) N + Ideal.ofBits FTy.f32 897988541#32)

/-- The modulated normalized row: `xr` a token's row, `gr` the gain, `sc` and `sh` the modulation's scale and shift. -/
def modRow (xr gr sc sh : Fin 1024 → EReal) (k : Fin 1024) : EReal :=
  nrm (Ideal.ofBits FTy.f32 1149239296#32) xr k * gr k * (1 + sc k) + sh k

/-- A row of the mLSTM branch: `hm` the two directions' sum, `gm` the gain, `om` the output gate before the logistic. -/
def ymRow (hm gm om : Fin 512 → EReal) (j : Fin 512) : EReal :=
  nrm (Ideal.ofBits FTy.f32 1124073472#32) (fun l : Fin 128 => hm ⟨j.val / 128 * 128 + l.val, by omega⟩) ⟨j.val % 128, by omega⟩ * gm j * sg (om j)

/-- An entry of the spatial gating branch: `vr` the column of the normalised rows of the chunk, `ws` the mixing row, `bs` its bias. -/
def ycVal (uc : EReal) (vr ws : Fin 128 → EReal) (bs : EReal) : EReal := uc * ((∑ q, vr q * ws q) + bs)

/-- The gated sum of three branches, in one row. -/
def mixRow (h : Fin 1024 → EReal) (ym yc ya : Fin 512 → EReal) (wm : Fin 1024 → Fin 3072 → EReal) (bm : Fin 3072 → EReal)
    (wb : Fin 3 → Fin 512 → Fin 1024 → EReal) (k : Fin 1024) : EReal :=
  ∑ n : Fin 3, sg ((∑ l : Fin 1024, h l * wm l ⟨n.val * 1024 + k.val, by omega⟩) + bm ⟨n.val * 1024 + k.val, by omega⟩)
      * ∑ l : Fin 512, wb n l k * (if _ : n.val < 1 then ym l else if _ : n.val - 1 < 1 then yc l else ya l)

/-- The first normalisation of the reference. -/
def H (a0 : FVec Ideal S8x2048x1024 .f32) (a1 : FVec Ideal S16x6144 .f32) (a2 : FVec Ideal S1024 .f32) : FVec Ideal S8x2048x1024 .f32 :=
  (addf (mulf (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a2))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 1024] (broadcastInDim S8x1x6144 ![0, 2] bcast_S8x6144_S8x1x6144_0_2 (extractStridedSlice S8x6144 ![1, 0] a1 slices_S16x6144_S8x6144_1_0)) slices_S8x1x6144_S8x1x1024_0_0_1024)))) (broadcastInDim S8x2048x1024 ![0, 1, 2] bcast_S8x1x1024_S8x2048x1024_0_1_2 (extractStridedSlice S8x1x1024 ![0, 0, 0] (broadcastInDim S8x1x6144 ![0, 2] bcast_S8x6144_S8x1x6144_0_2 (extractStridedSlice S8x6144 ![1, 0] a1 slices_S16x6144_S8x6144_1_0)) slices_S8x1x6144_S8x1x1024_0_0_0)))

/-- The mLSTM branch. -/
def YM (a4 a5 : FVec Ideal S8x2048x512 .f32) (a6 : FVec Ideal S8x2048x3856 .f32) (a8 : FVec Ideal S4x128 .f32) : FVec Ideal S8x2048x512 .f32 :=
  (mulf (shapeCast S8x2048x512 (mulf (mulf (shapeCast S8x2048x4x128 (addf a4 a5) shapeCasts_S8x2048x512_S8x2048x4x128) (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf (shapeCast S8x2048x4x128 (addf a4 a5) shapeCasts_S8x2048x512_S8x2048x4x128) (shapeCast S8x2048x4x128 (addf a4 a5) shapeCasts_S8x2048x512_S8x2048x4x128)) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x4x128_S8x2048x4x128_0_1_2_3 (broadcastInDim S1x1x4x128 ![2, 3] bcast_S4x128_S1x1x4x128_2_3 a8))) shapeCasts_S8x2048x4x128_S8x2048x512) (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf (extractStridedSlice S8x2048x512 ![0, 0, 1536] a6 slices_S8x2048x3856_S8x2048x512_0_0_1536))))))

/-- The spatial gating branch. -/
def YC (a6 : FVec Ideal S8x2048x3856 .f32) (a9 : FVec Ideal S4x128x128 .f32) (a10 : FVec Ideal S4x128 .f32) : FVec Ideal S8x2048x512 .f32 :=
  (mulf (extractStridedSlice S8x2048x512 ![0, 0, 2064] a6 slices_S8x2048x3856_S8x2048x512_0_0_2064) (shapeCast S8x2048x512 (addf (transpose S8x16x128x4x128 [1, 2, 4, 0, 3] (Host.dotGeneral dot_S8x16x128x4x128_S4x128x128_S4x8x16x128x128_2_2_014_1_3_0 none (shapeCast S8x16x128x4x128 (mulf (extractStridedSlice S8x2048x512 ![0, 0, 2576] a6 slices_S8x2048x3856_S8x2048x512_0_0_2576) (broadcastInDim S8x2048x512 ![0, 1, 2] bcast_S8x2048x1_S8x2048x512_0_1_2 (Host.rsqrt (addf (Host.divf (broadcastInDim S8x2048x1 ![0, 1] bcast_S8x2048_S8x2048x1_0_1 (Host.reduceAdd (mulf (extractStridedSlice S8x2048x512 ![0, 0, 2576] a6 slices_S8x2048x3856_S8x2048x512_0_0_2576) (extractStridedSlice S8x2048x512 ![0, 0, 2576] a6 slices_S8x2048x3856_S8x2048x512_0_0_2576)) (constant S_ .f32 0x00000000#32) reducesTo_S8x2048x512_S8x2048_d2 h_S_)) (broadcastInDim S8x2048x1 ![] bcast_S_S8x2048x1 (constant S_ .f32 0x44000000#32))) (broadcastInDim S8x2048x1 ![] bcast_S_S8x2048x1 (constant S_ .f32 0x358637BD#32)))))) shapeCasts_S8x2048x512_S8x16x128x4x128) a9) transposes_S4x8x16x128x128_S8x16x128x4x128_1_2_4_0_3) (broadcastInDim S8x16x128x4x128 ![0, 1, 2, 3, 4] bcast_S1x1x128x4x1_S8x16x128x4x128_0_1_2_3_4 (broadcastInDim S1x1x128x4x1 ![2, 3] bcast_S128x4_S1x1x128x4x1_2_3 (transpose S128x4 [1, 0] a10 transposes_S4x128_S128x4_1_0)))) shapeCasts_S8x16x128x4x128_S8x2048x512))

/-- The gated sum of the branches. -/
def MIX (h : FVec Ideal S8x2048x1024 .f32) (ym yc a7 : FVec Ideal S8x2048x512 .f32) (a11 : FVec Ideal S1024x3072 .f32)
    (a12 : FVec Ideal S3072 .f32) (a13 : FVec Ideal S3x512x1024 .f32) : FVec Ideal S8x2048x1024 .f32 :=
  (Host.reduceAdd (mulf (shapeCast S8x2048x3x1024 (Host.divf (broadcastInDim S8x2048x3072 ![] bcast_S_S8x2048x3072 (constant S_ .f32 0x3F800000#32)) (addf (broadcastInDim S8x2048x3072 ![] bcast_S_S8x2048x3072 (constant S_ .f32 0x3F800000#32)) (Host.exp (Host.negf (addf (Host.dotGeneral dot_S8x2048x1024_S1024x3072_S8x2048x3072_2_0_01_1_n_n none h a11) (broadcastInDim S8x2048x3072 ![0, 1, 2] bcast_S1x1x3072_S8x2048x3072_0_1_2 (broadcastInDim S1x1x3072 ![2] bcast_S3072_S1x1x3072_2 a12))))))) shapeCasts_S8x2048x3072_S8x2048x3x1024) (transpose S8x2048x3x1024 [2, 3, 0, 1] (Host.dotGeneral dot_S3x512x1024_S8x2048x3x512_S3x1024x8x2048_1_3_2_01_0_2 none a13 ((concatenate S8x2048x3x512 2 [⟨S8x2048x1x512, ((broadcastInDim S8x2048x1x512 ![0, 1, 3] bcast_S8x2048x512_S8x2048x1x512_0_1_3 ym))⟩, ⟨S8x2048x1x512, ((broadcastInDim S8x2048x1x512 ![0, 1, 3] bcast_S8x2048x512_S8x2048x1x512_0_1_3 yc))⟩, ⟨S8x2048x1x512, ((broadcastInDim S8x2048x1x512 ![0, 1, 3] bcast_S8x2048x512_S8x2048x1x512_0_1_3 a7))⟩] concatenates_S8x2048x1x512_S8x2048x1x512_S8x2048x1x512_S8x2048x3x512_d2))) transposes_S3x1024x8x2048_S8x2048x3x1024_2_3_0_1)) (constant S_ .f32 0x00000000#32) reducesTo_S8x2048x3x1024_S8x2048x1024_d2 h_S_)

/-- The residual sum. -/
def X1 (a0 : FVec Ideal S8x2048x1024 .f32) (a1 : FVec Ideal S16x6144 .f32) (mix : FVec Ideal S8x2048x1024 .f32)
    (a14 : FVec Ideal S1024x1024 .f32) : FVec Ideal S8x2048x1024 .f32 :=
  (addf a0 (mulf (broadcastInDim S8x2048x1024 ![0, 1, 2] bcast_S8x1x1024_S8x2048x1024_0_1_2 (extractStridedSlice S8x1x1024 ![0, 0, 2048] (broadcastInDim S8x1x6144 ![0, 2] bcast_S8x6144_S8x1x6144_0_2 (extractStridedSlice S8x6144 ![1, 0] a1 slices_S16x6144_S8x6144_1_0)) slices_S8x1x6144_S8x1x1024_0_0_2048)) (Host.dotGeneral dot_S8x2048x1024_S1024x1024_S8x2048x1024_2_0_01_1_n_n none mix a14)))

/-- The second normalisation. -/
def H2 (x1 : FVec Ideal S8x2048x1024 .f32) (a1 : FVec Ideal S16x6144 .f32) (a3 : FVec Ideal S1024 .f32) : FVec Ideal S8x2048x1024 .f32 :=
  (addf (mulf (mulf (mulf x1 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x1 x1) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a3))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 4096] (broadcastInDim S8x1x6144 ![0, 2] bcast_S8x6144_S8x1x6144_0_2 (extractStridedSlice S8x6144 ![1, 0] a1 slices_S16x6144_S8x6144_1_0)) slices_S8x1x6144_S8x1x1024_0_0_4096)))) (broadcastInDim S8x2048x1024 ![0, 1, 2] bcast_S8x1x1024_S8x2048x1024_0_1_2 (extractStridedSlice S8x1x1024 ![0, 0, 3072] (broadcastInDim S8x1x6144 ![0, 2] bcast_S8x6144_S8x1x6144_0_2 (extractStridedSlice S8x6144 ![1, 0] a1 slices_S16x6144_S8x6144_1_0)) slices_S8x1x6144_S8x1x1024_0_0_3072)))

/-- The three results from the residual sum and the second normalisation. -/
def R1 (x1 : FVec Ideal S8x2048x1024 .f32) : FVec Ideal S16384x1024 .f32 :=
  shapeCast S16384x1024 x1 shapeCasts_S8x2048x1024_S16384x1024

def R2 (h2 : FVec Ideal S8x2048x1024 .f32) : FVec Ideal S1024x16384 .bf16 :=
  truncf .bf16 (transpose S1024x16384 [1, 0] (shapeCast S16384x1024 h2 shapeCasts_S8x2048x1024_S16384x1024) transposes_S16384x1024_S1024x16384_1_0) bitsLt_bf16_f32

def R3 (h2 : FVec Ideal S8x2048x1024 .f32) (a15 : FVec Ideal S1024x2048 .f32) (a16 : FVec Ideal S8x2x128x128 .f32) : FVec Ideal S16x128x16384 .f32 :=
  transpose S16x128x16384 [1, 2, 0] (shapeCast S16384x16x128 (transpose S16384x8x2x128 [3, 0, 1, 2] (Host.dotGeneral dot_S8x2x128x128_S16384x8x2x128_S8x2x128x16384_3_3_2_0_01_12 none a16 (shapeCast S16384x8x2x128 (Host.dotGeneral dot_S8x2048x1024_S1024x2048_S8x2048x2048_2_0_01_1_n_n none h2 a15) shapeCasts_S8x2048x2048_S16384x8x2x128)) transposes_S8x2x128x16384_S16384x8x2x128_3_0_1_2) shapeCasts_S16384x8x2x128_S16384x16x128) transposes_S16384x16x128_S16x128x16384_1_2_0

theorem H_at (a0 : FVec Ideal S8x2048x1024 .f32) (a1 : FVec Ideal S16x6144 .f32) (a2 : FVec Ideal S1024 .f32) (b : Fin 8) (s : Fin 2048) (k : Fin 1024) :
    H a0 a1 a2 (ix3 b s k) = modRow (fun k => a0 (ix3 b s k)) (fun k => a2 (ix1 k)) (fun k => a1 (ix2 ⟨1 + b.val, by omega⟩ ⟨1024 + k.val, by omega⟩))
      (fun k => a1 (ix2 ⟨1 + b.val, by omega⟩ ⟨k.val, by omega⟩)) k := by
  pointwise [H, modRow, nrm]

theorem YM_at (a4 a5 : FVec Ideal S8x2048x512 .f32) (a6 : FVec Ideal S8x2048x3856 .f32) (a8 : FVec Ideal S4x128 .f32) (b : Fin 8) (s : Fin 2048) (j : Fin 512) :
    YM a4 a5 a6 a8 (ix3 b s j) = ymRow (fun l => a4 (ix3 b s l) + a5 (ix3 b s l)) (fun l => a8 (ix2 ⟨l.val / 128, by omega⟩ ⟨l.val % 128, by omega⟩))
      (fun l => a6 (ix3 b s ⟨1536 + l.val, by omega⟩)) j := by
  have e : (⟨j.val / 128 * 128 + j.val % 128, by omega⟩ : Fin 512) = j := Fin.ext (by show j.val / 128 * 128 + j.val % 128 = j.val; omega)
  pointwise [YM, ymRow, nrm, sg]
  rw [e]

theorem YC_at (a6 : FVec Ideal S8x2048x3856 .f32) (a9 : FVec Ideal S4x128x128 .f32) (a10 : FVec Ideal S4x128 .f32) (b : Fin 8) (s : Fin 2048) (j : Fin 512) :
    YC a6 a9 a10 (ix3 b s j) = ycVal (a6 (ix3 b s ⟨2064 + j.val, by omega⟩)) (fun q => nrm (Ideal.ofBits FTy.f32 1140850688#32)
      (fun l : Fin 512 => a6 (ix3 b ⟨s.val / 128 * 128 + q.val, by omega⟩ ⟨2576 + l.val, by omega⟩)) j)
      (fun q => a9 (ix3 ⟨j.val / 128, by omega⟩ ⟨s.val % 128, by omega⟩ q)) (a10 (ix2 ⟨j.val / 128, by omega⟩ ⟨s.val % 128, by omega⟩)) := by
  pointwise [YC, ycVal, nrm]

theorem X1_at (a0 : FVec Ideal S8x2048x1024 .f32) (a1 : FVec Ideal S16x6144 .f32) (mix : FVec Ideal S8x2048x1024 .f32)
    (a14 : FVec Ideal S1024x1024 .f32) (b : Fin 8) (s : Fin 2048) (k : Fin 1024) :
    X1 a0 a1 mix a14 (ix3 b s k) = a0 (ix3 b s k) + a1 (ix2 ⟨1 + b.val, by omega⟩ ⟨2048 + k.val, by omega⟩) * ∑ l : Fin 1024, mix (ix3 b s l) * a14 (ix2 l k) := by
  pointwise [X1]

theorem H2_at (x1 : FVec Ideal S8x2048x1024 .f32) (a1 : FVec Ideal S16x6144 .f32) (a3 : FVec Ideal S1024 .f32) (b : Fin 8) (s : Fin 2048) (k : Fin 1024) :
    H2 x1 a1 a3 (ix3 b s k) = modRow (fun k => x1 (ix3 b s k)) (fun k => a3 (ix1 k)) (fun k => a1 (ix2 ⟨1 + b.val, by omega⟩ ⟨4096 + k.val, by omega⟩))
      (fun k => a1 (ix2 ⟨1 + b.val, by omega⟩ ⟨3072 + k.val, by omega⟩)) k := by
  pointwise [H2, modRow, nrm]

theorem MIX_at (h : FVec Ideal S8x2048x1024 .f32) (ym yc a7 : FVec Ideal S8x2048x512 .f32) (a11 : FVec Ideal S1024x3072 .f32)
    (a12 : FVec Ideal S3072 .f32) (a13 : FVec Ideal S3x512x1024 .f32) (b : Fin 8) (s : Fin 2048) (k : Fin 1024) :
    MIX h ym yc a7 a11 a12 a13 (ix3 b s k) = mixRow (fun l => h (ix3 b s l)) (fun l => ym (ix3 b s l)) (fun l => yc (ix3 b s l)) (fun l => a7 (ix3 b s l))
      (fun l j => a11 (ix2 l j)) (fun j => a12 (ix1 j)) (fun n l k => a13 (ix3 n l k)) k := by
  pointwise [MIX, mixRow, sg]

theorem R1_at (x1 : FVec Ideal S8x2048x1024 .f32) (r : Fin 16384) (k : Fin 1024) : R1 x1 (ix2 r k) = x1 (ix3 ⟨r.val / 2048, by omega⟩ ⟨r.val % 2048, by omega⟩ k) := by
  pointwise [R1]

theorem R2_at (h2 : FVec Ideal S8x2048x1024 .f32) (r : Fin 16384) (k : Fin 1024) : R2 h2 (ix2 k r) = h2 (ix3 ⟨r.val / 2048, by omega⟩ ⟨r.val % 2048, by omega⟩ k) := by
  pointwise [R2]

theorem R3_at (h2 : FVec Ideal S8x2048x1024 .f32) (a15 : FVec Ideal S1024x2048 .f32) (a16 : FVec Ideal S8x2x128x128 .f32) (r : Fin 16384) (g : Fin 16) (k : Fin 128) :
    R3 h2 a15 a16 (ix3 g k r) = ∑ d : Fin 128, a16 (ix4 ⟨g.val / 2, by omega⟩ ⟨g.val % 2, by omega⟩ k d) * (∑ l : Fin 1024, h2 (ix3 ⟨r.val / 2048, by omega⟩ ⟨r.val % 2048, by omega⟩ l) * a15 (ix2 l ⟨g.val * 128 + d.val, by omega⟩)) := by
  have e : ∀ d : Fin 128, (⟨g.val / 2 * 256 + g.val % 2 * 128 + d.val, by omega⟩ : Fin 2048) = ⟨g.val * 128 + d.val, by omega⟩ :=
    fun d => Fin.ext (by show g.val / 2 * 256 + g.val % 2 * 128 + d.val = g.val * 128 + d.val; omega)
  pointwise [R3]
  simp only [e]

section
variable (m : (ℓ : Loc nD τ sig) → Buf (Elt Ideal) ℓ) (c : Dev nD)

/-- The residual sum over the argument arrays. -/
def X1m : FVec Ideal S8x2048x1024 .f32 :=
  X1 (m ((c.tc : Thread nD τ).loc main_arg0)) (m ((c.tc : Thread nD τ).loc main_arg1))
    (MIX (H (m ((c.tc : Thread nD τ).loc main_arg0)) (m ((c.tc : Thread nD τ).loc main_arg1)) (m ((c.tc : Thread nD τ).loc main_arg2)))
      (YM (m ((c.tc : Thread nD τ).loc main_arg4)) (m ((c.tc : Thread nD τ).loc main_arg5)) (m ((c.tc : Thread nD τ).loc main_arg6)) (m ((c.tc : Thread nD τ).loc main_arg8)))
      (YC (m ((c.tc : Thread nD τ).loc main_arg6)) (m ((c.tc : Thread nD τ).loc main_arg9)) (m ((c.tc : Thread nD τ).loc main_arg10)))
      (m ((c.tc : Thread nD τ).loc main_arg7)) (m ((c.tc : Thread nD τ).loc main_arg11)) (m ((c.tc : Thread nD τ).loc main_arg12)) (m ((c.tc : Thread nD τ).loc main_arg13)))
    (m ((c.tc : Thread nD τ).loc main_arg14))

theorem res118 : Value.res_main_v118 m c = R1 (X1m m c) := rfl

theorem res121 : Value.res_main_v121 m c = R2 (H2 (X1m m c) (m ((c.tc : Thread nD τ).loc main_arg1)) (m ((c.tc : Thread nD τ).loc main_arg3))) := rfl

theorem res123 : Value.res_main_v123 m c = R3 (H2 (X1m m c) (m ((c.tc : Thread nD τ).loc main_arg1)) (m ((c.tc : Thread nD τ).loc main_arg3)))
    (m ((c.tc : Thread nD τ).loc main_arg15)) (m ((c.tc : Thread nD τ).loc main_arg16)) := rfl

end

end Cert.MergeRefIdeal.Read
-- ==== Proof.MergePay.lean ====
module

public import proofs.«01_k».proof.Proof.Gen.MergeIdeal.Value
public import proofs.«01_k».proof.Proof.MergeRefValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Read

open Cert.MergeIdeal Cert.MergeIdeal.Gen
open Cert.MergeRefIdeal.Read (sg nrm modRow ymRow ycVal mixRow)

/-- One lane picked out of a row by its number. -/
theorem pick (f : Fin 128 → EReal) (g : Fin 128) :
    (∑ x : Fin 128, Scalar.select (IntOp.cmpi CmpIPredicate.eq (BitVec.ofNat 32 x.val) (BitVec.ofNat 32 g.val)) (f x) 0) = f g := by
  have h : ∀ x g : Fin 128, IntOp.cmpi CmpIPredicate.eq (BitVec.ofNat 32 x.val) (BitVec.ofNat 32 g.val) = if x = g then 1#1 else 0#1 := by
    decide +kernel
  simp only [h]
  rw [Finset.sum_eq_single g]
  · simp [Scalar.select]
  · intro x _ hx
    simp [Scalar.select, hx]
  · intro hg; exact absurd (Finset.mem_univ _) hg

theorem pay5_at (v0 : FVec Ideal S256x1024 .f32) (v2 : FVec Ideal S1x6x1024 .f32) (v4 : FVec Ideal S1x1024 .f32) (r : Fin 256) (k : Fin 1024) :
    k0_pay5 (F := Ideal) v0 v2 v4 (ix2 r k) = modRow (fun k => v0 (ix2 r k)) (fun k => v4 (ix2 0 k)) (fun k => v2 (ix3 0 1 k)) (fun k => v2 (ix3 0 0 k)) k := by
  pointwise [k0_pay5, k0_pay4, k0_pay3, modRow, nrm]

theorem pay9_at (v26 v28 : FVec Ideal S256x512 .f32) (v42 : FVec Ideal S1x128 .f32) (r : Fin 256) (j : Fin 128) :
    k0_pay9 (F := Ideal) (k0_pay7 v26 v28) (k0_pay8 v26 v28) v42 (ix2 r j)
      = nrm (Ideal.ofBits FTy.f32 1124073472#32) (fun l : Fin 128 => v26 (ix2 r ⟨l.val, by omega⟩) + v28 (ix2 r ⟨l.val, by omega⟩)) j * v42 (ix2 0 j) := by
  pointwise [k0_pay9, k0_pay8, k0_pay7, k0_pay6, nrm]

theorem pay10_at (v26 v28 : FVec Ideal S256x512 .f32) (v42 : FVec Ideal S1x128 .f32) (r : Fin 256) (j : Fin 128) :
    k0_pay10 (F := Ideal) (k0_pay6 v26 v28) v42 (ix2 r j)
      = nrm (Ideal.ofBits FTy.f32 1124073472#32) (fun l : Fin 128 => v26 (ix2 r ⟨128 + l.val, by omega⟩) + v28 (ix2 r ⟨128 + l.val, by omega⟩)) j * v42 (ix2 0 j) := by
  pointwise [k0_pay10, k0_pay6, nrm]

theorem pay11_at (v26 v28 : FVec Ideal S256x512 .f32) (v42 : FVec Ideal S1x128 .f32) (r : Fin 256) (j : Fin 128) :
    k0_pay11 (F := Ideal) (k0_pay6 v26 v28) v42 (ix2 r j)
      = nrm (Ideal.ofBits FTy.f32 1124073472#32) (fun l : Fin 128 => v26 (ix2 r ⟨256 + l.val, by omega⟩) + v28 (ix2 r ⟨256 + l.val, by omega⟩)) j * v42 (ix2 0 j) := by
  pointwise [k0_pay11, k0_pay6, nrm]

theorem pay14_at (v45 v60 v75 : FVec Ideal S256x128 .f32) (v26 v28 : FVec Ideal S256x512 .f32) (v87 : FVec Ideal S1x128 .f32) (v92 : FVec Ideal S256x512 .f32) (r : Fin 256) (j : Fin 512) :
    k0_pay14 (F := Ideal) v45 v60 v75 (k0_pay12 (k0_pay6 v26 v28)) (k0_pay13 (k0_pay6 v26 v28)) v87 v92 (ix2 r j)
      = (if _ : j.val < 128 then v45 (ix2 r ⟨j.val, by omega⟩) else if _ : j.val - 128 < 128 then v60 (ix2 r ⟨j.val - 128, by omega⟩)
        else if _ : j.val - 128 - 128 < 128 then v75 (ix2 r ⟨j.val - 128 - 128, by omega⟩) else
          nrm (Ideal.ofBits FTy.f32 1124073472#32) (fun l : Fin 128 => v26 (ix2 r ⟨384 + l.val, by omega⟩) + v28 (ix2 r ⟨384 + l.val, by omega⟩)) ⟨j.val - 128 - 128 - 128, by omega⟩
            * v87 (ix2 0 ⟨j.val - 128 - 128 - 128, by omega⟩)) * sg (v92 (ix2 r j)) := by
  pointwise [k0_pay14, k0_pay12, k0_pay13, k0_pay6, nrm, sg]
  rfl

theorem pay15_at (v96 : FVec Ideal S256x512 .f32) (r : Fin 256) (j : Fin 512) :
    k0_pay15 (F := Ideal) v96 (ix2 r j) = nrm (Ideal.ofBits FTy.f32 1140850688#32) (fun l : Fin 512 => v96 (ix2 r l)) j := by
  pointwise [k0_pay15, nrm]

theorem pay16_at (v96 : FVec Ideal S256x512 .f32) (v108 : FVec Ideal S1x128x128 .bf16) (v113 : FVec Ideal S128x128 .f32) (p q : Fin 128) :
    k0_pay16 (F := Ideal) v96 v108 v113 (ix2 p q) = (∑ l : Fin 128, v108 (ix3 0 p l) * k0_pay15 (F := Ideal) v96 (ix2 ⟨l.val, by omega⟩ ⟨q.val, by omega⟩)) + v113 (ix2 p 0) := by
  have e := pick (fun x => v113 (ix2 p x)) 0
  pointwise [k0_pay16]
  exact congrArg _ e

theorem pay17_at (v107 : FVec Ideal S256x512 .f32) (v108 : FVec Ideal S1x128x128 .bf16) (v113 : FVec Ideal S128x128 .f32) (p q : Fin 128) :
    k0_pay17 (F := Ideal) v107 v108 v113 (ix2 p q) = (∑ l : Fin 128, v108 (ix3 0 p l) * v107 (ix2 ⟨l.val, by omega⟩ ⟨128 + q.val, by omega⟩)) + v113 (ix2 p 1) := by
  have e := pick (fun x => v113 (ix2 p x)) 1
  pointwise [k0_pay17]
  exact congrArg _ e

theorem pay18_at (v107 : FVec Ideal S256x512 .f32) (v108 : FVec Ideal S1x128x128 .bf16) (v113 : FVec Ideal S128x128 .f32) (p q : Fin 128) :
    k0_pay18 (F := Ideal) v107 v108 v113 (ix2 p q) = (∑ l : Fin 128, v108 (ix3 0 p l) * v107 (ix2 ⟨l.val, by omega⟩ ⟨256 + q.val, by omega⟩)) + v113 (ix2 p 2) := by
  have e := pick (fun x => v113 (ix2 p x)) 2
  pointwise [k0_pay18]
  exact congrArg _ e

theorem pay19_at (v107 : FVec Ideal S256x512 .f32) (v108 : FVec Ideal S1x128x128 .bf16) (p q : Fin 128) :
    k0_pay19 (F := Ideal) v107 v108 (ix2 p q) = ∑ l : Fin 128, v108 (ix3 0 p l) * v107 (ix2 ⟨l.val, by omega⟩ ⟨384 + q.val, by omega⟩) := by
  pointwise [k0_pay19]

theorem pay21_at (v123 v139 v155 v160 v162 : FVec Ideal S128x128 .f32) (p : Fin 128) (j : Fin 512) :
    k0_pay21 (F := Ideal) v123 v139 v155 v160 (k0_pay20 v162) (iota .tc S128x128 32 [1] iota_S128x128_d1_w32) (ix2 p j) =
      (if _ : j.val < 128 then v123 (ix2 p ⟨j.val, by omega⟩) else if _ : j.val - 128 < 128 then v139 (ix2 p ⟨j.val - 128, by omega⟩)
        else if _ : j.val - 128 - 128 < 128 then v155 (ix2 p ⟨j.val - 128 - 128, by omega⟩) else
          v160 (ix2 p ⟨j.val - 128 - 128 - 128, by omega⟩) + v162 (ix2 p 3)) := by
  have e := pick (fun x => v162 (ix2 p x)) 3
  refine Eq.trans ?_ (congrArg (fun w => (if _ : j.val < 128 then v123 (ix2 p ⟨j.val, by omega⟩) else if _ : j.val - 128 < 128 then v139 (ix2 p ⟨j.val - 128, by omega⟩)
        else if _ : j.val - 128 - 128 < 128 then v155 (ix2 p ⟨j.val - 128 - 128, by omega⟩) else
          v160 (ix2 p ⟨j.val - 128 - 128 - 128, by omega⟩) + w)) e)
  pointwise [k0_pay21, k0_pay20]

theorem pay22_at (v107 : FVec Ideal S256x512 .f32) (v108 : FVec Ideal S1x128x128 .bf16) (v113 : FVec Ideal S128x128 .f32) (p q : Fin 128) :
    k0_pay22 (F := Ideal) v107 v108 v113 (ix2 p q) = (∑ l : Fin 128, v108 (ix3 0 p l) * v107 (ix2 ⟨128 + l.val, by omega⟩ ⟨q.val, by omega⟩)) + v113 (ix2 p 0) := by
  have e := pick (fun x => v113 (ix2 p x)) 0
  pointwise [k0_pay22]
  exact congrArg _ e

theorem pay23_at (v107 : FVec Ideal S256x512 .f32) (v108 : FVec Ideal S1x128x128 .bf16) (p q : Fin 128) :
    k0_pay23 (F := Ideal) v107 v108 (ix2 p q) = ∑ l : Fin 128, v108 (ix3 0 p l) * v107 (ix2 ⟨128 + l.val, by omega⟩ ⟨128 + q.val, by omega⟩) := by
  pointwise [k0_pay23]

theorem pay24_at (v194 : FVec Ideal S128x128 .f32) (p : Fin 128) : k0_pay24 (F := Ideal) v194 (ix2 p 0) = v194 (ix2 p 1) := by
  have e := pick (fun x => v194 (ix2 p x)) 1
  pointwise [k0_pay24]
  exact e

theorem pay25_at (v107 : FVec Ideal S256x512 .f32) (v172 : FVec Ideal S128x512 .f32) (v188 v193 : FVec Ideal S128x128 .f32) (v202 : FVec Ideal S128x1 .f32)
    (v205 v221 : FVec Ideal S1x128x128 .bf16) (v210 : FVec Ideal S128x128 .f32) (v238 : FVec Ideal S256x512 .f32) (r : Fin 256) (j : Fin 512) :
    k0_pay25 (F := Ideal) v107 v172 v188 v193 v202 v205 v210 v221 v210 v238 (ix2 r j) = v238 (ix2 r j) *
      (if _ : r.val < 128 then v172 (ix2 ⟨r.val, by omega⟩ j) else
        if _ : j.val < 128 then v188 (ix2 ⟨r.val - 128, by omega⟩ ⟨j.val, by omega⟩)
        else if _ : j.val - 128 < 128 then v193 (ix2 ⟨r.val - 128, by omega⟩ ⟨j.val - 128, by omega⟩) + v202 (ix2 ⟨r.val - 128, by omega⟩ 0)
        else if _ : j.val - 128 - 128 < 128 then
          (∑ l : Fin 128, v205 (ix3 0 ⟨r.val - 128, by omega⟩ l) * v107 (ix2 ⟨128 + l.val, by omega⟩ ⟨256 + (j.val - 128 - 128), by omega⟩)) + v210 (ix2 ⟨r.val - 128, by omega⟩ 2)
        else (∑ l : Fin 128, v221 (ix3 0 ⟨r.val - 128, by omega⟩ l) * v107 (ix2 ⟨128 + l.val, by omega⟩ ⟨384 + (j.val - 128 - 128 - 128), by omega⟩)) + v210 (ix2 ⟨r.val - 128, by omega⟩ 3)) := by
  have p2 : ∀ f : Fin 128 → EReal, (∑ x : Fin 128, Scalar.select (IntOp.cmpi CmpIPredicate.eq (BitVec.ofNat 32 x.val) 2#32) (f x) 0) = f 2 := fun f => pick f 2
  have p3 : ∀ f : Fin 128 → EReal, (∑ x : Fin 128, Scalar.select (IntOp.cmpi CmpIPredicate.eq (BitVec.ofNat 32 x.val) 3#32) (f x) 0) = f 3 := fun f => pick f 3
  pointwise [k0_pay25]
  simp only [p2, p3]

theorem pay27_at (v25 : FVec Ideal S256x1024 .f32) (v95 v241 : FVec Ideal S256x512 .f32) (v245 v260 : FVec Ideal S1024x1024 .bf16) (v249 v264 : FVec Ideal S1x1024 .f32)
    (v254 v269 : FVec Ideal S1x512x1024 .bf16) (r : Fin 256) (k : Fin 1024) :
    k0_pay27 (F := Ideal) v25 v95 v241 (FloatOps.ofBits FTy.f32 0#32) v245 v249 v254 v260 v264 v269 (ix2 r k)
      = sg ((∑ l : Fin 1024, v25 (ix2 r l) * v245 (ix2 l k)) + v249 (ix2 0 k)) * (∑ l : Fin 512, v95 (ix2 r l) * v254 (ix3 0 l k))
        + sg ((∑ l : Fin 1024, v25 (ix2 r l) * v260 (ix2 l k)) + v264 (ix2 0 k)) * (∑ l : Fin 512, v241 (ix2 r l) * v269 (ix3 0 l k)) := by
  pointwise [k0_pay27, sg]
  rfl

theorem pay28_at (v25 : FVec Ideal S256x1024 .f32) (v275 : FVec Ideal S1024x1024 .bf16) (r : Fin 256) (k : Fin 1024) :
    k0_pay28 (F := Ideal) v25 v275 (ix2 r k) = ∑ l : Fin 1024, v25 (ix2 r l) * v275 (ix2 l k) := by
  pointwise [k0_pay28]

theorem pay29_at (v1 : FVec Ideal S256x1024 .f32) (v3 : FVec Ideal S6x1024 .f32) (v244 : FVec Ideal S256x512 .f32) (v274 v278 : FVec Ideal S256x1024 .f32)
    (v279 : FVec Ideal S1x1024 .f32) (v284 : FVec Ideal S1x512x1024 .bf16) (v291 : FVec Ideal S1024x1024 .bf16) (r : Fin 256) (k : Fin 1024) :
    k0_pay29 (F := Ideal) v1 v3 v244 v274 v278 v279 v284 v291 (ix2 r k)
      = v1 (ix2 r k) + v3 (ix2 2 k) * ∑ l : Fin 1024, (v274 (ix2 r l) + sg (v278 (ix2 r l) + v279 (ix2 0 l)) * ∑ i : Fin 512, v244 (ix2 r i) * v284 (ix3 0 i l)) * v291 (ix2 l k) := by
  pointwise [k0_pay29, sg]
  rfl

theorem pay30_at (v1 : FVec Ideal S256x1024 .f32) (v3 : FVec Ideal S6x1024 .f32) (v244 : FVec Ideal S256x512 .f32) (v274 v278 : FVec Ideal S256x1024 .f32)
    (v279 : FVec Ideal S1x1024 .f32) (v284 : FVec Ideal S1x512x1024 .bf16) (v291 : FVec Ideal S1024x1024 .bf16) (v299 : FVec Ideal S1x1024 .f32) (r : Fin 256) (k : Fin 1024) :
    k0_pay30 (F := Ideal) v1 v3 v244 v274 v278 v279 v284 v291 v299 (ix2 r k)
      = modRow (fun l => k0_pay29 (F := Ideal) v1 v3 v244 v274 v278 v279 v284 v291 (ix2 r l)) (fun l => v299 (ix2 0 l)) (fun l => v3 (ix2 4 l)) (fun l => v3 (ix2 3 l)) k := by
  generalize e : k0_pay29 (F := Ideal) v1 v3 v244 v274 v278 v279 v284 v291 = w
  pointwise [k0_pay30, modRow, nrm]
  simp only [e]

end Cert.MergeIdeal.Read
-- ==== Proof.MergeOut.lean ====
module

public import proofs.«01_k».proof.Proof.Gen.MergeIdeal.Value
public import proofs.«01_k».proof.Proof.MergePay
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Read

open Cert.MergeIdeal Cert.MergeIdeal.Gen
open Cert.MergeRefIdeal.Read (sg nrm modRow ymRow ycVal mixRow)

theorem ym_at (x4 x5 x6 : FVec Ideal S256x512 .f32) (x10 : FVec Ideal S1x512 .f32) (g0 g1 g2 g3 : FVec Ideal S1x128 .f32)
    (h0 : ∀ j : Fin 128, g0 (ix2 0 j) = x10 (ix2 0 ⟨j.val, by omega⟩)) (h1 : ∀ j : Fin 128, g1 (ix2 0 j) = x10 (ix2 0 ⟨128 + j.val, by omega⟩))
    (h2 : ∀ j : Fin 128, g2 (ix2 0 j) = x10 (ix2 0 ⟨256 + j.val, by omega⟩)) (h3 : ∀ j : Fin 128, g3 (ix2 0 j) = x10 (ix2 0 ⟨384 + j.val, by omega⟩))
    (r : Fin 256) (j : Fin 512) :
    k0_pay14 (F := Ideal) (k0_pay9 (k0_pay7 x4 x5) (k0_pay8 x4 x5) g0) (k0_pay10 (k0_pay6 x4 x5) g1) (k0_pay11 (k0_pay6 x4 x5) g2)
      (k0_pay12 (k0_pay6 x4 x5)) (k0_pay13 (k0_pay6 x4 x5)) g3 x6 (ix2 r j)
    = ymRow (fun l => x4 (ix2 r l) + x5 (ix2 r l)) (fun l => x10 (ix2 0 l)) (fun l => x6 (ix2 r l)) j := by
  rw [pay14_at]
  unfold ymRow
  have key : ∀ (g : ℕ) (hg : j.val / 128 = g) (i i' : Fin 128), i.val = j.val - g * 128 → i' = ⟨j.val % 128, by omega⟩ → i = i' := by
    intro g hg i i' e e'
    subst e'
    exact Fin.ext (by show i.val = j.val % 128; omega)
  have cl : ∀ (g : ℕ) (hg : j.val / 128 = g) (f f' : Fin 128 → EReal) (i : Fin 128) (a b : EReal), i.val = j.val - g * 128 → a = b →
      (∀ l, f l = f' l) → nrm (Ideal.ofBits FTy.f32 1124073472#32) f i * a = nrm (Ideal.ofBits FTy.f32 1124073472#32) f' ⟨j.val % 128, by omega⟩ * b := by
    intro g hg f f' i a b hi ha hf
    rw [show f = f' from funext hf, key g hg i _ hi rfl, ha]
  refine congrArg (· * _) ?_
  by_cases c0 : j.val < 128
  · rw [dif_pos c0, pay9_at]
    exact cl 0 (by omega) _ _ _ _ _ (by simp) ((h0 _).trans (congrArg (fun z => x10 (ix2 0 z)) (Fin.ext (by simp))))
      fun l => by congr 3 <;> exact Fin.ext (by simp; omega)
  rw [dif_neg c0]
  by_cases c1 : j.val - 128 < 128
  · rw [dif_pos c1, pay10_at]
    exact cl 1 (by omega) _ _ _ _ _ (by simp) ((h1 _).trans (congrArg (fun z => x10 (ix2 0 z)) (Fin.ext (by simp; omega))))
      fun l => by congr 3 <;> exact Fin.ext (by simp; omega)
  rw [dif_neg c1]
  by_cases c2 : j.val - 128 - 128 < 128
  · rw [dif_pos c2, pay11_at]
    exact cl 2 (by omega) _ _ _ _ _ (by simp; omega) ((h2 _).trans (congrArg (fun z => x10 (ix2 0 z)) (Fin.ext (by simp; omega))))
      fun l => by congr 3 <;> exact Fin.ext (by simp; omega)
  rw [dif_neg c2]
  exact cl 3 (by omega) _ _ _ _ _ (by simp; omega) ((h3 _).trans (congrArg (fun z => x10 (ix2 0 z)) (Fin.ext (by simp; omega))))
      fun l => by congr 3 <;> exact Fin.ext (by simp; omega)

/-- One group of one chunk of the spatial gating, as the kernel multiplies it: mixing row first. -/
theorem yc_core (x8 : FVec Ideal S256x512 .f32) (x11 : FVec Ideal S4x128x128 .bf16) (x12 : FVec Ideal S128x128 .f32) (r : Fin 256) (j : Fin 512)
    (w : FVec Ideal S1x128x128 .bf16) (g : Fin 4) (hg : j.val / 128 = g.val) (hw : ∀ p l, w (ix3 0 p l) = x11 (ix3 g p l))
    (p : Fin 128) (hp : p.val = r.val % 128) (row : Fin 128 → Fin 256) (hrow : ∀ l, (row l).val = r.val / 128 * 128 + l.val)
    (col : Fin 512) (hcol : col.val = j.val) (i : Fin 128) (hi : i.val = g.val) :
    (∑ l : Fin 128, w (ix3 0 p l) * k0_pay15 (F := Ideal) x8 (ix2 (row l) col)) + x12 (ix2 p i)
    = (∑ q : Fin 128, nrm (Ideal.ofBits FTy.f32 1140850688#32) (fun l : Fin 512 => x8 (ix2 ⟨r.val / 128 * 128 + q.val, by clear hg hw hp hrow hcol hi; omega⟩ l)) j
        * x11 (ix3 ⟨j.val / 128, Nat.div_lt_of_lt_mul j.isLt⟩ ⟨r.val % 128, Nat.mod_lt _ (by decide)⟩ q)) + x12 (ix2 ⟨r.val % 128, Nat.mod_lt _ (by decide)⟩ ⟨j.val / 128, lt_of_lt_of_le (Nat.div_lt_of_lt_mul j.isLt : j.val / 128 < 4) (by decide)⟩) := by
  obtain rfl : col = j := Fin.ext hcol
  have eg : g = ⟨col.val / 128, Nat.div_lt_of_lt_mul col.isLt⟩ := Fin.ext hg.symm
  rw [show p = ⟨r.val % 128, Nat.mod_lt _ (by decide)⟩ from Fin.ext hp, show i = ⟨col.val / 128, lt_of_lt_of_le (Nat.div_lt_of_lt_mul col.isLt : col.val / 128 < 4) (by decide)⟩ from Fin.ext (hi.trans hg.symm)]
  refine congrArg (· + _) (Finset.sum_congr rfl fun l _ => ?_)
  rw [hw, pay15_at, mul_comm, show row l = ⟨r.val / 128 * 128 + l.val, by omega⟩ from Fin.ext (hrow l), eg]

theorem yc_at (x7 x8 : FVec Ideal S256x512 .f32) (x11 : FVec Ideal S4x128x128 .bf16) (x12 : FVec Ideal S128x128 .f32)
    (w0 w1 w2 w3 : FVec Ideal S1x128x128 .bf16) (h0 : ∀ p l, w0 (ix3 0 p l) = x11 (ix3 0 p l)) (h1 : ∀ p l, w1 (ix3 0 p l) = x11 (ix3 1 p l))
    (h2 : ∀ p l, w2 (ix3 0 p l) = x11 (ix3 2 p l)) (h3 : ∀ p l, w3 (ix3 0 p l) = x11 (ix3 3 p l)) (r : Fin 256) (j : Fin 512) :
    k0_pay25 (F := Ideal) (k0_pay15 x8) (k0_pay21 (k0_pay16 x8 w0 x12) (k0_pay17 (k0_pay15 x8) w1 x12) (k0_pay18 (k0_pay15 x8) w2 x12)
        (k0_pay19 (k0_pay15 x8) w3) (k0_pay20 x12) (iota .tc S128x128 32 [1] iota_S128x128_d1_w32))
      (k0_pay22 (k0_pay15 x8) w0 x12) (k0_pay23 (k0_pay15 x8) w1) (k0_pay24 x12) w2 x12 w3 x12 x7 (ix2 r j)
    = ycVal (x7 (ix2 r j)) (fun q => nrm (Ideal.ofBits FTy.f32 1140850688#32) (fun l : Fin 512 => x8 (ix2 ⟨r.val / 128 * 128 + q.val, by omega⟩ l)) j)
        (fun q => x11 (ix3 ⟨j.val / 128, by omega⟩ ⟨r.val % 128, by omega⟩ q)) (x12 (ix2 ⟨r.val % 128, by omega⟩ ⟨j.val / 128, by omega⟩)) := by
  rw [pay25_at]
  unfold ycVal
  refine congrArg (_ * ·) ?_
  by_cases c : r.val < 128
  · rw [dif_pos c, pay21_at]
    by_cases d0 : j.val < 128
    · rw [dif_pos d0, pay16_at]
      exact yc_core x8 x11 x12 r j w0 0 (by simp <;> omega) h0 _ (by simp <;> omega) _ (fun l => by simp <;> omega) _ (by simp <;> omega) _ rfl
    rw [dif_neg d0]
    by_cases d1 : j.val - 128 < 128
    · rw [dif_pos d1, pay17_at]
      exact yc_core x8 x11 x12 r j w1 1 (by simp <;> omega) h1 _ (by simp <;> omega) _ (fun l => by simp <;> omega) _ (by simp <;> omega) _ rfl
    rw [dif_neg d1]
    by_cases d2 : j.val - 128 - 128 < 128
    · rw [dif_pos d2, pay18_at]
      exact yc_core x8 x11 x12 r j w2 2 (by simp <;> omega) h2 _ (by simp <;> omega) _ (fun l => by simp <;> omega) _ (by simp <;> omega) _ rfl
    rw [dif_neg d2]
    rw [pay19_at]
    exact yc_core x8 x11 x12 r j w3 3 (by simp <;> omega) h3 _ (by simp <;> omega) _ (fun l => by simp <;> omega) _ (by simp <;> omega) _ rfl
  rw [dif_neg c]
  by_cases d0 : j.val < 128
  · rw [dif_pos d0, pay22_at]
    exact yc_core x8 x11 x12 r j w0 0 (by simp <;> omega) h0 _ (by simp <;> omega) _ (fun l => by simp <;> omega) _ (by simp <;> omega) _ rfl
  rw [dif_neg d0]
  by_cases d1 : j.val - 128 < 128
  · rw [dif_pos d1, pay23_at, pay24_at]
    exact yc_core x8 x11 x12 r j w1 1 (by simp <;> omega) h1 _ (by simp <;> omega) _ (fun l => by simp <;> omega) _ (by simp <;> omega) _ rfl
  rw [dif_neg d1]
  by_cases d2 : j.val - 128 - 128 < 128
  · rw [dif_pos d2]
    exact yc_core x8 x11 x12 r j w2 2 (by simp <;> omega) h2 _ (by simp <;> omega) _ (fun l => by simp <;> omega) _ (by simp <;> omega) _ rfl
  rw [dif_neg d2]
  exact yc_core x8 x11 x12 r j w3 3 (by simp <;> omega) h3 _ (by simp <;> omega) _ (fun l => by simp <;> omega) _ (by simp <;> omega) _ rfl

/-- The rows the branches leave, out of the three gates. -/
theorem x1_core (x0 : FVec Ideal S256x1024 .f32) (x1 : FVec Ideal S1x6x1024 .f32) (x2 : FVec Ideal S1x1024 .f32) (x9 ym yc : FVec Ideal S256x512 .f32)
    (x13 : FVec Ideal S1024x3072 .bf16) (x14 : FVec Ideal S1x3072 .f32) (x15 : FVec Ideal S3x512x1024 .bf16) (x16 : FVec Ideal S1024x1024 .bf16)
    (a0 a1 a2 : FVec Ideal S1024x1024 .bf16) (b0 b1 b2 : FVec Ideal S1x1024 .f32) (w0 w1 w2 : FVec Ideal S1x512x1024 .bf16)
    (ha0 : ∀ l k : Fin 1024, a0 (ix2 l k) = x13 (ix2 l ⟨k.val, by omega⟩)) (ha1 : ∀ l k : Fin 1024, a1 (ix2 l k) = x13 (ix2 l ⟨1024 + k.val, by omega⟩))
    (ha2 : ∀ l k : Fin 1024, a2 (ix2 l k) = x13 (ix2 l ⟨2048 + k.val, by omega⟩))
    (hb0 : ∀ k : Fin 1024, b0 (ix2 0 k) = x14 (ix2 0 ⟨k.val, by omega⟩)) (hb1 : ∀ k : Fin 1024, b1 (ix2 0 k) = x14 (ix2 0 ⟨1024 + k.val, by omega⟩))
    (hb2 : ∀ k : Fin 1024, b2 (ix2 0 k) = x14 (ix2 0 ⟨2048 + k.val, by omega⟩))
    (hw0 : ∀ l k, w0 (ix3 0 l k) = x15 (ix3 0 l k)) (hw1 : ∀ l k, w1 (ix3 0 l k) = x15 (ix3 1 l k)) (hw2 : ∀ l k, w2 (ix3 0 l k) = x15 (ix3 2 l k))
    (r : Fin 256) (k : Fin 1024) :
    k0_pay29 (F := Ideal) (k0_pay3 x0) (k0_pay4 x1) (k0_pay26 x9) (k0_pay27 (k0_pay5 x0 x1 x2) ym yc (FloatOps.ofBits FTy.f32 0#32) a0 b0 w0 a1 b1 w1)
      (k0_pay28 (k0_pay5 x0 x1 x2) a2) b2 w2 x16 (ix2 r k)
    = x0 (ix2 r k) + x1 (ix3 0 2 k) * ∑ l : Fin 1024, mixRow (modRow (fun k => x0 (ix2 r k)) (fun k => x2 (ix2 0 k)) (fun k => x1 (ix3 0 1 k)) (fun k => x1 (ix3 0 0 k)))
        (fun j => ym (ix2 r j)) (fun j => yc (ix2 r j)) (fun j => x9 (ix2 r j)) (fun l k => x13 (ix2 l k)) (fun k => x14 (ix2 0 k)) (fun n l k => x15 (ix3 n l k)) l
          * x16 (ix2 l k) := by
  have e3 : k0_pay3 (F := Ideal) x0 (ix2 r k) = x0 (ix2 r k) := by pointwise [k0_pay3]
  have e4 : k0_pay4 (F := Ideal) x1 (ix2 2 k) = x1 (ix3 0 2 k) := by pointwise [k0_pay4]
  have e26 : ∀ i, k0_pay26 (F := Ideal) x9 (ix2 r i) = x9 (ix2 r i) := fun i => by pointwise [k0_pay26]
  rw [pay29_at, e3, e4]
  refine congrArg (fun z => _ + _ * z) (Finset.sum_congr rfl fun l _ => congrArg (· * _) ?_)
  rw [pay27_at, pay28_at]
  unfold mixRow
  rw [Fin.sum_univ_three]
  simp only [pay5_at, ha0, ha1, ha2, hb0, hb1, hb2, hw0, hw1, hw2, e26, mul_comm (x15 _)]
  simp only [Fin.isValue, Fin.val_zero, Fin.val_one, Fin.val_two, zero_mul, zero_add, one_mul, Nat.reduceMul, Nat.reduceSub, Nat.reduceLT, dif_pos, dif_neg, Nat.lt_irrefl,
    dite_true, dite_false]

/-- The first output's row as the blocks give it. -/
def x1K (x0 : FVec Ideal S256x1024 .f32) (x1 : FVec Ideal S1x6x1024 .f32) (x2 : FVec Ideal S1x1024 .f32) (x4 x5 x6 x7 x8 x9 : FVec Ideal S256x512 .f32)
    (x10 : FVec Ideal S1x512 .f32) (x11 : FVec Ideal S4x128x128 .bf16) (x12 : FVec Ideal S128x128 .f32)
    (x13 : FVec Ideal S1024x3072 .bf16) (x14 : FVec Ideal S1x3072 .f32) (x15 : FVec Ideal S3x512x1024 .bf16) (x16 : FVec Ideal S1024x1024 .bf16)
    (r : Fin 256) (k : Fin 1024) : EReal :=
  x0 (ix2 r k) + x1 (ix3 0 2 k) * ∑ l : Fin 1024, mixRow (modRow (fun k => x0 (ix2 r k)) (fun k => x2 (ix2 0 k)) (fun k => x1 (ix3 0 1 k)) (fun k => x1 (ix3 0 0 k)))
        (ymRow (fun l => x4 (ix2 r l) + x5 (ix2 r l)) (fun l => x10 (ix2 0 l)) (fun l => x6 (ix2 r l)))
        (fun j => ycVal (x7 (ix2 r j)) (fun q => nrm (Ideal.ofBits FTy.f32 1140850688#32) (fun l : Fin 512 => x8 (ix2 ⟨r.val / 128 * 128 + q.val, by omega⟩ l)) j)
          (fun q => x11 (ix3 ⟨j.val / 128, by omega⟩ ⟨r.val % 128, by omega⟩ q)) (x12 (ix2 ⟨r.val % 128, by omega⟩ ⟨j.val / 128, by omega⟩)))
        (fun j => x9 (ix2 r j)) (fun l k => x13 (ix2 l k)) (fun k => x14 (ix2 0 k)) (fun n l k => x15 (ix3 n l k)) l * x16 (ix2 l k)

/-- The second normalisation's row. -/
def h2K (x0 : FVec Ideal S256x1024 .f32) (x1 : FVec Ideal S1x6x1024 .f32) (x2 x3 : FVec Ideal S1x1024 .f32) (x4 x5 x6 x7 x8 x9 : FVec Ideal S256x512 .f32)
    (x10 : FVec Ideal S1x512 .f32) (x11 : FVec Ideal S4x128x128 .bf16) (x12 : FVec Ideal S128x128 .f32)
    (x13 : FVec Ideal S1024x3072 .bf16) (x14 : FVec Ideal S1x3072 .f32) (x15 : FVec Ideal S3x512x1024 .bf16) (x16 : FVec Ideal S1024x1024 .bf16)
    (r : Fin 256) (k : Fin 1024) : EReal :=
  modRow (x1K x0 x1 x2 x4 x5 x6 x7 x8 x9 x10 x11 x12 x13 x14 x15 x16 r) (fun l => x3 (ix2 0 l)) (fun l => x1 (ix3 0 4 l)) (fun l => x1 (ix3 0 3 l)) k

/-- The loaded slices put in: the first output's row. -/
theorem x1_full (x0 : FVec Ideal S256x1024 .f32) (x1 : FVec Ideal S1x6x1024 .f32) (x2 : FVec Ideal S1x1024 .f32) (x4 x5 x6 x7 x8 x9 : FVec Ideal S256x512 .f32)
    (x10 : FVec Ideal S1x512 .f32) (x11 : FVec Ideal S4x128x128 .bf16) (x12 : FVec Ideal S128x128 .f32)
    (x13 : FVec Ideal S1024x3072 .bf16) (x14 : FVec Ideal S1x3072 .f32) (x15 : FVec Ideal S3x512x1024 .bf16) (x16 : FVec Ideal S1024x1024 .bf16)
    (g0 g1 g2 g3 : FVec Ideal S1x128 .f32)
    (h0 : ∀ j : Fin 128, g0 (ix2 0 j) = x10 (ix2 0 ⟨j.val, by omega⟩)) (h1 : ∀ j : Fin 128, g1 (ix2 0 j) = x10 (ix2 0 ⟨128 + j.val, by omega⟩))
    (h2 : ∀ j : Fin 128, g2 (ix2 0 j) = x10 (ix2 0 ⟨256 + j.val, by omega⟩)) (h3 : ∀ j : Fin 128, g3 (ix2 0 j) = x10 (ix2 0 ⟨384 + j.val, by omega⟩))
    (s0 s1 s2 s3 : FVec Ideal S1x128x128 .bf16) (hs0 : ∀ p l, s0 (ix3 0 p l) = x11 (ix3 0 p l)) (hs1 : ∀ p l, s1 (ix3 0 p l) = x11 (ix3 1 p l))
    (hs2 : ∀ p l, s2 (ix3 0 p l) = x11 (ix3 2 p l)) (hs3 : ∀ p l, s3 (ix3 0 p l) = x11 (ix3 3 p l))
    (a0 a1 a2 : FVec Ideal S1024x1024 .bf16) (b0 b1 b2 : FVec Ideal S1x1024 .f32) (w0 w1 w2 : FVec Ideal S1x512x1024 .bf16)
    (ha0 : ∀ l k : Fin 1024, a0 (ix2 l k) = x13 (ix2 l ⟨k.val, by omega⟩)) (ha1 : ∀ l k : Fin 1024, a1 (ix2 l k) = x13 (ix2 l ⟨1024 + k.val, by omega⟩))
    (ha2 : ∀ l k : Fin 1024, a2 (ix2 l k) = x13 (ix2 l ⟨2048 + k.val, by omega⟩))
    (hb0 : ∀ k : Fin 1024, b0 (ix2 0 k) = x14 (ix2 0 ⟨k.val, by omega⟩)) (hb1 : ∀ k : Fin 1024, b1 (ix2 0 k) = x14 (ix2 0 ⟨1024 + k.val, by omega⟩))
    (hb2 : ∀ k : Fin 1024, b2 (ix2 0 k) = x14 (ix2 0 ⟨2048 + k.val, by omega⟩))
    (hw0 : ∀ l k, w0 (ix3 0 l k) = x15 (ix3 0 l k)) (hw1 : ∀ l k, w1 (ix3 0 l k) = x15 (ix3 1 l k)) (hw2 : ∀ l k, w2 (ix3 0 l k) = x15 (ix3 2 l k))
    (r : Fin 256) (k : Fin 1024) :
    k0_pay29 (F := Ideal) (k0_pay3 x0) (k0_pay4 x1) (k0_pay26 x9) (k0_pay27 (k0_pay5 x0 x1 x2)
        (k0_pay14 (k0_pay9 (k0_pay7 x4 x5) (k0_pay8 x4 x5) g0) (k0_pay10 (k0_pay6 x4 x5) g1) (k0_pay11 (k0_pay6 x4 x5) g2)
          (k0_pay12 (k0_pay6 x4 x5)) (k0_pay13 (k0_pay6 x4 x5)) g3 x6)
        (k0_pay25 (k0_pay15 x8) (k0_pay21 (k0_pay16 x8 s0 x12) (k0_pay17 (k0_pay15 x8) s1 x12) (k0_pay18 (k0_pay15 x8) s2 x12)
            (k0_pay19 (k0_pay15 x8) s3) (k0_pay20 x12) (iota .tc S128x128 32 [1] iota_S128x128_d1_w32))
          (k0_pay22 (k0_pay15 x8) s0 x12) (k0_pay23 (k0_pay15 x8) s1) (k0_pay24 x12) s2 x12 s3 x12 x7)
        (FloatOps.ofBits FTy.f32 0#32) a0 b0 w0 a1 b1 w1)
      (k0_pay28 (k0_pay5 x0 x1 x2) a2) b2 w2 x16 (ix2 r k) = x1K x0 x1 x2 x4 x5 x6 x7 x8 x9 x10 x11 x12 x13 x14 x15 x16 r k := by
  rw [x1_core x0 x1 x2 x9 _ _ x13 x14 x15 x16 a0 a1 a2 b0 b1 b2 w0 w1 w2 ha0 ha1 ha2 hb0 hb1 hb2 hw0 hw1 hw2 r k]
  unfold x1K
  rw [show (fun j => _) = _ from funext fun j => ym_at x4 x5 x6 x10 g0 g1 g2 g3 h0 h1 h2 h3 r j,
    show (fun j => _) = _ from funext fun j => yc_at x7 x8 x11 x12 s0 s1 s2 s3 hs0 hs1 hs2 hs3 r j]

theorem out19_at (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S1x512 .f32) (harg11 : arg11.IsWhole) (arg12 : Memref sig .tc .vmem S4x128x128 .bf16) (harg12 : arg12.IsWhole) (arg13 : Memref sig .tc .vmem S128x128 .f32) (harg13 : arg13.IsWhole) (arg14 : Memref sig .tc .vmem S1024x3072 .bf16) (harg14 : arg14.IsWhole) (arg15 : Memref sig .tc .vmem S1x3072 .f32) (harg15 : arg15.IsWhole) (arg16 : Memref sig .tc .vmem S3x512x1024 .bf16) (harg16 : arg16.IsWhole) (arg17 : Memref sig .tc .vmem S1024x1024 .bf16) (harg17 : arg17.IsWhole) (arg18 : Memref sig .tc .vmem S1024x2048 .bf16) (harg18 : arg18.IsWhole) (arg19 : Memref sig .tc .vmem S16x128x128 .bf16) (harg19 : arg19.IsWhole) (arg20 : Memref sig .tc .vmem S256x1024 .f32) (harg20 : arg20.IsWhole) (arg21 : Memref sig .tc .vmem S1024x256 .bf16) (harg21 : arg21.IsWhole) (arg22 : Memref sig .tc .vmem S16x128x256 .f32) (harg22 : arg22.IsWhole)
    (x0 : Vec Ideal S256x1024 .f32) (x1 : Vec Ideal S1x6x1024 .f32) (x2 : Vec Ideal S1x1024 .f32) (x3 : Vec Ideal S1x1024 .f32) (x4 : Vec Ideal S256x512 .f32) (x5 : Vec Ideal S256x512 .f32) (x6 : Vec Ideal S256x512 .f32) (x7 : Vec Ideal S256x512 .f32) (x8 : Vec Ideal S256x512 .f32) (x9 : Vec Ideal S256x512 .f32) (x10 : Vec Ideal S1x512 .f32) (x11 : Vec Ideal S4x128x128 .bf16) (x12 : Vec Ideal S128x128 .f32) (x13 : Vec Ideal S1024x3072 .bf16) (x14 : Vec Ideal S1x3072 .f32) (x15 : Vec Ideal S3x512x1024 .bf16) (x16 : Vec Ideal S1024x1024 .bf16) (x17 : Vec Ideal S1024x2048 .bf16) (x18 : Vec Ideal S16x128x128 .bf16)
    (r : Fin 256) (k : Fin 1024) : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 (ix2 r k) = x1K x0 x1 x2 x4 x5 x6 x7 x8 x9 x10 x11 x12 x13 x14 x15 x16 r k := by
  frame_out
  refine x1_full x0 x1 x2 x4 x5 x6 x7 x8 x9 x10 x11 x12 x13 x14 x15 x16 _ _ _ _ ?_ ?_ ?_ ?_ _ _ _ _ ?_ ?_ ?_ ?_ _ _ _ _ _ _ _ _ _ ?_ ?_ ?_ ?_ ?_ ?_ ?_ ?_ ?_ r k
  all_goals first | (intro j; pointwise; done) | (intro l k; pointwise; done)

theorem pay31_at (v320 : FVec Ideal S256x1024 .f32) (k : Fin 1024) (r : Fin 256) : k0_pay31 (F := Ideal) v320 (ix2 k r) = v320 (ix2 r k) := by
  pointwise [k0_pay31]

theorem h2_of (x0 : FVec Ideal S256x1024 .f32) (x1 : FVec Ideal S1x6x1024 .f32) (x2 x3 : FVec Ideal S1x1024 .f32) (x4 x5 x6 x7 x8 x9 : FVec Ideal S256x512 .f32)
    (x10 : FVec Ideal S1x512 .f32) (x11 : FVec Ideal S4x128x128 .bf16) (x12 : FVec Ideal S128x128 .f32)
    (x13 : FVec Ideal S1024x3072 .bf16) (x14 : FVec Ideal S1x3072 .f32) (x15 : FVec Ideal S3x512x1024 .bf16) (x16 : FVec Ideal S1024x1024 .bf16)
    (v244 : FVec Ideal S256x512 .f32) (v274 v278 : FVec Ideal S256x1024 .f32)
    (v279 : FVec Ideal S1x1024 .f32) (v284 : FVec Ideal S1x512x1024 .bf16) (r : Fin 256)
    (h : ∀ l, k0_pay29 (F := Ideal) (k0_pay3 x0) (k0_pay4 x1) v244 v274 v278 v279 v284 x16 (ix2 r l) = x1K x0 x1 x2 x4 x5 x6 x7 x8 x9 x10 x11 x12 x13 x14 x15 x16 r l) (k : Fin 1024) :
    k0_pay30 (F := Ideal) (k0_pay3 x0) (k0_pay4 x1) v244 v274 v278 v279 v284 x16 x3 (ix2 r k) = h2K x0 x1 x2 x3 x4 x5 x6 x7 x8 x9 x10 x11 x12 x13 x14 x15 x16 r k := by
  have e4 : ∀ i l, k0_pay4 (F := Ideal) x1 (ix2 i l) = x1 (ix3 0 i l) := fun i l => by pointwise [k0_pay4]
  rw [pay30_at]
  simp only [h, e4]
  rfl

theorem out20_at (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S1x512 .f32) (harg11 : arg11.IsWhole) (arg12 : Memref sig .tc .vmem S4x128x128 .bf16) (harg12 : arg12.IsWhole) (arg13 : Memref sig .tc .vmem S128x128 .f32) (harg13 : arg13.IsWhole) (arg14 : Memref sig .tc .vmem S1024x3072 .bf16) (harg14 : arg14.IsWhole) (arg15 : Memref sig .tc .vmem S1x3072 .f32) (harg15 : arg15.IsWhole) (arg16 : Memref sig .tc .vmem S3x512x1024 .bf16) (harg16 : arg16.IsWhole) (arg17 : Memref sig .tc .vmem S1024x1024 .bf16) (harg17 : arg17.IsWhole) (arg18 : Memref sig .tc .vmem S1024x2048 .bf16) (harg18 : arg18.IsWhole) (arg19 : Memref sig .tc .vmem S16x128x128 .bf16) (harg19 : arg19.IsWhole) (arg20 : Memref sig .tc .vmem S256x1024 .f32) (harg20 : arg20.IsWhole) (arg21 : Memref sig .tc .vmem S1024x256 .bf16) (harg21 : arg21.IsWhole) (arg22 : Memref sig .tc .vmem S16x128x256 .f32) (harg22 : arg22.IsWhole)
    (x0 : Vec Ideal S256x1024 .f32) (x1 : Vec Ideal S1x6x1024 .f32) (x2 : Vec Ideal S1x1024 .f32) (x3 : Vec Ideal S1x1024 .f32) (x4 : Vec Ideal S256x512 .f32) (x5 : Vec Ideal S256x512 .f32) (x6 : Vec Ideal S256x512 .f32) (x7 : Vec Ideal S256x512 .f32) (x8 : Vec Ideal S256x512 .f32) (x9 : Vec Ideal S256x512 .f32) (x10 : Vec Ideal S1x512 .f32) (x11 : Vec Ideal S4x128x128 .bf16) (x12 : Vec Ideal S128x128 .f32) (x13 : Vec Ideal S1024x3072 .bf16) (x14 : Vec Ideal S1x3072 .f32) (x15 : Vec Ideal S3x512x1024 .bf16) (x16 : Vec Ideal S1024x1024 .bf16) (x17 : Vec Ideal S1024x2048 .bf16) (x18 : Vec Ideal S16x128x128 .bf16)
    (r : Fin 256) (k : Fin 1024) : out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 (ix2 k r) = h2K x0 x1 x2 x3 x4 x5 x6 x7 x8 x9 x10 x11 x12 x13 x14 x15 x16 r k := by
  frame_out
  refine (pay31_at _ k r).trans (h2_of x0 x1 x2 x3 x4 x5 x6 x7 x8 x9 x10 x11 x12 x13 x14 x15 x16 _ _ _ _ _ r (fun l => ?_) k)
  refine x1_full x0 x1 x2 x4 x5 x6 x7 x8 x9 x10 x11 x12 x13 x14 x15 x16 _ _ _ _ ?_ ?_ ?_ ?_ _ _ _ _ ?_ ?_ ?_ ?_ _ _ _ _ _ _ _ _ _ ?_ ?_ ?_ ?_ ?_ ?_ ?_ ?_ ?_ r l
  all_goals first | (intro j; pointwise; done) | (intro l k; pointwise; done)

theorem out21_at (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S1x512 .f32) (harg11 : arg11.IsWhole) (arg12 : Memref sig .tc .vmem S4x128x128 .bf16) (harg12 : arg12.IsWhole) (arg13 : Memref sig .tc .vmem S128x128 .f32) (harg13 : arg13.IsWhole) (arg14 : Memref sig .tc .vmem S1024x3072 .bf16) (harg14 : arg14.IsWhole) (arg15 : Memref sig .tc .vmem S1x3072 .f32) (harg15 : arg15.IsWhole) (arg16 : Memref sig .tc .vmem S3x512x1024 .bf16) (harg16 : arg16.IsWhole) (arg17 : Memref sig .tc .vmem S1024x1024 .bf16) (harg17 : arg17.IsWhole) (arg18 : Memref sig .tc .vmem S1024x2048 .bf16) (harg18 : arg18.IsWhole) (arg19 : Memref sig .tc .vmem S16x128x128 .bf16) (harg19 : arg19.IsWhole) (arg20 : Memref sig .tc .vmem S256x1024 .f32) (harg20 : arg20.IsWhole) (arg21 : Memref sig .tc .vmem S1024x256 .bf16) (harg21 : arg21.IsWhole) (arg22 : Memref sig .tc .vmem S16x128x256 .f32) (harg22 : arg22.IsWhole)
    (x0 : Vec Ideal S256x1024 .f32) (x1 : Vec Ideal S1x6x1024 .f32) (x2 : Vec Ideal S1x1024 .f32) (x3 : Vec Ideal S1x1024 .f32) (x4 : Vec Ideal S256x512 .f32) (x5 : Vec Ideal S256x512 .f32) (x6 : Vec Ideal S256x512 .f32) (x7 : Vec Ideal S256x512 .f32) (x8 : Vec Ideal S256x512 .f32) (x9 : Vec Ideal S256x512 .f32) (x10 : Vec Ideal S1x512 .f32) (x11 : Vec Ideal S4x128x128 .bf16) (x12 : Vec Ideal S128x128 .f32) (x13 : Vec Ideal S1024x3072 .bf16) (x14 : Vec Ideal S1x3072 .f32) (x15 : Vec Ideal S3x512x1024 .bf16) (x16 : Vec Ideal S1024x1024 .bf16) (x17 : Vec Ideal S1024x2048 .bf16) (x18 : Vec Ideal S16x128x128 .bf16)
    (g : Fin 16) (k : Fin 128) (r : Fin 256) : out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 (ix3 g k r)
      = ∑ d : Fin 128, x18 (ix3 g k d) * ∑ l : Fin 1024, h2K x0 x1 x2 x3 x4 x5 x6 x7 x8 x9 x10 x11 x12 x13 x14 x15 x16 r l * x17 (ix2 l ⟨g.val * 128 + d.val, by omega⟩) := by
  frame_out
  generalize hq : k0_pay30 (F := Ideal) _ _ _ _ _ _ _ _ _ = q
  have hx : ∀ l, q (ix2 r l) = h2K x0 x1 x2 x3 x4 x5 x6 x7 x8 x9 x10 x11 x12 x13 x14 x15 x16 r l := by
    intro l'
    rw [← hq]
    refine h2_of x0 x1 x2 x3 x4 x5 x6 x7 x8 x9 x10 x11 x12 x13 x14 x15 x16 _ _ _ _ _ r (fun l => ?_) l'
    refine x1_full x0 x1 x2 x4 x5 x6 x7 x8 x9 x10 x11 x12 x13 x14 x15 x16 _ _ _ _ ?_ ?_ ?_ ?_ _ _ _ _ ?_ ?_ ?_ ?_ _ _ _ _ _ _ _ _ _ ?_ ?_ ?_ ?_ ?_ ?_ ?_ ?_ ?_ r l
    all_goals first | (intro j; pointwise; done) | (intro l k; pointwise; done)
  clear hq
  simp only [← hx]
  canon_tiles x hh
  all_goals
    have hk : k.val = (x 1).val := hh1
    have hr : r.val = (x 2).val := hh2
    have hg : g.val = _ := hh0
    clear hh0 hh1 hh2
    open_payloads
    pointwise
    first
      | refine congrArg₂ (· * ·) ?_ (Finset.sum_congr rfl fun _ _ => congrArg₂ (· * ·) ?_ ?_) <;> blk_ext
      | refine Finset.sum_congr rfl fun a _ => congrArg₂ (· * ·) ?_ (Finset.sum_congr rfl fun _ _ => congrArg₂ (· * ·) ?_ ?_) <;> blk_ext

end Cert.MergeIdeal.Read
-- ==== Proof.MergeValue.lean ====
module

public import proofs.«01_k».proof.Proof.Gen.MergeIdeal.Value
public import proofs.«01_k».proof.Proof.MergeOut
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Read

open Cert.MergeIdeal Cert.MergeIdeal.Gen
open Cert.MergeRefIdeal.Read (sg nrm modRow ymRow ycVal mixRow)

variable (m : (ℓ : Loc nD τ sig) → Buf (Elt Ideal) ℓ)

theorem idx : ∀ t : Fin cfg0.N, win0_0.index t = ![t.val, 0]
    ∧ win0_1.index t = ![1 + t.val / 8, 0, 0]
    ∧ win0_2.index t = ![0, 0]
    ∧ win0_3.index t = ![0, 0]
    ∧ win0_4.index t = ![t.val, 0]
    ∧ win0_5.index t = ![t.val, 0]
    ∧ win0_6.index t = ![t.val, 3]
    ∧ win0_7.index t = ![t.val, 4]
    ∧ win0_8.index t = ![t.val, 5]
    ∧ win0_9.index t = ![t.val, 0]
    ∧ win0_10.index t = ![0, 0]
    ∧ win0_11.index t = ![0, 0, 0]
    ∧ win0_12.index t = ![0, 0]
    ∧ win0_13.index t = ![0, 0]
    ∧ win0_14.index t = ![0, 0]
    ∧ win0_15.index t = ![0, 0, 0]
    ∧ win0_16.index t = ![0, 0]
    ∧ win0_17.index t = ![0, 0]
    ∧ win0_18.index t = ![0, 0, 0]
    ∧ win0_19.index t = ![t.val, 0]
    ∧ win0_20.index t = ![0, t.val]
    ∧ win0_21.index t = ![0, 0, t.val] :=
  (by decide +kernel : ∀ t : Fin grid0.N, _)

/-- The projections in the kernel's column order. -/
def zr (z : FVec Ideal S8x2048x3856 .f32) : FVec Ideal S16384x3968 .f32 :=
  concatenate S16384x3968 1 [⟨S16384x2048, extractStridedSlice S16384x2048 ![0, 0] (shapeCast S16384x3856 z shapeCasts_S8x2048x3856_S16384x3856) slices_S16384x3856_S16384x2048_0_0⟩,
    ⟨S16384x1792, extractStridedSlice S16384x1792 ![0, 2064] (shapeCast S16384x3856 z shapeCasts_S8x2048x3856_S16384x3856) slices_S16384x3856_S16384x1792_0_2064⟩,
    ⟨S16384x16, extractStridedSlice S16384x16 ![0, 2048] (shapeCast S16384x3856 z shapeCasts_S8x2048x3856_S16384x3856) slices_S16384x3856_S16384x16_0_2048⟩,
    ⟨S16384x112, broadcastInDim S16384x112 ![] bcast_S_S16384x112 (constant S_ .f32 0x00000000#32)⟩]
    concatenates_S16384x2048_S16384x1792_S16384x16_S16384x112_S16384x3968_d1

theorem zr_om (z : FVec Ideal S8x2048x3856 .f32) (R : Fin 16384) (j : Fin 512) : zr z (ix2 R ⟨1536 + j.val, by omega⟩)
    = z (ix3 ⟨R.val / 2048, by omega⟩ ⟨R.val % 2048, by omega⟩ ⟨1536 + j.val, by omega⟩) := by
  have h : 1536 + j.val < 2048 := by omega
  pointwise [zr]
  rw [dif_pos h]

theorem zr_uc (z : FVec Ideal S8x2048x3856 .f32) (R : Fin 16384) (j : Fin 1024) : zr z (ix2 R ⟨2048 + j.val, by omega⟩)
    = z (ix3 ⟨R.val / 2048, by omega⟩ ⟨R.val % 2048, by omega⟩ ⟨2064 + j.val, by omega⟩) := by
  have h : j.val < 1792 := by omega
  pointwise [zr]
  rw [dif_pos h]

theorem hv22 (c : Dev nD) : (V m c main_v22 : FVec Ideal S16384x3968 .f32) = zr (m ((c : Thread nD τ).loc main_arg6)) := by
  unfold V
  simp only [List.flatten_cons, List.flatten_nil, List.append_nil, StableHlo.after_append]
  after_results_simp
  rfl

/-- The bias of the mixing, transposed and padded. -/
def bs (b : FVec Ideal S4x128 .f32) : FVec Ideal S128x128 .f32 :=
  pad S128x128 ![0, 0] ![0, 124] ![0, 0] (transpose S128x4 [1, 0] b transposes_S4x128_S128x4_1_0) (sitofp .f32 (constantI S_ 32 0#32)) pads_S128x4_S128x128_000_01240 h_S_

theorem bs_at (b : FVec Ideal S4x128 .f32) (p : Fin 128) (g : Fin 4) : bs b (ix2 p ⟨g.val, by omega⟩) = b (ix2 g p) := by
  pointwise [bs]

theorem hv5 (c : Dev nD) : (V m c main_v5 : FVec Ideal S128x128 .f32) = bs (m ((c : Thread nD τ).loc main_arg10)) := by
  unfold V
  simp only [List.flatten_cons, List.flatten_nil, List.append_nil, StableHlo.after_append]
  after_results_simp
  rfl

theorem hv13 (c : Dev nD) (R : Fin 16384) (k : Fin 1024) :
    (V m c main_v13 : FVec Ideal S16384x1024 .f32) (ix2 R k) = (m ((c : Thread nD τ).loc main_arg0) : FVec Ideal S8x2048x1024 .f32) (ix3 ⟨R.val / 2048, by omega⟩ ⟨R.val % 2048, by omega⟩ k) := by
  unfold V
  simp only [List.flatten_cons, List.flatten_nil, List.append_nil, StableHlo.after_append]
  after_results_simp
  pointwise

theorem hv14 (c : Dev nD) (b : Fin 16) (i : Fin 6) (k : Fin 1024) :
    (V m c main_v14 : FVec Ideal S16x6x1024 .f32) (ix3 b i k) = (m ((c : Thread nD τ).loc main_arg1) : FVec Ideal S16x6144 .f32) (ix2 b ⟨i.val * 1024 + k.val, by omega⟩) := by
  unfold V
  simp only [List.flatten_cons, List.flatten_nil, List.append_nil, StableHlo.after_append]
  after_results_simp
  pointwise

theorem hv0 (c : Dev nD) (k : Fin 1024) :
    (V m c main_v0 : FVec Ideal S1x1024 .f32) (ix2 0 k) = (m ((c : Thread nD τ).loc main_arg2) : FVec Ideal S1024 .f32) (ix1 k) := by
  unfold V
  simp only [List.flatten_cons, List.flatten_nil, List.append_nil, StableHlo.after_append]
  after_results_simp
  pointwise

theorem hv1 (c : Dev nD) (k : Fin 1024) :
    (V m c main_v1 : FVec Ideal S1x1024 .f32) (ix2 0 k) = (m ((c : Thread nD τ).loc main_arg3) : FVec Ideal S1024 .f32) (ix1 k) := by
  unfold V
  simp only [List.flatten_cons, List.flatten_nil, List.append_nil, StableHlo.after_append]
  after_results_simp
  pointwise

theorem hv15 (c : Dev nD) (R : Fin 16384) (k : Fin 512) :
    (V m c main_v15 : FVec Ideal S16384x512 .f32) (ix2 R k) = (m ((c : Thread nD τ).loc main_arg4) : FVec Ideal S8x2048x512 .f32) (ix3 ⟨R.val / 2048, by omega⟩ ⟨R.val % 2048, by omega⟩ k) := by
  unfold V
  simp only [List.flatten_cons, List.flatten_nil, List.append_nil, StableHlo.after_append]
  after_results_simp
  pointwise

theorem hv16 (c : Dev nD) (R : Fin 16384) (k : Fin 512) :
    (V m c main_v16 : FVec Ideal S16384x512 .f32) (ix2 R k) = (m ((c : Thread nD τ).loc main_arg5) : FVec Ideal S8x2048x512 .f32) (ix3 ⟨R.val / 2048, by omega⟩ ⟨R.val % 2048, by omega⟩ k) := by
  unfold V
  simp only [List.flatten_cons, List.flatten_nil, List.append_nil, StableHlo.after_append]
  after_results_simp
  pointwise

theorem hv23 (c : Dev nD) (R : Fin 16384) (k : Fin 512) :
    (V m c main_v23 : FVec Ideal S16384x512 .f32) (ix2 R k) = (m ((c : Thread nD τ).loc main_arg7) : FVec Ideal S8x2048x512 .f32) (ix3 ⟨R.val / 2048, by omega⟩ ⟨R.val % 2048, by omega⟩ k) := by
  unfold V
  simp only [List.flatten_cons, List.flatten_nil, List.append_nil, StableHlo.after_append]
  after_results_simp
  pointwise

theorem hv2 (c : Dev nD) (k : Fin 512) :
    (V m c main_v2 : FVec Ideal S1x512 .f32) (ix2 0 k) = (m ((c : Thread nD τ).loc main_arg8) : FVec Ideal S4x128 .f32) (ix2 ⟨k.val / 128, by omega⟩ ⟨k.val % 128, by omega⟩) := by
  unfold V
  simp only [List.flatten_cons, List.flatten_nil, List.append_nil, StableHlo.after_append]
  after_results_simp
  pointwise

theorem hv3 (c : Dev nD) (g : Fin 4) (p l : Fin 128) :
    (V m c main_v3 : FVec Ideal S4x128x128 .bf16) (ix3 g p l) = (m ((c : Thread nD τ).loc main_arg9) : FVec Ideal S4x128x128 .f32) (ix3 g p l) := by
  unfold V
  simp only [List.flatten_cons, List.flatten_nil, List.append_nil, StableHlo.after_append]
  after_results_simp
  pointwise

theorem hv6 (c : Dev nD) (l : Fin 1024) (k : Fin 3072) :
    (V m c main_v6 : FVec Ideal S1024x3072 .bf16) (ix2 l k) = (m ((c : Thread nD τ).loc main_arg11) : FVec Ideal S1024x3072 .f32) (ix2 l k) := by
  unfold V
  simp only [List.flatten_cons, List.flatten_nil, List.append_nil, StableHlo.after_append]
  after_results_simp
  pointwise

theorem hv7 (c : Dev nD) (k : Fin 3072) :
    (V m c main_v7 : FVec Ideal S1x3072 .f32) (ix2 0 k) = (m ((c : Thread nD τ).loc main_arg12) : FVec Ideal S3072 .f32) (ix1 k) := by
  unfold V
  simp only [List.flatten_cons, List.flatten_nil, List.append_nil, StableHlo.after_append]
  after_results_simp
  pointwise

theorem hv8 (c : Dev nD) (n : Fin 3) (l : Fin 512) (k : Fin 1024) :
    (V m c main_v8 : FVec Ideal S3x512x1024 .bf16) (ix3 n l k) = (m ((c : Thread nD τ).loc main_arg13) : FVec Ideal S3x512x1024 .f32) (ix3 n l k) := by
  unfold V
  simp only [List.flatten_cons, List.flatten_nil, List.append_nil, StableHlo.after_append]
  after_results_simp
  pointwise

theorem hv9 (c : Dev nD) (l : Fin 1024) (k : Fin 1024) :
    (V m c main_v9 : FVec Ideal S1024x1024 .bf16) (ix2 l k) = (m ((c : Thread nD τ).loc main_arg14) : FVec Ideal S1024x1024 .f32) (ix2 l k) := by
  unfold V
  simp only [List.flatten_cons, List.flatten_nil, List.append_nil, StableHlo.after_append]
  after_results_simp
  pointwise

theorem hv10 (c : Dev nD) (l : Fin 1024) (k : Fin 2048) :
    (V m c main_v10 : FVec Ideal S1024x2048 .bf16) (ix2 l k) = (m ((c : Thread nD τ).loc main_arg15) : FVec Ideal S1024x2048 .f32) (ix2 l k) := by
  unfold V
  simp only [List.flatten_cons, List.flatten_nil, List.append_nil, StableHlo.after_append]
  after_results_simp
  pointwise

theorem hv12 (c : Dev nD) (g : Fin 16) (k d : Fin 128) :
    (V m c main_v12 : FVec Ideal S16x128x128 .bf16) (ix3 g k d) = (m ((c : Thread nD τ).loc main_arg16) : FVec Ideal S8x2x128x128 .f32) (ix4 ⟨g.val / 2, by omega⟩ ⟨g.val % 2, by omega⟩ k d) := by
  unfold V
  simp only [List.flatten_cons, List.flatten_nil, List.append_nil, StableHlo.after_append]
  after_results_simp
  pointwise

theorem blk0 (c : Dev nD) (t : Fin cfg0.N) (r : Fin 256) (k : Fin 1024) :
    (iblk m c 0 t : FVec Ideal S256x1024 .f32) (ix2 r k) = (V m c main_v13 : FVec Ideal S16384x1024 .f32) (ix2 ⟨t.val * 256 + r.val, (by have ht : t.val < 64 := t.isLt; omega)⟩ k) := by
  have ht : t.val < 64 := t.isLt
  blk_ext [iblk, idx t]

theorem blk1 (c : Dev nD) (t : Fin cfg0.N) (i : Fin 6) (k : Fin 1024) :
    (iblk m c 1 t : FVec Ideal S1x6x1024 .f32) (ix3 0 i k) = (V m c main_v14 : FVec Ideal S16x6x1024 .f32) (ix3 ⟨1 + t.val / 8, (by have ht : t.val < 64 := t.isLt; omega)⟩ i k) := by
  have ht : t.val < 64 := t.isLt
  blk_ext [iblk, idx t]

theorem blk4 (c : Dev nD) (t : Fin cfg0.N) (r : Fin 256) (k : Fin 512) :
    (iblk m c 4 t : FVec Ideal S256x512 .f32) (ix2 r k) = (V m c main_v15 : FVec Ideal S16384x512 .f32) (ix2 ⟨t.val * 256 + r.val, (by have ht : t.val < 64 := t.isLt; omega)⟩ k) := by
  have ht : t.val < 64 := t.isLt
  blk_ext [iblk, idx t]

theorem blk5 (c : Dev nD) (t : Fin cfg0.N) (r : Fin 256) (k : Fin 512) :
    (iblk m c 5 t : FVec Ideal S256x512 .f32) (ix2 r k) = (V m c main_v16 : FVec Ideal S16384x512 .f32) (ix2 ⟨t.val * 256 + r.val, (by have ht : t.val < 64 := t.isLt; omega)⟩ k) := by
  have ht : t.val < 64 := t.isLt
  blk_ext [iblk, idx t]

theorem blk9 (c : Dev nD) (t : Fin cfg0.N) (r : Fin 256) (k : Fin 512) :
    (iblk m c 9 t : FVec Ideal S256x512 .f32) (ix2 r k) = (V m c main_v23 : FVec Ideal S16384x512 .f32) (ix2 ⟨t.val * 256 + r.val, (by have ht : t.val < 64 := t.isLt; omega)⟩ k) := by
  have ht : t.val < 64 := t.isLt
  blk_ext [iblk, idx t]

theorem blk2 (c : Dev nD) (t : Fin cfg0.N) (a0 : Fin 1) (a1 : Fin 1024) :
    (iblk m c 2 t : FVec Ideal S1x1024 .f32) (ix2 a0 a1) = (V m c main_v0 : FVec Ideal S1x1024 .f32) (ix2 a0 a1) := by
  have ht : t.val < 64 := t.isLt
  blk_ext [iblk, idx t]

theorem blk3 (c : Dev nD) (t : Fin cfg0.N) (a0 : Fin 1) (a1 : Fin 1024) :
    (iblk m c 3 t : FVec Ideal S1x1024 .f32) (ix2 a0 a1) = (V m c main_v1 : FVec Ideal S1x1024 .f32) (ix2 a0 a1) := by
  have ht : t.val < 64 := t.isLt
  blk_ext [iblk, idx t]

theorem blk10 (c : Dev nD) (t : Fin cfg0.N) (a0 : Fin 1) (a1 : Fin 512) :
    (iblk m c 10 t : FVec Ideal S1x512 .f32) (ix2 a0 a1) = (V m c main_v2 : FVec Ideal S1x512 .f32) (ix2 a0 a1) := by
  have ht : t.val < 64 := t.isLt
  blk_ext [iblk, idx t]

theorem blk11 (c : Dev nD) (t : Fin cfg0.N) (a0 : Fin 4) (a1 : Fin 128) (a2 : Fin 128) :
    (iblk m c 11 t : FVec Ideal S4x128x128 .bf16) (ix3 a0 a1 a2) = (V m c main_v3 : FVec Ideal S4x128x128 .bf16) (ix3 a0 a1 a2) := by
  have ht : t.val < 64 := t.isLt
  blk_ext [iblk, idx t]

theorem blk12 (c : Dev nD) (t : Fin cfg0.N) (a0 : Fin 128) (a1 : Fin 128) :
    (iblk m c 12 t : FVec Ideal S128x128 .f32) (ix2 a0 a1) = (V m c main_v5 : FVec Ideal S128x128 .f32) (ix2 a0 a1) := by
  have ht : t.val < 64 := t.isLt
  blk_ext [iblk, idx t]

theorem blk13 (c : Dev nD) (t : Fin cfg0.N) (a0 : Fin 1024) (a1 : Fin 3072) :
    (iblk m c 13 t : FVec Ideal S1024x3072 .bf16) (ix2 a0 a1) = (V m c main_v6 : FVec Ideal S1024x3072 .bf16) (ix2 a0 a1) := by
  have ht : t.val < 64 := t.isLt
  blk_ext [iblk, idx t]

theorem blk14 (c : Dev nD) (t : Fin cfg0.N) (a0 : Fin 1) (a1 : Fin 3072) :
    (iblk m c 14 t : FVec Ideal S1x3072 .f32) (ix2 a0 a1) = (V m c main_v7 : FVec Ideal S1x3072 .f32) (ix2 a0 a1) := by
  have ht : t.val < 64 := t.isLt
  blk_ext [iblk, idx t]

theorem blk15 (c : Dev nD) (t : Fin cfg0.N) (a0 : Fin 3) (a1 : Fin 512) (a2 : Fin 1024) :
    (iblk m c 15 t : FVec Ideal S3x512x1024 .bf16) (ix3 a0 a1 a2) = (V m c main_v8 : FVec Ideal S3x512x1024 .bf16) (ix3 a0 a1 a2) := by
  have ht : t.val < 64 := t.isLt
  blk_ext [iblk, idx t]

theorem blk16 (c : Dev nD) (t : Fin cfg0.N) (a0 : Fin 1024) (a1 : Fin 1024) :
    (iblk m c 16 t : FVec Ideal S1024x1024 .bf16) (ix2 a0 a1) = (V m c main_v9 : FVec Ideal S1024x1024 .bf16) (ix2 a0 a1) := by
  have ht : t.val < 64 := t.isLt
  blk_ext [iblk, idx t]

theorem blk17 (c : Dev nD) (t : Fin cfg0.N) (a0 : Fin 1024) (a1 : Fin 2048) :
    (iblk m c 17 t : FVec Ideal S1024x2048 .bf16) (ix2 a0 a1) = (V m c main_v10 : FVec Ideal S1024x2048 .bf16) (ix2 a0 a1) := by
  have ht : t.val < 64 := t.isLt
  blk_ext [iblk, idx t]

theorem blk18 (c : Dev nD) (t : Fin cfg0.N) (a0 : Fin 16) (a1 : Fin 128) (a2 : Fin 128) :
    (iblk m c 18 t : FVec Ideal S16x128x128 .bf16) (ix3 a0 a1 a2) = (V m c main_v12 : FVec Ideal S16x128x128 .bf16) (ix3 a0 a1 a2) := by
  have ht : t.val < 64 := t.isLt
  blk_ext [iblk, idx t]

theorem blk6 (c : Dev nD) (t : Fin cfg0.N) (r : Fin 256) (k : Fin 512) :
    (X0_6 m c t : FVec Ideal S256x512 .f32) (ix2 r k) = (V m c main_v22 : FVec Ideal S16384x3968 .f32) (ix2 ⟨t.val * 256 + r.val, (by have ht : t.val < 64 := t.isLt; omega)⟩ ⟨1536 + k.val, by omega⟩) := by
  have ht : t.val < 64 := t.isLt
  unfold X0_6 Pipeline.Window.fill
  rw [dif_pos (moved0_6 t _)]
  blk_ext [iblk, idx t]

theorem blk7 (c : Dev nD) (t : Fin cfg0.N) (r : Fin 256) (k : Fin 512) :
    (X0_7 m c t : FVec Ideal S256x512 .f32) (ix2 r k) = (V m c main_v22 : FVec Ideal S16384x3968 .f32) (ix2 ⟨t.val * 256 + r.val, (by have ht : t.val < 64 := t.isLt; omega)⟩ ⟨2048 + k.val, by omega⟩) := by
  have ht : t.val < 64 := t.isLt
  unfold X0_7 Pipeline.Window.fill
  rw [dif_pos (moved0_7 t _)]
  blk_ext [iblk, idx t]

theorem blk8 (c : Dev nD) (t : Fin cfg0.N) (r : Fin 256) (k : Fin 512) :
    (X0_8 m c t : FVec Ideal S256x512 .f32) (ix2 r k) = (V m c main_v22 : FVec Ideal S16384x3968 .f32) (ix2 ⟨t.val * 256 + r.val, (by have ht : t.val < 64 := t.isLt; omega)⟩ ⟨2560 + k.val, by omega⟩) := by
  have ht : t.val < 64 := t.isLt
  unfold X0_8 Pipeline.Window.fill
  rw [dif_pos (moved0_8 t _)]
  blk_ext [iblk, idx t]

end Cert.MergeIdeal.Read
-- ==== Proof.MergeBridge.lean ====
module

public import proofs.«01_k».proof.Proof.Gen.MergeIdeal.Value
public import proofs.«01_k».proof.Proof.MergeValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Read

open Cert.MergeIdeal Cert.MergeIdeal.Gen
open Cert.MergeRefIdeal.Read (sg nrm modRow ymRow ycVal mixRow H H_at YM YM_at YC YC_at MIX MIX_at X1 X1_at H2 H2_at R1 R1_at R2 R2_at R3 R3_at)

variable (m : (ℓ : Loc nD τ sig) → Buf (Elt Ideal) ℓ)

/-- The residual sum, over the kernel's own arguments. -/
def X1k (c : Dev nD) : FVec Ideal S8x2048x1024 .f32 :=
  X1 (m ((c : Thread nD τ).loc main_arg0)) (m ((c : Thread nD τ).loc main_arg1)) (MIX (H (m ((c : Thread nD τ).loc main_arg0)) (m ((c : Thread nD τ).loc main_arg1)) (m ((c : Thread nD τ).loc main_arg2))) (YM (m ((c : Thread nD τ).loc main_arg4)) (m ((c : Thread nD τ).loc main_arg5)) (m ((c : Thread nD τ).loc main_arg6)) (m ((c : Thread nD τ).loc main_arg8))) (YC (m ((c : Thread nD τ).loc main_arg6)) (m ((c : Thread nD τ).loc main_arg9)) (m ((c : Thread nD τ).loc main_arg10))) (m ((c : Thread nD τ).loc main_arg7)) (m ((c : Thread nD τ).loc main_arg11)) (m ((c : Thread nD τ).loc main_arg12)) (m ((c : Thread nD τ).loc main_arg13))) (m ((c : Thread nD τ).loc main_arg14))

theorem rd0 (c : Dev nD) (t : Fin cfg0.N) (r : Fin 256) (k : Fin 1024) :
    (iblk m c 0 t : FVec Ideal S256x1024 .f32) (ix2 r k) = (m ((c : Thread nD τ).loc main_arg0) : FVec Ideal S8x2048x1024 .f32) (ix3 ⟨t.val / 8, by have ht : t.val < 64 := t.isLt; omega⟩ ⟨t.val % 8 * 256 + r.val, by omega⟩ k) := by
  have ht : t.val < 64 := t.isLt
  refine (blk0 m c t r k).trans ((hv13 m c _ k).trans ?_)
  blk_ext

theorem rd4 (c : Dev nD) (t : Fin cfg0.N) (r : Fin 256) (k : Fin 512) :
    (iblk m c 4 t : FVec Ideal S256x512 .f32) (ix2 r k) = (m ((c : Thread nD τ).loc main_arg4) : FVec Ideal S8x2048x512 .f32) (ix3 ⟨t.val / 8, by have ht : t.val < 64 := t.isLt; omega⟩ ⟨t.val % 8 * 256 + r.val, by omega⟩ k) := by
  have ht : t.val < 64 := t.isLt
  refine (blk4 m c t r k).trans ((hv15 m c _ k).trans ?_)
  blk_ext

theorem rd5 (c : Dev nD) (t : Fin cfg0.N) (r : Fin 256) (k : Fin 512) :
    (iblk m c 5 t : FVec Ideal S256x512 .f32) (ix2 r k) = (m ((c : Thread nD τ).loc main_arg5) : FVec Ideal S8x2048x512 .f32) (ix3 ⟨t.val / 8, by have ht : t.val < 64 := t.isLt; omega⟩ ⟨t.val % 8 * 256 + r.val, by omega⟩ k) := by
  have ht : t.val < 64 := t.isLt
  refine (blk5 m c t r k).trans ((hv16 m c _ k).trans ?_)
  blk_ext

theorem rd9 (c : Dev nD) (t : Fin cfg0.N) (r : Fin 256) (k : Fin 512) :
    (iblk m c 9 t : FVec Ideal S256x512 .f32) (ix2 r k) = (m ((c : Thread nD τ).loc main_arg7) : FVec Ideal S8x2048x512 .f32) (ix3 ⟨t.val / 8, by have ht : t.val < 64 := t.isLt; omega⟩ ⟨t.val % 8 * 256 + r.val, by omega⟩ k) := by
  have ht : t.val < 64 := t.isLt
  refine (blk9 m c t r k).trans ((hv23 m c _ k).trans ?_)
  blk_ext

theorem rd6 (c : Dev nD) (t : Fin cfg0.N) (r : Fin 256) (k : Fin 512) :
    (X0_6 m c t : FVec Ideal S256x512 .f32) (ix2 r k) = (m ((c : Thread nD τ).loc main_arg6) : FVec Ideal S8x2048x3856 .f32) (ix3 ⟨t.val / 8, by have ht : t.val < 64 := t.isLt; omega⟩ ⟨t.val % 8 * 256 + r.val, by omega⟩ ⟨1536 + k.val, by omega⟩) := by
  have ht : t.val < 64 := t.isLt
  refine (blk6 m c t r k).trans ((congrFun (hv22 m c) _).trans (Eq.trans ?_ ((zr_om (m ((c : Thread nD τ).loc main_arg6)) ⟨t.val * 256 + r.val, by omega⟩ k).trans ?_)))
  · blk_ext
  · blk_ext

theorem rd7 (c : Dev nD) (t : Fin cfg0.N) (r : Fin 256) (k : Fin 512) :
    (X0_7 m c t : FVec Ideal S256x512 .f32) (ix2 r k) = (m ((c : Thread nD τ).loc main_arg6) : FVec Ideal S8x2048x3856 .f32) (ix3 ⟨t.val / 8, by have ht : t.val < 64 := t.isLt; omega⟩ ⟨t.val % 8 * 256 + r.val, by omega⟩ ⟨2064 + k.val, by omega⟩) := by
  have ht : t.val < 64 := t.isLt
  refine (blk7 m c t r k).trans ((congrFun (hv22 m c) _).trans (Eq.trans ?_ ((zr_uc (m ((c : Thread nD τ).loc main_arg6)) ⟨t.val * 256 + r.val, by omega⟩ ⟨k.val, by omega⟩).trans ?_)))
  · blk_ext
  · blk_ext

theorem rd8 (c : Dev nD) (t : Fin cfg0.N) (r : Fin 256) (k : Fin 512) :
    (X0_8 m c t : FVec Ideal S256x512 .f32) (ix2 r k) = (m ((c : Thread nD τ).loc main_arg6) : FVec Ideal S8x2048x3856 .f32) (ix3 ⟨t.val / 8, by have ht : t.val < 64 := t.isLt; omega⟩ ⟨t.val % 8 * 256 + r.val, by omega⟩ ⟨2576 + k.val, by omega⟩) := by
  have ht : t.val < 64 := t.isLt
  refine (blk8 m c t r k).trans ((congrFun (hv22 m c) _).trans (Eq.trans ?_ ((zr_uc (m ((c : Thread nD τ).loc main_arg6)) ⟨t.val * 256 + r.val, by omega⟩ ⟨512 + k.val, by omega⟩).trans ?_)))
  · blk_ext
  · blk_ext

theorem x1_bridge (c : Dev nD) (t : Fin cfg0.N) (x0 : FVec Ideal S256x1024 .f32) (x1 : FVec Ideal S1x6x1024 .f32) (x2 : FVec Ideal S1x1024 .f32) (x3 : FVec Ideal S1x1024 .f32) (x4 : FVec Ideal S256x512 .f32) (x5 : FVec Ideal S256x512 .f32) (x6 : FVec Ideal S256x512 .f32) (x7 : FVec Ideal S256x512 .f32) (x8 : FVec Ideal S256x512 .f32) (x9 : FVec Ideal S256x512 .f32) (x10 : FVec Ideal S1x512 .f32) (x11 : FVec Ideal S4x128x128 .bf16) (x12 : FVec Ideal S128x128 .f32) (x13 : FVec Ideal S1024x3072 .bf16) (x14 : FVec Ideal S1x3072 .f32) (x15 : FVec Ideal S3x512x1024 .bf16) (x16 : FVec Ideal S1024x1024 .bf16)
    (h0 : x0 = iblk m c 0 t) (h1 : x1 = iblk m c 1 t) (h2 : x2 = iblk m c 2 t) (h3 : x3 = iblk m c 3 t) (h4 : x4 = iblk m c 4 t) (h5 : x5 = iblk m c 5 t) (h6 : x6 = X0_6 m c t) (h7 : x7 = X0_7 m c t) (h8 : x8 = X0_8 m c t) (h9 : x9 = iblk m c 9 t) (h10 : x10 = iblk m c 10 t) (h11 : x11 = iblk m c 11 t) (h12 : x12 = iblk m c 12 t) (h13 : x13 = iblk m c 13 t) (h14 : x14 = iblk m c 14 t) (h15 : x15 = iblk m c 15 t) (h16 : x16 = iblk m c 16 t) (r : Fin 256) (k : Fin 1024) :
    x1K x0 x1 x2 x4 x5 x6 x7 x8 x9 x10 x11 x12 x13 x14 x15 x16 r k = X1k m c (ix3 ⟨t.val / 8, by have ht : t.val < 64 := t.isLt; omega⟩ ⟨t.val % 8 * 256 + r.val, by omega⟩ k) := by
  have e0 : ∀ r k, x0 (ix2 r k) = _ := fun r k => (congrFun h0 _).trans (rd0 m c t r k)
  have e4 : ∀ r k, x4 (ix2 r k) = _ := fun r k => (congrFun h4 _).trans (rd4 m c t r k)
  have e5 : ∀ r k, x5 (ix2 r k) = _ := fun r k => (congrFun h5 _).trans (rd5 m c t r k)
  have e6 : ∀ r k, x6 (ix2 r k) = _ := fun r k => (congrFun h6 _).trans (rd6 m c t r k)
  have e7 : ∀ r k, x7 (ix2 r k) = _ := fun r k => (congrFun h7 _).trans (rd7 m c t r k)
  have e8 : ∀ r k, x8 (ix2 r k) = _ := fun r k => (congrFun h8 _).trans (rd8 m c t r k)
  have e9 : ∀ r k, x9 (ix2 r k) = _ := fun r k => (congrFun h9 _).trans (rd9 m c t r k)
  have m0 : ∀ k : Fin 1024, x1 (ix3 0 0 k) = (m ((c : Thread nD τ).loc main_arg1) : FVec Ideal S16x6144 .f32) (ix2 ⟨1 + t.val / 8, by have ht : t.val < 64 := t.isLt; omega⟩ ⟨k.val, by omega⟩) :=
    fun k => (congrFun h1 _).trans ((blk1 m c t 0 k).trans ((hv14 m c _ 0 k).trans (by blk_ext)))
  have m1 : ∀ k : Fin 1024, x1 (ix3 0 1 k) = (m ((c : Thread nD τ).loc main_arg1) : FVec Ideal S16x6144 .f32) (ix2 ⟨1 + t.val / 8, by have ht : t.val < 64 := t.isLt; omega⟩ ⟨1024 + k.val, by omega⟩) :=
    fun k => (congrFun h1 _).trans ((blk1 m c t 1 k).trans ((hv14 m c _ 1 k).trans (by blk_ext)))
  have m2 : ∀ k : Fin 1024, x1 (ix3 0 2 k) = (m ((c : Thread nD τ).loc main_arg1) : FVec Ideal S16x6144 .f32) (ix2 ⟨1 + t.val / 8, by have ht : t.val < 64 := t.isLt; omega⟩ ⟨2048 + k.val, by omega⟩) :=
    fun k => (congrFun h1 _).trans ((blk1 m c t 2 k).trans ((hv14 m c _ 2 k).trans (by blk_ext)))
  have m3 : ∀ k : Fin 1024, x1 (ix3 0 3 k) = (m ((c : Thread nD τ).loc main_arg1) : FVec Ideal S16x6144 .f32) (ix2 ⟨1 + t.val / 8, by have ht : t.val < 64 := t.isLt; omega⟩ ⟨3072 + k.val, by omega⟩) :=
    fun k => (congrFun h1 _).trans ((blk1 m c t 3 k).trans ((hv14 m c _ 3 k).trans (by blk_ext)))
  have m4 : ∀ k : Fin 1024, x1 (ix3 0 4 k) = (m ((c : Thread nD τ).loc main_arg1) : FVec Ideal S16x6144 .f32) (ix2 ⟨1 + t.val / 8, by have ht : t.val < 64 := t.isLt; omega⟩ ⟨4096 + k.val, by omega⟩) :=
    fun k => (congrFun h1 _).trans ((blk1 m c t 4 k).trans ((hv14 m c _ 4 k).trans (by blk_ext)))
  have e2 : ∀ k, x2 (ix2 0 k) = _ := fun k => (congrFun h2 _).trans ((blk2 m c t 0 k).trans (hv0 m c k))
  have e10 : ∀ k, x10 (ix2 0 k) = _ := fun k => (congrFun h10 _).trans ((blk10 m c t 0 k).trans (hv2 m c k))
  have e11 : ∀ g p l, x11 (ix3 g p l) = _ := fun g p l => (congrFun h11 _).trans ((blk11 m c t g p l).trans (hv3 m c g p l))
  have e12 : ∀ (p : Fin 128) (j : Fin 512), x12 (ix2 p ⟨j.val / 128, by omega⟩) = _ := fun p j => (congrFun h12 _).trans ((blk12 m c t p _).trans
    ((congrFun (hv5 m c) _).trans (bs_at _ p ⟨j.val / 128, by omega⟩)))
  have e13 : ∀ l k, x13 (ix2 l k) = _ := fun l k => (congrFun h13 _).trans ((blk13 m c t l k).trans (hv6 m c l k))
  have e14 : ∀ k, x14 (ix2 0 k) = _ := fun k => (congrFun h14 _).trans ((blk14 m c t 0 k).trans (hv7 m c k))
  have e15 : ∀ n l k, x15 (ix3 n l k) = _ := fun n l k => (congrFun h15 _).trans ((blk15 m c t n l k).trans (hv8 m c n l k))
  have e16 : ∀ l k, x16 (ix2 l k) = _ := fun l k => (congrFun h16 _).trans ((blk16 m c t l k).trans (hv9 m c l k))
  have s1 : (t.val % 8 * 256 + r.val) % 128 = r.val % 128 := by omega
  have s2 : ∀ q : Fin 128, (t.val % 8 * 256 + r.val) / 128 * 128 + q.val = t.val % 8 * 256 + (r.val / 128 * 128 + q.val) := fun q => by omega
  unfold x1K X1k
  rw [X1_at]
  simp only [MIX_at, H_at, YM_at, YC_at, s1, s2]
  simp only [e0, e4, e5, e6, e7, e8, e9, m0, m1, m2, e2, e10, e11, e12, e13, e14, e15, e16]

theorem h2_bridge (c : Dev nD) (t : Fin cfg0.N) (x0 : FVec Ideal S256x1024 .f32) (x1 : FVec Ideal S1x6x1024 .f32) (x2 : FVec Ideal S1x1024 .f32) (x3 : FVec Ideal S1x1024 .f32) (x4 : FVec Ideal S256x512 .f32) (x5 : FVec Ideal S256x512 .f32) (x6 : FVec Ideal S256x512 .f32) (x7 : FVec Ideal S256x512 .f32) (x8 : FVec Ideal S256x512 .f32) (x9 : FVec Ideal S256x512 .f32) (x10 : FVec Ideal S1x512 .f32) (x11 : FVec Ideal S4x128x128 .bf16) (x12 : FVec Ideal S128x128 .f32) (x13 : FVec Ideal S1024x3072 .bf16) (x14 : FVec Ideal S1x3072 .f32) (x15 : FVec Ideal S3x512x1024 .bf16) (x16 : FVec Ideal S1024x1024 .bf16)
    (h0 : x0 = iblk m c 0 t) (h1 : x1 = iblk m c 1 t) (h2 : x2 = iblk m c 2 t) (h3 : x3 = iblk m c 3 t) (h4 : x4 = iblk m c 4 t) (h5 : x5 = iblk m c 5 t) (h6 : x6 = X0_6 m c t) (h7 : x7 = X0_7 m c t) (h8 : x8 = X0_8 m c t) (h9 : x9 = iblk m c 9 t) (h10 : x10 = iblk m c 10 t) (h11 : x11 = iblk m c 11 t) (h12 : x12 = iblk m c 12 t) (h13 : x13 = iblk m c 13 t) (h14 : x14 = iblk m c 14 t) (h15 : x15 = iblk m c 15 t) (h16 : x16 = iblk m c 16 t) (r : Fin 256) (k : Fin 1024) :
    h2K x0 x1 x2 x3 x4 x5 x6 x7 x8 x9 x10 x11 x12 x13 x14 x15 x16 r k = H2 (X1k m c) (m ((c : Thread nD τ).loc main_arg1)) (m ((c : Thread nD τ).loc main_arg3)) (ix3 ⟨t.val / 8, by have ht : t.val < 64 := t.isLt; omega⟩ ⟨t.val % 8 * 256 + r.val, by omega⟩ k) := by
  have m0 : ∀ k : Fin 1024, x1 (ix3 0 0 k) = (m ((c : Thread nD τ).loc main_arg1) : FVec Ideal S16x6144 .f32) (ix2 ⟨1 + t.val / 8, by have ht : t.val < 64 := t.isLt; omega⟩ ⟨k.val, by omega⟩) :=
    fun k => (congrFun h1 _).trans ((blk1 m c t 0 k).trans ((hv14 m c _ 0 k).trans (by blk_ext)))
  have m1 : ∀ k : Fin 1024, x1 (ix3 0 1 k) = (m ((c : Thread nD τ).loc main_arg1) : FVec Ideal S16x6144 .f32) (ix2 ⟨1 + t.val / 8, by have ht : t.val < 64 := t.isLt; omega⟩ ⟨1024 + k.val, by omega⟩) :=
    fun k => (congrFun h1 _).trans ((blk1 m c t 1 k).trans ((hv14 m c _ 1 k).trans (by blk_ext)))
  have m2 : ∀ k : Fin 1024, x1 (ix3 0 2 k) = (m ((c : Thread nD τ).loc main_arg1) : FVec Ideal S16x6144 .f32) (ix2 ⟨1 + t.val / 8, by have ht : t.val < 64 := t.isLt; omega⟩ ⟨2048 + k.val, by omega⟩) :=
    fun k => (congrFun h1 _).trans ((blk1 m c t 2 k).trans ((hv14 m c _ 2 k).trans (by blk_ext)))
  have m3 : ∀ k : Fin 1024, x1 (ix3 0 3 k) = (m ((c : Thread nD τ).loc main_arg1) : FVec Ideal S16x6144 .f32) (ix2 ⟨1 + t.val / 8, by have ht : t.val < 64 := t.isLt; omega⟩ ⟨3072 + k.val, by omega⟩) :=
    fun k => (congrFun h1 _).trans ((blk1 m c t 3 k).trans ((hv14 m c _ 3 k).trans (by blk_ext)))
  have m4 : ∀ k : Fin 1024, x1 (ix3 0 4 k) = (m ((c : Thread nD τ).loc main_arg1) : FVec Ideal S16x6144 .f32) (ix2 ⟨1 + t.val / 8, by have ht : t.val < 64 := t.isLt; omega⟩ ⟨4096 + k.val, by omega⟩) :=
    fun k => (congrFun h1 _).trans ((blk1 m c t 4 k).trans ((hv14 m c _ 4 k).trans (by blk_ext)))
  have e3 : ∀ k, x3 (ix2 0 k) = _ := fun k => (congrFun h3 _).trans ((blk3 m c t 0 k).trans (hv1 m c k))
  have ex : ∀ k, x1K x0 x1 x2 x4 x5 x6 x7 x8 x9 x10 x11 x12 x13 x14 x15 x16 r k = _ := fun k => x1_bridge m c t x0 x1 x2 x3 x4 x5 x6 x7 x8 x9 x10 x11 x12 x13 x14 x15 x16 h0 h1 h2 h3 h4 h5 h6 h7 h8 h9 h10 h11 h12 h13 h14 h15 h16 r k
  unfold h2K
  rw [H2_at]
  simp only [m3, m4, e3, show x1K x0 x1 x2 x4 x5 x6 x7 x8 x9 x10 x11 x12 x13 x14 x15 x16 r = _ from funext ex]

end Cert.MergeIdeal.Read
-- ==== Proof.MergeAlg.lean ====
module

public import proofs.«01_k».proof.Proof.Gen.MergeIdeal.Value
public import proofs.«01_k».proof.Proof.MergeBridge
public import proofs.«01_k».proof.Defs
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Read

open Cert.MergeIdeal Cert.MergeIdeal.Gen
open Cert.MergeRefIdeal.Read (X1 H2 R1 R1_at R2 R2_at R3 R3_at X1m res118 res121 res123)

variable (m : (ℓ : Loc nD τ sig) → Buf (Elt Ideal) ℓ)

theorem final19 (c : Dev nD) : (dats m 0 c).arrAt 19 cfg0.N = R1 (X1k m c) := by
  refine (dats m 0 c).arrAt_eq_of_covers 19 _ (by decide +kernel) fun t hf y => ?_
  have ht : t.val < 64 := t.isLt
  blk_simp
  rw [after0_19]
  obtain ⟨r, k, rfl⟩ : ∃ (r : Fin 256) (k : Fin 1024), y = (ix2 r k : S256x1024.Idx) := ⟨y 0, y 1, eq_ix2 y⟩
  simp only [outsAt0]
  refine (out19_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r k).trans ((x1_bridge m c t _ _ _ _ _ _ _ _ _ _ _ _ _ _ _ _ _ rfl rfl rfl rfl rfl rfl rfl rfl rfl rfl rfl rfl rfl rfl rfl rfl rfl r k).trans (Eq.trans ?_ ((R1_at (X1k m c) ⟨t.val * 256 + r.val, by omega⟩ k).symm.trans ?_)))
  · blk_ext
  · blk_ext [idx t]

theorem final20 (c : Dev nD) : (dats m 0 c).arrAt 20 cfg0.N = R2 (H2 (X1k m c) (m ((c : Thread nD τ).loc main_arg1)) (m ((c : Thread nD τ).loc main_arg3))) := by
  refine (dats m 0 c).arrAt_eq_of_covers 20 _ (by decide +kernel) fun t hf y => ?_
  have ht : t.val < 64 := t.isLt
  blk_simp
  rw [after0_20]
  obtain ⟨k, r, rfl⟩ : ∃ (k : Fin 1024) (r : Fin 256), y = (ix2 k r : S1024x256.Idx) := ⟨y 0, y 1, eq_ix2 y⟩
  simp only [outsAt0]
  refine (out20_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r k).trans ((h2_bridge m c t _ _ _ _ _ _ _ _ _ _ _ _ _ _ _ _ _ rfl rfl rfl rfl rfl rfl rfl rfl rfl rfl rfl rfl rfl rfl rfl rfl rfl r k).trans (Eq.trans ?_ ((R2_at (H2 (X1k m c) (m ((c : Thread nD τ).loc main_arg1)) (m ((c : Thread nD τ).loc main_arg3))) ⟨t.val * 256 + r.val, by omega⟩ k).symm.trans ?_)))
  · blk_ext
  · blk_ext [idx t]

theorem final21 (c : Dev nD) : (dats m 0 c).arrAt 21 cfg0.N = R3 (H2 (X1k m c) (m ((c : Thread nD τ).loc main_arg1)) (m ((c : Thread nD τ).loc main_arg3))) (m ((c : Thread nD τ).loc main_arg15)) (m ((c : Thread nD τ).loc main_arg16)) := by
  refine (dats m 0 c).arrAt_eq_of_covers 21 _ (by decide +kernel) fun t hf y => ?_
  have ht : t.val < 64 := t.isLt
  blk_simp
  rw [after0_21]
  obtain ⟨g, k, r, rfl⟩ : ∃ (g : Fin 16) (k : Fin 128) (r : Fin 256), y = (ix3 g k r : S16x128x256.Idx) := ⟨y 0, y 1, y 2, eq_ix3 y⟩
  simp only [outsAt0]
  refine (out21_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ g k r).trans (Eq.trans ?_ ((R3_at (H2 (X1k m c) (m ((c : Thread nD τ).loc main_arg1)) (m ((c : Thread nD τ).loc main_arg3))) (m ((c : Thread nD τ).loc main_arg15)) (m ((c : Thread nD τ).loc main_arg16)) ⟨t.val * 256 + r.val, by omega⟩ g k).symm.trans ?_))
  · refine Finset.sum_congr rfl fun d _ => congrArg₂ (· * ·) ((blk18 m c t g k d).trans (hv12 m c g k d)) (Finset.sum_congr rfl fun l _ => congrArg₂ (· * ·) ?_ ((blk17 m c t l _).trans (hv10 m c l _)))
    refine (h2_bridge m c t _ _ _ _ _ _ _ _ _ _ _ _ _ _ _ _ _ rfl rfl rfl rfl rfl rfl rfl rfl rfl rfl rfl rfl rfl rfl rfl rfl rfl r l).trans ?_
    blk_ext
  · blk_ext [idx t]

/-- Over the extended reals the merging kernel and the reference return the same three arrays. -/
theorem algebraic : Cert.algebraic_MergeIdeal_MergeRefIdeal (hMergeIdeal := Cert.MergeIdeal.Gen.facts) (hMergeRefIdeal := Cert.MergeRefIdeal.Gen.facts) :=
  fun m ρ m' ρ' _ hag =>
    ⟨fun c => (dats m 0 c).arrAt 19 cfg0.N, fun c => (dats m 0 c).arrAt 20 cfg0.N, fun c => (dats m 0 c).arrAt 21 cfg0.N,
     Cert.MergeIdeal.Value.run_blocks m ρ,
     (θ_run _ _ _).mono (fun _ h c => by
        obtain ⟨h0, h1, h2, h3, h4, h5, h6, h7, h8, h9, h10, h11, h12, h13, h14, h15, h16⟩ := hag c
        obtain ⟨k0, k1, k2, k3⟩ := h c
        refine ⟨k0.trans ?_, k1.trans ?_, k2.trans ?_, k3⟩
        · refine Eq.trans ?_ (final19 m c).symm
          unfold X1k
          rw [← h0, ← h1, ← h2, ← h4, ← h5, ← h6, ← h7, ← h8, ← h9, ← h10, ← h11, ← h12, ← h13, ← h14]
          rfl
        · refine Eq.trans ?_ (final20 m c).symm
          unfold X1k
          rw [← h0, ← h1, ← h2, ← h3, ← h4, ← h5, ← h6, ← h7, ← h8, ← h9, ← h10, ← h11, ← h12, ← h13, ← h14]
          rfl
        · refine Eq.trans ?_ (final21 m c).symm
          unfold X1k
          rw [← h0, ← h1, ← h2, ← h3, ← h4, ← h5, ← h6, ← h7, ← h8, ← h9, ← h10, ← h11, ← h12, ← h13, ← h14, ← h15, ← h16]
          rfl) (Cert.MergeRefIdeal.Value.run m' ρ')⟩

end Cert.MergeIdeal.Read
-- ==== Proof.MlstmSpec.lean ====
module

public import proofs.«01_k».proof.Proof.Gen.MlstmIdeal.Value
public import Idealize.ShloMosaic.Lib.Pipeline.ValueKit

@[expose] public section

set_option maxRecDepth 16384

noncomputable section

open Idealize.ShloMosaic

namespace Cert.Chunk

/-! One chunk of the recurrence as plain functions of the chunk's rows: `K t s` says whether position `s` lies in the
    past of position `t`, `b` are the running sums of the forget gates' logarithms, `li` the input gates, `m` the
    carried stabiliser, `C` and `n` the carried memory and normaliser. -/

/-- The running sum over the past. -/
def bS (K : Fin 128 → Fin 128 → Bool) (lf : Fin 128 → EReal) (t : Fin 128) : EReal :=
  ∑ s : Fin 128, if K t s then lf s else 0

/-- The exponents before stabilising. -/
def dS (K : Fin 128 → Fin 128 → Bool) (b li : Fin 128 → EReal) (t s : Fin 128) : EReal :=
  if K t s then b t - b s + li s else ⊥

/-- The stabiliser. -/
def mS (K : Fin 128 → Fin 128 → Bool) (b li : Fin 128 → EReal) (m : EReal) (t : Fin 128) : EReal :=
  max (b t + m) (⨆ s : Fin 128, dS K b li t s)

/-- The weight of position `s` at position `t`. -/
def wS (K : Fin 128 → Fin 128 → Bool) (b li : Fin 128 → EReal) (m : EReal) (t s : Fin 128) : EReal :=
  Ideal.exp (dS K b li t s - mS K b li m t)

/-- The weight of the carried state at position `t`. -/
def w0S (K : Fin 128 → Fin 128 → Bool) (b li : Fin 128 → EReal) (m : EReal) (t : Fin 128) : EReal :=
  Ideal.exp (b t + m - mS K b li m t)

/-- The weighted scores. -/
def sS (K : Fin 128 → Fin 128 → Bool) (b li : Fin 128 → EReal) (m : EReal) (q k : Fin 128 → Fin 128 → EReal) (t s : Fin 128) : EReal :=
  wS K b li m t s * ∑ e : Fin 128, q t e * k s e

/-- The output row. -/
def hS (K : Fin 128 → Fin 128 → Bool) (b li : Fin 128 → EReal) (m : EReal) (q k v : Fin 128 → Fin 128 → EReal)
    (C : Fin 128 → Fin 128 → EReal) (n : Fin 128 → EReal) (t d : Fin 128) : EReal :=
  Ideal.div (w0S K b li m t * (∑ e : Fin 128, q t e * C d e) + ∑ s : Fin 128, sS K b li m q k t s * v s d)
    (max (max (w0S K b li m t * (∑ e : Fin 128, q t e * n e) + ∑ s : Fin 128, sS K b li m q k t s)
        (-(w0S K b li m t * (∑ e : Fin 128, q t e * n e) + ∑ s : Fin 128, sS K b li m q k t s)))
      (Ideal.exp (-(mS K b li m t))))

/-- The memory handed on from the chunk's last position `te`. -/
def CS (K : Fin 128 → Fin 128 → Bool) (b li : Fin 128 → EReal) (m : EReal) (k v : Fin 128 → Fin 128 → EReal)
    (C : Fin 128 → Fin 128 → EReal) (te d e : Fin 128) : EReal :=
  w0S K b li m te * C d e + ∑ s : Fin 128, wS K b li m te s * v s d * k s e

/-- The normaliser handed on. -/
def nS (K : Fin 128 → Fin 128 → Bool) (b li : Fin 128 → EReal) (m : EReal) (k : Fin 128 → Fin 128 → EReal)
    (n : Fin 128 → EReal) (te e : Fin 128) : EReal :=
  w0S K b li m te * n e + ∑ s : Fin 128, wS K b li m te s * k s e

section Renumber

variable (e : Equiv.Perm (Fin 128)) (K K' : Fin 128 → Fin 128 → Bool) (hK : ∀ t s, K' t s = K (e t) (e s))

include hK

theorem bS_perm (lf : Fin 128 → EReal) (t : Fin 128) : bS K' (fun s => lf (e s)) t = bS K lf (e t) := by
  unfold bS
  simp only [hK]
  exact Equiv.sum_comp e fun s => if K (e t) s then lf s else 0

theorem dS_perm (b li : Fin 128 → EReal) (t s : Fin 128) :
    dS K' (fun s => b (e s)) (fun s => li (e s)) t s = dS K b li (e t) (e s) := by
  unfold dS
  simp only [hK]

theorem mS_perm (b li : Fin 128 → EReal) (m : EReal) (t : Fin 128) :
    mS K' (fun s => b (e s)) (fun s => li (e s)) m t = mS K b li m (e t) := by
  unfold mS
  simp only [dS_perm e K K' hK]
  rw [Equiv.iSup_comp (g := fun s => dS K b li (e t) s) e]

theorem wS_perm (b li : Fin 128 → EReal) (m : EReal) (t s : Fin 128) :
    wS K' (fun s => b (e s)) (fun s => li (e s)) m t s = wS K b li m (e t) (e s) := by
  unfold wS
  rw [dS_perm e K K' hK, mS_perm e K K' hK]

theorem w0S_perm (b li : Fin 128 → EReal) (m : EReal) (t : Fin 128) :
    w0S K' (fun s => b (e s)) (fun s => li (e s)) m t = w0S K b li m (e t) := by
  unfold w0S
  rw [mS_perm e K K' hK]

theorem sS_perm (b li : Fin 128 → EReal) (m : EReal) (q k : Fin 128 → Fin 128 → EReal) (t s : Fin 128) :
    sS K' (fun s => b (e s)) (fun s => li (e s)) m (fun s => q (e s)) (fun s => k (e s)) t s = sS K b li m q k (e t) (e s) := by
  unfold sS
  rw [wS_perm e K K' hK]

theorem hS_perm (b li : Fin 128 → EReal) (m : EReal) (q k v : Fin 128 → Fin 128 → EReal)
    (C : Fin 128 → Fin 128 → EReal) (n : Fin 128 → EReal) (t d : Fin 128) :
    hS K' (fun s => b (e s)) (fun s => li (e s)) m (fun s => q (e s)) (fun s => k (e s)) (fun s => v (e s)) C n t d
      = hS K b li m q k v C n (e t) d := by
  unfold hS
  simp only [sS_perm e K K' hK, w0S_perm e K K' hK, mS_perm e K K' hK]
  rw [Equiv.sum_comp e fun s => sS K b li m q k (e t) s * v s d, Equiv.sum_comp e fun s => sS K b li m q k (e t) s]

theorem CS_perm (b li : Fin 128 → EReal) (m : EReal) (k v : Fin 128 → Fin 128 → EReal)
    (C : Fin 128 → Fin 128 → EReal) (te d j : Fin 128) :
    CS K' (fun s => b (e s)) (fun s => li (e s)) m (fun s => k (e s)) (fun s => v (e s)) C te d j = CS K b li m k v C (e te) d j := by
  unfold CS
  simp only [wS_perm e K K' hK, w0S_perm e K K' hK]
  rw [Equiv.sum_comp e fun s => wS K b li m (e te) s * v s d * k s j]

theorem nS_perm (b li : Fin 128 → EReal) (m : EReal) (k : Fin 128 → Fin 128 → EReal) (n : Fin 128 → EReal) (te j : Fin 128) :
    nS K' (fun s => b (e s)) (fun s => li (e s)) m (fun s => k (e s)) n te j = nS K b li m k n (e te) j := by
  unfold nS
  simp only [wS_perm e K K' hK, w0S_perm e K K' hK]
  rw [Equiv.sum_comp e fun s => wS K b li m (e te) s * k s j]

end Renumber

/-! ## A value in three pieces -/

/-- The sum of the three pieces a value is split into. -/
def sp3 (x : EReal) : EReal := x + (x - x) + (x - x - (x - x))

theorem sp3_of_ne_top {x : EReal} (h : x ≠ ⊤) : sp3 x = x := by
  induction x using EReal.rec with
  | bot => simp [sp3]
  | top => exact absurd rfl h
  | coe r =>
    have : ((r : EReal) - (r : EReal)) = 0 := by rw [← EReal.coe_sub, sub_self, EReal.coe_zero]
    rw [sp3, this]; simp

theorem sp3_top : sp3 ⊤ = ⊥ := by simp [sp3]

/-- The weight as the kernel forms it at the last position, from the pieces of the input gate. -/
theorem wS_end (K : Fin 128 → Fin 128 → Bool) (b li : Fin 128 → EReal) (m : EReal) (te s : Fin 128) (hK : K te s = true) :
    Ideal.exp (b te - b s + sp3 (li s) - mS K b li m te) = wS K b li m te s := by
  unfold wS
  have hd : dS K b li te s = b te - b s + li s := by simp [dS, hK]
  by_cases h : li s = ⊤
  · have hle : dS K b li te s ≤ mS K b li m te := le_max_of_le_right (le_iSup (fun s => dS K b li te s) s)
    rw [hd, h] at hle
    rw [hd, h, sp3_top, EReal.add_bot, EReal.bot_sub]
    by_cases h0 : b te - b s = ⊥
    · rw [h0, EReal.bot_add, EReal.bot_sub]
    · rw [EReal.add_top_of_ne_bot h0] at hle ⊢
      rw [top_le_iff.mp hle]; simp
  · rw [hd, sp3_of_ne_top h]

/-! ## The forget gate's logarithm -/

/-- `log (1 / (1 + exp (-x)))`. -/
def lsig (x : EReal) : EReal := min x 0 - Ideal.log1p (Ideal.exp (-(max x (-x))))

theorem log1p_exp_nonneg (y : EReal) (hy : y ≤ 0) : ∃ r : ℝ, 0 ≤ r ∧ Ideal.log1p (Ideal.exp y) = (r : EReal) := by
  induction y using EReal.rec with
  | bot =>
    refine ⟨0, le_rfl, ?_⟩
    show Ideal.log (1 + 0) = _
    rw [add_zero, ← EReal.coe_one]
    show (if (1 : ℝ) ≤ 0 then ⊥ else (Real.log 1 : EReal)) = _
    rw [if_neg (by norm_num), Real.log_one]
  | top => exact absurd hy (by simp)
  | coe r =>
    have h1 : 0 < Real.exp r := Real.exp_pos r
    refine ⟨Real.log (1 + Real.exp r), Real.log_nonneg (by linarith), ?_⟩
    show Ideal.log (1 + (Real.exp r : EReal)) = _
    rw [← EReal.coe_one, ← EReal.coe_add]
    show (if (1 + Real.exp r : ℝ) ≤ 0 then ⊥ else (Real.log (1 + Real.exp r) : EReal)) = _
    rw [if_neg (by linarith)]

theorem neg_abs_le (x : EReal) : -(max x (-x)) ≤ 0 := by
  rw [← neg_zero, EReal.neg_le_neg_iff]
  rcases le_total 0 x with h | h
  · exact le_max_of_le_left h
  · refine le_max_of_le_right ?_
    rw [← neg_zero, EReal.neg_le_neg_iff]
    exact h

theorem lsig_le (x : EReal) : lsig x ≤ 0 := by
  obtain ⟨r, hr, h⟩ := log1p_exp_nonneg (-(max x (-x))) (neg_abs_le x)
  unfold lsig
  have h2 : -(r : EReal) ≤ 0 := by
    rw [← neg_zero, EReal.neg_le_neg_iff]
    exact_mod_cast hr
  rw [h, sub_eq_add_neg]
  exact (add_le_add (min_le_right x 0) h2).trans (by simp)

theorem lsig_neg (x : EReal) :
    -(max (-x) 0 + Ideal.log1p (Ideal.exp (-(max (-x) (-(-x)))))) = lsig x := by
  obtain ⟨r, hr, h⟩ := log1p_exp_nonneg (-(max x (-x))) (neg_abs_le x)
  unfold lsig
  rw [neg_neg, max_comm (-x) x, h, EReal.neg_add (Or.inr (EReal.coe_ne_top r)) (Or.inr (EReal.coe_ne_bot r))]
  congr 1
  rcases le_total 0 x with h | h
  · have h' : -x ≤ 0 := by rw [← neg_zero, EReal.neg_le_neg_iff]; exact h
    rw [max_eq_right h', min_eq_right h, neg_zero]
  · have h' : 0 ≤ -x := by rw [← neg_zero, EReal.neg_le_neg_iff]; exact h
    rw [max_eq_left h', min_eq_left h, neg_neg]

theorem bS_le (K : Fin 128 → Fin 128 → Bool) (lf : Fin 128 → EReal) (h : ∀ s, lf s ≤ 0) (t : Fin 128) : bS K lf t ≤ 0 :=
  Finset.sum_nonpos fun s _ => by split; exacts [h s, le_rfl]

theorem ne_top_of_le_zero {x : EReal} (h : x ≤ 0) : x ≠ ⊤ := fun e => by rw [e] at h; exact absurd h (by simp)

end Cert.Chunk
-- ==== Proof.MlstmChain.lean ====
module

public import proofs.«01_k».proof.Proof.MlstmSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmIdeal.Read

open Cert.MlstmIdeal Cert.MlstmIdeal.Gen Cert.Chunk

/-! The operations of one chain of the body, over the arrays it reads. -/

def cG (x : FVec Ideal S1x128x128 .f32) (g : FVec Ideal S1x128 .f32) : FVec Ideal S128x128 .f32 :=
  addf (shapeCast S128x128 x shapeCasts_S1x128x128_S128x128) (broadcastTo S128x128 (shapeCast S1x128 g shapeCasts_S1x128_S1x128) broadcasts_S1x128_S128x128)

def cLg (isf : IVec S128x128 1) (g : FVec Ideal S128x128 .f32) : FVec Ideal S128x128 .f32 :=
  select isf (subf (minimumf g (broadcast S128x128 (Scalar.ofBits .f32 0x00000000#32))) (log1p (exp (subf (broadcast S128x128 (Scalar.ofBits .f32 0x00000000#32)) (absf g))))) g

def cR1 (x : FVec Ideal S128x128 .f32) : FVec Ideal S128x128 .f32 := subf x (extf .f32 (truncf .bf16 x bitsLt_bf16_f32) bitsLt_bf16_f32)

def cMl (keep : IVec S128x128 1) (x : FVec Ideal S128x128 .f32) : FVec Ideal S128x128 .f32 :=
  addf (addf (matmul dot_S128x128_S128x128_S128x128_1_0_0_1_n_n none (truncf .bf16 (sitofp .f32 (extui 32 keep natLt_1_32)) bitsLt_bf16_f32) (truncf .bf16 x bitsLt_bf16_f32) (constant S128x128 .f32 0x00000000#32)) (matmul dot_S128x128_S128x128_S128x128_1_0_0_1_n_n none (truncf .bf16 (sitofp .f32 (extui 32 keep natLt_1_32)) bitsLt_bf16_f32) (truncf .bf16 (cR1 x) bitsLt_bf16_f32) (constant S128x128 .f32 0x00000000#32)))
    (matmul dot_S128x128_S128x128_S128x128_1_0_0_1_n_n none (truncf .bf16 (sitofp .f32 (extui 32 keep natLt_1_32)) bitsLt_bf16_f32) (truncf .bf16 (subf (cR1 x) (extf .f32 (truncf .bf16 (cR1 x) bitsLt_bf16_f32) bitsLt_bf16_f32)) bitsLt_bf16_f32) (constant S128x128 .f32 0x00000000#32))

def cMr (sel : IVec S128x512 1) (x : FVec Ideal S128x128 .f32) : FVec Ideal S128x512 .f32 :=
  addf (addf (matmul dot_S128x128_S128x512_S128x512_1_0_0_1_n_n none (truncf .bf16 x bitsLt_bf16_f32) (truncf .bf16 (sitofp .f32 (extui 32 sel natLt_1_32)) bitsLt_bf16_f32) (constant S128x512 .f32 0x00000000#32)) (matmul dot_S128x128_S128x512_S128x512_1_0_0_1_n_n none (truncf .bf16 (cR1 x) bitsLt_bf16_f32) (truncf .bf16 (sitofp .f32 (extui 32 sel natLt_1_32)) bitsLt_bf16_f32) (constant S128x512 .f32 0x00000000#32)))
    (matmul dot_S128x128_S128x512_S128x512_1_0_0_1_n_n none (truncf .bf16 (subf (cR1 x) (extf .f32 (truncf .bf16 (cR1 x) bitsLt_bf16_f32) bitsLt_bf16_f32)) bitsLt_bf16_f32) (truncf .bf16 (sitofp .f32 (extui 32 sel natLt_1_32)) bitsLt_bf16_f32) (constant S128x512 .f32 0x00000000#32))

def cA (bt : FVec Ideal S128x128 .f32) (mr : FVec Ideal S1x128 .f32) : FVec Ideal S128x128 .f32 := addf bt (broadcastTo S128x128 mr broadcasts_S1x128_S128x128)

def cD (keep : IVec S128x128 1) (bt : FVec Ideal S128x128 .f32) (br lr : FVec Ideal S1x128 .f32) : FVec Ideal S128x128 .f32 :=
  select keep (addf (subf bt (broadcastTo S128x128 br broadcasts_S1x128_S128x128)) (broadcastTo S128x128 lr broadcasts_S1x128_S128x128)) (broadcast S128x128 (Scalar.ofBits .f32 0xFF800000#32))

def cM (a dm : FVec Ideal S128x128 .f32) : FVec Ideal S128x128 .f32 := maximumf a (broadcastTo S128x128 (shapeCast S128x1 (multiReduction .maximumf [1] S128 dm 0xFF800000#32 reduces_S128x128_S128 (.inl rfl) rfl) shapeCasts_S128_S128x1) broadcasts_S128x1_S128x128)

def cK (k : FVec Ideal S1x128x128 .f32) : FVec Ideal S128x128 .f32 :=
  mulf (shapeCast S128x128 k shapeCasts_S1x128x128_S128x128) (broadcast S128x128 (Scalar.ofBits .f32 0x3DB504F3#32))

def cS (w : FVec Ideal S128x128 .f32) (q k : FVec Ideal S1x128x128 .f32) : FVec Ideal S128x128 .f32 :=
  mulf w (matmul dot_S128x128_S128x128_S128x128_1_0_0_1_n_n none (truncf .bf16 (shapeCast S128x128 q shapeCasts_S1x128x128_S128x128) bitsLt_bf16_f32) (truncf .bf16 (transpose S128x128 [1, 0] (cK k) transposes_S128x128_p1_0_S128x128) bitsLt_bf16_f32) (constant S128x128 .f32 0x00000000#32))

def cQC (q ct : FVec Ideal S1x128x128 .f32) : FVec Ideal S128x128 .f32 :=
  matmul dot_S128x128_S128x128_S128x128_1_0_0_1_n_n none (truncf .bf16 (shapeCast S128x128 q shapeCasts_S1x128x128_S128x128) bitsLt_bf16_f32) (truncf .bf16 (shapeCast S128x128 ct shapeCasts_S1x128x128_S128x128) bitsLt_bf16_f32) (constant S128x128 .f32 0x00000000#32)

def cQN (q : FVec Ideal S1x128x128 .f32) (nr : FVec Ideal S1x128 .f32) : FVec Ideal S128x128 .f32 :=
  matmul dot_S128x128_S128x128_S128x128_1_1_0_0_n_n none (truncf .bf16 (shapeCast S128x128 q shapeCasts_S1x128x128_S128x128) bitsLt_bf16_f32) (truncf .bf16 (broadcastTo S128x128 (shapeCast S1x128 nr shapeCasts_S1x128_S1x128) broadcasts_S1x128_S128x128) bitsLt_bf16_f32) (constant S128x128 .f32 0x00000000#32)

def cNum (w0 qc s : FVec Ideal S128x128 .f32) (v : FVec Ideal S1x128x128 .f32) : FVec Ideal S128x128 .f32 :=
  addf (mulf w0 qc) (matmul dot_S128x128_S128x128_S128x128_1_0_0_1_n_n none (truncf .bf16 s bitsLt_bf16_f32) (truncf .bf16 (shapeCast S128x128 v shapeCasts_S1x128x128_S128x128) bitsLt_bf16_f32) (constant S128x128 .f32 0x00000000#32))

def cDen (w0 qn s : FVec Ideal S128x128 .f32) : FVec Ideal S128x128 .f32 := addf (mulf w0 qn) (broadcastTo S128x128 (shapeCast S128x1 (multiReduction .add [1] S128 s 0x00000000#32 reduces_S128x128_S128 (.inl rfl) rfl) shapeCasts_S128_S128x1) broadcasts_S128x1_S128x128)

def cDiv (num den mt : FVec Ideal S128x128 .f32) : FVec Ideal S1x128x128 .f32 :=
  shapeCast S1x128x128 (divf num (maximumf (absf den) (exp (subf (broadcast S128x128 (Scalar.ofBits .f32 0x00000000#32)) mt)))) shapeCasts_S128x128_S1x128x128

/-- The output tile. -/
def cH (keep : IVec S128x128 1) (bt : FVec Ideal S128x128 .f32) (br lr mr nr : FVec Ideal S1x128 .f32) (q k v ct : FVec Ideal S1x128x128 .f32) : FVec Ideal S1x128x128 .f32 :=
  cDiv (cNum (exp (subf (cA bt mr) (cM (cA bt mr) (cD keep bt br lr)))) (cQC q ct) (cS (exp (subf (cD keep bt br lr) (cM (cA bt mr) (cD keep bt br lr)))) q k) v)
    (cDen (exp (subf (cA bt mr) (cM (cA bt mr) (cD keep bt br lr)))) (cQN q nr) (cS (exp (subf (cD keep bt br lr) (cM (cA bt mr) (cD keep bt br lr)))) q k))
    (cM (cA bt mr) (cD keep bt br lr))

/-- The weights at the last position `re` picks. -/
def cWe (re : FVec Ideal S128x128 .f32 → FVec Ideal S1x128 .f32) (bt lt mt : FVec Ideal S128x128 .f32) : FVec Ideal S128x128 .f32 :=
  exp (subf (addf (subf (broadcastTo S128x128 (re bt) broadcasts_S1x128_S128x128) bt) lt) (broadcastTo S128x128 (re mt) broadcasts_S1x128_S128x128))

def cC (re : FVec Ideal S128x128 .f32 → FVec Ideal S1x128 .f32) (bt lt mt w0 : FVec Ideal S128x128 .f32) (k v ct : FVec Ideal S1x128x128 .f32) : FVec Ideal S1x128x128 .f32 :=
  shapeCast S1x128x128 (addf (mulf (broadcastTo S128x128 (re w0) broadcasts_S1x128_S128x128) (shapeCast S128x128 ct shapeCasts_S1x128x128_S128x128))
    (matmul dot_S128x128_S128x128_S128x128_1_0_0_1_n_n none (truncf .bf16 (transpose S128x128 [1, 0] (cK k) transposes_S128x128_p1_0_S128x128) bitsLt_bf16_f32) (truncf .bf16 (mulf (shapeCast S128x128 v shapeCasts_S1x128x128_S128x128) (cWe re bt lt mt)) bitsLt_bf16_f32) (constant S128x128 .f32 0x00000000#32))) shapeCasts_S128x128_S1x128x128

def cN (re : FVec Ideal S128x128 .f32 → FVec Ideal S1x128 .f32) (bt lt mt w0 : FVec Ideal S128x128 .f32) (k : FVec Ideal S1x128x128 .f32) (nr : FVec Ideal S1x128 .f32) : FVec Ideal S1x128 .f32 :=
  shapeCast S1x128 (addf (mulf (re w0) nr)
    (shapeCast S1x128 (multiReduction .add [0] S128 (mulf (cK k) (cWe re bt lt mt)) 0x00000000#32 reduces_S128x128_S128_2 (.inl rfl) rfl) shapeCasts_S128_S1x128)) shapeCasts_S1x128_S1x128

/-- The memory, the normaliser and the stabiliser handed on. -/
def cCt (re : FVec Ideal S128x128 .f32 → FVec Ideal S1x128 .f32) (keep : IVec S128x128 1) (bt lt : FVec Ideal S128x128 .f32) (br lr mr : FVec Ideal S1x128 .f32) (k v ct : FVec Ideal S1x128x128 .f32) : FVec Ideal S1x128x128 .f32 :=
  cC re bt lt (cM (cA bt mr) (cD keep bt br lr)) (exp (subf (cA bt mr) (cM (cA bt mr) (cD keep bt br lr)))) k v ct

def cNt (re : FVec Ideal S128x128 .f32 → FVec Ideal S1x128 .f32) (keep : IVec S128x128 1) (bt lt : FVec Ideal S128x128 .f32) (br lr mr nr : FVec Ideal S1x128 .f32) (k : FVec Ideal S1x128x128 .f32) : FVec Ideal S1x128 .f32 :=
  cN re bt lt (cM (cA bt mr) (cD keep bt br lr)) (exp (subf (cA bt mr) (cM (cA bt mr) (cD keep bt br lr)))) k nr

def cMt (re : FVec Ideal S128x128 .f32 → FVec Ideal S1x128 .f32) (keep : IVec S128x128 1) (bt : FVec Ideal S128x128 .f32) (br lr mr : FVec Ideal S1x128 .f32) : FVec Ideal S1x128 .f32 :=
  shapeCast S1x128 (re (cM (cA bt mr) (cD keep bt br lr))) shapeCasts_S1x128_S1x128

/-! Read at an index. -/

theorem ninf : Ideal.ofBits .f32 0xFF800000#32 = ⊥ := by simp [Ideal.ofBits, Ideal.ieee]

theorem fold_max_ninf (f : Fin 128 → EReal) :
    Finset.fold max (Ideal.ofBits .f32 0xFF800000#32) f Finset.univ = ⨆ s : Fin 128, f s := by
  rw [ninf]
  exact Finset.sup_univ_eq_iSup f

theorem cG_at (x : FVec Ideal S1x128x128 .f32) (g : FVec Ideal S1x128 .f32) (t l : Fin 128) : cG x g (ix2 t l) = x (ix3 0 t l) + g (ix2 0 l) := by
  pointwise [cG]

theorem cLg_at (isf : IVec S128x128 1) (g : FVec Ideal S128x128 .f32) (t l : Fin 128) :
    cLg isf g (ix2 t l) = if isf (ix2 t l) = 1#1 then lsig (g (ix2 t l)) else g (ix2 t l) := by
  pointwise [cLg]
  rw [zero_sub]
  rfl

theorem cR1_at (x : FVec Ideal S128x128 .f32) (t l : Fin 128) : cR1 x (ix2 t l) = x (ix2 t l) - x (ix2 t l) := by
  pointwise [cR1]

theorem one01 : (FloatOps.sitofp .f32 (BitVec.setWidth 32 (1#1)) : Ideal .f32) = 1 := by
  show ((((BitVec.setWidth 32 (1#1)).toInt : ℝ)) : EReal) = 1
  simp

theorem zero01 : (FloatOps.sitofp .f32 (BitVec.setWidth 32 (0#1)) : Ideal .f32) = 0 := by
  show ((((BitVec.setWidth 32 (0#1)).toInt : ℝ)) : EReal) = 0
  simp

theorem cMl_at (keep : IVec S128x128 1) (K : Fin 128 → Fin 128 → Bool) (hK : ∀ t s, keep (ix2 t s) = if K t s then 1#1 else 0#1)
    (x : FVec Ideal S128x128 .f32) (t l : Fin 128) : cMl keep x (ix2 t l) = ∑ s : Fin 128, if K t s then sp3 (x (ix2 s l)) else 0 := by
  pointwise [cMl]
  rw [← Finset.sum_add_distrib, ← Finset.sum_add_distrib]
  refine Finset.sum_congr rfl fun s _ => ?_
  rw [hK t s, cR1_at]
  by_cases h : K t s = true
  · rw [if_pos h, if_pos h, one01, one_mul, one_mul, one_mul]
    rfl
  · rw [if_neg h, if_neg h, zero01, zero_mul, zero_mul, zero_mul, add_zero, add_zero]

theorem cMr_at (sel : IVec S128x512 1) (x : FVec Ideal S128x128 .f32) (t l : Fin 128) (c : Fin 512)
    (hs : ∀ s, sel (ix2 s c) = if s = l then 1#1 else 0#1) : cMr sel x (ix2 t c) = sp3 (x (ix2 t l)) := by
  pointwise [cMr]
  rw [← Finset.sum_add_distrib, ← Finset.sum_add_distrib, Finset.sum_eq_single l]
  · rw [hs l, if_pos rfl, one01, mul_one, mul_one, mul_one, cR1_at]
    rfl
  · intro s _ h
    rw [hs s, if_neg h, zero01, mul_zero, mul_zero, mul_zero, add_zero, add_zero]
  · intro h
    exact absurd (Finset.mem_univ _) h

theorem cM_at (a dm : FVec Ideal S128x128 .f32) (t l : Fin 128) : cM a dm (ix2 t l) = max (a (ix2 t l)) (⨆ s : Fin 128, dm (ix2 t s)) := by
  pointwise [cM]
  rw [fold_max_ninf]

theorem cA_at (bt : FVec Ideal S128x128 .f32) (mr : FVec Ideal S1x128 .f32) (t l : Fin 128) : cA bt mr (ix2 t l) = bt (ix2 t l) + mr (ix2 0 l) := by
  pointwise [cA]

theorem cD_at (keep : IVec S128x128 1) (bt : FVec Ideal S128x128 .f32) (br lr : FVec Ideal S1x128 .f32) (t s : Fin 128) :
    cD keep bt br lr (ix2 t s) = if keep (ix2 t s) = 1#1 then bt (ix2 t s) - br (ix2 0 s) + lr (ix2 0 s) else ⊥ := by
  pointwise [cD]
  rw [ninf]
  rfl

theorem cK_at (k : FVec Ideal S1x128x128 .f32) (t e : Fin 128) : cK k (ix2 t e) = k (ix3 0 t e) * Ideal.ofBits .f32 0x3DB504F3#32 := by
  pointwise [cK]

theorem cS_at (w : FVec Ideal S128x128 .f32) (q k : FVec Ideal S1x128x128 .f32) (t s : Fin 128) :
    cS w q k (ix2 t s) = w (ix2 t s) * ∑ e : Fin 128, q (ix3 0 t e) * cK k (ix2 s e) := by
  pointwise [cS]

theorem cQC_at (q ct : FVec Ideal S1x128x128 .f32) (t d : Fin 128) : cQC q ct (ix2 t d) = ∑ e : Fin 128, q (ix3 0 t e) * ct (ix3 0 e d) := by
  pointwise [cQC]

theorem cQN_at (q : FVec Ideal S1x128x128 .f32) (nr : FVec Ideal S1x128 .f32) (t d : Fin 128) : cQN q nr (ix2 t d) = ∑ e : Fin 128, q (ix3 0 t e) * nr (ix2 0 e) := by
  pointwise [cQN]

theorem cNum_at (w0 qc s : FVec Ideal S128x128 .f32) (v : FVec Ideal S1x128x128 .f32) (t d : Fin 128) :
    cNum w0 qc s v (ix2 t d) = w0 (ix2 t d) * qc (ix2 t d) + ∑ j : Fin 128, s (ix2 t j) * v (ix3 0 j d) := by
  pointwise [cNum]

theorem cDen_at (w0 qn s : FVec Ideal S128x128 .f32) (t d : Fin 128) :
    cDen w0 qn s (ix2 t d) = w0 (ix2 t d) * qn (ix2 t d) + ∑ j : Fin 128, s (ix2 t j) := by
  pointwise [cDen]

theorem cDiv_at (num den mt : FVec Ideal S128x128 .f32) (t d : Fin 128) :
    cDiv num den mt (ix3 0 t d) = Ideal.div (num (ix2 t d)) (max (max (den (ix2 t d)) (-(den (ix2 t d)))) (Ideal.exp (-(mt (ix2 t d))))) := by
  pointwise [cDiv]
  rw [zero_sub]
  rfl

theorem expSub_at (x y : FVec Ideal S128x128 .f32) (t l : Fin 128) : exp (subf x y) (ix2 t l) = Ideal.exp (x (ix2 t l) - y (ix2 t l)) := by
  pointwise

theorem cWe_at (re : FVec Ideal S128x128 .f32 → FVec Ideal S1x128 .f32) (bt lt mt : FVec Ideal S128x128 .f32) (s l : Fin 128) :
    cWe re bt lt mt (ix2 s l) = Ideal.exp (re bt (ix2 0 l) - bt (ix2 s l) + lt (ix2 s l) - re mt (ix2 0 l)) := by
  pointwise [cWe]

theorem cC_at (re : FVec Ideal S128x128 .f32 → FVec Ideal S1x128 .f32) (bt lt mt w0 : FVec Ideal S128x128 .f32) (k v ct : FVec Ideal S1x128x128 .f32) (e d : Fin 128) :
    cC re bt lt mt w0 k v ct (ix3 0 e d) = re w0 (ix2 0 d) * ct (ix3 0 e d)
      + ∑ s : Fin 128, cK k (ix2 s e) * (v (ix3 0 s d) * cWe re bt lt mt (ix2 s d)) := by
  pointwise [cC]

theorem cN_at (re : FVec Ideal S128x128 .f32 → FVec Ideal S1x128 .f32) (bt lt mt w0 : FVec Ideal S128x128 .f32) (k : FVec Ideal S1x128x128 .f32) (nr : FVec Ideal S1x128 .f32) (e : Fin 128) :
    cN re bt lt mt w0 k nr (ix2 0 e) = re w0 (ix2 0 e) * nr (ix2 0 e)
      + ∑ s : Fin 128, cK k (ix2 s e) * cWe re bt lt mt (ix2 s e) := by
  pointwise [cN]

/-! The chain is the chunk of the recurrence. -/

section Chain

variable (keep : IVec S128x128 1) (K : Fin 128 → Fin 128 → Bool) (hK : ∀ t s, keep (ix2 t s) = if K t s then 1#1 else 0#1)
  (bt lt : FVec Ideal S128x128 .f32) (br lr mr nr : FVec Ideal S1x128 .f32) (q k v ct : FVec Ideal S1x128x128 .f32) (b li : Fin 128 → EReal) (mm : EReal)
  (hbt : ∀ t j, bt (ix2 t j) = b t) (hbr : ∀ s, br (ix2 0 s) = b s) (hlr : ∀ s, lr (ix2 0 s) = li s) (hm : ∀ j, mr (ix2 0 j) = mm)

include hK hbt hbr hlr

theorem cD_val (t s : Fin 128) : cD keep bt br lr (ix2 t s) = dS K b li t s := by
  rw [cD_at, hK t s, hbt, hbr, hlr]
  unfold dS
  by_cases h : K t s = true
  · rw [if_pos h, if_pos h, if_pos rfl]
  · rw [if_neg h, if_neg h, if_neg (by decide)]

include hm

theorem cM_val (t j : Fin 128) : cM (cA bt mr) (cD keep bt br lr) (ix2 t j) = mS K b li mm t := by
  rw [cM_at, cA_at, hbt, hm]
  unfold mS
  simp only [cD_val keep K hK bt br lr b li hbt hbr hlr]

theorem cW_val (t s : Fin 128) :
    exp (subf (cD keep bt br lr) (cM (cA bt mr) (cD keep bt br lr))) (ix2 t s) = wS K b li mm t s := by
  rw [expSub_at, cM_val keep K hK bt br lr mr b li mm hbt hbr hlr hm, cD_val keep K hK bt br lr b li hbt hbr hlr]
  rfl

theorem cW0_val (t j : Fin 128) :
    exp (subf (cA bt mr) (cM (cA bt mr) (cD keep bt br lr))) (ix2 t j) = w0S K b li mm t := by
  rw [expSub_at, cM_val keep K hK bt br lr mr b li mm hbt hbr hlr hm, cA_at, hbt, hm]
  rfl

theorem cH_val (t d : Fin 128) : cH keep bt br lr mr nr q k v ct (ix3 0 t d)
    = hS K b li mm (fun t e => q (ix3 0 t e)) (fun s e => k (ix3 0 s e) * Ideal.ofBits .f32 0x3DB504F3#32) (fun s d => v (ix3 0 s d))
        (fun d e => ct (ix3 0 e d)) (fun e => nr (ix2 0 e)) t d := by
  unfold cH
  rw [cDiv_at, cNum_at, cDen_at]
  simp only [cS_at, cQC_at, cQN_at, cM_val keep K hK bt br lr mr b li mm hbt hbr hlr hm, cW_val keep K hK bt br lr mr b li mm hbt hbr hlr hm,
    cW0_val keep K hK bt br lr mr b li mm hbt hbr hlr hm, cK_at]
  rfl

variable (re : FVec Ideal S128x128 .f32 → FVec Ideal S1x128 .f32) (te : Fin 128) (hre : ∀ x j, re x (ix2 0 j) = x (ix2 te j)) (hte : ∀ s, K te s = true)
  (hlt : ∀ t j, lt (ix2 t j) = sp3 (li t))

include hre

theorem cMt_val (j : Fin 128) : cMt re keep bt br lr mr (ix2 0 j) = mS K b li mm te := by
  have h : cMt re keep bt br lr mr (ix2 0 j) = re (cM (cA bt mr) (cD keep bt br lr)) (ix2 0 j) := by
    pointwise [cMt]
  rw [h, hre, cM_val keep K hK bt br lr mr b li mm hbt hbr hlr hm]

include hte hlt

theorem cWe_val (s j : Fin 128) :
    cWe re bt lt (cM (cA bt mr) (cD keep bt br lr)) (ix2 s j) = wS K b li mm te s := by
  rw [cWe_at, hre, hre, hbt, hbt, hlt, cM_val keep K hK bt br lr mr b li mm hbt hbr hlr hm]
  exact wS_end K b li mm te s (hte s)

theorem cCt_val (e d : Fin 128) : cCt re keep bt lt br lr mr k v ct (ix3 0 e d)
    = CS K b li mm (fun s e => k (ix3 0 s e) * Ideal.ofBits .f32 0x3DB504F3#32) (fun s d => v (ix3 0 s d))
        (fun d e => ct (ix3 0 e d)) te d e := by
  unfold cCt
  rw [cC_at, hre]
  simp only [cW0_val keep K hK bt br lr mr b li mm hbt hbr hlr hm, cK_at,
    cWe_val keep K hK bt lt br lr mr b li mm hbt hbr hlr hm re te hre hte hlt]
  unfold CS
  congr 1
  refine Finset.sum_congr rfl fun s _ => ?_
  rw [mul_comm, mul_comm (v (ix3 0 s d)) _]

theorem cNt_val (e : Fin 128) : cNt re keep bt lt br lr mr nr k (ix2 0 e)
    = nS K b li mm (fun s e => k (ix3 0 s e) * Ideal.ofBits .f32 0x3DB504F3#32) (fun e => nr (ix2 0 e)) te e := by
  unfold cNt
  rw [cN_at, hre]
  simp only [cW0_val keep K hK bt br lr mr b li mm hbt hbr hlr hm, cK_at,
    cWe_val keep K hK bt lt br lr mr b li mm hbt hbr hlr hm re te hre hte hlt]
  unfold nS
  congr 1
  refine Finset.sum_congr rfl fun s _ => ?_
  rw [mul_comm]

end Chain

end Cert.MlstmIdeal.Read
-- ==== Proof.MlstmTile.lean ====
module

public import proofs.«01_k».proof.Proof.MlstmChain
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmIdeal.Read

open Cert.MlstmIdeal Cert.MlstmIdeal.Gen Cert.Chunk

/-! The sixteen chains of a point, by the row `p`, the direction `d` and the head `h`. -/

/-- The causal masks, the forget lanes and the lane pickers, as the body builds them. -/
def KL : IVec S128x128 1 := k0_pay51 (iota .tc S128x128 32 [0] iota_S128x128_d0_w32) (iota .tc S128x128 32 [1] iota_S128x128_d1_w32)
def KU : IVec S128x128 1 := k0_pay52 (iota .tc S128x128 32 [0] iota_S128x128_d0_w32) (iota .tc S128x128 32 [1] iota_S128x128_d1_w32)
def ISF : IVec S128x128 1 := k0_pay50 2#32 k0_pay47 k0_pay48 k0_pay49
def SEL (c : BitVec 32) : IVec S128x512 1 :=
  cmpi .eq (iota .tc S128x512 32 [0] iota_S128x512_d0_w32) (addi (broadcast S128x512 c) k0_pay53)

theorem inbT (p : Fin 2) (h : Fin 4) : ∀ a, (![p.val, 0, h.val * 128] : Fin 3 → Nat) a + S1x128x128.size a ≤ S2x128x512.size a := by
  revert p h; decide
theorem inbG (p : Fin 2) : ∀ a, (![p.val, 0, 0] : Fin 3 → Nat) a + S1x128x128.size a ≤ S2x128x128.size a := by
  revert p; decide
theorem inbC (p : Fin 2) (i : Fin 8) : ∀ a, (![p.val, i.val, 0, 0] : Fin 4 → Nat) a + S1x1x128x128.size a ≤ S2x8x128x128.size a := by
  revert p i; decide
theorem inbS (i : Fin 16) : ∀ a, (![i.val, 0, 0] : Fin 3 → Nat) a + S1x128x128.size a ≤ S16x128x128.size a := by
  revert i; decide
theorem inbR (i : Fin 16) : ∀ a, (![i.val, 0] : Fin 2 → Nat) a + S1x128.size a ≤ S16x128.size a := by
  revert i; decide
theorem slT (h : Fin 4) : S128x512.Slices ![0, h.val * 128] S128x128 := by revert h; decide
theorem slR (i : Fin 16) : S128x128.Slices ![i.val, 0] S1x128 := by revert i; decide

def ix8 (d : Fin 2) (h : Fin 4) : Fin 8 := ⟨4 * d.val + h.val, by omega⟩
def ix16 (p d : Fin 2) (h : Fin 4) : Fin 16 := ⟨8 * p.val + (4 * d.val + h.val), by omega⟩
def laneI (d : Fin 2) (h : Fin 4) : Fin 16 := ⟨8 * d.val + h.val, by omega⟩
def laneF (d : Fin 2) (h : Fin 4) : Fin 16 := ⟨8 * d.val + 4 + h.val, by omega⟩

/-- The tile of row `p` and head `h`. -/
def ldT (x : Vec Ideal S2x128x512 .f32) (p : Fin 2) (h : Fin 4) : FVec Ideal S1x128x128 .f32 :=
  View.ld x (Rect.unit (s := S2x128x512) ![p.val, 0, h.val * 128] S1x128x128.size (inbT p h))

/-- The gates, those that forget through the logarithm of the sigmoid. -/
def gT (xg : Vec Ideal S2x128x128 .f32) (xb : Vec Ideal S1x128 .f32) (p : Fin 2) : FVec Ideal S128x128 .f32 :=
  cLg ISF (cG (View.ld xg (Rect.unit (s := S2x128x128) ![p.val, 0, 0] S1x128x128.size (inbG p))) xb)

def chB (keep : IVec S128x128 1) (g : FVec Ideal S128x128 .f32) (d : Fin 2) (h : Fin 4) : FVec Ideal S128x128 .f32 :=
  extractStridedSlice S128x128 ![0, h.val * 128] (cMr (SEL (BitVec.ofNat 32 (8 * d.val + 4))) (cMl keep g)) (slT h)
def chL (g : FVec Ideal S128x128 .f32) (d : Fin 2) (h : Fin 4) : FVec Ideal S128x128 .f32 :=
  extractStridedSlice S128x128 ![0, h.val * 128] (cMr (SEL (BitVec.ofNat 32 (8 * d.val))) g) (slT h)
def chBr (keep : IVec S128x128 1) (g : FVec Ideal S128x128 .f32) (d : Fin 2) (h : Fin 4) : FVec Ideal S1x128 .f32 :=
  extractStridedSlice S1x128 ![(laneF d h).val, 0] (transpose S128x128 [1, 0] (cMl keep g) transposes_S128x128_p1_0_S128x128) (slR (laneF d h))
def chLr (g : FVec Ideal S128x128 .f32) (d : Fin 2) (h : Fin 4) : FVec Ideal S1x128 .f32 :=
  extractStridedSlice S1x128 ![(laneI d h).val, 0] (transpose S128x128 [1, 0] g transposes_S128x128_p1_0_S128x128) (slR (laneI d h))

def reF (x : FVec Ideal S128x128 .f32) : FVec Ideal S1x128 .f32 := extractStridedSlice S1x128 ![127, 0] x slices_S128x128_o127_0_S1x128
def reB (x : FVec Ideal S128x128 .f32) : FVec Ideal S1x128 .f32 := extractStridedSlice S1x128 ![0, 0] x slices_S128x128_o0_0_S1x128

section

variable (d : Fin 2) (keep : IVec S128x128 1) (re : FVec Ideal S128x128 .f32 → FVec Ideal S1x128 .f32)
  (xq xk xv : Vec Ideal S2x128x512 .f32) (xg : Vec Ideal S2x128x128 .f32) (xb : Vec Ideal S1x128 .f32)
  (mr nr : FVec Ideal S1x128 .f32) (ct : FVec Ideal S1x128x128 .f32) (p : Fin 2) (h : Fin 4)

def tH : FVec Ideal S1x128x128 .f32 :=
  cH keep (chB keep (gT xg xb p) d h) (chBr keep (gT xg xb p) d h) (chLr (gT xg xb p) d h) mr nr (ldT xq p h) (ldT xk p h) (ldT xv p h) ct
def tC : FVec Ideal S1x128x128 .f32 :=
  cCt re keep (chB keep (gT xg xb p) d h) (chL (gT xg xb p) d h) (chBr keep (gT xg xb p) d h) (chLr (gT xg xb p) d h) mr (ldT xk p h) (ldT xv p h) ct
def tN : FVec Ideal S1x128 .f32 :=
  cNt re keep (chB keep (gT xg xb p) d h) (chL (gT xg xb p) d h) (chBr keep (gT xg xb p) d h) (chLr (gT xg xb p) d h) mr nr (ldT xk p h)
def tM : FVec Ideal S1x128 .f32 :=
  cMt re keep (chB keep (gT xg xb p) d h) (chBr keep (gT xg xb p) d h) (chLr (gT xg xb p) d h) mr

end

/-- The carried state before the first point's chains. -/
def rowA (x : Vec Ideal S2x8x128 .f32) (p d : Fin 2) (h : Fin 4) : FVec Ideal S1x128 .f32 := fun j => x (ix3 p (ix8 d h) (j 1))
def ctA (x : Vec Ideal S2x8x128x128 .f32) (p d : Fin 2) (h : Fin 4) : FVec Ideal S1x128x128 .f32 :=
  shapeCast S1x128x128 (transpose S128x128 [1, 0] (shapeCast S128x128
    (View.ld x (Rect.unit (s := S2x8x128x128) ![p.val, (ix8 d h).val, 0, 0] S1x1x128x128.size (inbC p (ix8 d h)))) shapeCasts_S1x1x128x128_S128x128)
    transposes_S128x128_p1_0_S128x128) shapeCasts_S128x128_S1x128x128
def rowB (x : Vec Ideal S16x128 .f32) (p d : Fin 2) (h : Fin 4) : FVec Ideal S1x128 .f32 :=
  View.ld x (Rect.unit (s := S16x128) ![(ix16 p d h).val, 0] S1x128.size (inbR (ix16 p d h)))
def ctB (x : Vec Ideal S16x128x128 .f32) (p d : Fin 2) (h : Fin 4) : FVec Ideal S1x128x128 .f32 :=
  View.ld x (Rect.unit (s := S16x128x128) ![(ix16 p d h).val, 0, 0] S1x128x128.size (inbS (ix16 p d h)))

/-- The eight rows of a part of the carried state stored whole read row by row. -/
theorem rdA {κ : Kind} {sp : Space} (v : View sig κ sp S16x128 .f32) (x : Vec Ideal S2x8x128 .f32) (p d : Fin 2) (h : Fin 4)
    (L : List (View.Piece (Elt Ideal) S16x128 .f32)) (off : Fin 2 → ℕ) (off' : Fin 2 → ℕ) (off'' : Fin 3 → ℕ)
    (inb : ∀ a, off a + S8x128.size a ≤ S16x128.size a) (inb' : ∀ a, off' a + S1x128.size a ≤ S16x128.size a)
    (inb'' : ∀ a, off'' a + S1x8x128.size a ≤ S2x8x128.size a) (h1 : S1x8x128.ShapeCasts S8x128) (h2 : S8x128.ShapeCasts S8x128)
    (ho : off = ![8 * p.val, 0]) (ho' : off' = ![(ix16 p d h).val, 0]) (ho'' : off'' = ![p.val, 0, 0]) :
    v.readCov (⟨Rect.unit (s := S16x128) off S8x128.size inb, shapeCast S8x128 (shapeCast (s := S1x8x128) S8x128 (View.ld x (Rect.unit (s := S2x8x128) off'' S1x8x128.size inb'')) h1) h2⟩ :: L)
      (Rect.unit (s := S16x128) off' S1x128.size inb').toLoadRect = rowA x p d h := by
  subst ho ho' ho''
  funext j
  rw [View.readCov_eq_canon']
  have e : (Rect.unit (s := S16x128) ![(ix16 p d h).val, 0] S1x128.size inb').toLoadRect.idx j
      = (Rect.unit (s := S16x128) ![8 * p.val, 0] S8x128.size inb).emb (ix2 (ix8 d h) (j 1)) := by
    have hj : (j 0).val = 0 := Nat.lt_one_iff.mp (j 0).isLt
    funext a
    refine Fin.ext ?_
    fin_cases a
    · show 8 * p.val + (4 * d.val + h.val) + 1 * (j 0).val = 8 * p.val + 1 * (4 * d.val + h.val)
      omega
    · show 0 + 1 * (j 1).val = 0 + 1 * (j 1).val
      rfl
  refine (congrArg _ e).trans ((View.canon_cons_emb _ _ L _).trans ?_)
  have e2 : ∀ (z : FVec Ideal S1x8x128 .f32) (a : Fin 8) (b : Fin 128),
      shapeCast S8x128 (shapeCast S8x128 z h1) h2 (ix2 a b) = z (ix3 0 a b) := by
    intro z a b
    pointwise
  refine (e2 _ _ _).trans ?_
  refine congrArg x ?_
  funext a
  refine Fin.ext ?_
  fin_cases a
  · show p.val + 1 * 0 = p.val
    rfl
  · show 0 + 1 * (4 * d.val + h.val) = 4 * d.val + h.val
    omega
  · show 0 + 1 * (j 1).val = (j 1).val
    omega

/-- Reading an array stored row by row: the last store holding the row. -/
theorem cstepR (i : ℕ) (inb : ∀ a, (![i, 0] : Fin 2 → ℕ) a + S1x128.size a ≤ S16x128.size a)
    (w : S1x128.Idx → Elt Ideal .f32) (L : List (View.Piece (Elt Ideal) S16x128 .f32)) (y : S16x128.Idx) (v : Elt Ideal .f32)
    (h1 : (y 0).val = i → w (ix2 0 (y 1)) = v) (h2 : (y 0).val ≠ i → View.canon (Val := Elt Ideal) (s := S16x128) (e := .f32) L y = v) :
    View.canon (Val := Elt Ideal) (s := S16x128) (e := .f32) (⟨Rect.unit (s := S16x128) ![i, 0] S1x128.size inb, w⟩ :: L) y = v := by
  by_cases h : (y 0).val = i
  · have e : y = (Rect.unit (s := S16x128) ![i, 0] S1x128.size inb).emb (ix2 0 (y 1)) := by
      funext a
      refine Fin.ext ?_
      fin_cases a
      · show (y 0).val = i + 1 * 0
        omega
      · show (y 1).val = 0 + 1 * (y 1).val
        omega
    exact (congrArg _ e).trans ((View.canon_cons_emb (Rect.unit (s := S16x128) ![i, 0] S1x128.size inb) w L _).trans (h1 h))
  · refine (View.canon_cons_of_not_mem _ L ?_).trans (h2 h)
    intro hm
    obtain ⟨x, hx⟩ := (Rect.unit (s := S16x128) ![i, 0] S1x128.size inb).exists_idx_of_mem hm
    have h0 : (x 0).val < 1 := (x 0).isLt
    have e : i + 1 * (x 0).val = (y 0).val := congrArg (fun z => (z 0).val) hx
    omega

theorem cstepT (i : ℕ) (inb : ∀ a, (![i, 0, 0] : Fin 3 → ℕ) a + S1x128x128.size a ≤ S16x128x128.size a)
    (w : S1x128x128.Idx → Elt Ideal .f32) (L : List (View.Piece (Elt Ideal) S16x128x128 .f32)) (y : S16x128x128.Idx) (v : Elt Ideal .f32)
    (h1 : (y 0).val = i → w (ix3 0 (y 1) (y 2)) = v) (h2 : (y 0).val ≠ i → View.canon (Val := Elt Ideal) (s := S16x128x128) (e := .f32) L y = v) :
    View.canon (Val := Elt Ideal) (s := S16x128x128) (e := .f32) (⟨Rect.unit (s := S16x128x128) ![i, 0, 0] S1x128x128.size inb, w⟩ :: L) y = v := by
  by_cases h : (y 0).val = i
  · have e : y = (Rect.unit (s := S16x128x128) ![i, 0, 0] S1x128x128.size inb).emb (ix3 0 (y 1) (y 2)) := by
      funext a
      refine Fin.ext ?_
      fin_cases a
      · show (y 0).val = i + 1 * 0
        omega
      · show (y 1).val = 0 + 1 * (y 1).val
        omega
      · show (y 2).val = 0 + 1 * (y 2).val
        omega
    exact (congrArg _ e).trans ((View.canon_cons_emb (Rect.unit (s := S16x128x128) ![i, 0, 0] S1x128x128.size inb) w L _).trans (h1 h))
  · refine (View.canon_cons_of_not_mem _ L ?_).trans (h2 h)
    intro hm
    obtain ⟨x, hx⟩ := (Rect.unit (s := S16x128x128) ![i, 0, 0] S1x128x128.size inb).exists_idx_of_mem hm
    have h0 : (x 0).val < 1 := (x 0).isLt
    have e : i + 1 * (x 0).val = (y 0).val := congrArg (fun z => (z 0).val) hx
    omega

end Cert.MlstmIdeal.Read
-- ==== Proof.MlstmVal.lean ====
module

public import proofs.«01_k».proof.Proof.MlstmTile
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmIdeal.Read

open Cert.MlstmIdeal Cert.MlstmIdeal.Gen Cert.Chunk

/-! The masks and the pickers read at an index, and the chains as the chunk of the recurrence. -/

def lo (t s : Fin 128) : Bool := decide (s ≤ t)
def up (t s : Fin 128) : Bool := decide (t ≤ s)

theorem KL_at (t s : Fin 128) : KL (ix2 t s) = if lo t s then 1#1 else 0#1 := by
  have e : KL (ix2 t s) = IntOp.cmpi .sge (BitVec.ofNat 32 t.val) (BitVec.ofNat 32 s.val) := by
    pointwise [KL, k0_pay51]
  rw [e]
  revert t s
  decide +kernel

theorem KU_at (t s : Fin 128) : KU (ix2 t s) = if up t s then 1#1 else 0#1 := by
  have e : KU (ix2 t s) = IntOp.cmpi .sle (BitVec.ofNat 32 t.val) (BitVec.ofNat 32 s.val) := by
    pointwise [KU, k0_pay52]
  rw [e]
  revert t s
  decide +kernel

def l128 (i : Fin 16) : Fin 128 := ⟨i.val, by omega⟩

theorem ISF_at (t : Fin 128) (i : Fin 16) : ISF (ix2 t (l128 i)) = if (i.val / 4) % 2 = 1 then 1#1 else 0#1 := by
  fin_cases i <;> sl_kernel_rfl

theorem col_at (s : Fin 128) (c : Fin 512) : k0_pay53 (ix2 s c) = BitVec.ofNat 32 (c.val / 128) := by
  have e : k0_pay53 (ix2 s c) = k0_pay53 (ix2 0 c) := by
    pointwise [k0_pay53]
  rw [e]
  clear e
  revert c
  decide +kernel

theorem SEL_at (k : Fin 4) (h : Fin 4) (s j : Fin 128) :
    SEL (BitVec.ofNat 32 (4 * k.val)) (ix2 s ⟨h.val * 128 + j.val, by omega⟩) = if s = ⟨4 * k.val + h.val, by omega⟩ then 1#1 else 0#1 := by
  have e : SEL (BitVec.ofNat 32 (4 * k.val)) (ix2 s ⟨h.val * 128 + j.val, by omega⟩)
      = IntOp.cmpi .eq (BitVec.ofNat 32 s.val) (IntOp.addi (BitVec.ofNat 32 (4 * k.val)) (k0_pay53 (ix2 s ⟨h.val * 128 + j.val, by omega⟩))) := by
    pointwise [SEL]
  rw [e, col_at, show (h.val * 128 + j.val) / 128 = h.val by omega]
  clear e j
  revert k h s
  decide +kernel

end Cert.MlstmIdeal.Read
-- ==== Proof.MlstmTileVal.lean ====
module

public import proofs.«01_k».proof.Proof.MlstmVal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmIdeal.Read

open Cert.MlstmIdeal Cert.MlstmIdeal.Gen Cert.Chunk

/-! The chains of a point as the chunk of the recurrence. -/

/-- The input and the forget gates of a direction and a head. -/
def liS (xg : Fin 128 → Fin 128 → EReal) (d : Fin 2) (h : Fin 4) (t : Fin 128) : EReal := xg t (l128 (laneI d h))
def lfS (xg : Fin 128 → Fin 128 → EReal) (d : Fin 2) (h : Fin 4) (t : Fin 128) : EReal := lsig (xg t (l128 (laneF d h)))

theorem lfS_le (xg : Fin 128 → Fin 128 → EReal) (d : Fin 2) (h : Fin 4) (t : Fin 128) : lfS xg d h t ≤ 0 := lsig_le _

/-- The gates' preactivations with their bias. -/
def pre (xg : Vec Ideal S2x128x128 .f32) (xb : Vec Ideal S1x128 .f32) (p : Fin 2) (t l : Fin 128) : EReal :=
  xg (ix3 p t l) + xb (ix2 0 l)

theorem ldG_at (xg : Vec Ideal S2x128x128 .f32) (p : Fin 2) (t l : Fin 128) :
    View.ld (Val := Elt Ideal) (e' := .f32) xg (Rect.unit (s := S2x128x128) ![p.val, 0, 0] S1x128x128.size (inbG p)) (ix3 0 t l) = xg (ix3 p t l) := by
  refine congrArg xg ?_
  funext a
  refine Fin.ext ?_
  fin_cases a
  · show p.val + 1 * 0 = p.val
    omega
  · show 0 + 1 * t.val = t.val
    omega
  · show 0 + 1 * l.val = l.val
    omega

theorem gT_I (xg : Vec Ideal S2x128x128 .f32) (xb : Vec Ideal S1x128 .f32) (p d : Fin 2) (h : Fin 4) (t : Fin 128) :
    gT xg xb p (ix2 t (l128 (laneI d h))) = liS (pre xg xb p) d h t := by
  unfold gT
  rw [cLg_at, ISF_at, if_neg (by revert d h; decide), cG_at]
  unfold liS pre
  congr 1
  exact ldG_at xg p t _

theorem gT_F (xg : Vec Ideal S2x128x128 .f32) (xb : Vec Ideal S1x128 .f32) (p d : Fin 2) (h : Fin 4) (t : Fin 128) :
    gT xg xb p (ix2 t (l128 (laneF d h))) = lfS (pre xg xb p) d h t := by
  unfold gT
  rw [cLg_at, ISF_at, if_pos (by revert d h; decide), cG_at]
  unfold lfS pre
  congr 2
  exact ldG_at xg p t _

section

variable (keep : IVec S128x128 1) (K : Fin 128 → Fin 128 → Bool) (hK : ∀ t s, keep (ix2 t s) = if K t s then 1#1 else 0#1)
  (xg : Vec Ideal S2x128x128 .f32) (xb : Vec Ideal S1x128 .f32) (p d : Fin 2) (h : Fin 4)

include hK

theorem bc_at (t : Fin 128) : cMl keep (gT xg xb p) (ix2 t (l128 (laneF d h))) = bS K (lfS (pre xg xb p) d h) t := by
  rw [cMl_at keep K hK]
  unfold bS
  refine Finset.sum_congr rfl fun s _ => ?_
  rw [gT_F, sp3_of_ne_top (ne_top_of_le_zero (lfS_le _ _ _ _))]

theorem chB_at (t j : Fin 128) : chB keep (gT xg xb p) d h (ix2 t j) = bS K (lfS (pre xg xb p) d h) t := by
  have e : chB keep (gT xg xb p) d h (ix2 t j)
      = cMr (SEL (BitVec.ofNat 32 (4 * (2 * d.val + 1)))) (cMl keep (gT xg xb p)) (ix2 t ⟨h.val * 128 + j.val, by omega⟩) := by
    unfold chB
    rw [show 8 * d.val + 4 = 4 * (2 * d.val + 1) by omega]
    generalize cMr _ _ = z
    refine congrArg z ?_
    funext a
    refine Fin.ext ?_
    fin_cases a
    · show 0 + t.val = t.val
      omega
    · rfl
  rw [e, cMr_at _ _ t (l128 (laneF d h)) _ (fun s => ?_), bc_at keep K hK,
    sp3_of_ne_top (ne_top_of_le_zero (bS_le K _ (lfS_le _ _ _) t))]
  refine (SEL_at ⟨2 * d.val + 1, by omega⟩ h s j).trans ?_
  congr 2
  refine Fin.ext ?_
  show 4 * (2 * d.val + 1) + h.val = 8 * d.val + 4 + h.val
  omega

theorem chBr_at (s : Fin 128) : chBr keep (gT xg xb p) d h (ix2 0 s) = bS K (lfS (pre xg xb p) d h) s := by
  rw [← bc_at keep K hK xg xb p d h s]
  unfold chBr
  generalize cMl _ _ = z
  have e2 : ∀ (i : Fin 16) (hi), extractStridedSlice S1x128 ![i.val, 0] (transpose S128x128 [1, 0] z transposes_S128x128_p1_0_S128x128) hi (ix2 0 s) = z (ix2 s (l128 i)) := by
    intro i hi
    have e3 : ∀ y : FVec Ideal S128x128 .f32, extractStridedSlice S1x128 ![i.val, 0] y hi (ix2 0 s) = y (ix2 (l128 i) s) := by
      intro y
      refine congrArg y ?_
      funext a
      refine Fin.ext ?_
      fin_cases a
      · rfl
      · show 0 + s.val = s.val
        omega
    rw [e3]
    pointwise
  exact e2 _ _

omit hK

theorem chL_at (t j : Fin 128) : chL (gT xg xb p) d h (ix2 t j) = sp3 (liS (pre xg xb p) d h t) := by
  have e : chL (gT xg xb p) d h (ix2 t j)
      = cMr (SEL (BitVec.ofNat 32 (4 * (2 * d.val)))) (gT xg xb p) (ix2 t ⟨h.val * 128 + j.val, by omega⟩) := by
    unfold chL
    rw [show 8 * d.val = 4 * (2 * d.val) by omega]
    generalize cMr _ _ = z
    refine congrArg z ?_
    funext a
    refine Fin.ext ?_
    fin_cases a
    · show 0 + t.val = t.val
      omega
    · rfl
  rw [e, cMr_at _ _ t (l128 (laneI d h)) _ (fun s => ?_), gT_I]
  refine (SEL_at ⟨2 * d.val, by omega⟩ h s j).trans ?_
  congr 2
  refine Fin.ext ?_
  show 4 * (2 * d.val) + h.val = 8 * d.val + h.val
  omega

theorem chLr_at (s : Fin 128) : chLr (gT xg xb p) d h (ix2 0 s) = liS (pre xg xb p) d h s := by
  rw [← gT_I xg xb p d h s]
  unfold chLr
  generalize gT _ _ _ = z
  have e2 : ∀ (i : Fin 16) (hi), extractStridedSlice S1x128 ![i.val, 0] (transpose S128x128 [1, 0] z transposes_S128x128_p1_0_S128x128) hi (ix2 0 s) = z (ix2 s (l128 i)) := by
    intro i hi
    have e3 : ∀ y : FVec Ideal S128x128 .f32, extractStridedSlice S1x128 ![i.val, 0] y hi (ix2 0 s) = y (ix2 (l128 i) s) := by
      intro y
      refine congrArg y ?_
      funext a
      refine Fin.ext ?_
      fin_cases a
      · rfl
      · show 0 + s.val = s.val
        omega
    rw [e3]
    pointwise
  exact e2 _ _

include hK

variable (xq xk xv : Vec Ideal S2x128x512 .f32) (mr nr : FVec Ideal S1x128 .f32) (ct : FVec Ideal S1x128x128 .f32) (mm : EReal)
  (hm : ∀ j, mr (ix2 0 j) = mm)

/-- The column of head `h`. -/
def cl (h : Fin 4) (j : Fin 128) : Fin 512 := ⟨h.val * 128 + j.val, by omega⟩

def scl : EReal := Ideal.ofBits .f32 0x3DB504F3#32

omit hK in
theorem ldT_at (x : Vec Ideal S2x128x512 .f32) (t j : Fin 128) : ldT x p h (ix3 0 t j) = x (ix3 p t (cl h j)) := by
  unfold ldT
  refine congrArg x ?_
  funext a
  refine Fin.ext ?_
  fin_cases a
  · show p.val + 1 * 0 = p.val
    omega
  · show 0 + 1 * t.val = t.val
    omega
  · show h.val * 128 + 1 * j.val = h.val * 128 + j.val
    omega

include hm

theorem tH_val (t j : Fin 128) : tH d keep xq xk xv xg xb mr nr ct p h (ix3 0 t j)
    = hS K (bS K (lfS (pre xg xb p) d h)) (liS (pre xg xb p) d h) mm (fun t e => xq (ix3 p t (cl h e)))
        (fun s e => xk (ix3 p s (cl h e)) * scl) (fun s e => xv (ix3 p s (cl h e)))
        (fun d e => ct (ix3 0 e d)) (fun e => nr (ix2 0 e)) t j := by
  unfold tH
  rw [cH_val keep K hK _ _ _ mr nr _ _ _ ct _ _ mm (chB_at keep K hK xg xb p d h) (chBr_at keep K hK xg xb p d h)
    (chLr_at xg xb p d h) hm]
  simp only [ldT_at]
  rfl

variable (re : FVec Ideal S128x128 .f32 → FVec Ideal S1x128 .f32) (te : Fin 128) (hre : ∀ x j, re x (ix2 0 j) = x (ix2 te j))
  (hte : ∀ s, K te s = true)

include hre

theorem tM_val (j : Fin 128) : tM d keep re xg xb mr p h (ix2 0 j)
    = mS K (bS K (lfS (pre xg xb p) d h)) (liS (pre xg xb p) d h) mm te := by
  unfold tM
  exact cMt_val keep K hK _ _ _ mr _ _ mm (chB_at keep K hK xg xb p d h) (chBr_at keep K hK xg xb p d h)
    (chLr_at xg xb p d h) hm re te hre j

include hte

theorem tC_val (e j : Fin 128) : tC d keep re xk xv xg xb mr ct p h (ix3 0 e j)
    = CS K (bS K (lfS (pre xg xb p) d h)) (liS (pre xg xb p) d h) mm
        (fun s e => xk (ix3 p s (cl h e)) * scl) (fun s e => xv (ix3 p s (cl h e)))
        (fun d e => ct (ix3 0 e d)) te j e := by
  unfold tC
  rw [cCt_val keep K hK _ _ _ _ mr _ _ ct _ _ mm (chB_at keep K hK xg xb p d h) (chBr_at keep K hK xg xb p d h)
    (chLr_at xg xb p d h) hm re te hre hte (chL_at xg xb p d h)]
  simp only [ldT_at]
  rfl

theorem tN_val (e : Fin 128) : tN d keep re xk xg xb mr nr p h (ix2 0 e)
    = nS K (bS K (lfS (pre xg xb p) d h)) (liS (pre xg xb p) d h) mm
        (fun s e => xk (ix3 p s (cl h e)) * scl) (fun e => nr (ix2 0 e)) te e := by
  unfold tN
  rw [cNt_val keep K hK _ _ _ _ mr nr _ _ _ mm (chB_at keep K hK xg xb p d h) (chBr_at keep K hK xg xb p d h)
    (chLr_at xg xb p d h) hm re te hre hte (chL_at xg xb p d h)]
  simp only [ldT_at]
  rfl

end

theorem reF_at (x : FVec Ideal S128x128 .f32) (j : Fin 128) : reF x (ix2 0 j) = x (ix2 127 j) := by
  pointwise [reF]

theorem reB_at (x : FVec Ideal S128x128 .f32) (j : Fin 128) : reB x (ix2 0 j) = x (ix2 0 j) := by
  pointwise [reB]

theorem rowA_at (x : Vec Ideal S2x8x128 .f32) (p d : Fin 2) (h : Fin 4) (j : Fin 128) :
    rowA x p d h (ix2 0 j) = x (ix3 p (ix8 d h) j) := rfl

theorem ctA_at (x : Vec Ideal S2x8x128x128 .f32) (p d : Fin 2) (h : Fin 4) (e j : Fin 128) :
    ctA x p d h (ix3 0 e j) = x (ix4 p (ix8 d h) j e) := by
  unfold ctA
  have e2 : ∀ z : FVec Ideal S1x1x128x128 .f32, shapeCast S1x128x128 (transpose S128x128 [1, 0] (shapeCast S128x128
      z shapeCasts_S1x1x128x128_S128x128) transposes_S128x128_p1_0_S128x128) shapeCasts_S128x128_S1x128x128 (ix3 0 e j) = z (ix4 0 0 j e) := by
    intro z
    pointwise
  refine (e2 _).trans ?_
  refine congrArg x ?_
  funext a
  refine Fin.ext ?_
  fin_cases a
  · show p.val + 1 * 0 = p.val
    omega
  · show (ix8 d h).val + 1 * 0 = (ix8 d h).val
    omega
  · show 0 + 1 * j.val = j.val
    omega
  · show 0 + 1 * e.val = e.val
    omega

theorem rowB_at (x : Vec Ideal S16x128 .f32) (p d : Fin 2) (h : Fin 4) (j : Fin 128) :
    rowB x p d h (ix2 0 j) = x (ix2 (ix16 p d h) j) := by
  unfold rowB
  refine congrArg x ?_
  funext a
  refine Fin.ext ?_
  fin_cases a
  · show (ix16 p d h).val + 1 * 0 = (ix16 p d h).val
    omega
  · show 0 + 1 * j.val = j.val
    omega

theorem ctB_at (x : Vec Ideal S16x128x128 .f32) (p d : Fin 2) (h : Fin 4) (e j : Fin 128) :
    ctB x p d h (ix3 0 e j) = x (ix3 (ix16 p d h) e j) := by
  unfold ctB
  refine congrArg x ?_
  funext a
  refine Fin.ext ?_
  fin_cases a
  · show (ix16 p d h).val + 1 * 0 = (ix16 p d h).val
    omega
  · show 0 + 1 * e.val = e.val
    omega
  · show 0 + 1 * j.val = j.val
    omega

end Cert.MlstmIdeal.Read
-- ==== Proof.MlstmGoal.lean ====
module

public import proofs.«01_k».proof.Proof.MlstmTileVal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Chunk

open Cert.MlstmIdeal.Read (lo up scl)

variable (z : Fin 16 → Fin 256 → Fin 3856 → EReal) (bg : Fin 4 → Fin 4 → EReal)

/-- The row of the sequence that is row `s` of direction `d`'s chunk `c`: the second direction takes the chunks from the end. -/
def row (d c : Fin 2) (s : Fin 128) : Fin 256 := ⟨(c.val + d.val) % 2 * 128 + s.val, by omega⟩

/-- Which earlier rows of a chunk a row sees. -/
def KK (d : Fin 2) : Fin 128 → Fin 128 → Bool := ![lo, up] d

/-- The row a direction leaves a chunk by. -/
def TE (d : Fin 2) : Fin 128 := ![127, 0] d

/-- The input gates. -/
def gI (B : Fin 16) (d : Fin 2) (h : Fin 4) (c : Fin 2) (s : Fin 128) : EReal :=
  z B (row d c s) ⟨2048 + (8 * d.val + h.val), by omega⟩ + bg ⟨2 * d.val, by omega⟩ h

/-- The forget gates, logarithm of the sigmoid. -/
def gF (B : Fin 16) (d : Fin 2) (h : Fin 4) (c : Fin 2) (s : Fin 128) : EReal :=
  lsig (z B (row d c s) ⟨2048 + (8 * d.val + 4 + h.val), by omega⟩ + bg ⟨2 * d.val + 1, by omega⟩ h)

/-- Their running sum. -/
def gB (B : Fin 16) (d : Fin 2) (h : Fin 4) (c : Fin 2) : Fin 128 → EReal := bS (KK d) (gF z bg B d h c)

/-- The queries. -/
def xQ (B : Fin 16) (d : Fin 2) (h : Fin 4) (c : Fin 2) (s e : Fin 128) : EReal :=
  z B (row d c s) ⟨h.val * 128 + e.val, by omega⟩

/-- The scaled keys. -/
def xK (B : Fin 16) (d : Fin 2) (h : Fin 4) (c : Fin 2) (s e : Fin 128) : EReal :=
  z B (row d c s) ⟨512 + (h.val * 128 + e.val), by omega⟩ * scl

/-- The values. -/
def xV (B : Fin 16) (d : Fin 2) (h : Fin 4) (c : Fin 2) (s e : Fin 128) : EReal :=
  z B (row d c s) ⟨1024 + (h.val * 128 + e.val), by omega⟩

/-- The stabilizer after the first chunk. -/
def M1 (B : Fin 16) (d : Fin 2) (h : Fin 4) : EReal := mS (KK d) (gB z bg B d h 0) (gI z bg B d h 0) 0 (TE d)

/-- The matrix state after the first chunk. -/
def C1 (B : Fin 16) (d : Fin 2) (h : Fin 4) (a e : Fin 128) : EReal :=
  CS (KK d) (gB z bg B d h 0) (gI z bg B d h 0) 0 (xK z B d h 0) (xV z B d h 0) (fun _ _ => 0) (TE d) a e

/-- The normalizer after the first chunk. -/
def N1 (B : Fin 16) (d : Fin 2) (h : Fin 4) (e : Fin 128) : EReal :=
  nS (KK d) (gB z bg B d h 0) (gI z bg B d h 0) 0 (xK z B d h 0) (fun _ => 0) (TE d) e

/-- The stabilizer after both chunks. -/
def M2 (B : Fin 16) (d : Fin 2) (h : Fin 4) : EReal :=
  mS (KK d) (gB z bg B d h 1) (gI z bg B d h 1) (M1 z bg B d h) (TE d)

/-- The matrix state after both chunks. -/
def C2 (B : Fin 16) (d : Fin 2) (h : Fin 4) (a e : Fin 128) : EReal :=
  CS (KK d) (gB z bg B d h 1) (gI z bg B d h 1) (M1 z bg B d h) (xK z B d h 1) (xV z B d h 1) (C1 z bg B d h) (TE d) a e

/-- The normalizer after both chunks. -/
def N2 (B : Fin 16) (d : Fin 2) (h : Fin 4) (e : Fin 128) : EReal :=
  nS (KK d) (gB z bg B d h 1) (gI z bg B d h 1) (M1 z bg B d h) (xK z B d h 1) (N1 z bg B d h) (TE d) e

/-- The hidden rows of the first chunk. -/
def H0 (B : Fin 16) (d : Fin 2) (h : Fin 4) (t j : Fin 128) : EReal :=
  hS (KK d) (gB z bg B d h 0) (gI z bg B d h 0) 0 (xQ z B d h 0) (xK z B d h 0) (xV z B d h 0) (fun _ _ => 0) (fun _ => 0) t j

/-- The hidden rows of the second chunk. -/
def H1 (B : Fin 16) (d : Fin 2) (h : Fin 4) (t j : Fin 128) : EReal :=
  hS (KK d) (gB z bg B d h 1) (gI z bg B d h 1) (M1 z bg B d h) (xQ z B d h 1) (xK z B d h 1) (xV z B d h 1)
    (C1 z bg B d h) (N1 z bg B d h) t j

end Cert.Chunk
-- ==== Proof.MlstmBridge.lean ====
module

public import proofs.«01_k».proof.Proof.MlstmGoal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmIdeal.Read

open Cert.MlstmIdeal Cert.MlstmIdeal.Gen Cert.Chunk

/-! The chains of a point over the projection's columns. -/

theorem keep_at (d : Fin 2) (t s : Fin 128) : (![KL, KU] d) (ix2 t s) = if KK d t s then 1#1 else 0#1 :=
  match d with
  | 0 => KL_at t s
  | 1 => KU_at t s

theorem end_at (d : Fin 2) (x : FVec Ideal S128x128 .f32) (j : Fin 128) : (![reF, reB] d) x (ix2 0 j) = x (ix2 (TE d) j) :=
  match d with
  | 0 => reF_at x j
  | 1 => reB_at x j

theorem end_all (d : Fin 2) (s : Fin 128) : KK d (TE d) s = true :=
  match d with
  | 0 => by
    show decide (s ≤ 127) = true
    exact decide_eq_true (Fin.le_def.mpr (by show s.val ≤ 127; omega))
  | 1 => by
    show decide (0 ≤ s) = true
    exact decide_eq_true (Fin.le_def.mpr (Nat.zero_le _))

/-- What a direction's blocks hold: the gates' columns, their bias, and the columns of one of the three operands. -/
def HG (z : Fin 16 → Fin 256 → Fin 3856 → EReal) (B : Fin 16) (c d p : Fin 2) (xg : Vec Ideal S2x128x128 .f32) : Prop :=
  ∀ (s : Fin 128) (i : Fin 16), xg (ix3 p s (l128 i)) = z B (row d c s) ⟨2048 + i.val, by omega⟩
def HB (b : Fin 4 → Fin 4 → EReal) (xb : Vec Ideal S1x128 .f32) : Prop :=
  ∀ i : Fin 16, xb (ix2 0 (l128 i)) = b ⟨i.val / 4, by omega⟩ ⟨i.val % 4, by omega⟩
def HX (z : Fin 16 → Fin 256 → Fin 3856 → EReal) (B : Fin 16) (c d p : Fin 2) (o : Fin 3) (x : Vec Ideal S2x128x512 .f32) : Prop :=
  ∀ (s : Fin 128) (l : Fin 512), x (ix3 p s l) = z B (row d c s) ⟨512 * o.val + l.val, by omega⟩

section

variable (z : Fin 16 → Fin 256 → Fin 3856 → EReal) (b : Fin 4 → Fin 4 → EReal) (B : Fin 16) (c d : Fin 2) (h : Fin 4) (p : Fin 2)
variable (xg : Vec Ideal S2x128x128 .f32) (xb : Vec Ideal S1x128 .f32) (xq xk xv : Vec Ideal S2x128x512 .f32)
variable (mr nr : FVec Ideal S1x128 .f32) (st : FVec Ideal S1x128x128 .f32) (M : EReal) (N : Fin 128 → EReal) (C : Fin 128 → Fin 128 → EReal)
variable (hg : HG z B c d p xg) (hb : HB b xb) (hq : HX z B c d p 0 xq) (hk : HX z B c d p 1 xk) (hv : HX z B c d p 2 xv)
variable (hM : ∀ j, mr (ix2 0 j) = M) (hN : ∀ e, nr (ix2 0 e) = N e) (hC : ∀ a e, st (ix3 0 e a) = C a e)

include hg hb

theorem li_g : liS (pre xg xb p) d h = gI z b B d h c := by
  funext s
  show xg (ix3 p s (l128 (laneI d h))) + xb (ix2 0 (l128 (laneI d h))) = _
  rw [hg s (laneI d h), hb (laneI d h)]
  unfold gI
  have e1 : (⟨(laneI d h).val / 4, by omega⟩ : Fin 4) = ⟨2 * d.val, by omega⟩ := Fin.ext (by
    show (8 * d.val + h.val) / 4 = 2 * d.val
    omega)
  have e2 : (⟨(laneI d h).val % 4, by omega⟩ : Fin 4) = h := Fin.ext (by
    show (8 * d.val + h.val) % 4 = h.val
    omega)
  rw [e1, e2]
  rfl

theorem lf_g : lfS (pre xg xb p) d h = gF z b B d h c := by
  funext s
  show lsig (xg (ix3 p s (l128 (laneF d h))) + xb (ix2 0 (l128 (laneF d h)))) = _
  rw [hg s (laneF d h), hb (laneF d h)]
  unfold gF
  have e1 : (⟨(laneF d h).val / 4, by omega⟩ : Fin 4) = ⟨2 * d.val + 1, by omega⟩ := Fin.ext (by
    show (8 * d.val + 4 + h.val) / 4 = 2 * d.val + 1
    omega)
  have e2 : (⟨(laneF d h).val % 4, by omega⟩ : Fin 4) = h := Fin.ext (by
    show (8 * d.val + 4 + h.val) % 4 = h.val
    omega)
  rw [e1, e2]
  rfl

omit hg hb

include hq in
theorem xq_g : (fun t e => xq (ix3 p t (cl h e))) = xQ z B d h c := by
  funext s e
  rw [hq s (cl h e)]
  unfold xQ
  exact congrArg (z B (row d c s)) (Fin.ext (by show 512 * 0 + (h.val * 128 + e.val) = h.val * 128 + e.val; omega))

include hk in
theorem xk_g : (fun s e => xk (ix3 p s (cl h e)) * scl) = xK z B d h c := by
  funext s e
  rw [hk s (cl h e)]
  rfl

include hv in
theorem xv_g : (fun s e => xv (ix3 p s (cl h e))) = xV z B d h c := by
  funext s e
  rw [hv s (cl h e)]
  rfl

include hg hb hM

theorem tM_g (j : Fin 128) : tM d (![KL, KU] d) (![reF, reB] d) xg xb mr p h (ix2 0 j)
    = mS (KK d) (gB z b B d h c) (gI z b B d h c) M (TE d) := by
  rw [tM_val (![KL, KU] d) (KK d) (keep_at d) xg xb p d h mr M hM (![reF, reB] d) (TE d) (end_at d) j,
    li_g z b B c d h p xg xb hg hb, lf_g z b B c d h p xg xb hg hb]
  rfl

include hk hN in
theorem tN_g (e : Fin 128) : tN d (![KL, KU] d) (![reF, reB] d) xk xg xb mr nr p h (ix2 0 e)
    = nS (KK d) (gB z b B d h c) (gI z b B d h c) M (xK z B d h c) N (TE d) e := by
  rw [tN_val (![KL, KU] d) (KK d) (keep_at d) xg xb p d h xk mr nr M hM (![reF, reB] d) (TE d) (end_at d) (end_all d) e,
    li_g z b B c d h p xg xb hg hb, lf_g z b B c d h p xg xb hg hb, xk_g z B c d h p xk hk, funext hN]
  rfl

include hk hv hC in
theorem tC_g (e j : Fin 128) : tC d (![KL, KU] d) (![reF, reB] d) xk xv xg xb mr st p h (ix3 0 e j)
    = CS (KK d) (gB z b B d h c) (gI z b B d h c) M (xK z B d h c) (xV z B d h c) C (TE d) j e := by
  rw [tC_val (![KL, KU] d) (KK d) (keep_at d) xg xb p d h xk xv mr st M hM (![reF, reB] d) (TE d) (end_at d) (end_all d) e j,
    li_g z b B c d h p xg xb hg hb, lf_g z b B c d h p xg xb hg hb, xk_g z B c d h p xk hk, xv_g z B c d h p xv hv,
    funext fun a => funext (hC a)]
  rfl

include hq hk hv hC hN in
theorem tH_g (keep : IVec S128x128 1) (hK : ∀ t s, keep (ix2 t s) = if KK d t s then 1#1 else 0#1) (t j : Fin 128) : tH d keep xq xk xv xg xb mr nr st p h (ix3 0 t j)
    = hS (KK d) (gB z b B d h c) (gI z b B d h c) M (xQ z B d h c) (xK z B d h c) (xV z B d h c) C N t j := by
  rw [tH_val keep (KK d) hK xg xb p d h xq xk xv mr nr st M hM t j,
    li_g z b B c d h p xg xb hg hb, lf_g z b B c d h p xg xb hg hb, xq_g z B c d h p xq hq, xk_g z B c d h p xk hk, xv_g z B c d h p xv hv,
    funext fun a => funext (hC a), funext hN]
  rfl

end

end Cert.MlstmIdeal.Read
-- ==== Proof.MlstmRead.lean ====
module

public import proofs.«01_k».proof.Proof.Gen.MlstmIdeal.Value
public import proofs.«01_k».proof.Proof.MlstmGoal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmIdeal.Read

open Cert.MlstmIdeal Cert.MlstmIdeal.Gen Cert.Chunk

variable (m : (ℓ : Loc nD τ sig) → Buf (Elt Ideal) ℓ)

theorem idx : ∀ t : Fin cfg0.N, win0_0.index t = ![t.val / 2, t.val % 2, 0]
    ∧ win0_1.index t = ![t.val / 2, t.val % 2, 1]
    ∧ win0_2.index t = ![t.val / 2, t.val % 2, 2]
    ∧ win0_3.index t = ![t.val / 2, t.val % 2, 30]
    ∧ win0_4.index t = ![t.val / 2, 1 - t.val % 2, 0]
    ∧ win0_5.index t = ![t.val / 2, 1 - t.val % 2, 1]
    ∧ win0_6.index t = ![t.val / 2, 1 - t.val % 2, 2]
    ∧ win0_7.index t = ![t.val / 2, 1 - t.val % 2, 30]
    ∧ win0_8.index t = ![0, 0]
    ∧ win0_9.index t = ![t.val / 2, 0, 0, 0]
    ∧ win0_10.index t = ![t.val / 2, 0, 0]
    ∧ win0_11.index t = ![t.val / 2, 0, 0]
    ∧ win0_12.index t = ![t.val / 2, t.val % 2, 0]
    ∧ win0_13.index t = ![t.val / 2, 1 - t.val % 2, 0]
    ∧ win0_14.index t = ![t.val / 2, 0, 0, 0]
    ∧ win0_15.index t = ![t.val / 2, 0, 0]
    ∧ win0_16.index t = ![t.val / 2, 0, 0] :=
  (by decide +kernel : ∀ t : Fin grid0.N, _)

/-- The projection's columns in the kernel's order, padded. -/
def zr (z : FVec Ideal S16x256x3856 .f32) : FVec Ideal S16x256x3968 .f32 :=
  shapeCast S16x256x3968 (concatenate S4096x3968 1 [⟨S4096x2048, extractStridedSlice S4096x2048 ![0, 0] (shapeCast S4096x3856 z shapeCasts_S16x256x3856_S4096x3856) slices_S4096x3856_S4096x2048_0_0⟩,
    ⟨S4096x1792, extractStridedSlice S4096x1792 ![0, 2064] (shapeCast S4096x3856 z shapeCasts_S16x256x3856_S4096x3856) slices_S4096x3856_S4096x1792_0_2064⟩,
    ⟨S4096x16, extractStridedSlice S4096x16 ![0, 2048] (shapeCast S4096x3856 z shapeCasts_S16x256x3856_S4096x3856) slices_S4096x3856_S4096x16_0_2048⟩,
    ⟨S4096x112, broadcastInDim S4096x112 ![] bcast_S_S4096x112 (constant S_ .f32 0x00000000#32)⟩]
    concatenates_S4096x2048_S4096x1792_S4096x16_S4096x112_S4096x3968_d1) shapeCasts_S4096x3968_S16x256x3968

theorem zr_a (z : FVec Ideal S16x256x3856 .f32) (B : Fin 16) (s : Fin 256) (j : Fin 2048) : zr z (ix3 B s ⟨j.val, by omega⟩)
    = z (ix3 B s ⟨j.val, by omega⟩) := by
  pointwise [zr]

theorem zr_g (z : FVec Ideal S16x256x3856 .f32) (B : Fin 16) (s : Fin 256) (j : Fin 16) : zr z (ix3 B s ⟨3840 + j.val, by omega⟩)
    = z (ix3 B s ⟨2048 + j.val, by omega⟩) := by
  pointwise [zr]
  have hj := j.isLt
  rw [dif_neg (by omega), dif_neg (by omega), dif_pos (by omega)]
  refine congrArg z (congrArg (fun l => (ix3 B s l : S16x256x3856.Idx)) (Fin.ext ?_))
  show 2048 + (3840 + j.val - 2048 - 1792) = 2048 + j.val
  omega

/-- The gates' bias as a row, padded. -/
def bs (b : FVec Ideal S4x4 .f32) : FVec Ideal S1x128 .f32 :=
  pad S1x128 ![0, 0] ![0, 112] ![0, 0] (shapeCast S1x16 b shapeCasts_S4x4_S1x16) (sitofp .f32 (constantI S_ 32 0#32)) pads_S1x16_S1x128_000_01120 h_S_

theorem bs_at (b : FVec Ideal S4x4 .f32) (i : Fin 16) : bs b (ix2 0 ⟨i.val, by omega⟩) = b (ix2 ⟨i.val / 4, by omega⟩ ⟨i.val % 4, by omega⟩) := by
  pointwise [bs]

theorem hv11 (c : Dev nD) : (V m c main_v11 : FVec Ideal S16x256x3968 .f32) = zr (m ((c : Thread nD τ).loc main_arg0)) := by
  unfold V
  simp only [List.flatten_cons, List.flatten_nil, List.append_nil, StableHlo.after_append]
  after_results_simp
  rfl

theorem hv1 (c : Dev nD) : (V m c main_v1 : FVec Ideal S1x128 .f32) = bs (m ((c : Thread nD τ).loc main_arg1)) := by
  unfold V
  simp only [List.flatten_cons, List.flatten_nil, List.append_nil, StableHlo.after_append]
  after_results_simp
  rfl

theorem hv2 (c : Dev nD) (B : Fin 16) (i : Fin 8) (a e : Fin 128) : (V m c main_v2 : FVec Ideal S16x8x128x128 .f32) (ix4 B i a e) = (0 : EReal) := by
  unfold V
  simp only [List.flatten_cons, List.flatten_nil, List.append_nil, StableHlo.after_append]
  after_results_simp
  pointwise

theorem hv3 (c : Dev nD) (B : Fin 16) (i : Fin 8) (e : Fin 128) : (V m c main_v3 : FVec Ideal S16x8x128 .f32) (ix3 B i e) = (0 : EReal) := by
  unfold V
  simp only [List.flatten_cons, List.flatten_nil, List.append_nil, StableHlo.after_append]
  after_results_simp
  pointwise

theorem hv4 (c : Dev nD) (B : Fin 16) (i : Fin 8) (e : Fin 128) : (V m c main_v4 : FVec Ideal S16x8x128 .f32) (ix3 B i e) = (0 : EReal) := by
  unfold V
  simp only [List.flatten_cons, List.flatten_nil, List.append_nil, StableHlo.after_append]
  after_results_simp
  pointwise

/-- Point `t`'s sequence in the batch. -/
def bt (t : Fin cfg0.N) (p : Fin 2) : Fin 16 := ⟨t.val / 2 * 2 + p.val, by have ht : t.val < 16 := t.isLt; omega⟩
/-- Point `t`'s chunk. -/
def ct (t : Fin cfg0.N) : Fin 2 := ⟨t.val % 2, by omega⟩

theorem rb0 (X : FVec Ideal S16x256x3968 .f32) (t : Fin cfg0.N) (p : Fin 2) (s : Fin 128) (l : Fin 512) :
    ((cfg0.win 0).fill (cfg0.grid.coords t) (dflt0_0 (F := Ideal)) (View.read (Elt Ideal) ((cfg0.win 0).blk t).view X) : FVec Ideal S2x128x512 .f32) (ix3 p s l) =
      X (ix3 (bt t p) (row 0 (ct t) s) ⟨0 + l.val, by omega⟩) := by
  have ht : t.val < 16 := t.isLt
  have e : win0_0.index t = ![t.val / 2, t.val % 2, 0] := (idx t).1
  have hr : row 0 (ct t) s = ⟨t.val % 2 * 128 + s.val, by omega⟩ := Fin.ext (by
    show (t.val % 2 + 0) % 2 * 128 + s.val = t.val % 2 * 128 + s.val
    omega)
  rw [hr]
  unfold Pipeline.Window.fill
  rw [dif_pos (moved0_0 t _)]
  unfold bt
  blk_ext [e]

theorem rd0 (c : Dev nD) (t : Fin cfg0.N) (p : Fin 2) (s : Fin 128) (l : Fin 512) :
    (X0_0 m c t : FVec Ideal S2x128x512 .f32) (ix3 p s l) = (m ((c : Thread nD τ).loc main_arg0) : FVec Ideal S16x256x3856 .f32) (ix3 (bt t p) (row 0 (ct t) s) ⟨0 + l.val, by omega⟩) :=
  (rb0 (V m c main_v11) t p s l).trans ((congrFun (hv11 m c) _).trans (zr_a _ _ _ ⟨0 + l.val, by omega⟩))

theorem rb1 (X : FVec Ideal S16x256x3968 .f32) (t : Fin cfg0.N) (p : Fin 2) (s : Fin 128) (l : Fin 512) :
    ((cfg0.win 1).fill (cfg0.grid.coords t) (dflt0_1 (F := Ideal)) (View.read (Elt Ideal) ((cfg0.win 1).blk t).view X) : FVec Ideal S2x128x512 .f32) (ix3 p s l) =
      X (ix3 (bt t p) (row 0 (ct t) s) ⟨512 + l.val, by omega⟩) := by
  have ht : t.val < 16 := t.isLt
  have e : win0_1.index t = ![t.val / 2, t.val % 2, 1] := (idx t).2.1
  have hr : row 0 (ct t) s = ⟨t.val % 2 * 128 + s.val, by omega⟩ := Fin.ext (by
    show (t.val % 2 + 0) % 2 * 128 + s.val = t.val % 2 * 128 + s.val
    omega)
  rw [hr]
  unfold Pipeline.Window.fill
  rw [dif_pos (moved0_1 t _)]
  unfold bt
  blk_ext [e]

theorem rd1 (c : Dev nD) (t : Fin cfg0.N) (p : Fin 2) (s : Fin 128) (l : Fin 512) :
    (X0_1 m c t : FVec Ideal S2x128x512 .f32) (ix3 p s l) = (m ((c : Thread nD τ).loc main_arg0) : FVec Ideal S16x256x3856 .f32) (ix3 (bt t p) (row 0 (ct t) s) ⟨512 + l.val, by omega⟩) :=
  (rb1 (V m c main_v11) t p s l).trans ((congrFun (hv11 m c) _).trans (zr_a _ _ _ ⟨512 + l.val, by omega⟩))

theorem rb2 (X : FVec Ideal S16x256x3968 .f32) (t : Fin cfg0.N) (p : Fin 2) (s : Fin 128) (l : Fin 512) :
    ((cfg0.win 2).fill (cfg0.grid.coords t) (dflt0_2 (F := Ideal)) (View.read (Elt Ideal) ((cfg0.win 2).blk t).view X) : FVec Ideal S2x128x512 .f32) (ix3 p s l) =
      X (ix3 (bt t p) (row 0 (ct t) s) ⟨1024 + l.val, by omega⟩) := by
  have ht : t.val < 16 := t.isLt
  have e : win0_2.index t = ![t.val / 2, t.val % 2, 2] := (idx t).2.2.1
  have hr : row 0 (ct t) s = ⟨t.val % 2 * 128 + s.val, by omega⟩ := Fin.ext (by
    show (t.val % 2 + 0) % 2 * 128 + s.val = t.val % 2 * 128 + s.val
    omega)
  rw [hr]
  unfold Pipeline.Window.fill
  rw [dif_pos (moved0_2 t _)]
  unfold bt
  blk_ext [e]

theorem rd2 (c : Dev nD) (t : Fin cfg0.N) (p : Fin 2) (s : Fin 128) (l : Fin 512) :
    (X0_2 m c t : FVec Ideal S2x128x512 .f32) (ix3 p s l) = (m ((c : Thread nD τ).loc main_arg0) : FVec Ideal S16x256x3856 .f32) (ix3 (bt t p) (row 0 (ct t) s) ⟨1024 + l.val, by omega⟩) :=
  (rb2 (V m c main_v11) t p s l).trans ((congrFun (hv11 m c) _).trans (zr_a _ _ _ ⟨1024 + l.val, by omega⟩))

theorem rb4 (X : FVec Ideal S16x256x3968 .f32) (t : Fin cfg0.N) (p : Fin 2) (s : Fin 128) (l : Fin 512) :
    ((cfg0.win 4).fill (cfg0.grid.coords t) (dflt0_4 (F := Ideal)) (View.read (Elt Ideal) ((cfg0.win 4).blk t).view X) : FVec Ideal S2x128x512 .f32) (ix3 p s l) =
      X (ix3 (bt t p) (row 1 (ct t) s) ⟨0 + l.val, by omega⟩) := by
  have ht : t.val < 16 := t.isLt
  have e : win0_4.index t = ![t.val / 2, 1 - t.val % 2, 0] := (idx t).2.2.2.2.1
  have hr : row 1 (ct t) s = ⟨(1 - t.val % 2) * 128 + s.val, by omega⟩ := Fin.ext (by
    show (t.val % 2 + 1) % 2 * 128 + s.val = (1 - t.val % 2) * 128 + s.val
    omega)
  rw [hr]
  unfold Pipeline.Window.fill
  rw [dif_pos (moved0_4 t _)]
  unfold bt
  blk_ext [e]

theorem rd4 (c : Dev nD) (t : Fin cfg0.N) (p : Fin 2) (s : Fin 128) (l : Fin 512) :
    (X0_4 m c t : FVec Ideal S2x128x512 .f32) (ix3 p s l) = (m ((c : Thread nD τ).loc main_arg0) : FVec Ideal S16x256x3856 .f32) (ix3 (bt t p) (row 1 (ct t) s) ⟨0 + l.val, by omega⟩) :=
  (rb4 (V m c main_v11) t p s l).trans ((congrFun (hv11 m c) _).trans (zr_a _ _ _ ⟨0 + l.val, by omega⟩))

theorem rb5 (X : FVec Ideal S16x256x3968 .f32) (t : Fin cfg0.N) (p : Fin 2) (s : Fin 128) (l : Fin 512) :
    ((cfg0.win 5).fill (cfg0.grid.coords t) (dflt0_5 (F := Ideal)) (View.read (Elt Ideal) ((cfg0.win 5).blk t).view X) : FVec Ideal S2x128x512 .f32) (ix3 p s l) =
      X (ix3 (bt t p) (row 1 (ct t) s) ⟨512 + l.val, by omega⟩) := by
  have ht : t.val < 16 := t.isLt
  have e : win0_5.index t = ![t.val / 2, 1 - t.val % 2, 1] := (idx t).2.2.2.2.2.1
  have hr : row 1 (ct t) s = ⟨(1 - t.val % 2) * 128 + s.val, by omega⟩ := Fin.ext (by
    show (t.val % 2 + 1) % 2 * 128 + s.val = (1 - t.val % 2) * 128 + s.val
    omega)
  rw [hr]
  unfold Pipeline.Window.fill
  rw [dif_pos (moved0_5 t _)]
  unfold bt
  blk_ext [e]

theorem rd5 (c : Dev nD) (t : Fin cfg0.N) (p : Fin 2) (s : Fin 128) (l : Fin 512) :
    (X0_5 m c t : FVec Ideal S2x128x512 .f32) (ix3 p s l) = (m ((c : Thread nD τ).loc main_arg0) : FVec Ideal S16x256x3856 .f32) (ix3 (bt t p) (row 1 (ct t) s) ⟨512 + l.val, by omega⟩) :=
  (rb5 (V m c main_v11) t p s l).trans ((congrFun (hv11 m c) _).trans (zr_a _ _ _ ⟨512 + l.val, by omega⟩))

theorem rb6 (X : FVec Ideal S16x256x3968 .f32) (t : Fin cfg0.N) (p : Fin 2) (s : Fin 128) (l : Fin 512) :
    ((cfg0.win 6).fill (cfg0.grid.coords t) (dflt0_6 (F := Ideal)) (View.read (Elt Ideal) ((cfg0.win 6).blk t).view X) : FVec Ideal S2x128x512 .f32) (ix3 p s l) =
      X (ix3 (bt t p) (row 1 (ct t) s) ⟨1024 + l.val, by omega⟩) := by
  have ht : t.val < 16 := t.isLt
  have e : win0_6.index t = ![t.val / 2, 1 - t.val % 2, 2] := (idx t).2.2.2.2.2.2.1
  have hr : row 1 (ct t) s = ⟨(1 - t.val % 2) * 128 + s.val, by omega⟩ := Fin.ext (by
    show (t.val % 2 + 1) % 2 * 128 + s.val = (1 - t.val % 2) * 128 + s.val
    omega)
  rw [hr]
  unfold Pipeline.Window.fill
  rw [dif_pos (moved0_6 t _)]
  unfold bt
  blk_ext [e]

theorem rd6 (c : Dev nD) (t : Fin cfg0.N) (p : Fin 2) (s : Fin 128) (l : Fin 512) :
    (X0_6 m c t : FVec Ideal S2x128x512 .f32) (ix3 p s l) = (m ((c : Thread nD τ).loc main_arg0) : FVec Ideal S16x256x3856 .f32) (ix3 (bt t p) (row 1 (ct t) s) ⟨1024 + l.val, by omega⟩) :=
  (rb6 (V m c main_v11) t p s l).trans ((congrFun (hv11 m c) _).trans (zr_a _ _ _ ⟨1024 + l.val, by omega⟩))

theorem rb3 (X : FVec Ideal S16x256x3968 .f32) (t : Fin cfg0.N) (p : Fin 2) (s : Fin 128) (l : Fin 16) :
    (View.read (Elt Ideal) ((cfg0.win 3).blk t).view X : FVec Ideal S2x128x128 .f32) (ix3 p s (l128 l)) =
      X (ix3 (bt t p) (row 0 (ct t) s) ⟨3840 + l.val, by omega⟩) := by
  have ht : t.val < 16 := t.isLt
  have e : win0_3.index t = ![t.val / 2, t.val % 2, 30] := (idx t).2.2.2.1
  have hr : row 0 (ct t) s = ⟨t.val % 2 * 128 + s.val, by omega⟩ := Fin.ext (by
    show (t.val % 2 + 0) % 2 * 128 + s.val = t.val % 2 * 128 + s.val
    omega)
  rw [hr]
  unfold bt l128
  blk_ext [e]

theorem rd3 (c : Dev nD) (t : Fin cfg0.N) (p : Fin 2) (s : Fin 128) (i : Fin 16) :
    (iblk m c 3 t : FVec Ideal S2x128x128 .f32) (ix3 p s (l128 i)) = (m ((c : Thread nD τ).loc main_arg0) : FVec Ideal S16x256x3856 .f32) (ix3 (bt t p) (row 0 (ct t) s) ⟨2048 + i.val, by omega⟩) :=
  (rb3 (V m c main_v11) t p s i).trans ((congrFun (hv11 m c) _).trans (zr_g _ _ _ i))

theorem rb7 (X : FVec Ideal S16x256x3968 .f32) (t : Fin cfg0.N) (p : Fin 2) (s : Fin 128) (l : Fin 16) :
    (View.read (Elt Ideal) ((cfg0.win 7).blk t).view X : FVec Ideal S2x128x128 .f32) (ix3 p s (l128 l)) =
      X (ix3 (bt t p) (row 1 (ct t) s) ⟨3840 + l.val, by omega⟩) := by
  have ht : t.val < 16 := t.isLt
  have e : win0_7.index t = ![t.val / 2, 1 - t.val % 2, 30] := (idx t).2.2.2.2.2.2.2.1
  have hr : row 1 (ct t) s = ⟨(1 - t.val % 2) * 128 + s.val, by omega⟩ := Fin.ext (by
    show (t.val % 2 + 1) % 2 * 128 + s.val = (1 - t.val % 2) * 128 + s.val
    omega)
  rw [hr]
  unfold bt l128
  blk_ext [e]

theorem rd7 (c : Dev nD) (t : Fin cfg0.N) (p : Fin 2) (s : Fin 128) (i : Fin 16) :
    (iblk m c 7 t : FVec Ideal S2x128x128 .f32) (ix3 p s (l128 i)) = (m ((c : Thread nD τ).loc main_arg0) : FVec Ideal S16x256x3856 .f32) (ix3 (bt t p) (row 1 (ct t) s) ⟨2048 + i.val, by omega⟩) :=
  (rb7 (V m c main_v11) t p s i).trans ((congrFun (hv11 m c) _).trans (zr_g _ _ _ i))

theorem rb8 (X : FVec Ideal S1x128 .f32) (t : Fin cfg0.N) (i : Fin 128) :
    (View.read (Elt Ideal) ((cfg0.win 8).blk t).view X : FVec Ideal S1x128 .f32) (ix2 0 i) = X (ix2 0 i) := by
  have e : win0_8.index t = ![0, 0] := (idx t).2.2.2.2.2.2.2.2.1
  blk_ext [e]

theorem rd8 (c : Dev nD) (t : Fin cfg0.N) (i : Fin 16) :
    (iblk m c 8 t : FVec Ideal S1x128 .f32) (ix2 0 (l128 i)) = (m ((c : Thread nD τ).loc main_arg1) : FVec Ideal S4x4 .f32) (ix2 ⟨i.val / 4, by omega⟩ ⟨i.val % 4, by omega⟩) :=
  (rb8 (V m c main_v1) t (l128 i)).trans ((congrFun (hv1 m c) _).trans (bs_at _ i))

theorem rb9 (X : FVec Ideal S16x8x128x128 .f32) (t : Fin cfg0.N) (p : Fin 2) (i : Fin 8) (a e : Fin 128) :
    (View.read (Elt Ideal) ((cfg0.win 9).blk t).view X : FVec Ideal S2x8x128x128 .f32) (ix4 p i a e) = X (ix4 (bt t p) i a e) := by
  have e : win0_9.index t = ![t.val / 2, 0, 0, 0] := (idx t).2.2.2.2.2.2.2.2.2.1
  unfold bt
  blk_ext [e]

theorem rd9 (c : Dev nD) (t : Fin cfg0.N) (p : Fin 2) (i : Fin 8) (a e : Fin 128) :
    (iblk m c 9 t : FVec Ideal S2x8x128x128 .f32) (ix4 p i a e) = (0 : EReal) :=
  (rb9 (V m c main_v2) t p i a e).trans (hv2 m c (bt t p) i a e)

theorem rb10 (X : FVec Ideal S16x8x128 .f32) (t : Fin cfg0.N) (p : Fin 2) (i : Fin 8) (e : Fin 128) :
    (View.read (Elt Ideal) ((cfg0.win 10).blk t).view X : FVec Ideal S2x8x128 .f32) (ix3 p i e) = X (ix3 (bt t p) i e) := by
  have e : win0_10.index t = ![t.val / 2, 0, 0] := (idx t).2.2.2.2.2.2.2.2.2.2.1
  unfold bt
  blk_ext [e]

theorem rd10 (c : Dev nD) (t : Fin cfg0.N) (p : Fin 2) (i : Fin 8) (e : Fin 128) :
    (iblk m c 10 t : FVec Ideal S2x8x128 .f32) (ix3 p i e) = (0 : EReal) :=
  (rb10 (V m c main_v3) t p i e).trans (hv3 m c (bt t p) i e)

theorem rb11 (X : FVec Ideal S16x8x128 .f32) (t : Fin cfg0.N) (p : Fin 2) (i : Fin 8) (e : Fin 128) :
    (View.read (Elt Ideal) ((cfg0.win 11).blk t).view X : FVec Ideal S2x8x128 .f32) (ix3 p i e) = X (ix3 (bt t p) i e) := by
  have e : win0_11.index t = ![t.val / 2, 0, 0] := (idx t).2.2.2.2.2.2.2.2.2.2.2.1
  unfold bt
  blk_ext [e]

theorem rd11 (c : Dev nD) (t : Fin cfg0.N) (p : Fin 2) (i : Fin 8) (e : Fin 128) :
    (iblk m c 11 t : FVec Ideal S2x8x128 .f32) (ix3 p i e) = (0 : EReal) :=
  (rb11 (V m c main_v4) t p i e).trans (hv4 m c (bt t p) i e)

end Cert.MlstmIdeal.Read
-- ==== Proof.MlstmOut.lean ====
module

public import proofs.«01_k».proof.Proof.MlstmTile
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmIdeal.Read

open Cert.MlstmIdeal Cert.MlstmIdeal.Gen Cert.Chunk

/-! What a point leaves, tile by tile. -/

def hd (a : Fin 512) : Fin 4 := ⟨a.val / 128, by omega⟩
def ln (a : Fin 512) : Fin 128 := ⟨a.val % 128, Nat.mod_lt _ (by decide)⟩

section

variable {κ : Kind} {sp : Space} (v : View sig κ sp S16x128 .f32) (x : Vec Ideal S2x8x128 .f32) (L : List (View.Piece (Elt Ideal) S16x128 .f32))

theorem rdA_0 : v.readCov (⟨Rect.unit (s := S16x128) ![0, 0] ![8, 128] inb_S16x128_S8x128_0_0, shapeCast S8x128 (shapeCast (s := S1x8x128) S8x128 (View.ld x (Rect.unit (s := S2x8x128) ![0, 0, 0] ![1, 8, 128] inb_S2x8x128_S1x8x128_0_0_0)) shapeCasts_S1x8x128_S8x128) shapeCasts_S8x128_S8x128⟩ :: L)
      (Rect.unit (s := S16x128) ![0, 0] ![1, 128] inb_S16x128_S1x128_0_0).toLoadRect = rowA x 0 0 0 :=
  rdA v x 0 0 0 L _ _ _ _ _ _ _ _ rfl rfl rfl

theorem rdA_1 : v.readCov (⟨Rect.unit (s := S16x128) ![0, 0] ![8, 128] inb_S16x128_S8x128_0_0, shapeCast S8x128 (shapeCast (s := S1x8x128) S8x128 (View.ld x (Rect.unit (s := S2x8x128) ![0, 0, 0] ![1, 8, 128] inb_S2x8x128_S1x8x128_0_0_0)) shapeCasts_S1x8x128_S8x128) shapeCasts_S8x128_S8x128⟩ :: L)
      (Rect.unit (s := S16x128) ![1, 0] ![1, 128] inb_S16x128_S1x128_1_0).toLoadRect = rowA x 0 0 1 :=
  rdA v x 0 0 1 L _ _ _ _ _ _ _ _ rfl rfl rfl

theorem rdA_2 : v.readCov (⟨Rect.unit (s := S16x128) ![0, 0] ![8, 128] inb_S16x128_S8x128_0_0, shapeCast S8x128 (shapeCast (s := S1x8x128) S8x128 (View.ld x (Rect.unit (s := S2x8x128) ![0, 0, 0] ![1, 8, 128] inb_S2x8x128_S1x8x128_0_0_0)) shapeCasts_S1x8x128_S8x128) shapeCasts_S8x128_S8x128⟩ :: L)
      (Rect.unit (s := S16x128) ![2, 0] ![1, 128] inb_S16x128_S1x128_2_0).toLoadRect = rowA x 0 0 2 :=
  rdA v x 0 0 2 L _ _ _ _ _ _ _ _ rfl rfl rfl

theorem rdA_3 : v.readCov (⟨Rect.unit (s := S16x128) ![0, 0] ![8, 128] inb_S16x128_S8x128_0_0, shapeCast S8x128 (shapeCast (s := S1x8x128) S8x128 (View.ld x (Rect.unit (s := S2x8x128) ![0, 0, 0] ![1, 8, 128] inb_S2x8x128_S1x8x128_0_0_0)) shapeCasts_S1x8x128_S8x128) shapeCasts_S8x128_S8x128⟩ :: L)
      (Rect.unit (s := S16x128) ![3, 0] ![1, 128] inb_S16x128_S1x128_3_0).toLoadRect = rowA x 0 0 3 :=
  rdA v x 0 0 3 L _ _ _ _ _ _ _ _ rfl rfl rfl

theorem rdA_4 : v.readCov (⟨Rect.unit (s := S16x128) ![0, 0] ![8, 128] inb_S16x128_S8x128_0_0, shapeCast S8x128 (shapeCast (s := S1x8x128) S8x128 (View.ld x (Rect.unit (s := S2x8x128) ![0, 0, 0] ![1, 8, 128] inb_S2x8x128_S1x8x128_0_0_0)) shapeCasts_S1x8x128_S8x128) shapeCasts_S8x128_S8x128⟩ :: L)
      (Rect.unit (s := S16x128) ![4, 0] ![1, 128] inb_S16x128_S1x128_4_0).toLoadRect = rowA x 0 1 0 :=
  rdA v x 0 1 0 L _ _ _ _ _ _ _ _ rfl rfl rfl

theorem rdA_5 : v.readCov (⟨Rect.unit (s := S16x128) ![0, 0] ![8, 128] inb_S16x128_S8x128_0_0, shapeCast S8x128 (shapeCast (s := S1x8x128) S8x128 (View.ld x (Rect.unit (s := S2x8x128) ![0, 0, 0] ![1, 8, 128] inb_S2x8x128_S1x8x128_0_0_0)) shapeCasts_S1x8x128_S8x128) shapeCasts_S8x128_S8x128⟩ :: L)
      (Rect.unit (s := S16x128) ![5, 0] ![1, 128] inb_S16x128_S1x128_5_0).toLoadRect = rowA x 0 1 1 :=
  rdA v x 0 1 1 L _ _ _ _ _ _ _ _ rfl rfl rfl

theorem rdA_6 : v.readCov (⟨Rect.unit (s := S16x128) ![0, 0] ![8, 128] inb_S16x128_S8x128_0_0, shapeCast S8x128 (shapeCast (s := S1x8x128) S8x128 (View.ld x (Rect.unit (s := S2x8x128) ![0, 0, 0] ![1, 8, 128] inb_S2x8x128_S1x8x128_0_0_0)) shapeCasts_S1x8x128_S8x128) shapeCasts_S8x128_S8x128⟩ :: L)
      (Rect.unit (s := S16x128) ![6, 0] ![1, 128] inb_S16x128_S1x128_6_0).toLoadRect = rowA x 0 1 2 :=
  rdA v x 0 1 2 L _ _ _ _ _ _ _ _ rfl rfl rfl

theorem rdA_7 : v.readCov (⟨Rect.unit (s := S16x128) ![0, 0] ![8, 128] inb_S16x128_S8x128_0_0, shapeCast S8x128 (shapeCast (s := S1x8x128) S8x128 (View.ld x (Rect.unit (s := S2x8x128) ![0, 0, 0] ![1, 8, 128] inb_S2x8x128_S1x8x128_0_0_0)) shapeCasts_S1x8x128_S8x128) shapeCasts_S8x128_S8x128⟩ :: L)
      (Rect.unit (s := S16x128) ![7, 0] ![1, 128] inb_S16x128_S1x128_7_0).toLoadRect = rowA x 0 1 3 :=
  rdA v x 0 1 3 L _ _ _ _ _ _ _ _ rfl rfl rfl

theorem rdA_8 : v.readCov (⟨Rect.unit (s := S16x128) ![8, 0] ![8, 128] inb_S16x128_S8x128_8_0, shapeCast S8x128 (shapeCast (s := S1x8x128) S8x128 (View.ld x (Rect.unit (s := S2x8x128) ![1, 0, 0] ![1, 8, 128] inb_S2x8x128_S1x8x128_1_0_0)) shapeCasts_S1x8x128_S8x128) shapeCasts_S8x128_S8x128⟩ :: L)
      (Rect.unit (s := S16x128) ![8, 0] ![1, 128] inb_S16x128_S1x128_8_0).toLoadRect = rowA x 1 0 0 :=
  rdA v x 1 0 0 L _ _ _ _ _ _ _ _ rfl rfl rfl

theorem rdA_9 : v.readCov (⟨Rect.unit (s := S16x128) ![8, 0] ![8, 128] inb_S16x128_S8x128_8_0, shapeCast S8x128 (shapeCast (s := S1x8x128) S8x128 (View.ld x (Rect.unit (s := S2x8x128) ![1, 0, 0] ![1, 8, 128] inb_S2x8x128_S1x8x128_1_0_0)) shapeCasts_S1x8x128_S8x128) shapeCasts_S8x128_S8x128⟩ :: L)
      (Rect.unit (s := S16x128) ![9, 0] ![1, 128] inb_S16x128_S1x128_9_0).toLoadRect = rowA x 1 0 1 :=
  rdA v x 1 0 1 L _ _ _ _ _ _ _ _ rfl rfl rfl

theorem rdA_10 : v.readCov (⟨Rect.unit (s := S16x128) ![8, 0] ![8, 128] inb_S16x128_S8x128_8_0, shapeCast S8x128 (shapeCast (s := S1x8x128) S8x128 (View.ld x (Rect.unit (s := S2x8x128) ![1, 0, 0] ![1, 8, 128] inb_S2x8x128_S1x8x128_1_0_0)) shapeCasts_S1x8x128_S8x128) shapeCasts_S8x128_S8x128⟩ :: L)
      (Rect.unit (s := S16x128) ![10, 0] ![1, 128] inb_S16x128_S1x128_10_0).toLoadRect = rowA x 1 0 2 :=
  rdA v x 1 0 2 L _ _ _ _ _ _ _ _ rfl rfl rfl

theorem rdA_11 : v.readCov (⟨Rect.unit (s := S16x128) ![8, 0] ![8, 128] inb_S16x128_S8x128_8_0, shapeCast S8x128 (shapeCast (s := S1x8x128) S8x128 (View.ld x (Rect.unit (s := S2x8x128) ![1, 0, 0] ![1, 8, 128] inb_S2x8x128_S1x8x128_1_0_0)) shapeCasts_S1x8x128_S8x128) shapeCasts_S8x128_S8x128⟩ :: L)
      (Rect.unit (s := S16x128) ![11, 0] ![1, 128] inb_S16x128_S1x128_11_0).toLoadRect = rowA x 1 0 3 :=
  rdA v x 1 0 3 L _ _ _ _ _ _ _ _ rfl rfl rfl

theorem rdA_12 : v.readCov (⟨Rect.unit (s := S16x128) ![8, 0] ![8, 128] inb_S16x128_S8x128_8_0, shapeCast S8x128 (shapeCast (s := S1x8x128) S8x128 (View.ld x (Rect.unit (s := S2x8x128) ![1, 0, 0] ![1, 8, 128] inb_S2x8x128_S1x8x128_1_0_0)) shapeCasts_S1x8x128_S8x128) shapeCasts_S8x128_S8x128⟩ :: L)
      (Rect.unit (s := S16x128) ![12, 0] ![1, 128] inb_S16x128_S1x128_12_0).toLoadRect = rowA x 1 1 0 :=
  rdA v x 1 1 0 L _ _ _ _ _ _ _ _ rfl rfl rfl

theorem rdA_13 : v.readCov (⟨Rect.unit (s := S16x128) ![8, 0] ![8, 128] inb_S16x128_S8x128_8_0, shapeCast S8x128 (shapeCast (s := S1x8x128) S8x128 (View.ld x (Rect.unit (s := S2x8x128) ![1, 0, 0] ![1, 8, 128] inb_S2x8x128_S1x8x128_1_0_0)) shapeCasts_S1x8x128_S8x128) shapeCasts_S8x128_S8x128⟩ :: L)
      (Rect.unit (s := S16x128) ![13, 0] ![1, 128] inb_S16x128_S1x128_13_0).toLoadRect = rowA x 1 1 1 :=
  rdA v x 1 1 1 L _ _ _ _ _ _ _ _ rfl rfl rfl

theorem rdA_14 : v.readCov (⟨Rect.unit (s := S16x128) ![8, 0] ![8, 128] inb_S16x128_S8x128_8_0, shapeCast S8x128 (shapeCast (s := S1x8x128) S8x128 (View.ld x (Rect.unit (s := S2x8x128) ![1, 0, 0] ![1, 8, 128] inb_S2x8x128_S1x8x128_1_0_0)) shapeCasts_S1x8x128_S8x128) shapeCasts_S8x128_S8x128⟩ :: L)
      (Rect.unit (s := S16x128) ![14, 0] ![1, 128] inb_S16x128_S1x128_14_0).toLoadRect = rowA x 1 1 2 :=
  rdA v x 1 1 2 L _ _ _ _ _ _ _ _ rfl rfl rfl

theorem rdA_15 : v.readCov (⟨Rect.unit (s := S16x128) ![8, 0] ![8, 128] inb_S16x128_S8x128_8_0, shapeCast S8x128 (shapeCast (s := S1x8x128) S8x128 (View.ld x (Rect.unit (s := S2x8x128) ![1, 0, 0] ![1, 8, 128] inb_S2x8x128_S1x8x128_1_0_0)) shapeCasts_S1x8x128_S8x128) shapeCasts_S8x128_S8x128⟩ :: L)
      (Rect.unit (s := S16x128) ![15, 0] ![1, 128] inb_S16x128_S1x128_15_0).toLoadRect = rowA x 1 1 3 :=
  rdA v x 1 1 3 L _ _ _ _ _ _ _ _ rfl rfl rfl

end

def outC (z : FVec Ideal S1x128x128 .f32) : FVec Ideal S1x1x128x128 .f32 :=
  shapeCast S1x1x128x128 (transpose S128x128 [1, 0] (shapeCast S128x128 z shapeCasts_S1x128x128_S128x128) transposes_S128x128_p1_0_S128x128) shapeCasts_S128x128_S1x1x128x128

theorem outC_at (z : FVec Ideal S1x128x128 .f32) (a b : Fin 128) : outC z (ix4 0 0 a b) = z (ix3 0 b a) := by
  pointwise [outC]

theorem pay4_at (z : Vec Ideal S8x128 .f32) (i : Fin 8) (a : Fin 128) : k0_pay4 (F := Ideal) z (ix3 0 i a) = z (ix2 i a) := by
  pointwise [k0_pay4]

theorem pay5_at (z : Vec Ideal S8x128 .f32) (i : Fin 8) (a : Fin 128) : k0_pay5 (F := Ideal) z (ix3 0 i a) = z (ix2 i a) := by
  pointwise [k0_pay5]

theorem pay33_at (z : Vec Ideal S8x128 .f32) (i : Fin 8) (a : Fin 128) : k0_pay33 (F := Ideal) z (ix3 0 i a) = z (ix2 i a) := by
  pointwise [k0_pay33]

theorem pay34_at (z : Vec Ideal S8x128 .f32) (i : Fin 8) (a : Fin 128) : k0_pay34 (F := Ideal) z (ix3 0 i a) = z (ix2 i a) := by
  pointwise [k0_pay34]

theorem idxR (p d : Fin 2) (h : Fin 4) (a : Fin 128) (inb : ∀ b, (![8 * p.val, 0] : Fin 2 → ℕ) b + S8x128.size b ≤ S16x128.size b) :
    (Rect.unit (s := S16x128) ![8 * p.val, 0] S8x128.size inb).toLoadRect.idx (ix2 (ix8 d h) a) = ix2 (ix16 p d h) a := by
  funext b
  refine Fin.ext ?_
  fin_cases b
  · show 8 * p.val + 1 * (4 * d.val + h.val) = 8 * p.val + (4 * d.val + h.val)
    omega
  · show 0 + 1 * a.val = a.val
    omega

theorem sout0_A_0_at (c : Dev nD) (i : grid0.Coords) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x128x128 .f32) (harg5 : arg5.IsWhole) (arg6 : Memref sig .tc .vmem S2x128x512 .f32) (harg6 : arg6.IsWhole) (arg7 : Memref sig .tc .vmem S2x128x512 .f32) (harg7 : arg7.IsWhole) (arg8 : Memref sig .tc .vmem S2x128x512 .f32) (harg8 : arg8.IsWhole) (arg9 : Memref sig .tc .vmem S2x128x128 .f32) (harg9 : arg9.IsWhole) (arg10 : Memref sig .tc .vmem S1x128 .f32) (harg10 : arg10.IsWhole) (arg11 : Memref sig .tc .vmem S2x8x128x128 .f32) (harg11 : arg11.IsWhole) (arg12 : Memref sig .tc .vmem S2x8x128 .f32) (harg12 : arg12.IsWhole) (arg13 : Memref sig .tc .vmem S2x8x128 .f32) (harg13 : arg13.IsWhole) (arg14 : Memref sig .tc .vmem S2x128x512 .f32) (harg14 : arg14.IsWhole) (arg15 : Memref sig .tc .vmem S2x128x512 .f32) (harg15 : arg15.IsWhole) (arg16 : Memref sig .tc .vmem S2x8x128x128 .f32) (harg16 : arg16.IsWhole) (arg17 : Memref sig .tc .vmem S2x8x128 .f32) (harg17 : arg17.IsWhole) (arg18 : Memref sig .tc .vmem S2x8x128 .f32) (harg18 : arg18.IsWhole) (arg19 : Memref sig .tc .vmem S16x128x128 .f32) (harg19 : arg19.IsWhole) (arg20 : Memref sig .tc .vmem S16x128 .f32) (harg20 : arg20.IsWhole) (arg21 : Memref sig .tc .vmem S16x128 .f32) (harg21 : arg21.IsWhole) (hc0 : cond0_0 i) (hc1 : ¬cond0_1 i) (x0 : Vec Ideal S2x128x512 .f32) (x1 : Vec Ideal S2x128x512 .f32) (x2 : Vec Ideal S2x128x512 .f32) (x3 : Vec Ideal S2x128x128 .f32) (x4 : Vec Ideal S2x128x512 .f32) (x5 : Vec Ideal S2x128x512 .f32) (x6 : Vec Ideal S2x128x512 .f32) (x7 : Vec Ideal S2x128x128 .f32) (x8 : Vec Ideal S1x128 .f32) (x9 : Vec Ideal S2x8x128x128 .f32) (x10 : Vec Ideal S2x8x128 .f32) (x11 : Vec Ideal S2x8x128 .f32) (p d : Fin 2) (h : Fin 4) (a b : Fin 128) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 (ix3 (ix16 p d h) a b) = tC d (![KL, KU] d) (![reF, reB] d) (![x1, x5] d) (![x2, x6] d) (![x3, x7] d) x8 (rowA x11 p d h) (ctA x9 p d h) p h (ix3 0 a b) := by
  generalize hz : tC d (![KL, KU] d) (![reF, reB] d) (![x1, x5] d) (![x2, x6] d) (![x3, x7] d) x8 (rowA x11 p d h) (ctA x9 p d h) p h (ix3 0 a b) = z
  frame_open
  simp (disch := decide) only [↓ View.readCov_skip, ↓ View.readCov_cons_toLoadRect, ↓ View.readCov_fill]
  frame_out
  clear * - hz
  subst hz
  refine cstepT 15 _ _ _ _ _ (fun n => ?_) (fun n15 => ?_)
  · have hg : 8 * p.val + (4 * d.val + h.val) = 15 := n
    obtain rfl : p = 1 := Fin.ext (by omega)
    obtain rfl : d = 1 := Fin.ext (by omega)
    obtain rfl : h = 3 := Fin.ext (by omega)
    rw [rdA_15]
    sl_kernel_rfl
  refine cstepT 14 _ _ _ _ _ (fun n => ?_) (fun n14 => ?_)
  · have hg : 8 * p.val + (4 * d.val + h.val) = 14 := n
    obtain rfl : p = 1 := Fin.ext (by omega)
    obtain rfl : d = 1 := Fin.ext (by omega)
    obtain rfl : h = 2 := Fin.ext (by omega)
    rw [rdA_14]
    sl_kernel_rfl
  refine cstepT 13 _ _ _ _ _ (fun n => ?_) (fun n13 => ?_)
  · have hg : 8 * p.val + (4 * d.val + h.val) = 13 := n
    obtain rfl : p = 1 := Fin.ext (by omega)
    obtain rfl : d = 1 := Fin.ext (by omega)
    obtain rfl : h = 1 := Fin.ext (by omega)
    rw [rdA_13]
    sl_kernel_rfl
  refine cstepT 12 _ _ _ _ _ (fun n => ?_) (fun n12 => ?_)
  · have hg : 8 * p.val + (4 * d.val + h.val) = 12 := n
    obtain rfl : p = 1 := Fin.ext (by omega)
    obtain rfl : d = 1 := Fin.ext (by omega)
    obtain rfl : h = 0 := Fin.ext (by omega)
    rw [rdA_12]
    sl_kernel_rfl
  refine cstepT 11 _ _ _ _ _ (fun n => ?_) (fun n11 => ?_)
  · have hg : 8 * p.val + (4 * d.val + h.val) = 11 := n
    obtain rfl : p = 1 := Fin.ext (by omega)
    obtain rfl : d = 0 := Fin.ext (by omega)
    obtain rfl : h = 3 := Fin.ext (by omega)
    rw [rdA_11]
    sl_kernel_rfl
  refine cstepT 10 _ _ _ _ _ (fun n => ?_) (fun n10 => ?_)
  · have hg : 8 * p.val + (4 * d.val + h.val) = 10 := n
    obtain rfl : p = 1 := Fin.ext (by omega)
    obtain rfl : d = 0 := Fin.ext (by omega)
    obtain rfl : h = 2 := Fin.ext (by omega)
    rw [rdA_10]
    sl_kernel_rfl
  refine cstepT 9 _ _ _ _ _ (fun n => ?_) (fun n9 => ?_)
  · have hg : 8 * p.val + (4 * d.val + h.val) = 9 := n
    obtain rfl : p = 1 := Fin.ext (by omega)
    obtain rfl : d = 0 := Fin.ext (by omega)
    obtain rfl : h = 1 := Fin.ext (by omega)
    rw [rdA_9]
    sl_kernel_rfl
  refine cstepT 8 _ _ _ _ _ (fun n => ?_) (fun n8 => ?_)
  · have hg : 8 * p.val + (4 * d.val + h.val) = 8 := n
    obtain rfl : p = 1 := Fin.ext (by omega)
    obtain rfl : d = 0 := Fin.ext (by omega)
    obtain rfl : h = 0 := Fin.ext (by omega)
    rw [rdA_8]
    sl_kernel_rfl
  refine cstepT 7 _ _ _ _ _ (fun n => ?_) (fun n7 => ?_)
  · have hg : 8 * p.val + (4 * d.val + h.val) = 7 := n
    obtain rfl : p = 0 := Fin.ext (by omega)
    obtain rfl : d = 1 := Fin.ext (by omega)
    obtain rfl : h = 3 := Fin.ext (by omega)
    rw [rdA_7]
    sl_kernel_rfl
  refine cstepT 6 _ _ _ _ _ (fun n => ?_) (fun n6 => ?_)
  · have hg : 8 * p.val + (4 * d.val + h.val) = 6 := n
    obtain rfl : p = 0 := Fin.ext (by omega)
    obtain rfl : d = 1 := Fin.ext (by omega)
    obtain rfl : h = 2 := Fin.ext (by omega)
    rw [rdA_6]
    sl_kernel_rfl
  refine cstepT 5 _ _ _ _ _ (fun n => ?_) (fun n5 => ?_)
  · have hg : 8 * p.val + (4 * d.val + h.val) = 5 := n
    obtain rfl : p = 0 := Fin.ext (by omega)
    obtain rfl : d = 1 := Fin.ext (by omega)
    obtain rfl : h = 1 := Fin.ext (by omega)
    rw [rdA_5]
    sl_kernel_rfl
  refine cstepT 4 _ _ _ _ _ (fun n => ?_) (fun n4 => ?_)
  · have hg : 8 * p.val + (4 * d.val + h.val) = 4 := n
    obtain rfl : p = 0 := Fin.ext (by omega)
    obtain rfl : d = 1 := Fin.ext (by omega)
    obtain rfl : h = 0 := Fin.ext (by omega)
    rw [rdA_4]
    sl_kernel_rfl
  refine cstepT 3 _ _ _ _ _ (fun n => ?_) (fun n3 => ?_)
  · have hg : 8 * p.val + (4 * d.val + h.val) = 3 := n
    obtain rfl : p = 0 := Fin.ext (by omega)
    obtain rfl : d = 0 := Fin.ext (by omega)
    obtain rfl : h = 3 := Fin.ext (by omega)
    rw [rdA_3]
    sl_kernel_rfl
  refine cstepT 2 _ _ _ _ _ (fun n => ?_) (fun n2 => ?_)
  · have hg : 8 * p.val + (4 * d.val + h.val) = 2 := n
    obtain rfl : p = 0 := Fin.ext (by omega)
    obtain rfl : d = 0 := Fin.ext (by omega)
    obtain rfl : h = 2 := Fin.ext (by omega)
    rw [rdA_2]
    sl_kernel_rfl
  refine cstepT 1 _ _ _ _ _ (fun n => ?_) (fun n1 => ?_)
  · have hg : 8 * p.val + (4 * d.val + h.val) = 1 := n
    obtain rfl : p = 0 := Fin.ext (by omega)
    obtain rfl : d = 0 := Fin.ext (by omega)
    obtain rfl : h = 1 := Fin.ext (by omega)
    rw [rdA_1]
    sl_kernel_rfl
  refine cstepT 0 _ _ _ _ _ (fun n => ?_) (fun n0 => ?_)
  · have hg : 8 * p.val + (4 * d.val + h.val) = 0 := n
    obtain rfl : p = 0 := Fin.ext (by omega)
    obtain rfl : d = 0 := Fin.ext (by omega)
    obtain rfl : h = 0 := Fin.ext (by omega)
    rw [rdA_0]
    sl_kernel_rfl
  exfalso
  have m0 : 8 * p.val + (4 * d.val + h.val) ≠ 0 := n0
  have m1 : 8 * p.val + (4 * d.val + h.val) ≠ 1 := n1
  have m2 : 8 * p.val + (4 * d.val + h.val) ≠ 2 := n2
  have m3 : 8 * p.val + (4 * d.val + h.val) ≠ 3 := n3
  have m4 : 8 * p.val + (4 * d.val + h.val) ≠ 4 := n4
  have m5 : 8 * p.val + (4 * d.val + h.val) ≠ 5 := n5
  have m6 : 8 * p.val + (4 * d.val + h.val) ≠ 6 := n6
  have m7 : 8 * p.val + (4 * d.val + h.val) ≠ 7 := n7
  have m8 : 8 * p.val + (4 * d.val + h.val) ≠ 8 := n8
  have m9 : 8 * p.val + (4 * d.val + h.val) ≠ 9 := n9
  have m10 : 8 * p.val + (4 * d.val + h.val) ≠ 10 := n10
  have m11 : 8 * p.val + (4 * d.val + h.val) ≠ 11 := n11
  have m12 : 8 * p.val + (4 * d.val + h.val) ≠ 12 := n12
  have m13 : 8 * p.val + (4 * d.val + h.val) ≠ 13 := n13
  have m14 : 8 * p.val + (4 * d.val + h.val) ≠ 14 := n14
  have m15 : 8 * p.val + (4 * d.val + h.val) ≠ 15 := n15
  omega

theorem sout0_A_1_at (c : Dev nD) (i : grid0.Coords) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x128x128 .f32) (harg5 : arg5.IsWhole) (arg6 : Memref sig .tc .vmem S2x128x512 .f32) (harg6 : arg6.IsWhole) (arg7 : Memref sig .tc .vmem S2x128x512 .f32) (harg7 : arg7.IsWhole) (arg8 : Memref sig .tc .vmem S2x128x512 .f32) (harg8 : arg8.IsWhole) (arg9 : Memref sig .tc .vmem S2x128x128 .f32) (harg9 : arg9.IsWhole) (arg10 : Memref sig .tc .vmem S1x128 .f32) (harg10 : arg10.IsWhole) (arg11 : Memref sig .tc .vmem S2x8x128x128 .f32) (harg11 : arg11.IsWhole) (arg12 : Memref sig .tc .vmem S2x8x128 .f32) (harg12 : arg12.IsWhole) (arg13 : Memref sig .tc .vmem S2x8x128 .f32) (harg13 : arg13.IsWhole) (arg14 : Memref sig .tc .vmem S2x128x512 .f32) (harg14 : arg14.IsWhole) (arg15 : Memref sig .tc .vmem S2x128x512 .f32) (harg15 : arg15.IsWhole) (arg16 : Memref sig .tc .vmem S2x8x128x128 .f32) (harg16 : arg16.IsWhole) (arg17 : Memref sig .tc .vmem S2x8x128 .f32) (harg17 : arg17.IsWhole) (arg18 : Memref sig .tc .vmem S2x8x128 .f32) (harg18 : arg18.IsWhole) (arg19 : Memref sig .tc .vmem S16x128x128 .f32) (harg19 : arg19.IsWhole) (arg20 : Memref sig .tc .vmem S16x128 .f32) (harg20 : arg20.IsWhole) (arg21 : Memref sig .tc .vmem S16x128 .f32) (harg21 : arg21.IsWhole) (hc0 : cond0_0 i) (hc1 : ¬cond0_1 i) (x0 : Vec Ideal S2x128x512 .f32) (x1 : Vec Ideal S2x128x512 .f32) (x2 : Vec Ideal S2x128x512 .f32) (x3 : Vec Ideal S2x128x128 .f32) (x4 : Vec Ideal S2x128x512 .f32) (x5 : Vec Ideal S2x128x512 .f32) (x6 : Vec Ideal S2x128x512 .f32) (x7 : Vec Ideal S2x128x128 .f32) (x8 : Vec Ideal S1x128 .f32) (x9 : Vec Ideal S2x8x128x128 .f32) (x10 : Vec Ideal S2x8x128 .f32) (x11 : Vec Ideal S2x8x128 .f32) (p d : Fin 2) (h : Fin 4) (a : Fin 128) : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 (ix2 (ix16 p d h) a) = tN d (![KL, KU] d) (![reF, reB] d) (![x1, x5] d) (![x3, x7] d) x8 (rowA x11 p d h) (rowA x10 p d h) p h (ix2 0 a) := by
  generalize hz : tN d (![KL, KU] d) (![reF, reB] d) (![x1, x5] d) (![x3, x7] d) x8 (rowA x11 p d h) (rowA x10 p d h) p h (ix2 0 a) = z
  frame_open
  simp (disch := decide) only [↓ View.readCov_skip, ↓ View.readCov_cons_toLoadRect, ↓ View.readCov_fill]
  frame_out
  clear * - hz
  subst hz
  refine cstepR 15 _ _ _ _ _ (fun n => ?_) (fun n15 => ?_)
  · have hg : 8 * p.val + (4 * d.val + h.val) = 15 := n
    obtain rfl : p = 1 := Fin.ext (by omega)
    obtain rfl : d = 1 := Fin.ext (by omega)
    obtain rfl : h = 3 := Fin.ext (by omega)
    rw [rdA_15, rdA_15]
    sl_kernel_rfl
  refine cstepR 14 _ _ _ _ _ (fun n => ?_) (fun n14 => ?_)
  · have hg : 8 * p.val + (4 * d.val + h.val) = 14 := n
    obtain rfl : p = 1 := Fin.ext (by omega)
    obtain rfl : d = 1 := Fin.ext (by omega)
    obtain rfl : h = 2 := Fin.ext (by omega)
    rw [rdA_14, rdA_14]
    sl_kernel_rfl
  refine cstepR 13 _ _ _ _ _ (fun n => ?_) (fun n13 => ?_)
  · have hg : 8 * p.val + (4 * d.val + h.val) = 13 := n
    obtain rfl : p = 1 := Fin.ext (by omega)
    obtain rfl : d = 1 := Fin.ext (by omega)
    obtain rfl : h = 1 := Fin.ext (by omega)
    rw [rdA_13, rdA_13]
    sl_kernel_rfl
  refine cstepR 12 _ _ _ _ _ (fun n => ?_) (fun n12 => ?_)
  · have hg : 8 * p.val + (4 * d.val + h.val) = 12 := n
    obtain rfl : p = 1 := Fin.ext (by omega)
    obtain rfl : d = 1 := Fin.ext (by omega)
    obtain rfl : h = 0 := Fin.ext (by omega)
    rw [rdA_12, rdA_12]
    sl_kernel_rfl
  refine cstepR 11 _ _ _ _ _ (fun n => ?_) (fun n11 => ?_)
  · have hg : 8 * p.val + (4 * d.val + h.val) = 11 := n
    obtain rfl : p = 1 := Fin.ext (by omega)
    obtain rfl : d = 0 := Fin.ext (by omega)
    obtain rfl : h = 3 := Fin.ext (by omega)
    rw [rdA_11, rdA_11]
    sl_kernel_rfl
  refine cstepR 10 _ _ _ _ _ (fun n => ?_) (fun n10 => ?_)
  · have hg : 8 * p.val + (4 * d.val + h.val) = 10 := n
    obtain rfl : p = 1 := Fin.ext (by omega)
    obtain rfl : d = 0 := Fin.ext (by omega)
    obtain rfl : h = 2 := Fin.ext (by omega)
    rw [rdA_10, rdA_10]
    sl_kernel_rfl
  refine cstepR 9 _ _ _ _ _ (fun n => ?_) (fun n9 => ?_)
  · have hg : 8 * p.val + (4 * d.val + h.val) = 9 := n
    obtain rfl : p = 1 := Fin.ext (by omega)
    obtain rfl : d = 0 := Fin.ext (by omega)
    obtain rfl : h = 1 := Fin.ext (by omega)
    rw [rdA_9, rdA_9]
    sl_kernel_rfl
  refine cstepR 8 _ _ _ _ _ (fun n => ?_) (fun n8 => ?_)
  · have hg : 8 * p.val + (4 * d.val + h.val) = 8 := n
    obtain rfl : p = 1 := Fin.ext (by omega)
    obtain rfl : d = 0 := Fin.ext (by omega)
    obtain rfl : h = 0 := Fin.ext (by omega)
    rw [rdA_8, rdA_8]
    sl_kernel_rfl
  refine cstepR 7 _ _ _ _ _ (fun n => ?_) (fun n7 => ?_)
  · have hg : 8 * p.val + (4 * d.val + h.val) = 7 := n
    obtain rfl : p = 0 := Fin.ext (by omega)
    obtain rfl : d = 1 := Fin.ext (by omega)
    obtain rfl : h = 3 := Fin.ext (by omega)
    rw [rdA_7, rdA_7]
    sl_kernel_rfl
  refine cstepR 6 _ _ _ _ _ (fun n => ?_) (fun n6 => ?_)
  · have hg : 8 * p.val + (4 * d.val + h.val) = 6 := n
    obtain rfl : p = 0 := Fin.ext (by omega)
    obtain rfl : d = 1 := Fin.ext (by omega)
    obtain rfl : h = 2 := Fin.ext (by omega)
    rw [rdA_6, rdA_6]
    sl_kernel_rfl
  refine cstepR 5 _ _ _ _ _ (fun n => ?_) (fun n5 => ?_)
  · have hg : 8 * p.val + (4 * d.val + h.val) = 5 := n
    obtain rfl : p = 0 := Fin.ext (by omega)
    obtain rfl : d = 1 := Fin.ext (by omega)
    obtain rfl : h = 1 := Fin.ext (by omega)
    rw [rdA_5, rdA_5]
    sl_kernel_rfl
  refine cstepR 4 _ _ _ _ _ (fun n => ?_) (fun n4 => ?_)
  · have hg : 8 * p.val + (4 * d.val + h.val) = 4 := n
    obtain rfl : p = 0 := Fin.ext (by omega)
    obtain rfl : d = 1 := Fin.ext (by omega)
    obtain rfl : h = 0 := Fin.ext (by omega)
    rw [rdA_4, rdA_4]
    sl_kernel_rfl
  refine cstepR 3 _ _ _ _ _ (fun n => ?_) (fun n3 => ?_)
  · have hg : 8 * p.val + (4 * d.val + h.val) = 3 := n
    obtain rfl : p = 0 := Fin.ext (by omega)
    obtain rfl : d = 0 := Fin.ext (by omega)
    obtain rfl : h = 3 := Fin.ext (by omega)
    rw [rdA_3, rdA_3]
    sl_kernel_rfl
  refine cstepR 2 _ _ _ _ _ (fun n => ?_) (fun n2 => ?_)
  · have hg : 8 * p.val + (4 * d.val + h.val) = 2 := n
    obtain rfl : p = 0 := Fin.ext (by omega)
    obtain rfl : d = 0 := Fin.ext (by omega)
    obtain rfl : h = 2 := Fin.ext (by omega)
    rw [rdA_2, rdA_2]
    sl_kernel_rfl
  refine cstepR 1 _ _ _ _ _ (fun n => ?_) (fun n1 => ?_)
  · have hg : 8 * p.val + (4 * d.val + h.val) = 1 := n
    obtain rfl : p = 0 := Fin.ext (by omega)
    obtain rfl : d = 0 := Fin.ext (by omega)
    obtain rfl : h = 1 := Fin.ext (by omega)
    rw [rdA_1, rdA_1]
    sl_kernel_rfl
  refine cstepR 0 _ _ _ _ _ (fun n => ?_) (fun n0 => ?_)
  · have hg : 8 * p.val + (4 * d.val + h.val) = 0 := n
    obtain rfl : p = 0 := Fin.ext (by omega)
    obtain rfl : d = 0 := Fin.ext (by omega)
    obtain rfl : h = 0 := Fin.ext (by omega)
    rw [rdA_0, rdA_0]
    sl_kernel_rfl
  exfalso
  have m0 : 8 * p.val + (4 * d.val + h.val) ≠ 0 := n0
  have m1 : 8 * p.val + (4 * d.val + h.val) ≠ 1 := n1
  have m2 : 8 * p.val + (4 * d.val + h.val) ≠ 2 := n2
  have m3 : 8 * p.val + (4 * d.val + h.val) ≠ 3 := n3
  have m4 : 8 * p.val + (4 * d.val + h.val) ≠ 4 := n4
  have m5 : 8 * p.val + (4 * d.val + h.val) ≠ 5 := n5
  have m6 : 8 * p.val + (4 * d.val + h.val) ≠ 6 := n6
  have m7 : 8 * p.val + (4 * d.val + h.val) ≠ 7 := n7
  have m8 : 8 * p.val + (4 * d.val + h.val) ≠ 8 := n8
  have m9 : 8 * p.val + (4 * d.val + h.val) ≠ 9 := n9
  have m10 : 8 * p.val + (4 * d.val + h.val) ≠ 10 := n10
  have m11 : 8 * p.val + (4 * d.val + h.val) ≠ 11 := n11
  have m12 : 8 * p.val + (4 * d.val + h.val) ≠ 12 := n12
  have m13 : 8 * p.val + (4 * d.val + h.val) ≠ 13 := n13
  have m14 : 8 * p.val + (4 * d.val + h.val) ≠ 14 := n14
  have m15 : 8 * p.val + (4 * d.val + h.val) ≠ 15 := n15
  omega

theorem sout0_A_2_at (c : Dev nD) (i : grid0.Coords) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x128x128 .f32) (harg5 : arg5.IsWhole) (arg6 : Memref sig .tc .vmem S2x128x512 .f32) (harg6 : arg6.IsWhole) (arg7 : Memref sig .tc .vmem S2x128x512 .f32) (harg7 : arg7.IsWhole) (arg8 : Memref sig .tc .vmem S2x128x512 .f32) (harg8 : arg8.IsWhole) (arg9 : Memref sig .tc .vmem S2x128x128 .f32) (harg9 : arg9.IsWhole) (arg10 : Memref sig .tc .vmem S1x128 .f32) (harg10 : arg10.IsWhole) (arg11 : Memref sig .tc .vmem S2x8x128x128 .f32) (harg11 : arg11.IsWhole) (arg12 : Memref sig .tc .vmem S2x8x128 .f32) (harg12 : arg12.IsWhole) (arg13 : Memref sig .tc .vmem S2x8x128 .f32) (harg13 : arg13.IsWhole) (arg14 : Memref sig .tc .vmem S2x128x512 .f32) (harg14 : arg14.IsWhole) (arg15 : Memref sig .tc .vmem S2x128x512 .f32) (harg15 : arg15.IsWhole) (arg16 : Memref sig .tc .vmem S2x8x128x128 .f32) (harg16 : arg16.IsWhole) (arg17 : Memref sig .tc .vmem S2x8x128 .f32) (harg17 : arg17.IsWhole) (arg18 : Memref sig .tc .vmem S2x8x128 .f32) (harg18 : arg18.IsWhole) (arg19 : Memref sig .tc .vmem S16x128x128 .f32) (harg19 : arg19.IsWhole) (arg20 : Memref sig .tc .vmem S16x128 .f32) (harg20 : arg20.IsWhole) (arg21 : Memref sig .tc .vmem S16x128 .f32) (harg21 : arg21.IsWhole) (hc0 : cond0_0 i) (hc1 : ¬cond0_1 i) (x0 : Vec Ideal S2x128x512 .f32) (x1 : Vec Ideal S2x128x512 .f32) (x2 : Vec Ideal S2x128x512 .f32) (x3 : Vec Ideal S2x128x128 .f32) (x4 : Vec Ideal S2x128x512 .f32) (x5 : Vec Ideal S2x128x512 .f32) (x6 : Vec Ideal S2x128x512 .f32) (x7 : Vec Ideal S2x128x128 .f32) (x8 : Vec Ideal S1x128 .f32) (x9 : Vec Ideal S2x8x128x128 .f32) (x10 : Vec Ideal S2x8x128 .f32) (x11 : Vec Ideal S2x8x128 .f32) (p d : Fin 2) (h : Fin 4) (a : Fin 128) : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 (ix2 (ix16 p d h) a) = tM d (![KL, KU] d) (![reF, reB] d) (![x3, x7] d) x8 (rowA x11 p d h) p h (ix2 0 a) := by
  generalize hz : tM d (![KL, KU] d) (![reF, reB] d) (![x3, x7] d) x8 (rowA x11 p d h) p h (ix2 0 a) = z
  frame_open
  simp (disch := decide) only [↓ View.readCov_skip, ↓ View.readCov_cons_toLoadRect, ↓ View.readCov_fill]
  frame_out
  clear * - hz
  subst hz
  refine cstepR 15 _ _ _ _ _ (fun n => ?_) (fun n15 => ?_)
  · have hg : 8 * p.val + (4 * d.val + h.val) = 15 := n
    obtain rfl : p = 1 := Fin.ext (by omega)
    obtain rfl : d = 1 := Fin.ext (by omega)
    obtain rfl : h = 3 := Fin.ext (by omega)
    rw [rdA_15]
    sl_kernel_rfl
  refine cstepR 14 _ _ _ _ _ (fun n => ?_) (fun n14 => ?_)
  · have hg : 8 * p.val + (4 * d.val + h.val) = 14 := n
    obtain rfl : p = 1 := Fin.ext (by omega)
    obtain rfl : d = 1 := Fin.ext (by omega)
    obtain rfl : h = 2 := Fin.ext (by omega)
    rw [rdA_14]
    sl_kernel_rfl
  refine cstepR 13 _ _ _ _ _ (fun n => ?_) (fun n13 => ?_)
  · have hg : 8 * p.val + (4 * d.val + h.val) = 13 := n
    obtain rfl : p = 1 := Fin.ext (by omega)
    obtain rfl : d = 1 := Fin.ext (by omega)
    obtain rfl : h = 1 := Fin.ext (by omega)
    rw [rdA_13]
    sl_kernel_rfl
  refine cstepR 12 _ _ _ _ _ (fun n => ?_) (fun n12 => ?_)
  · have hg : 8 * p.val + (4 * d.val + h.val) = 12 := n
    obtain rfl : p = 1 := Fin.ext (by omega)
    obtain rfl : d = 1 := Fin.ext (by omega)
    obtain rfl : h = 0 := Fin.ext (by omega)
    rw [rdA_12]
    sl_kernel_rfl
  refine cstepR 11 _ _ _ _ _ (fun n => ?_) (fun n11 => ?_)
  · have hg : 8 * p.val + (4 * d.val + h.val) = 11 := n
    obtain rfl : p = 1 := Fin.ext (by omega)
    obtain rfl : d = 0 := Fin.ext (by omega)
    obtain rfl : h = 3 := Fin.ext (by omega)
    rw [rdA_11]
    sl_kernel_rfl
  refine cstepR 10 _ _ _ _ _ (fun n => ?_) (fun n10 => ?_)
  · have hg : 8 * p.val + (4 * d.val + h.val) = 10 := n
    obtain rfl : p = 1 := Fin.ext (by omega)
    obtain rfl : d = 0 := Fin.ext (by omega)
    obtain rfl : h = 2 := Fin.ext (by omega)
    rw [rdA_10]
    sl_kernel_rfl
  refine cstepR 9 _ _ _ _ _ (fun n => ?_) (fun n9 => ?_)
  · have hg : 8 * p.val + (4 * d.val + h.val) = 9 := n
    obtain rfl : p = 1 := Fin.ext (by omega)
    obtain rfl : d = 0 := Fin.ext (by omega)
    obtain rfl : h = 1 := Fin.ext (by omega)
    rw [rdA_9]
    sl_kernel_rfl
  refine cstepR 8 _ _ _ _ _ (fun n => ?_) (fun n8 => ?_)
  · have hg : 8 * p.val + (4 * d.val + h.val) = 8 := n
    obtain rfl : p = 1 := Fin.ext (by omega)
    obtain rfl : d = 0 := Fin.ext (by omega)
    obtain rfl : h = 0 := Fin.ext (by omega)
    rw [rdA_8]
    sl_kernel_rfl
  refine cstepR 7 _ _ _ _ _ (fun n => ?_) (fun n7 => ?_)
  · have hg : 8 * p.val + (4 * d.val + h.val) = 7 := n
    obtain rfl : p = 0 := Fin.ext (by omega)
    obtain rfl : d = 1 := Fin.ext (by omega)
    obtain rfl : h = 3 := Fin.ext (by omega)
    rw [rdA_7]
    sl_kernel_rfl
  refine cstepR 6 _ _ _ _ _ (fun n => ?_) (fun n6 => ?_)
  · have hg : 8 * p.val + (4 * d.val + h.val) = 6 := n
    obtain rfl : p = 0 := Fin.ext (by omega)
    obtain rfl : d = 1 := Fin.ext (by omega)
    obtain rfl : h = 2 := Fin.ext (by omega)
    rw [rdA_6]
    sl_kernel_rfl
  refine cstepR 5 _ _ _ _ _ (fun n => ?_) (fun n5 => ?_)
  · have hg : 8 * p.val + (4 * d.val + h.val) = 5 := n
    obtain rfl : p = 0 := Fin.ext (by omega)
    obtain rfl : d = 1 := Fin.ext (by omega)
    obtain rfl : h = 1 := Fin.ext (by omega)
    rw [rdA_5]
    sl_kernel_rfl
  refine cstepR 4 _ _ _ _ _ (fun n => ?_) (fun n4 => ?_)
  · have hg : 8 * p.val + (4 * d.val + h.val) = 4 := n
    obtain rfl : p = 0 := Fin.ext (by omega)
    obtain rfl : d = 1 := Fin.ext (by omega)
    obtain rfl : h = 0 := Fin.ext (by omega)
    rw [rdA_4]
    sl_kernel_rfl
  refine cstepR 3 _ _ _ _ _ (fun n => ?_) (fun n3 => ?_)
  · have hg : 8 * p.val + (4 * d.val + h.val) = 3 := n
    obtain rfl : p = 0 := Fin.ext (by omega)
    obtain rfl : d = 0 := Fin.ext (by omega)
    obtain rfl : h = 3 := Fin.ext (by omega)
    rw [rdA_3]
    sl_kernel_rfl
  refine cstepR 2 _ _ _ _ _ (fun n => ?_) (fun n2 => ?_)
  · have hg : 8 * p.val + (4 * d.val + h.val) = 2 := n
    obtain rfl : p = 0 := Fin.ext (by omega)
    obtain rfl : d = 0 := Fin.ext (by omega)
    obtain rfl : h = 2 := Fin.ext (by omega)
    rw [rdA_2]
    sl_kernel_rfl
  refine cstepR 1 _ _ _ _ _ (fun n => ?_) (fun n1 => ?_)
  · have hg : 8 * p.val + (4 * d.val + h.val) = 1 := n
    obtain rfl : p = 0 := Fin.ext (by omega)
    obtain rfl : d = 0 := Fin.ext (by omega)
    obtain rfl : h = 1 := Fin.ext (by omega)
    rw [rdA_1]
    sl_kernel_rfl
  refine cstepR 0 _ _ _ _ _ (fun n => ?_) (fun n0 => ?_)
  · have hg : 8 * p.val + (4 * d.val + h.val) = 0 := n
    obtain rfl : p = 0 := Fin.ext (by omega)
    obtain rfl : d = 0 := Fin.ext (by omega)
    obtain rfl : h = 0 := Fin.ext (by omega)
    rw [rdA_0]
    sl_kernel_rfl
  exfalso
  have m0 : 8 * p.val + (4 * d.val + h.val) ≠ 0 := n0
  have m1 : 8 * p.val + (4 * d.val + h.val) ≠ 1 := n1
  have m2 : 8 * p.val + (4 * d.val + h.val) ≠ 2 := n2
  have m3 : 8 * p.val + (4 * d.val + h.val) ≠ 3 := n3
  have m4 : 8 * p.val + (4 * d.val + h.val) ≠ 4 := n4
  have m5 : 8 * p.val + (4 * d.val + h.val) ≠ 5 := n5
  have m6 : 8 * p.val + (4 * d.val + h.val) ≠ 6 := n6
  have m7 : 8 * p.val + (4 * d.val + h.val) ≠ 7 := n7
  have m8 : 8 * p.val + (4 * d.val + h.val) ≠ 8 := n8
  have m9 : 8 * p.val + (4 * d.val + h.val) ≠ 9 := n9
  have m10 : 8 * p.val + (4 * d.val + h.val) ≠ 10 := n10
  have m11 : 8 * p.val + (4 * d.val + h.val) ≠ 11 := n11
  have m12 : 8 * p.val + (4 * d.val + h.val) ≠ 12 := n12
  have m13 : 8 * p.val + (4 * d.val + h.val) ≠ 13 := n13
  have m14 : 8 * p.val + (4 * d.val + h.val) ≠ 14 := n14
  have m15 : 8 * p.val + (4 * d.val + h.val) ≠ 15 := n15
  omega

theorem out0_A_12_at (c : Dev nD) (i : grid0.Coords) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x128x128 .f32) (harg5 : arg5.IsWhole) (arg6 : Memref sig .tc .vmem S2x128x512 .f32) (harg6 : arg6.IsWhole) (arg7 : Memref sig .tc .vmem S2x128x512 .f32) (harg7 : arg7.IsWhole) (arg8 : Memref sig .tc .vmem S2x128x512 .f32) (harg8 : arg8.IsWhole) (arg9 : Memref sig .tc .vmem S2x128x128 .f32) (harg9 : arg9.IsWhole) (arg10 : Memref sig .tc .vmem S1x128 .f32) (harg10 : arg10.IsWhole) (arg11 : Memref sig .tc .vmem S2x8x128x128 .f32) (harg11 : arg11.IsWhole) (arg12 : Memref sig .tc .vmem S2x8x128 .f32) (harg12 : arg12.IsWhole) (arg13 : Memref sig .tc .vmem S2x8x128 .f32) (harg13 : arg13.IsWhole) (arg14 : Memref sig .tc .vmem S2x128x512 .f32) (harg14 : arg14.IsWhole) (arg15 : Memref sig .tc .vmem S2x128x512 .f32) (harg15 : arg15.IsWhole) (arg16 : Memref sig .tc .vmem S2x8x128x128 .f32) (harg16 : arg16.IsWhole) (arg17 : Memref sig .tc .vmem S2x8x128 .f32) (harg17 : arg17.IsWhole) (arg18 : Memref sig .tc .vmem S2x8x128 .f32) (harg18 : arg18.IsWhole) (arg19 : Memref sig .tc .vmem S16x128x128 .f32) (harg19 : arg19.IsWhole) (arg20 : Memref sig .tc .vmem S16x128 .f32) (harg20 : arg20.IsWhole) (arg21 : Memref sig .tc .vmem S16x128 .f32) (harg21 : arg21.IsWhole) (hc0 : cond0_0 i) (hc1 : ¬cond0_1 i) (x0 : Vec Ideal S2x128x512 .f32) (x1 : Vec Ideal S2x128x512 .f32) (x2 : Vec Ideal S2x128x512 .f32) (x3 : Vec Ideal S2x128x128 .f32) (x4 : Vec Ideal S2x128x512 .f32) (x5 : Vec Ideal S2x128x512 .f32) (x6 : Vec Ideal S2x128x512 .f32) (x7 : Vec Ideal S2x128x128 .f32) (x8 : Vec Ideal S1x128 .f32) (x9 : Vec Ideal S2x8x128x128 .f32) (x10 : Vec Ideal S2x8x128 .f32) (x11 : Vec Ideal S2x8x128 .f32) (p : Fin 2) (t : Fin 128) (l : Fin 512) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 (ix3 p t l) = tH 0 KL x0 x1 x2 x3 x8 (rowA x11 p 0 (hd l)) (rowA x10 p 0 (hd l)) (ctA x9 p 0 (hd l)) p (hd l) (ix3 0 t (ln l)) := by
  generalize hz : tH 0 KL x0 x1 x2 x3 x8 (rowA x11 p 0 (hd l)) (rowA x10 p 0 (hd l)) (ctA x9 p 0 (hd l)) p (hd l) (ix3 0 t (ln l)) = z
  frame_open
  simp (disch := decide) only [↓ View.readCov_skip, ↓ View.readCov_cons_toLoadRect, ↓ View.readCov_fill]
  frame_out
  clear * - hz
  subst hz
  canon_tiles x hh
  case piece0 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 3 from Fin.ext (by simp [hd] <;> omega), e1]
    rw [rdA_11, rdA_11]
    sl_kernel_rfl
  case piece1 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 2 from Fin.ext (by simp [hd] <;> omega), e1]
    rw [rdA_10, rdA_10]
    sl_kernel_rfl
  case piece2 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 1 from Fin.ext (by simp [hd] <;> omega), e1]
    rw [rdA_9, rdA_9]
    sl_kernel_rfl
  case piece3 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 0 from Fin.ext (by simp [hd] <;> omega), e1]
    rw [rdA_8, rdA_8]
    sl_kernel_rfl
  case piece4 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 3 from Fin.ext (by simp [hd] <;> omega), e1]
    rw [rdA_3, rdA_3]
    sl_kernel_rfl
  case piece5 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 2 from Fin.ext (by simp [hd] <;> omega), e1]
    rw [rdA_2, rdA_2]
    sl_kernel_rfl
  case piece6 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 1 from Fin.ext (by simp [hd] <;> omega), e1]
    rw [rdA_1, rdA_1]
    sl_kernel_rfl
  case piece7 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 0 from Fin.ext (by simp [hd] <;> omega), e1]
    rw [rdA_0, rdA_0]
    sl_kernel_rfl

theorem out0_A_13_at (c : Dev nD) (i : grid0.Coords) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x128x128 .f32) (harg5 : arg5.IsWhole) (arg6 : Memref sig .tc .vmem S2x128x512 .f32) (harg6 : arg6.IsWhole) (arg7 : Memref sig .tc .vmem S2x128x512 .f32) (harg7 : arg7.IsWhole) (arg8 : Memref sig .tc .vmem S2x128x512 .f32) (harg8 : arg8.IsWhole) (arg9 : Memref sig .tc .vmem S2x128x128 .f32) (harg9 : arg9.IsWhole) (arg10 : Memref sig .tc .vmem S1x128 .f32) (harg10 : arg10.IsWhole) (arg11 : Memref sig .tc .vmem S2x8x128x128 .f32) (harg11 : arg11.IsWhole) (arg12 : Memref sig .tc .vmem S2x8x128 .f32) (harg12 : arg12.IsWhole) (arg13 : Memref sig .tc .vmem S2x8x128 .f32) (harg13 : arg13.IsWhole) (arg14 : Memref sig .tc .vmem S2x128x512 .f32) (harg14 : arg14.IsWhole) (arg15 : Memref sig .tc .vmem S2x128x512 .f32) (harg15 : arg15.IsWhole) (arg16 : Memref sig .tc .vmem S2x8x128x128 .f32) (harg16 : arg16.IsWhole) (arg17 : Memref sig .tc .vmem S2x8x128 .f32) (harg17 : arg17.IsWhole) (arg18 : Memref sig .tc .vmem S2x8x128 .f32) (harg18 : arg18.IsWhole) (arg19 : Memref sig .tc .vmem S16x128x128 .f32) (harg19 : arg19.IsWhole) (arg20 : Memref sig .tc .vmem S16x128 .f32) (harg20 : arg20.IsWhole) (arg21 : Memref sig .tc .vmem S16x128 .f32) (harg21 : arg21.IsWhole) (hc0 : cond0_0 i) (hc1 : ¬cond0_1 i) (x0 : Vec Ideal S2x128x512 .f32) (x1 : Vec Ideal S2x128x512 .f32) (x2 : Vec Ideal S2x128x512 .f32) (x3 : Vec Ideal S2x128x128 .f32) (x4 : Vec Ideal S2x128x512 .f32) (x5 : Vec Ideal S2x128x512 .f32) (x6 : Vec Ideal S2x128x512 .f32) (x7 : Vec Ideal S2x128x128 .f32) (x8 : Vec Ideal S1x128 .f32) (x9 : Vec Ideal S2x8x128x128 .f32) (x10 : Vec Ideal S2x8x128 .f32) (x11 : Vec Ideal S2x8x128 .f32) (p : Fin 2) (t : Fin 128) (l : Fin 512) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 (ix3 p t l) = tH 1 KU x4 x5 x6 x7 x8 (rowA x11 p 1 (hd l)) (rowA x10 p 1 (hd l)) (ctA x9 p 1 (hd l)) p (hd l) (ix3 0 t (ln l)) := by
  generalize hz : tH 1 KU x4 x5 x6 x7 x8 (rowA x11 p 1 (hd l)) (rowA x10 p 1 (hd l)) (ctA x9 p 1 (hd l)) p (hd l) (ix3 0 t (ln l)) = z
  frame_open
  simp (disch := decide) only [↓ View.readCov_skip, ↓ View.readCov_cons_toLoadRect, ↓ View.readCov_fill]
  frame_out
  clear * - hz
  subst hz
  canon_tiles x hh
  case piece0 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 3 from Fin.ext (by simp [hd] <;> omega), e1]
    rw [rdA_15, rdA_15]
    sl_kernel_rfl
  case piece1 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 2 from Fin.ext (by simp [hd] <;> omega), e1]
    rw [rdA_14, rdA_14]
    sl_kernel_rfl
  case piece2 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 1 from Fin.ext (by simp [hd] <;> omega), e1]
    rw [rdA_13, rdA_13]
    sl_kernel_rfl
  case piece3 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 0 from Fin.ext (by simp [hd] <;> omega), e1]
    rw [rdA_12, rdA_12]
    sl_kernel_rfl
  case piece4 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 3 from Fin.ext (by simp [hd] <;> omega), e1]
    rw [rdA_7, rdA_7]
    sl_kernel_rfl
  case piece5 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 2 from Fin.ext (by simp [hd] <;> omega), e1]
    rw [rdA_6, rdA_6]
    sl_kernel_rfl
  case piece6 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 1 from Fin.ext (by simp [hd] <;> omega), e1]
    rw [rdA_5, rdA_5]
    sl_kernel_rfl
  case piece7 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 0 from Fin.ext (by simp [hd] <;> omega), e1]
    rw [rdA_4, rdA_4]
    sl_kernel_rfl

theorem out0_B_12_at (c : Dev nD) (i : grid0.Coords) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x128x128 .f32) (harg5 : arg5.IsWhole) (arg6 : Memref sig .tc .vmem S2x128x512 .f32) (harg6 : arg6.IsWhole) (arg7 : Memref sig .tc .vmem S2x128x512 .f32) (harg7 : arg7.IsWhole) (arg8 : Memref sig .tc .vmem S2x128x512 .f32) (harg8 : arg8.IsWhole) (arg9 : Memref sig .tc .vmem S2x128x128 .f32) (harg9 : arg9.IsWhole) (arg10 : Memref sig .tc .vmem S1x128 .f32) (harg10 : arg10.IsWhole) (arg11 : Memref sig .tc .vmem S2x8x128x128 .f32) (harg11 : arg11.IsWhole) (arg12 : Memref sig .tc .vmem S2x8x128 .f32) (harg12 : arg12.IsWhole) (arg13 : Memref sig .tc .vmem S2x8x128 .f32) (harg13 : arg13.IsWhole) (arg14 : Memref sig .tc .vmem S2x128x512 .f32) (harg14 : arg14.IsWhole) (arg15 : Memref sig .tc .vmem S2x128x512 .f32) (harg15 : arg15.IsWhole) (arg16 : Memref sig .tc .vmem S2x8x128x128 .f32) (harg16 : arg16.IsWhole) (arg17 : Memref sig .tc .vmem S2x8x128 .f32) (harg17 : arg17.IsWhole) (arg18 : Memref sig .tc .vmem S2x8x128 .f32) (harg18 : arg18.IsWhole) (arg19 : Memref sig .tc .vmem S16x128x128 .f32) (harg19 : arg19.IsWhole) (arg20 : Memref sig .tc .vmem S16x128 .f32) (harg20 : arg20.IsWhole) (arg21 : Memref sig .tc .vmem S16x128 .f32) (harg21 : arg21.IsWhole) (hc0 : ¬cond0_0 i) (hc1 : cond0_1 i) (x0 : Vec Ideal S2x128x512 .f32) (x1 : Vec Ideal S2x128x512 .f32) (x2 : Vec Ideal S2x128x512 .f32) (x3 : Vec Ideal S2x128x128 .f32) (x4 : Vec Ideal S2x128x512 .f32) (x5 : Vec Ideal S2x128x512 .f32) (x6 : Vec Ideal S2x128x512 .f32) (x7 : Vec Ideal S2x128x128 .f32) (x8 : Vec Ideal S1x128 .f32) (x9 : Vec Ideal S2x8x128x128 .f32) (x10 : Vec Ideal S2x8x128 .f32) (x11 : Vec Ideal S2x8x128 .f32) (xs0 : Vec Ideal S16x128x128 .f32) (xs1 : Vec Ideal S16x128 .f32) (xs2 : Vec Ideal S16x128 .f32) (p : Fin 2) (t : Fin 128) (l : Fin 512) : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2 (ix3 p t l) = tH 0 KL x0 x1 x2 x3 x8 (rowB xs2 p 0 (hd l)) (rowB xs1 p 0 (hd l)) (ctB xs0 p 0 (hd l)) p (hd l) (ix3 0 t (ln l)) := by
  generalize hz : tH 0 KL x0 x1 x2 x3 x8 (rowB xs2 p 0 (hd l)) (rowB xs1 p 0 (hd l)) (ctB xs0 p 0 (hd l)) p (hd l) (ix3 0 t (ln l)) = z
  frame_open
  simp (disch := decide) only [↓ View.readCov_skip, ↓ View.readCov_cons_toLoadRect, ↓ View.readCov_fill]
  frame_out
  clear * - hz
  subst hz
  canon_tiles x hh
  case piece0 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 3 from Fin.ext (by simp [hd] <;> omega), e1]
    sl_kernel_rfl
  case piece1 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 2 from Fin.ext (by simp [hd] <;> omega), e1]
    sl_kernel_rfl
  case piece2 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 1 from Fin.ext (by simp [hd] <;> omega), e1]
    sl_kernel_rfl
  case piece3 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 0 from Fin.ext (by simp [hd] <;> omega), e1]
    sl_kernel_rfl
  case piece4 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 3 from Fin.ext (by simp [hd] <;> omega), e1]
    sl_kernel_rfl
  case piece5 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 2 from Fin.ext (by simp [hd] <;> omega), e1]
    sl_kernel_rfl
  case piece6 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 1 from Fin.ext (by simp [hd] <;> omega), e1]
    sl_kernel_rfl
  case piece7 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 0 from Fin.ext (by simp [hd] <;> omega), e1]
    sl_kernel_rfl

theorem out0_B_13_at (c : Dev nD) (i : grid0.Coords) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x128x128 .f32) (harg5 : arg5.IsWhole) (arg6 : Memref sig .tc .vmem S2x128x512 .f32) (harg6 : arg6.IsWhole) (arg7 : Memref sig .tc .vmem S2x128x512 .f32) (harg7 : arg7.IsWhole) (arg8 : Memref sig .tc .vmem S2x128x512 .f32) (harg8 : arg8.IsWhole) (arg9 : Memref sig .tc .vmem S2x128x128 .f32) (harg9 : arg9.IsWhole) (arg10 : Memref sig .tc .vmem S1x128 .f32) (harg10 : arg10.IsWhole) (arg11 : Memref sig .tc .vmem S2x8x128x128 .f32) (harg11 : arg11.IsWhole) (arg12 : Memref sig .tc .vmem S2x8x128 .f32) (harg12 : arg12.IsWhole) (arg13 : Memref sig .tc .vmem S2x8x128 .f32) (harg13 : arg13.IsWhole) (arg14 : Memref sig .tc .vmem S2x128x512 .f32) (harg14 : arg14.IsWhole) (arg15 : Memref sig .tc .vmem S2x128x512 .f32) (harg15 : arg15.IsWhole) (arg16 : Memref sig .tc .vmem S2x8x128x128 .f32) (harg16 : arg16.IsWhole) (arg17 : Memref sig .tc .vmem S2x8x128 .f32) (harg17 : arg17.IsWhole) (arg18 : Memref sig .tc .vmem S2x8x128 .f32) (harg18 : arg18.IsWhole) (arg19 : Memref sig .tc .vmem S16x128x128 .f32) (harg19 : arg19.IsWhole) (arg20 : Memref sig .tc .vmem S16x128 .f32) (harg20 : arg20.IsWhole) (arg21 : Memref sig .tc .vmem S16x128 .f32) (harg21 : arg21.IsWhole) (hc0 : ¬cond0_0 i) (hc1 : cond0_1 i) (x0 : Vec Ideal S2x128x512 .f32) (x1 : Vec Ideal S2x128x512 .f32) (x2 : Vec Ideal S2x128x512 .f32) (x3 : Vec Ideal S2x128x128 .f32) (x4 : Vec Ideal S2x128x512 .f32) (x5 : Vec Ideal S2x128x512 .f32) (x6 : Vec Ideal S2x128x512 .f32) (x7 : Vec Ideal S2x128x128 .f32) (x8 : Vec Ideal S1x128 .f32) (x9 : Vec Ideal S2x8x128x128 .f32) (x10 : Vec Ideal S2x8x128 .f32) (x11 : Vec Ideal S2x8x128 .f32) (xs0 : Vec Ideal S16x128x128 .f32) (xs1 : Vec Ideal S16x128 .f32) (xs2 : Vec Ideal S16x128 .f32) (p : Fin 2) (t : Fin 128) (l : Fin 512) : out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2 (ix3 p t l) = tH 1 KU x4 x5 x6 x7 x8 (rowB xs2 p 1 (hd l)) (rowB xs1 p 1 (hd l)) (ctB xs0 p 1 (hd l)) p (hd l) (ix3 0 t (ln l)) := by
  generalize hz : tH 1 KU x4 x5 x6 x7 x8 (rowB xs2 p 1 (hd l)) (rowB xs1 p 1 (hd l)) (ctB xs0 p 1 (hd l)) p (hd l) (ix3 0 t (ln l)) = z
  frame_open
  simp (disch := decide) only [↓ View.readCov_skip, ↓ View.readCov_cons_toLoadRect, ↓ View.readCov_fill]
  frame_out
  clear * - hz
  subst hz
  canon_tiles x hh
  case piece0 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 3 from Fin.ext (by simp [hd] <;> omega), e1]
    sl_kernel_rfl
  case piece1 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 2 from Fin.ext (by simp [hd] <;> omega), e1]
    sl_kernel_rfl
  case piece2 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 1 from Fin.ext (by simp [hd] <;> omega), e1]
    sl_kernel_rfl
  case piece3 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 1 := Fin.ext (by omega)
    rw [show hd l = 0 from Fin.ext (by simp [hd] <;> omega), e1]
    sl_kernel_rfl
  case piece4 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 3 from Fin.ext (by simp [hd] <;> omega), e1]
    sl_kernel_rfl
  case piece5 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 2 from Fin.ext (by simp [hd] <;> omega), e1]
    sl_kernel_rfl
  case piece6 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 1 from Fin.ext (by simp [hd] <;> omega), e1]
    sl_kernel_rfl
  case piece7 =>
    have hg : p.val = _ := hh0
    have ht : t.val = (x 1).val := hh1
    have hl : l.val = _ := hh2
    clear hh0 hh1 hh2
    have e1 : x = ix3 0 t (ln l) := by
      refine (eq_ix3 x).trans ?_
      blk_ext [ln]
    obtain rfl : p = 0 := Fin.ext (by omega)
    rw [show hd l = 0 from Fin.ext (by simp [hd] <;> omega), e1]
    sl_kernel_rfl

theorem out0_B_14_at (c : Dev nD) (i : grid0.Coords) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x128x128 .f32) (harg5 : arg5.IsWhole) (arg6 : Memref sig .tc .vmem S2x128x512 .f32) (harg6 : arg6.IsWhole) (arg7 : Memref sig .tc .vmem S2x128x512 .f32) (harg7 : arg7.IsWhole) (arg8 : Memref sig .tc .vmem S2x128x512 .f32) (harg8 : arg8.IsWhole) (arg9 : Memref sig .tc .vmem S2x128x128 .f32) (harg9 : arg9.IsWhole) (arg10 : Memref sig .tc .vmem S1x128 .f32) (harg10 : arg10.IsWhole) (arg11 : Memref sig .tc .vmem S2x8x128x128 .f32) (harg11 : arg11.IsWhole) (arg12 : Memref sig .tc .vmem S2x8x128 .f32) (harg12 : arg12.IsWhole) (arg13 : Memref sig .tc .vmem S2x8x128 .f32) (harg13 : arg13.IsWhole) (arg14 : Memref sig .tc .vmem S2x128x512 .f32) (harg14 : arg14.IsWhole) (arg15 : Memref sig .tc .vmem S2x128x512 .f32) (harg15 : arg15.IsWhole) (arg16 : Memref sig .tc .vmem S2x8x128x128 .f32) (harg16 : arg16.IsWhole) (arg17 : Memref sig .tc .vmem S2x8x128 .f32) (harg17 : arg17.IsWhole) (arg18 : Memref sig .tc .vmem S2x8x128 .f32) (harg18 : arg18.IsWhole) (arg19 : Memref sig .tc .vmem S16x128x128 .f32) (harg19 : arg19.IsWhole) (arg20 : Memref sig .tc .vmem S16x128 .f32) (harg20 : arg20.IsWhole) (arg21 : Memref sig .tc .vmem S16x128 .f32) (harg21 : arg21.IsWhole) (hc0 : ¬cond0_0 i) (hc1 : cond0_1 i) (x0 : Vec Ideal S2x128x512 .f32) (x1 : Vec Ideal S2x128x512 .f32) (x2 : Vec Ideal S2x128x512 .f32) (x3 : Vec Ideal S2x128x128 .f32) (x4 : Vec Ideal S2x128x512 .f32) (x5 : Vec Ideal S2x128x512 .f32) (x6 : Vec Ideal S2x128x512 .f32) (x7 : Vec Ideal S2x128x128 .f32) (x8 : Vec Ideal S1x128 .f32) (x9 : Vec Ideal S2x8x128x128 .f32) (x10 : Vec Ideal S2x8x128 .f32) (x11 : Vec Ideal S2x8x128 .f32) (xs0 : Vec Ideal S16x128x128 .f32) (xs1 : Vec Ideal S16x128 .f32) (xs2 : Vec Ideal S16x128 .f32) (p d : Fin 2) (h : Fin 4) (a b : Fin 128) : out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2 (ix4 p (ix8 d h) a b) = tC d (![KL, KU] d) (![reF, reB] d) (![x1, x5] d) (![x2, x6] d) (![x3, x7] d) x8 (rowB xs2 p d h) (ctB xs0 p d h) p h (ix3 0 b a) := by
  generalize hz : tC d (![KL, KU] d) (![reF, reB] d) (![x1, x5] d) (![x2, x6] d) (![x3, x7] d) x8 (rowB xs2 p d h) (ctB xs0 p d h) p h (ix3 0 b a) = z
  frame_open
  simp (disch := decide) only [↓ View.readCov_skip, ↓ View.readCov_cons_toLoadRect, ↓ View.readCov_fill]
  frame_out
  clear * - hz
  subst hz
  canon_tiles x hh
  case piece0 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 1 := Fin.ext (by omega)
    obtain rfl : d = 1 := Fin.ext (by omega)
    obtain rfl : h = 3 := Fin.ext (by omega)
    rw [e1]
    refine Eq.trans (?_ : _ = outC (tC 1 (![KL, KU] 1) (![reF, reB] 1) (![x1, x5] 1) (![x2, x6] 1) (![x3, x7] 1) x8 (rowB xs2 1 1 3) (ctB xs0 1 1 3) 1 3 ) (ix4 0 0 a b)) (outC_at _ a b)
    sl_kernel_rfl
  case piece1 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 1 := Fin.ext (by omega)
    obtain rfl : d = 1 := Fin.ext (by omega)
    obtain rfl : h = 2 := Fin.ext (by omega)
    rw [e1]
    refine Eq.trans (?_ : _ = outC (tC 1 (![KL, KU] 1) (![reF, reB] 1) (![x1, x5] 1) (![x2, x6] 1) (![x3, x7] 1) x8 (rowB xs2 1 1 2) (ctB xs0 1 1 2) 1 2 ) (ix4 0 0 a b)) (outC_at _ a b)
    sl_kernel_rfl
  case piece2 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 1 := Fin.ext (by omega)
    obtain rfl : d = 1 := Fin.ext (by omega)
    obtain rfl : h = 1 := Fin.ext (by omega)
    rw [e1]
    refine Eq.trans (?_ : _ = outC (tC 1 (![KL, KU] 1) (![reF, reB] 1) (![x1, x5] 1) (![x2, x6] 1) (![x3, x7] 1) x8 (rowB xs2 1 1 1) (ctB xs0 1 1 1) 1 1 ) (ix4 0 0 a b)) (outC_at _ a b)
    sl_kernel_rfl
  case piece3 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 1 := Fin.ext (by omega)
    obtain rfl : d = 1 := Fin.ext (by omega)
    obtain rfl : h = 0 := Fin.ext (by omega)
    rw [e1]
    refine Eq.trans (?_ : _ = outC (tC 1 (![KL, KU] 1) (![reF, reB] 1) (![x1, x5] 1) (![x2, x6] 1) (![x3, x7] 1) x8 (rowB xs2 1 1 0) (ctB xs0 1 1 0) 1 0 ) (ix4 0 0 a b)) (outC_at _ a b)
    sl_kernel_rfl
  case piece4 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 1 := Fin.ext (by omega)
    obtain rfl : d = 0 := Fin.ext (by omega)
    obtain rfl : h = 3 := Fin.ext (by omega)
    rw [e1]
    refine Eq.trans (?_ : _ = outC (tC 0 (![KL, KU] 0) (![reF, reB] 0) (![x1, x5] 0) (![x2, x6] 0) (![x3, x7] 0) x8 (rowB xs2 1 0 3) (ctB xs0 1 0 3) 1 3 ) (ix4 0 0 a b)) (outC_at _ a b)
    sl_kernel_rfl
  case piece5 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 1 := Fin.ext (by omega)
    obtain rfl : d = 0 := Fin.ext (by omega)
    obtain rfl : h = 2 := Fin.ext (by omega)
    rw [e1]
    refine Eq.trans (?_ : _ = outC (tC 0 (![KL, KU] 0) (![reF, reB] 0) (![x1, x5] 0) (![x2, x6] 0) (![x3, x7] 0) x8 (rowB xs2 1 0 2) (ctB xs0 1 0 2) 1 2 ) (ix4 0 0 a b)) (outC_at _ a b)
    sl_kernel_rfl
  case piece6 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 1 := Fin.ext (by omega)
    obtain rfl : d = 0 := Fin.ext (by omega)
    obtain rfl : h = 1 := Fin.ext (by omega)
    rw [e1]
    refine Eq.trans (?_ : _ = outC (tC 0 (![KL, KU] 0) (![reF, reB] 0) (![x1, x5] 0) (![x2, x6] 0) (![x3, x7] 0) x8 (rowB xs2 1 0 1) (ctB xs0 1 0 1) 1 1 ) (ix4 0 0 a b)) (outC_at _ a b)
    sl_kernel_rfl
  case piece7 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 1 := Fin.ext (by omega)
    obtain rfl : d = 0 := Fin.ext (by omega)
    obtain rfl : h = 0 := Fin.ext (by omega)
    rw [e1]
    refine Eq.trans (?_ : _ = outC (tC 0 (![KL, KU] 0) (![reF, reB] 0) (![x1, x5] 0) (![x2, x6] 0) (![x3, x7] 0) x8 (rowB xs2 1 0 0) (ctB xs0 1 0 0) 1 0 ) (ix4 0 0 a b)) (outC_at _ a b)
    sl_kernel_rfl
  case piece8 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 0 := Fin.ext (by omega)
    obtain rfl : d = 1 := Fin.ext (by omega)
    obtain rfl : h = 3 := Fin.ext (by omega)
    rw [e1]
    refine Eq.trans (?_ : _ = outC (tC 1 (![KL, KU] 1) (![reF, reB] 1) (![x1, x5] 1) (![x2, x6] 1) (![x3, x7] 1) x8 (rowB xs2 0 1 3) (ctB xs0 0 1 3) 0 3 ) (ix4 0 0 a b)) (outC_at _ a b)
    sl_kernel_rfl
  case piece9 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 0 := Fin.ext (by omega)
    obtain rfl : d = 1 := Fin.ext (by omega)
    obtain rfl : h = 2 := Fin.ext (by omega)
    rw [e1]
    refine Eq.trans (?_ : _ = outC (tC 1 (![KL, KU] 1) (![reF, reB] 1) (![x1, x5] 1) (![x2, x6] 1) (![x3, x7] 1) x8 (rowB xs2 0 1 2) (ctB xs0 0 1 2) 0 2 ) (ix4 0 0 a b)) (outC_at _ a b)
    sl_kernel_rfl
  case piece10 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 0 := Fin.ext (by omega)
    obtain rfl : d = 1 := Fin.ext (by omega)
    obtain rfl : h = 1 := Fin.ext (by omega)
    rw [e1]
    refine Eq.trans (?_ : _ = outC (tC 1 (![KL, KU] 1) (![reF, reB] 1) (![x1, x5] 1) (![x2, x6] 1) (![x3, x7] 1) x8 (rowB xs2 0 1 1) (ctB xs0 0 1 1) 0 1 ) (ix4 0 0 a b)) (outC_at _ a b)
    sl_kernel_rfl
  case piece11 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 0 := Fin.ext (by omega)
    obtain rfl : d = 1 := Fin.ext (by omega)
    obtain rfl : h = 0 := Fin.ext (by omega)
    rw [e1]
    refine Eq.trans (?_ : _ = outC (tC 1 (![KL, KU] 1) (![reF, reB] 1) (![x1, x5] 1) (![x2, x6] 1) (![x3, x7] 1) x8 (rowB xs2 0 1 0) (ctB xs0 0 1 0) 0 0 ) (ix4 0 0 a b)) (outC_at _ a b)
    sl_kernel_rfl
  case piece12 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 0 := Fin.ext (by omega)
    obtain rfl : d = 0 := Fin.ext (by omega)
    obtain rfl : h = 3 := Fin.ext (by omega)
    rw [e1]
    refine Eq.trans (?_ : _ = outC (tC 0 (![KL, KU] 0) (![reF, reB] 0) (![x1, x5] 0) (![x2, x6] 0) (![x3, x7] 0) x8 (rowB xs2 0 0 3) (ctB xs0 0 0 3) 0 3 ) (ix4 0 0 a b)) (outC_at _ a b)
    sl_kernel_rfl
  case piece13 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 0 := Fin.ext (by omega)
    obtain rfl : d = 0 := Fin.ext (by omega)
    obtain rfl : h = 2 := Fin.ext (by omega)
    rw [e1]
    refine Eq.trans (?_ : _ = outC (tC 0 (![KL, KU] 0) (![reF, reB] 0) (![x1, x5] 0) (![x2, x6] 0) (![x3, x7] 0) x8 (rowB xs2 0 0 2) (ctB xs0 0 0 2) 0 2 ) (ix4 0 0 a b)) (outC_at _ a b)
    sl_kernel_rfl
  case piece14 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 0 := Fin.ext (by omega)
    obtain rfl : d = 0 := Fin.ext (by omega)
    obtain rfl : h = 1 := Fin.ext (by omega)
    rw [e1]
    refine Eq.trans (?_ : _ = outC (tC 0 (![KL, KU] 0) (![reF, reB] 0) (![x1, x5] 0) (![x2, x6] 0) (![x3, x7] 0) x8 (rowB xs2 0 0 1) (ctB xs0 0 0 1) 0 1 ) (ix4 0 0 a b)) (outC_at _ a b)
    sl_kernel_rfl
  case piece15 =>
    have hp : p.val = _ := hh0
    have hg : 4 * d.val + h.val = _ := hh1
    have ha : a.val = (x 2).val := hh2
    have hb : b.val = (x 3).val := hh3
    clear hh0 hh1 hh2 hh3
    have e1 : x = ix4 0 0 a b := by
      refine (eq_ix4 x).trans ?_
      blk_ext
    obtain rfl : p = 0 := Fin.ext (by omega)
    obtain rfl : d = 0 := Fin.ext (by omega)
    obtain rfl : h = 0 := Fin.ext (by omega)
    rw [e1]
    refine Eq.trans (?_ : _ = outC (tC 0 (![KL, KU] 0) (![reF, reB] 0) (![x1, x5] 0) (![x2, x6] 0) (![x3, x7] 0) x8 (rowB xs2 0 0 0) (ctB xs0 0 0 0) 0 0 ) (ix4 0 0 a b)) (outC_at _ a b)
    sl_kernel_rfl

theorem out0_B_15_at (c : Dev nD) (i : grid0.Coords) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x128x128 .f32) (harg5 : arg5.IsWhole) (arg6 : Memref sig .tc .vmem S2x128x512 .f32) (harg6 : arg6.IsWhole) (arg7 : Memref sig .tc .vmem S2x128x512 .f32) (harg7 : arg7.IsWhole) (arg8 : Memref sig .tc .vmem S2x128x512 .f32) (harg8 : arg8.IsWhole) (arg9 : Memref sig .tc .vmem S2x128x128 .f32) (harg9 : arg9.IsWhole) (arg10 : Memref sig .tc .vmem S1x128 .f32) (harg10 : arg10.IsWhole) (arg11 : Memref sig .tc .vmem S2x8x128x128 .f32) (harg11 : arg11.IsWhole) (arg12 : Memref sig .tc .vmem S2x8x128 .f32) (harg12 : arg12.IsWhole) (arg13 : Memref sig .tc .vmem S2x8x128 .f32) (harg13 : arg13.IsWhole) (arg14 : Memref sig .tc .vmem S2x128x512 .f32) (harg14 : arg14.IsWhole) (arg15 : Memref sig .tc .vmem S2x128x512 .f32) (harg15 : arg15.IsWhole) (arg16 : Memref sig .tc .vmem S2x8x128x128 .f32) (harg16 : arg16.IsWhole) (arg17 : Memref sig .tc .vmem S2x8x128 .f32) (harg17 : arg17.IsWhole) (arg18 : Memref sig .tc .vmem S2x8x128 .f32) (harg18 : arg18.IsWhole) (arg19 : Memref sig .tc .vmem S16x128x128 .f32) (harg19 : arg19.IsWhole) (arg20 : Memref sig .tc .vmem S16x128 .f32) (harg20 : arg20.IsWhole) (arg21 : Memref sig .tc .vmem S16x128 .f32) (harg21 : arg21.IsWhole) (hc0 : ¬cond0_0 i) (hc1 : cond0_1 i) (x0 : Vec Ideal S2x128x512 .f32) (x1 : Vec Ideal S2x128x512 .f32) (x2 : Vec Ideal S2x128x512 .f32) (x3 : Vec Ideal S2x128x128 .f32) (x4 : Vec Ideal S2x128x512 .f32) (x5 : Vec Ideal S2x128x512 .f32) (x6 : Vec Ideal S2x128x512 .f32) (x7 : Vec Ideal S2x128x128 .f32) (x8 : Vec Ideal S1x128 .f32) (x9 : Vec Ideal S2x8x128x128 .f32) (x10 : Vec Ideal S2x8x128 .f32) (x11 : Vec Ideal S2x8x128 .f32) (xs0 : Vec Ideal S16x128x128 .f32) (xs1 : Vec Ideal S16x128 .f32) (xs2 : Vec Ideal S16x128 .f32) (p d : Fin 2) (h : Fin 4) (a : Fin 128) : out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2 (ix3 p (ix8 d h) a) = tN d (![KL, KU] d) (![reF, reB] d) (![x1, x5] d) (![x3, x7] d) x8 (rowB xs2 p d h) (rowB xs1 p d h) p h (ix2 0 a) := by
  generalize hz : tN d (![KL, KU] d) (![reF, reB] d) (![x1, x5] d) (![x3, x7] d) x8 (rowB xs2 p d h) (rowB xs1 p d h) p h (ix2 0 a) = z
  frame_open
  simp (disch := decide) only [↓ View.readCov_skip, ↓ View.readCov_cons_toLoadRect, ↓ View.readCov_fill]
  frame_out
  clear * - hz
  subst hz
  canon_tiles x hh
  case piece0 =>
    have hp : p.val = _ := hh0
    have hg : 4 * d.val + h.val = (x 1).val := hh1
    have ha : a.val = (x 2).val := hh2
    clear hh0 hh1 hh2
    have e1 : x = ix3 0 (ix8 d h) a := by
      refine (eq_ix3 x).trans ?_
      blk_ext [ix8]
    obtain rfl : p = 1 := Fin.ext (by omega)
    rw [e1]
    clear e1
    first | refine (pay4_at _ _ _).trans ?_ | refine (pay5_at _ _ _).trans ?_ | refine (pay33_at _ _ _).trans ?_ | refine (pay34_at _ _ _).trans ?_
    rw [View.readCov_eq_canon']
    refine (congrArg _ (idxR 1 d h a _)).trans ?_
    refine cstepR 15 _ _ _ _ _ (fun n => ?_) (fun n15 => ?_)
    · have hg : 8 * 1 + (4 * d.val + h.val) = 15 := n
      obtain rfl : d = 1 := Fin.ext (by omega)
      obtain rfl : h = 3 := Fin.ext (by omega)
      sl_kernel_rfl
    refine cstepR 14 _ _ _ _ _ (fun n => ?_) (fun n14 => ?_)
    · have hg : 8 * 1 + (4 * d.val + h.val) = 14 := n
      obtain rfl : d = 1 := Fin.ext (by omega)
      obtain rfl : h = 2 := Fin.ext (by omega)
      sl_kernel_rfl
    refine cstepR 13 _ _ _ _ _ (fun n => ?_) (fun n13 => ?_)
    · have hg : 8 * 1 + (4 * d.val + h.val) = 13 := n
      obtain rfl : d = 1 := Fin.ext (by omega)
      obtain rfl : h = 1 := Fin.ext (by omega)
      sl_kernel_rfl
    refine cstepR 12 _ _ _ _ _ (fun n => ?_) (fun n12 => ?_)
    · have hg : 8 * 1 + (4 * d.val + h.val) = 12 := n
      obtain rfl : d = 1 := Fin.ext (by omega)
      obtain rfl : h = 0 := Fin.ext (by omega)
      sl_kernel_rfl
    refine cstepR 11 _ _ _ _ _ (fun n => ?_) (fun n11 => ?_)
    · have hg : 8 * 1 + (4 * d.val + h.val) = 11 := n
      obtain rfl : d = 0 := Fin.ext (by omega)
      obtain rfl : h = 3 := Fin.ext (by omega)
      sl_kernel_rfl
    refine cstepR 10 _ _ _ _ _ (fun n => ?_) (fun n10 => ?_)
    · have hg : 8 * 1 + (4 * d.val + h.val) = 10 := n
      obtain rfl : d = 0 := Fin.ext (by omega)
      obtain rfl : h = 2 := Fin.ext (by omega)
      sl_kernel_rfl
    refine cstepR 9 _ _ _ _ _ (fun n => ?_) (fun n9 => ?_)
    · have hg : 8 * 1 + (4 * d.val + h.val) = 9 := n
      obtain rfl : d = 0 := Fin.ext (by omega)
      obtain rfl : h = 1 := Fin.ext (by omega)
      sl_kernel_rfl
    refine cstepR 8 _ _ _ _ _ (fun n => ?_) (fun n8 => ?_)
    · have hg : 8 * 1 + (4 * d.val + h.val) = 8 := n
      obtain rfl : d = 0 := Fin.ext (by omega)
      obtain rfl : h = 0 := Fin.ext (by omega)
      sl_kernel_rfl
    exfalso
    have m15 : 8 * 1 + (4 * d.val + h.val) ≠ 15 := n15
    have m14 : 8 * 1 + (4 * d.val + h.val) ≠ 14 := n14
    have m13 : 8 * 1 + (4 * d.val + h.val) ≠ 13 := n13
    have m12 : 8 * 1 + (4 * d.val + h.val) ≠ 12 := n12
    have m11 : 8 * 1 + (4 * d.val + h.val) ≠ 11 := n11
    have m10 : 8 * 1 + (4 * d.val + h.val) ≠ 10 := n10
    have m9 : 8 * 1 + (4 * d.val + h.val) ≠ 9 := n9
    have m8 : 8 * 1 + (4 * d.val + h.val) ≠ 8 := n8
    omega
  case piece1 =>
    have hp : p.val = _ := hh0
    have hg : 4 * d.val + h.val = (x 1).val := hh1
    have ha : a.val = (x 2).val := hh2
    clear hh0 hh1 hh2
    have e1 : x = ix3 0 (ix8 d h) a := by
      refine (eq_ix3 x).trans ?_
      blk_ext [ix8]
    obtain rfl : p = 0 := Fin.ext (by omega)
    rw [e1]
    clear e1
    first | refine (pay4_at _ _ _).trans ?_ | refine (pay5_at _ _ _).trans ?_ | refine (pay33_at _ _ _).trans ?_ | refine (pay34_at _ _ _).trans ?_
    rw [View.readCov_eq_canon']
    refine (congrArg _ (idxR 0 d h a _)).trans ?_
    refine cstepR 7 _ _ _ _ _ (fun n => ?_) (fun n7 => ?_)
    · have hg : 8 * 0 + (4 * d.val + h.val) = 7 := n
      obtain rfl : d = 1 := Fin.ext (by omega)
      obtain rfl : h = 3 := Fin.ext (by omega)
      sl_kernel_rfl
    refine cstepR 6 _ _ _ _ _ (fun n => ?_) (fun n6 => ?_)
    · have hg : 8 * 0 + (4 * d.val + h.val) = 6 := n
      obtain rfl : d = 1 := Fin.ext (by omega)
      obtain rfl : h = 2 := Fin.ext (by omega)
      sl_kernel_rfl
    refine cstepR 5 _ _ _ _ _ (fun n => ?_) (fun n5 => ?_)
    · have hg : 8 * 0 + (4 * d.val + h.val) = 5 := n
      obtain rfl : d = 1 := Fin.ext (by omega)
      obtain rfl : h = 1 := Fin.ext (by omega)
      sl_kernel_rfl
    refine cstepR 4 _ _ _ _ _ (fun n => ?_) (fun n4 => ?_)
    · have hg : 8 * 0 + (4 * d.val + h.val) = 4 := n
      obtain rfl : d = 1 := Fin.ext (by omega)
      obtain rfl : h = 0 := Fin.ext (by omega)
      sl_kernel_rfl
    refine cstepR 3 _ _ _ _ _ (fun n => ?_) (fun n3 => ?_)
    · have hg : 8 * 0 + (4 * d.val + h.val) = 3 := n
      obtain rfl : d = 0 := Fin.ext (by omega)
      obtain rfl : h = 3 := Fin.ext (by omega)
      sl_kernel_rfl
    refine cstepR 2 _ _ _ _ _ (fun n => ?_) (fun n2 => ?_)
    · have hg : 8 * 0 + (4 * d.val + h.val) = 2 := n
      obtain rfl : d = 0 := Fin.ext (by omega)
      obtain rfl : h = 2 := Fin.ext (by omega)
      sl_kernel_rfl
    refine cstepR 1 _ _ _ _ _ (fun n => ?_) (fun n1 => ?_)
    · have hg : 8 * 0 + (4 * d.val + h.val) = 1 := n
      obtain rfl : d = 0 := Fin.ext (by omega)
      obtain rfl : h = 1 := Fin.ext (by omega)
      sl_kernel_rfl
    refine cstepR 0 _ _ _ _ _ (fun n => ?_) (fun n0 => ?_)
    · have hg : 8 * 0 + (4 * d.val + h.val) = 0 := n
      obtain rfl : d = 0 := Fin.ext (by omega)
      obtain rfl : h = 0 := Fin.ext (by omega)
      sl_kernel_rfl
    exfalso
    have m7 : 8 * 0 + (4 * d.val + h.val) ≠ 7 := n7
    have m6 : 8 * 0 + (4 * d.val + h.val) ≠ 6 := n6
    have m5 : 8 * 0 + (4 * d.val + h.val) ≠ 5 := n5
    have m4 : 8 * 0 + (4 * d.val + h.val) ≠ 4 := n4
    have m3 : 8 * 0 + (4 * d.val + h.val) ≠ 3 := n3
    have m2 : 8 * 0 + (4 * d.val + h.val) ≠ 2 := n2
    have m1 : 8 * 0 + (4 * d.val + h.val) ≠ 1 := n1
    have m0 : 8 * 0 + (4 * d.val + h.val) ≠ 0 := n0
    omega

theorem out0_B_16_at (c : Dev nD) (i : grid0.Coords) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x128x128 .f32) (harg5 : arg5.IsWhole) (arg6 : Memref sig .tc .vmem S2x128x512 .f32) (harg6 : arg6.IsWhole) (arg7 : Memref sig .tc .vmem S2x128x512 .f32) (harg7 : arg7.IsWhole) (arg8 : Memref sig .tc .vmem S2x128x512 .f32) (harg8 : arg8.IsWhole) (arg9 : Memref sig .tc .vmem S2x128x128 .f32) (harg9 : arg9.IsWhole) (arg10 : Memref sig .tc .vmem S1x128 .f32) (harg10 : arg10.IsWhole) (arg11 : Memref sig .tc .vmem S2x8x128x128 .f32) (harg11 : arg11.IsWhole) (arg12 : Memref sig .tc .vmem S2x8x128 .f32) (harg12 : arg12.IsWhole) (arg13 : Memref sig .tc .vmem S2x8x128 .f32) (harg13 : arg13.IsWhole) (arg14 : Memref sig .tc .vmem S2x128x512 .f32) (harg14 : arg14.IsWhole) (arg15 : Memref sig .tc .vmem S2x128x512 .f32) (harg15 : arg15.IsWhole) (arg16 : Memref sig .tc .vmem S2x8x128x128 .f32) (harg16 : arg16.IsWhole) (arg17 : Memref sig .tc .vmem S2x8x128 .f32) (harg17 : arg17.IsWhole) (arg18 : Memref sig .tc .vmem S2x8x128 .f32) (harg18 : arg18.IsWhole) (arg19 : Memref sig .tc .vmem S16x128x128 .f32) (harg19 : arg19.IsWhole) (arg20 : Memref sig .tc .vmem S16x128 .f32) (harg20 : arg20.IsWhole) (arg21 : Memref sig .tc .vmem S16x128 .f32) (harg21 : arg21.IsWhole) (hc0 : ¬cond0_0 i) (hc1 : cond0_1 i) (x0 : Vec Ideal S2x128x512 .f32) (x1 : Vec Ideal S2x128x512 .f32) (x2 : Vec Ideal S2x128x512 .f32) (x3 : Vec Ideal S2x128x128 .f32) (x4 : Vec Ideal S2x128x512 .f32) (x5 : Vec Ideal S2x128x512 .f32) (x6 : Vec Ideal S2x128x512 .f32) (x7 : Vec Ideal S2x128x128 .f32) (x8 : Vec Ideal S1x128 .f32) (x9 : Vec Ideal S2x8x128x128 .f32) (x10 : Vec Ideal S2x8x128 .f32) (x11 : Vec Ideal S2x8x128 .f32) (xs0 : Vec Ideal S16x128x128 .f32) (xs1 : Vec Ideal S16x128 .f32) (xs2 : Vec Ideal S16x128 .f32) (p d : Fin 2) (h : Fin 4) (a : Fin 128) : out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2 (ix3 p (ix8 d h) a) = tM d (![KL, KU] d) (![reF, reB] d) (![x3, x7] d) x8 (rowB xs2 p d h) p h (ix2 0 a) := by
  generalize hz : tM d (![KL, KU] d) (![reF, reB] d) (![x3, x7] d) x8 (rowB xs2 p d h) p h (ix2 0 a) = z
  frame_open
  simp (disch := decide) only [↓ View.readCov_skip, ↓ View.readCov_cons_toLoadRect, ↓ View.readCov_fill]
  frame_out
  clear * - hz
  subst hz
  canon_tiles x hh
  case piece0 =>
    have hp : p.val = _ := hh0
    have hg : 4 * d.val + h.val = (x 1).val := hh1
    have ha : a.val = (x 2).val := hh2
    clear hh0 hh1 hh2
    have e1 : x = ix3 0 (ix8 d h) a := by
      refine (eq_ix3 x).trans ?_
      blk_ext [ix8]
    obtain rfl : p = 1 := Fin.ext (by omega)
    rw [e1]
    clear e1
    first | refine (pay4_at _ _ _).trans ?_ | refine (pay5_at _ _ _).trans ?_ | refine (pay33_at _ _ _).trans ?_ | refine (pay34_at _ _ _).trans ?_
    rw [View.readCov_eq_canon']
    refine (congrArg _ (idxR 1 d h a _)).trans ?_
    refine cstepR 15 _ _ _ _ _ (fun n => ?_) (fun n15 => ?_)
    · have hg : 8 * 1 + (4 * d.val + h.val) = 15 := n
      obtain rfl : d = 1 := Fin.ext (by omega)
      obtain rfl : h = 3 := Fin.ext (by omega)
      sl_kernel_rfl
    refine cstepR 14 _ _ _ _ _ (fun n => ?_) (fun n14 => ?_)
    · have hg : 8 * 1 + (4 * d.val + h.val) = 14 := n
      obtain rfl : d = 1 := Fin.ext (by omega)
      obtain rfl : h = 2 := Fin.ext (by omega)
      sl_kernel_rfl
    refine cstepR 13 _ _ _ _ _ (fun n => ?_) (fun n13 => ?_)
    · have hg : 8 * 1 + (4 * d.val + h.val) = 13 := n
      obtain rfl : d = 1 := Fin.ext (by omega)
      obtain rfl : h = 1 := Fin.ext (by omega)
      sl_kernel_rfl
    refine cstepR 12 _ _ _ _ _ (fun n => ?_) (fun n12 => ?_)
    · have hg : 8 * 1 + (4 * d.val + h.val) = 12 := n
      obtain rfl : d = 1 := Fin.ext (by omega)
      obtain rfl : h = 0 := Fin.ext (by omega)
      sl_kernel_rfl
    refine cstepR 11 _ _ _ _ _ (fun n => ?_) (fun n11 => ?_)
    · have hg : 8 * 1 + (4 * d.val + h.val) = 11 := n
      obtain rfl : d = 0 := Fin.ext (by omega)
      obtain rfl : h = 3 := Fin.ext (by omega)
      sl_kernel_rfl
    refine cstepR 10 _ _ _ _ _ (fun n => ?_) (fun n10 => ?_)
    · have hg : 8 * 1 + (4 * d.val + h.val) = 10 := n
      obtain rfl : d = 0 := Fin.ext (by omega)
      obtain rfl : h = 2 := Fin.ext (by omega)
      sl_kernel_rfl
    refine cstepR 9 _ _ _ _ _ (fun n => ?_) (fun n9 => ?_)
    · have hg : 8 * 1 + (4 * d.val + h.val) = 9 := n
      obtain rfl : d = 0 := Fin.ext (by omega)
      obtain rfl : h = 1 := Fin.ext (by omega)
      sl_kernel_rfl
    refine cstepR 8 _ _ _ _ _ (fun n => ?_) (fun n8 => ?_)
    · have hg : 8 * 1 + (4 * d.val + h.val) = 8 := n
      obtain rfl : d = 0 := Fin.ext (by omega)
      obtain rfl : h = 0 := Fin.ext (by omega)
      sl_kernel_rfl
    exfalso
    have m15 : 8 * 1 + (4 * d.val + h.val) ≠ 15 := n15
    have m14 : 8 * 1 + (4 * d.val + h.val) ≠ 14 := n14
    have m13 : 8 * 1 + (4 * d.val + h.val) ≠ 13 := n13
    have m12 : 8 * 1 + (4 * d.val + h.val) ≠ 12 := n12
    have m11 : 8 * 1 + (4 * d.val + h.val) ≠ 11 := n11
    have m10 : 8 * 1 + (4 * d.val + h.val) ≠ 10 := n10
    have m9 : 8 * 1 + (4 * d.val + h.val) ≠ 9 := n9
    have m8 : 8 * 1 + (4 * d.val + h.val) ≠ 8 := n8
    omega
  case piece1 =>
    have hp : p.val = _ := hh0
    have hg : 4 * d.val + h.val = (x 1).val := hh1
    have ha : a.val = (x 2).val := hh2
    clear hh0 hh1 hh2
    have e1 : x = ix3 0 (ix8 d h) a := by
      refine (eq_ix3 x).trans ?_
      blk_ext [ix8]
    obtain rfl : p = 0 := Fin.ext (by omega)
    rw [e1]
    clear e1
    first | refine (pay4_at _ _ _).trans ?_ | refine (pay5_at _ _ _).trans ?_ | refine (pay33_at _ _ _).trans ?_ | refine (pay34_at _ _ _).trans ?_
    rw [View.readCov_eq_canon']
    refine (congrArg _ (idxR 0 d h a _)).trans ?_
    refine cstepR 7 _ _ _ _ _ (fun n => ?_) (fun n7 => ?_)
    · have hg : 8 * 0 + (4 * d.val + h.val) = 7 := n
      obtain rfl : d = 1 := Fin.ext (by omega)
      obtain rfl : h = 3 := Fin.ext (by omega)
      sl_kernel_rfl
    refine cstepR 6 _ _ _ _ _ (fun n => ?_) (fun n6 => ?_)
    · have hg : 8 * 0 + (4 * d.val + h.val) = 6 := n
      obtain rfl : d = 1 := Fin.ext (by omega)
      obtain rfl : h = 2 := Fin.ext (by omega)
      sl_kernel_rfl
    refine cstepR 5 _ _ _ _ _ (fun n => ?_) (fun n5 => ?_)
    · have hg : 8 * 0 + (4 * d.val + h.val) = 5 := n
      obtain rfl : d = 1 := Fin.ext (by omega)
      obtain rfl : h = 1 := Fin.ext (by omega)
      sl_kernel_rfl
    refine cstepR 4 _ _ _ _ _ (fun n => ?_) (fun n4 => ?_)
    · have hg : 8 * 0 + (4 * d.val + h.val) = 4 := n
      obtain rfl : d = 1 := Fin.ext (by omega)
      obtain rfl : h = 0 := Fin.ext (by omega)
      sl_kernel_rfl
    refine cstepR 3 _ _ _ _ _ (fun n => ?_) (fun n3 => ?_)
    · have hg : 8 * 0 + (4 * d.val + h.val) = 3 := n
      obtain rfl : d = 0 := Fin.ext (by omega)
      obtain rfl : h = 3 := Fin.ext (by omega)
      sl_kernel_rfl
    refine cstepR 2 _ _ _ _ _ (fun n => ?_) (fun n2 => ?_)
    · have hg : 8 * 0 + (4 * d.val + h.val) = 2 := n
      obtain rfl : d = 0 := Fin.ext (by omega)
      obtain rfl : h = 2 := Fin.ext (by omega)
      sl_kernel_rfl
    refine cstepR 1 _ _ _ _ _ (fun n => ?_) (fun n1 => ?_)
    · have hg : 8 * 0 + (4 * d.val + h.val) = 1 := n
      obtain rfl : d = 0 := Fin.ext (by omega)
      obtain rfl : h = 1 := Fin.ext (by omega)
      sl_kernel_rfl
    refine cstepR 0 _ _ _ _ _ (fun n => ?_) (fun n0 => ?_)
    · have hg : 8 * 0 + (4 * d.val + h.val) = 0 := n
      obtain rfl : d = 0 := Fin.ext (by omega)
      obtain rfl : h = 0 := Fin.ext (by omega)
      sl_kernel_rfl
    exfalso
    have m7 : 8 * 0 + (4 * d.val + h.val) ≠ 7 := n7
    have m6 : 8 * 0 + (4 * d.val + h.val) ≠ 6 := n6
    have m5 : 8 * 0 + (4 * d.val + h.val) ≠ 5 := n5
    have m4 : 8 * 0 + (4 * d.val + h.val) ≠ 4 := n4
    have m3 : 8 * 0 + (4 * d.val + h.val) ≠ 3 := n3
    have m2 : 8 * 0 + (4 * d.val + h.val) ≠ 2 := n2
    have m1 : 8 * 0 + (4 * d.val + h.val) ≠ 1 := n1
    have m0 : 8 * 0 + (4 * d.val + h.val) ≠ 0 := n0
    omega

end Cert.MlstmIdeal.Read
-- ==== Proof.MlstmState.lean ====
module

public import proofs.«01_k».proof.Proof.MlstmBridge
public import proofs.«01_k».proof.Proof.MlstmRead
public import proofs.«01_k».proof.Proof.MlstmOut
public import proofs.«01_k».proof.Proof.Gen.MlstmIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmIdeal.Read

open Cert.MlstmIdeal Cert.MlstmIdeal.Gen Cert.Chunk

variable (m : (ℓ : Loc nD τ sig) → Buf (Elt Ideal) ℓ)

/-- The projection and the gates' bias at their coordinates. -/
def zk (c : Dev nD) : Fin 16 → Fin 256 → Fin 3856 → EReal := fun B s l => (m ((c : Thread nD τ).loc main_arg0) : FVec Ideal S16x256x3856 .f32) (ix3 B s l)
def bk (c : Dev nD) : Fin 4 → Fin 4 → EReal := fun g h => (m ((c : Thread nD τ).loc main_arg1) : FVec Ideal S4x4 .f32) (ix2 g h)

/-- The blocks of a direction at a point. -/
def bK (c : Dev nD) (t : Fin cfg0.N) (d : Fin 2) : Vec Ideal S2x128x512 .f32 := (![(X0_1 m c t : Vec Ideal S2x128x512 .f32), (X0_5 m c t : Vec Ideal S2x128x512 .f32)] : Fin 2 → Vec Ideal S2x128x512 .f32) d
def bV (c : Dev nD) (t : Fin cfg0.N) (d : Fin 2) : Vec Ideal S2x128x512 .f32 := (![(X0_2 m c t : Vec Ideal S2x128x512 .f32), (X0_6 m c t : Vec Ideal S2x128x512 .f32)] : Fin 2 → Vec Ideal S2x128x512 .f32) d
def bG (c : Dev nD) (t : Fin cfg0.N) (d : Fin 2) : Vec Ideal S2x128x128 .f32 := (![(iblk m c 3 t : Vec Ideal S2x128x128 .f32), (iblk m c 7 t : Vec Ideal S2x128x128 .f32)] : Fin 2 → Vec Ideal S2x128x128 .f32) d

theorem two {α : Type} (x y : α) (Q : Fin 2 → α → Prop) (h0 : Q 0 x) (h1 : Q 1 y) (d : Fin 2) : Q d ((![x, y] : Fin 2 → α) d) :=
  match d with
  | 0 => h0
  | 1 => h1

theorem bG_at (c : Dev nD) (t : Fin cfg0.N) (p d : Fin 2) : HG (zk m c) (bt t p) (ct t) d p (bG m c t d) :=
  two (iblk m c 3 t : Vec Ideal S2x128x128 .f32) (iblk m c 7 t : Vec Ideal S2x128x128 .f32)
    (fun d X => HG (zk m c) (bt t p) (ct t) d p X) (rd3 m c t p) (rd7 m c t p) d

theorem bB_at (c : Dev nD) (t : Fin cfg0.N) : HB (bk m c) (iblk m c 8 t : Vec Ideal S1x128 .f32) := rd8 m c t

theorem hx0 (c : Dev nD) (t : Fin cfg0.N) (p : Fin 2) : HX (zk m c) (bt t p) (ct t) 0 p 0 (X0_0 m c t : Vec Ideal S2x128x512 .f32) :=
  fun s l => (rd0 m c t p s l).trans rfl
theorem hx1 (c : Dev nD) (t : Fin cfg0.N) (p : Fin 2) : HX (zk m c) (bt t p) (ct t) 0 p 1 (X0_1 m c t : Vec Ideal S2x128x512 .f32) :=
  fun s l => (rd1 m c t p s l).trans rfl
theorem hx2 (c : Dev nD) (t : Fin cfg0.N) (p : Fin 2) : HX (zk m c) (bt t p) (ct t) 0 p 2 (X0_2 m c t : Vec Ideal S2x128x512 .f32) :=
  fun s l => (rd2 m c t p s l).trans rfl
theorem hx4 (c : Dev nD) (t : Fin cfg0.N) (p : Fin 2) : HX (zk m c) (bt t p) (ct t) 1 p 0 (X0_4 m c t : Vec Ideal S2x128x512 .f32) :=
  fun s l => (rd4 m c t p s l).trans rfl
theorem hx5 (c : Dev nD) (t : Fin cfg0.N) (p : Fin 2) : HX (zk m c) (bt t p) (ct t) 1 p 1 (X0_5 m c t : Vec Ideal S2x128x512 .f32) :=
  fun s l => (rd5 m c t p s l).trans rfl
theorem hx6 (c : Dev nD) (t : Fin cfg0.N) (p : Fin 2) : HX (zk m c) (bt t p) (ct t) 1 p 2 (X0_6 m c t : Vec Ideal S2x128x512 .f32) :=
  fun s l => (rd6 m c t p s l).trans rfl
theorem bK_at (c : Dev nD) (t : Fin cfg0.N) (p d : Fin 2) : HX (zk m c) (bt t p) (ct t) d p 1 (bK m c t d) :=
  two (X0_1 m c t : Vec Ideal S2x128x512 .f32) (X0_5 m c t : Vec Ideal S2x128x512 .f32)
    (fun d X => HX (zk m c) (bt t p) (ct t) d p 1 X) (hx1 m c t p) (hx5 m c t p) d

theorem bV_at (c : Dev nD) (t : Fin cfg0.N) (p d : Fin 2) : HX (zk m c) (bt t p) (ct t) d p 2 (bV m c t d) :=
  two (X0_2 m c t : Vec Ideal S2x128x512 .f32) (X0_6 m c t : Vec Ideal S2x128x512 .f32)
    (fun d X => HX (zk m c) (bt t p) (ct t) d p 2 X) (hx2 m c t p) (hx6 m c t p) d

section
variable (c : Dev nD) (t : Fin cfg0.N) (p d : Fin 2) (h : Fin 4)

/-- The states a point of the first chunk starts from. -/
theorem rA11 (j : Fin 128) : rowA (iblk m c 11 t : Vec Ideal S2x8x128 .f32) p d h (ix2 0 j) = (0 : EReal) :=
  (rowA_at _ p d h j).trans (rd11 m c t p (ix8 d h) j)
theorem rA10 (j : Fin 128) : rowA (iblk m c 10 t : Vec Ideal S2x8x128 .f32) p d h (ix2 0 j) = (0 : EReal) :=
  (rowA_at _ p d h j).trans (rd10 m c t p (ix8 d h) j)
theorem cA9 (a e : Fin 128) : ctA (iblk m c 9 t : Vec Ideal S2x8x128x128 .f32) p d h (ix3 0 e a) = (0 : EReal) :=
  (ctA_at _ p d h e a).trans (rd9 m c t p (ix8 d h) a e)

theorem ct0 (h0 : t.val % 2 = 0) : ct t = 0 := Fin.ext h0
theorem ct1 (h1 : t.val % 2 = 1) : ct t = 1 := Fin.ext h1

/-- What a point of the first chunk leaves in the carried states. -/
theorem sA0 (h0 : t.val % 2 = 0) (a b : Fin 128) :
    ((outsAt0 m c t.val t.isLt).2.2.2.2.2.1 : Vec Ideal S16x128x128 .f32) (ix3 (ix16 p d h) a b) = C1 (zk m c) (bk m c) (bt t p) d h b a := by
  rw [outsAt0_A m c t h0 (by omega)]
  dsimp only
  refine (sout0_A_0_at _ _ _ _ _ _ _ _ _ _ _ _ _ _ _ _ _ _ _ _ _ _ _ _ _ _ _ _ _ _ _ _ _ _ _ _ _ _ _ _ _ _ _ _ _ _ _ _ _ _ _ _ _ _ _ _  p d h a b).trans ((tC_g (zk m c) (bk m c) (bt t p) (ct t) d h p (bG m c t d) (iblk m c 8 t : Vec Ideal S1x128 .f32)
    (bK m c t d) (bV m c t d) (rowA (iblk m c 11 t : Vec Ideal S2x8x128 .f32) p d h) (ctA (iblk m c 9 t : Vec Ideal S2x8x128x128 .f32) p d h)
    0 (fun _ _ => 0) (bG_at m c t p d) (bB_at m c t) (bK_at m c t p d) (bV_at m c t p d) (rA11 m c t p d h) (cA9 m c t p d h) a b).trans ?_)
  rw [ct0 t h0]
  rfl

theorem sA1 (h0 : t.val % 2 = 0) (e : Fin 128) :
    ((outsAt0 m c t.val t.isLt).2.2.2.2.2.2.1 : Vec Ideal S16x128 .f32) (ix2 (ix16 p d h) e) = N1 (zk m c) (bk m c) (bt t p) d h e := by
  rw [outsAt0_A m c t h0 (by omega)]
  dsimp only
  refine (sout0_A_1_at _ _ _ _ _ _ _ _ _ _ _ _ _ _ _ _ _ _ _ _ _ _ _ _ _ _ _ _ _ _ _ _ _ _ _ _ _ _ _ _ _ _ _ _ _ _ _ _ _ _ _ _ _ _ _ _  p d h e).trans ((tN_g (zk m c) (bk m c) (bt t p) (ct t) d h p (bG m c t d) (iblk m c 8 t : Vec Ideal S1x128 .f32)
    (bK m c t d) (rowA (iblk m c 11 t : Vec Ideal S2x8x128 .f32) p d h) (rowA (iblk m c 10 t : Vec Ideal S2x8x128 .f32) p d h)
    0 (fun _ => 0) (bG_at m c t p d) (bB_at m c t) (bK_at m c t p d) (rA11 m c t p d h) (rA10 m c t p d h) e).trans ?_)
  rw [ct0 t h0]
  rfl

theorem sA2 (h0 : t.val % 2 = 0) (e : Fin 128) :
    ((outsAt0 m c t.val t.isLt).2.2.2.2.2.2.2 : Vec Ideal S16x128 .f32) (ix2 (ix16 p d h) e) = M1 (zk m c) (bk m c) (bt t p) d h := by
  rw [outsAt0_A m c t h0 (by omega)]
  dsimp only
  refine (sout0_A_2_at _ _ _ _ _ _ _ _ _ _ _ _ _ _ _ _ _ _ _ _ _ _ _ _ _ _ _ _ _ _ _ _ _ _ _ _ _ _ _ _ _ _ _ _ _ _ _ _ _ _ _ _ _ _ _ _  p d h e).trans ((tM_g (zk m c) (bk m c) (bt t p) (ct t) d h p (bG m c t d) (iblk m c 8 t : Vec Ideal S1x128 .f32)
    (rowA (iblk m c 11 t : Vec Ideal S2x8x128 .f32) p d h)
    0 (bG_at m c t p d) (bB_at m c t) (rA11 m c t p d h) e).trans ?_)
  rw [ct0 t h0]
  rfl

/-- The hidden rows of direction 0 at a point of the first chunk. -/
theorem hA12 (h0 : t.val % 2 = 0) (s : Fin 128) (l : Fin 512) :
    ((outsAt0 m c t.val t.isLt).1 : Vec Ideal S2x128x512 .f32) (ix3 p s l) = H0 (zk m c) (bk m c) (bt t p) 0 (hd l) s (ln l) := by
  rw [outsAt0_A m c t h0 (by omega)]
  dsimp only
  refine (out0_A_12_at _ _ _ _ _ _ _ _ _ _ _ _ _ _ _ _ _ _ _ _ _ _ _ _ _ _ _ _ _ _ _ _ _ _ _ _ _ _ _ _ _ _ _ _ _ _ _ _ _ _ _ _ _ _ _ _  p s l).trans ((tH_g (zk m c) (bk m c) (bt t p) (ct t) 0 (hd l) p (iblk m c 3 t : Vec Ideal S2x128x128 .f32) (iblk m c 8 t : Vec Ideal S1x128 .f32)
    (X0_0 m c t : Vec Ideal S2x128x512 .f32) (X0_1 m c t : Vec Ideal S2x128x512 .f32) (X0_2 m c t : Vec Ideal S2x128x512 .f32) (rowA (iblk m c 11 t : Vec Ideal S2x8x128 .f32) p 0 (hd l)) (rowA (iblk m c 10 t : Vec Ideal S2x8x128 .f32) p 0 (hd l)) (ctA (iblk m c 9 t : Vec Ideal S2x8x128x128 .f32) p 0 (hd l))
    0 (fun _ => 0) (fun _ _ => 0) (rd3 m c t p) (rd8 m c t) (hx0 m c t p) (hx1 m c t p) (hx2 m c t p) (rA11 m c t p 0 (hd l)) (rA10 m c t p 0 (hd l)) (cA9 m c t p 0 (hd l)) KL KL_at s (ln l)).trans ?_)
  rw [ct0 t h0]
  rfl

/-- The hidden rows of direction 1 at a point of the first chunk. -/
theorem hA13 (h0 : t.val % 2 = 0) (s : Fin 128) (l : Fin 512) :
    ((outsAt0 m c t.val t.isLt).2.1 : Vec Ideal S2x128x512 .f32) (ix3 p s l) = H0 (zk m c) (bk m c) (bt t p) 1 (hd l) s (ln l) := by
  rw [outsAt0_A m c t h0 (by omega)]
  dsimp only
  refine (out0_A_13_at _ _ _ _ _ _ _ _ _ _ _ _ _ _ _ _ _ _ _ _ _ _ _ _ _ _ _ _ _ _ _ _ _ _ _ _ _ _ _ _ _ _ _ _ _ _ _ _ _ _ _ _ _ _ _ _  p s l).trans ((tH_g (zk m c) (bk m c) (bt t p) (ct t) 1 (hd l) p (iblk m c 7 t : Vec Ideal S2x128x128 .f32) (iblk m c 8 t : Vec Ideal S1x128 .f32)
    (X0_4 m c t : Vec Ideal S2x128x512 .f32) (X0_5 m c t : Vec Ideal S2x128x512 .f32) (X0_6 m c t : Vec Ideal S2x128x512 .f32) (rowA (iblk m c 11 t : Vec Ideal S2x8x128 .f32) p 1 (hd l)) (rowA (iblk m c 10 t : Vec Ideal S2x8x128 .f32) p 1 (hd l)) (ctA (iblk m c 9 t : Vec Ideal S2x8x128x128 .f32) p 1 (hd l))
    0 (fun _ => 0) (fun _ _ => 0) (rd7 m c t p) (rd8 m c t) (hx4 m c t p) (hx5 m c t p) (hx6 m c t p) (rA11 m c t p 1 (hd l)) (rA10 m c t p 1 (hd l)) (cA9 m c t p 1 (hd l)) KU KU_at s (ln l)).trans ?_)
  rw [ct0 t h0]
  rfl

/-- The states a point of the second chunk starts from. -/
theorem cB0 (h1 : t.val % 2 = 1) (a e : Fin 128) : ctB ((outsAt0 m c (t.val - 1) (Nat.lt_of_le_of_lt (Nat.sub_le _ _) t.isLt)).2.2.2.2.2.1 : Vec Ideal S16x128x128 .f32) p d h (ix3 0 e a) = C1 (zk m c) (bk m c) (bt t p) d h a e := by
  have e' : bt ⟨t.val - 1, Nat.lt_of_le_of_lt (Nat.sub_le _ _) t.isLt⟩ p = bt t p := Fin.ext (by
    show (t.val - 1) / 2 * 2 + p.val = t.val / 2 * 2 + p.val
    omega)
  rw [ctB_at, ← e']
  exact sA0 m c ⟨t.val - 1, Nat.lt_of_le_of_lt (Nat.sub_le _ _) t.isLt⟩ p d h (by show (t.val - 1) % 2 = 0; omega) e a

theorem rB1 (h1 : t.val % 2 = 1) (e : Fin 128) : rowB ((outsAt0 m c (t.val - 1) (Nat.lt_of_le_of_lt (Nat.sub_le _ _) t.isLt)).2.2.2.2.2.2.1 : Vec Ideal S16x128 .f32) p d h (ix2 0 e) = N1 (zk m c) (bk m c) (bt t p) d h e := by
  have e' : bt ⟨t.val - 1, Nat.lt_of_le_of_lt (Nat.sub_le _ _) t.isLt⟩ p = bt t p := Fin.ext (by
    show (t.val - 1) / 2 * 2 + p.val = t.val / 2 * 2 + p.val
    omega)
  rw [rowB_at, ← e']
  exact sA1 m c ⟨t.val - 1, Nat.lt_of_le_of_lt (Nat.sub_le _ _) t.isLt⟩ p d h (by show (t.val - 1) % 2 = 0; omega) e

theorem rB2 (h1 : t.val % 2 = 1) (e : Fin 128) : rowB ((outsAt0 m c (t.val - 1) (Nat.lt_of_le_of_lt (Nat.sub_le _ _) t.isLt)).2.2.2.2.2.2.2 : Vec Ideal S16x128 .f32) p d h (ix2 0 e) = M1 (zk m c) (bk m c) (bt t p) d h := by
  have e' : bt ⟨t.val - 1, Nat.lt_of_le_of_lt (Nat.sub_le _ _) t.isLt⟩ p = bt t p := Fin.ext (by
    show (t.val - 1) / 2 * 2 + p.val = t.val / 2 * 2 + p.val
    omega)
  rw [rowB_at, ← e']
  exact sA2 m c ⟨t.val - 1, Nat.lt_of_le_of_lt (Nat.sub_le _ _) t.isLt⟩ p d h (by show (t.val - 1) % 2 = 0; omega) e

/-- What a point of the second chunk leaves. -/
theorem oB14 (h1 : t.val % 2 = 1) (a b : Fin 128) :
    ((outsAt0 m c t.val t.isLt).2.2.1 : Vec Ideal S2x8x128x128 .f32) (ix4 p (ix8 d h) a b) = C2 (zk m c) (bk m c) (bt t p) d h a b := by
  rw [outsAt0_B m c t (by omega) h1]
  dsimp only
  refine (out0_B_14_at _ _ _ _ _ _ _ _ _ _ _ _ _ _ _ _ _ _ _ _ _ _ _ _ _ _ _ _ _ _ _ _ _ _ _ _ _ _ _ _ _ _ _ _ _ _ _ _ _ _ _ _ _ _ _ _ _ _ _  p d h a b).trans ((tC_g (zk m c) (bk m c) (bt t p) (ct t) d h p (bG m c t d) (iblk m c 8 t : Vec Ideal S1x128 .f32)
    (bK m c t d) (bV m c t d) (rowB ((outsAt0 m c (t.val - 1) (Nat.lt_of_le_of_lt (Nat.sub_le _ _) t.isLt)).2.2.2.2.2.2.2 : Vec Ideal S16x128 .f32) p d h) (ctB ((outsAt0 m c (t.val - 1) (Nat.lt_of_le_of_lt (Nat.sub_le _ _) t.isLt)).2.2.2.2.2.1 : Vec Ideal S16x128x128 .f32) p d h)
    (M1 (zk m c) (bk m c) (bt t p) d h) (C1 (zk m c) (bk m c) (bt t p) d h) (bG_at m c t p d) (bB_at m c t) (bK_at m c t p d) (bV_at m c t p d) (rB2 m c t p d h h1) (cB0 m c t p d h h1) b a).trans ?_)
  rw [ct1 t h1]
  rfl

theorem oB15 (h1 : t.val % 2 = 1) (e : Fin 128) :
    ((outsAt0 m c t.val t.isLt).2.2.2.1 : Vec Ideal S2x8x128 .f32) (ix3 p (ix8 d h) e) = N2 (zk m c) (bk m c) (bt t p) d h e := by
  rw [outsAt0_B m c t (by omega) h1]
  dsimp only
  refine (out0_B_15_at _ _ _ _ _ _ _ _ _ _ _ _ _ _ _ _ _ _ _ _ _ _ _ _ _ _ _ _ _ _ _ _ _ _ _ _ _ _ _ _ _ _ _ _ _ _ _ _ _ _ _ _ _ _ _ _ _ _ _  p d h e).trans ((tN_g (zk m c) (bk m c) (bt t p) (ct t) d h p (bG m c t d) (iblk m c 8 t : Vec Ideal S1x128 .f32)
    (bK m c t d) (rowB ((outsAt0 m c (t.val - 1) (Nat.lt_of_le_of_lt (Nat.sub_le _ _) t.isLt)).2.2.2.2.2.2.2 : Vec Ideal S16x128 .f32) p d h) (rowB ((outsAt0 m c (t.val - 1) (Nat.lt_of_le_of_lt (Nat.sub_le _ _) t.isLt)).2.2.2.2.2.2.1 : Vec Ideal S16x128 .f32) p d h)
    (M1 (zk m c) (bk m c) (bt t p) d h) (N1 (zk m c) (bk m c) (bt t p) d h) (bG_at m c t p d) (bB_at m c t) (bK_at m c t p d) (rB2 m c t p d h h1) (rB1 m c t p d h h1) e).trans ?_)
  rw [ct1 t h1]
  rfl

theorem oB16 (h1 : t.val % 2 = 1) (e : Fin 128) :
    ((outsAt0 m c t.val t.isLt).2.2.2.2.1 : Vec Ideal S2x8x128 .f32) (ix3 p (ix8 d h) e) = M2 (zk m c) (bk m c) (bt t p) d h := by
  rw [outsAt0_B m c t (by omega) h1]
  dsimp only
  refine (out0_B_16_at _ _ _ _ _ _ _ _ _ _ _ _ _ _ _ _ _ _ _ _ _ _ _ _ _ _ _ _ _ _ _ _ _ _ _ _ _ _ _ _ _ _ _ _ _ _ _ _ _ _ _ _ _ _ _ _ _ _ _  p d h e).trans ((tM_g (zk m c) (bk m c) (bt t p) (ct t) d h p (bG m c t d) (iblk m c 8 t : Vec Ideal S1x128 .f32)
    (rowB ((outsAt0 m c (t.val - 1) (Nat.lt_of_le_of_lt (Nat.sub_le _ _) t.isLt)).2.2.2.2.2.2.2 : Vec Ideal S16x128 .f32) p d h)
    (M1 (zk m c) (bk m c) (bt t p) d h) (bG_at m c t p d) (bB_at m c t) (rB2 m c t p d h h1) e).trans ?_)
  rw [ct1 t h1]
  rfl

theorem hB12 (h1 : t.val % 2 = 1) (s : Fin 128) (l : Fin 512) :
    ((outsAt0 m c t.val t.isLt).1 : Vec Ideal S2x128x512 .f32) (ix3 p s l) = H1 (zk m c) (bk m c) (bt t p) 0 (hd l) s (ln l) := by
  rw [outsAt0_B m c t (by omega) h1]
  dsimp only
  refine (out0_B_12_at _ _ _ _ _ _ _ _ _ _ _ _ _ _ _ _ _ _ _ _ _ _ _ _ _ _ _ _ _ _ _ _ _ _ _ _ _ _ _ _ _ _ _ _ _ _ _ _ _ _ _ _ _ _ _ _ _ _ _  p s l).trans ((tH_g (zk m c) (bk m c) (bt t p) (ct t) 0 (hd l) p (iblk m c 3 t : Vec Ideal S2x128x128 .f32) (iblk m c 8 t : Vec Ideal S1x128 .f32)
    (X0_0 m c t : Vec Ideal S2x128x512 .f32) (X0_1 m c t : Vec Ideal S2x128x512 .f32) (X0_2 m c t : Vec Ideal S2x128x512 .f32) (rowB ((outsAt0 m c (t.val - 1) (Nat.lt_of_le_of_lt (Nat.sub_le _ _) t.isLt)).2.2.2.2.2.2.2 : Vec Ideal S16x128 .f32) p 0 (hd l)) (rowB ((outsAt0 m c (t.val - 1) (Nat.lt_of_le_of_lt (Nat.sub_le _ _) t.isLt)).2.2.2.2.2.2.1 : Vec Ideal S16x128 .f32) p 0 (hd l)) (ctB ((outsAt0 m c (t.val - 1) (Nat.lt_of_le_of_lt (Nat.sub_le _ _) t.isLt)).2.2.2.2.2.1 : Vec Ideal S16x128x128 .f32) p 0 (hd l))
    (M1 (zk m c) (bk m c) (bt t p) 0 (hd l)) (N1 (zk m c) (bk m c) (bt t p) 0 (hd l)) (C1 (zk m c) (bk m c) (bt t p) 0 (hd l)) (rd3 m c t p) (rd8 m c t) (hx0 m c t p) (hx1 m c t p) (hx2 m c t p) (rB2 m c t p 0 (hd l) h1) (rB1 m c t p 0 (hd l) h1) (cB0 m c t p 0 (hd l) h1) KL KL_at s (ln l)).trans ?_)
  rw [ct1 t h1]
  rfl

theorem hB13 (h1 : t.val % 2 = 1) (s : Fin 128) (l : Fin 512) :
    ((outsAt0 m c t.val t.isLt).2.1 : Vec Ideal S2x128x512 .f32) (ix3 p s l) = H1 (zk m c) (bk m c) (bt t p) 1 (hd l) s (ln l) := by
  rw [outsAt0_B m c t (by omega) h1]
  dsimp only
  refine (out0_B_13_at _ _ _ _ _ _ _ _ _ _ _ _ _ _ _ _ _ _ _ _ _ _ _ _ _ _ _ _ _ _ _ _ _ _ _ _ _ _ _ _ _ _ _ _ _ _ _ _ _ _ _ _ _ _ _ _ _ _ _  p s l).trans ((tH_g (zk m c) (bk m c) (bt t p) (ct t) 1 (hd l) p (iblk m c 7 t : Vec Ideal S2x128x128 .f32) (iblk m c 8 t : Vec Ideal S1x128 .f32)
    (X0_4 m c t : Vec Ideal S2x128x512 .f32) (X0_5 m c t : Vec Ideal S2x128x512 .f32) (X0_6 m c t : Vec Ideal S2x128x512 .f32) (rowB ((outsAt0 m c (t.val - 1) (Nat.lt_of_le_of_lt (Nat.sub_le _ _) t.isLt)).2.2.2.2.2.2.2 : Vec Ideal S16x128 .f32) p 1 (hd l)) (rowB ((outsAt0 m c (t.val - 1) (Nat.lt_of_le_of_lt (Nat.sub_le _ _) t.isLt)).2.2.2.2.2.2.1 : Vec Ideal S16x128 .f32) p 1 (hd l)) (ctB ((outsAt0 m c (t.val - 1) (Nat.lt_of_le_of_lt (Nat.sub_le _ _) t.isLt)).2.2.2.2.2.1 : Vec Ideal S16x128x128 .f32) p 1 (hd l))
    (M1 (zk m c) (bk m c) (bt t p) 1 (hd l)) (N1 (zk m c) (bk m c) (bt t p) 1 (hd l)) (C1 (zk m c) (bk m c) (bt t p) 1 (hd l)) (rd7 m c t p) (rd8 m c t) (hx4 m c t p) (hx5 m c t p) (hx6 m c t p) (rB2 m c t p 1 (hd l) h1) (rB1 m c t p 1 (hd l) h1) (cB0 m c t p 1 (hd l) h1) KU KU_at s (ln l)).trans ?_)
  rw [ct1 t h1]
  rfl

end

end Cert.MlstmIdeal.Read
-- ==== Proof.MlstmFin.lean ====
module

public import proofs.«01_k».proof.Proof.MlstmState
public import proofs.«01_k».proof.Proof.Gen.MlstmIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmIdeal.Read

open Cert.MlstmIdeal Cert.MlstmIdeal.Gen Cert.Chunk

variable (m : (ℓ : Loc nD τ sig) → Buf (Elt Ideal) ℓ)

theorem cl_hd (l : Fin 512) : cl (hd l) (ln l) = l := Fin.ext (by
  show l.val / 128 * 128 + l.val % 128 = l.val
  omega)

theorem ix8_of (i : Fin 8) : ∃ (d : Fin 2) (h : Fin 4), i = ix8 d h := ⟨⟨i.val / 4, by omega⟩, ⟨i.val % 4, by omega⟩, Fin.ext (by
  show i.val = 4 * (i.val / 4) + i.val % 4
  omega)⟩

theorem we12 (O : FVec Ideal S16x256x512 .f32) (t : Fin cfg0.N) (p : Fin 2) (s : Fin 128) (l : Fin 512) :
    O (((cfg0.win 12).blk t).view.emb (ix3 p s l)) = O (ix3 (bt t p) (row 0 (ct t) s) l) := by
  have ht : t.val < 16 := t.isLt
  have e : win0_12.index t = ![t.val / 2, t.val % 2, 0] := (idx t).2.2.2.2.2.2.2.2.2.2.2.2.1
  have hr : row 0 (ct t) s = ⟨t.val % 2 * 128 + s.val, by omega⟩ := Fin.ext (by
    show (t.val % 2 + 0) % 2 * 128 + s.val = t.val % 2 * 128 + s.val
    omega)
  rw [hr]
  unfold bt
  blk_ext [e]

theorem fin12 (c : Dev nD) (O : FVec Ideal S16x256x512 .f32)
    (h0 : ∀ (B : Fin 16) (h : Fin 4) (s e : Fin 128), O (ix3 B (row 0 0 s) (cl h e)) = H0 (zk m c) (bk m c) B 0 h s e)
    (h1 : ∀ (B : Fin 16) (h : Fin 4) (s e : Fin 128), O (ix3 B (row 0 1 s) (cl h e)) = H1 (zk m c) (bk m c) B 0 h s e) :
    (dats m 0 c).arrAt 12 cfg0.N = O := by
  refine (dats m 0 c).arrAt_eq_of_covers 12 _ (by decide +kernel) fun t hf y => ?_
  obtain ⟨p, s, l, rfl⟩ : ∃ (p : Fin 2) (s : Fin 128) (l : Fin 512), y = (ix3 p s l : S2x128x512.Idx) := ⟨y 0, y 1, y 2, eq_ix3 y⟩
  refine Eq.trans ?_ (we12 O t p s l).symm
  blk_simp
  rw [after0_12]
  have hl := cl_hd l
  by_cases ht : t.val % 2 = 0
  · refine (hA12 m c t p ht s l).trans ?_
    rw [← h0, hl, ct0 t ht]
  · refine (hB12 m c t p (by omega) s l).trans ?_
    rw [← h1, hl, ct1 t (by omega)]

theorem we13 (O : FVec Ideal S16x256x512 .f32) (t : Fin cfg0.N) (p : Fin 2) (s : Fin 128) (l : Fin 512) :
    O (((cfg0.win 13).blk t).view.emb (ix3 p s l)) = O (ix3 (bt t p) (row 1 (ct t) s) l) := by
  have ht : t.val < 16 := t.isLt
  have e : win0_13.index t = ![t.val / 2, 1 - t.val % 2, 0] := (idx t).2.2.2.2.2.2.2.2.2.2.2.2.2.1
  have hr : row 1 (ct t) s = ⟨(1 - t.val % 2) * 128 + s.val, by omega⟩ := Fin.ext (by
    show (t.val % 2 + 1) % 2 * 128 + s.val = (1 - t.val % 2) * 128 + s.val
    omega)
  rw [hr]
  unfold bt
  blk_ext [e]

theorem fin13 (c : Dev nD) (O : FVec Ideal S16x256x512 .f32)
    (h0 : ∀ (B : Fin 16) (h : Fin 4) (s e : Fin 128), O (ix3 B (row 1 0 s) (cl h e)) = H0 (zk m c) (bk m c) B 1 h s e)
    (h1 : ∀ (B : Fin 16) (h : Fin 4) (s e : Fin 128), O (ix3 B (row 1 1 s) (cl h e)) = H1 (zk m c) (bk m c) B 1 h s e) :
    (dats m 0 c).arrAt 13 cfg0.N = O := by
  refine (dats m 0 c).arrAt_eq_of_covers 13 _ (by decide +kernel) fun t hf y => ?_
  obtain ⟨p, s, l, rfl⟩ : ∃ (p : Fin 2) (s : Fin 128) (l : Fin 512), y = (ix3 p s l : S2x128x512.Idx) := ⟨y 0, y 1, y 2, eq_ix3 y⟩
  refine Eq.trans ?_ (we13 O t p s l).symm
  blk_simp
  rw [after0_13]
  have hl := cl_hd l
  by_cases ht : t.val % 2 = 0
  · refine (hA13 m c t p ht s l).trans ?_
    rw [← h0, hl, ct0 t ht]
  · refine (hB13 m c t p (by omega) s l).trans ?_
    rw [← h1, hl, ct1 t (by omega)]

theorem we14 (O : FVec Ideal S16x8x128x128 .f32) (t : Fin cfg0.N) (p : Fin 2) (i : Fin 8) (a e : Fin 128) :
    O (((cfg0.win 14).blk t).view.emb (ix4 p i a e)) = O (ix4 (bt t p) i a e) := by
  have ht : t.val < 16 := t.isLt
  have e' : win0_14.index t = ![t.val / 2, 0, 0, 0] := (idx t).2.2.2.2.2.2.2.2.2.2.2.2.2.2.1
  unfold bt
  blk_ext [e']

theorem fin14 (c : Dev nD) (O : FVec Ideal S16x8x128x128 .f32)
    (h0 : ∀ (B : Fin 16) (d : Fin 2) (h : Fin 4) (a e : Fin 128), O (ix4 B (ix8 d h) a e) = C2 (zk m c) (bk m c) B d h a e) :
    (dats m 0 c).arrAt 14 cfg0.N = O := by
  refine (dats m 0 c).arrAt_eq_of_covers 14 _ (by decide +kernel) fun t hf y => ?_
  have ht : t.val % 2 = 1 := (flush0_14 t).mp hf
  obtain ⟨p, i, a, e, rfl⟩ : ∃ (p : Fin 2) (i : Fin 8) (a e : Fin 128), y = (ix4 p i a e : S2x8x128x128.Idx) := ⟨y 0, y 1, y 2, y 3, eq_ix4 y⟩
  obtain ⟨d, h, rfl⟩ := ix8_of i
  refine Eq.trans ?_ (we14 O t p (ix8 d h) a e).symm
  blk_simp
  rw [after0_14]
  exact (oB14 m c t p d h ht a e).trans (h0 (bt t p) d h a e).symm

theorem we15 (O : FVec Ideal S16x8x128 .f32) (t : Fin cfg0.N) (p : Fin 2) (i : Fin 8) (e : Fin 128) :
    O (((cfg0.win 15).blk t).view.emb (ix3 p i e)) = O (ix3 (bt t p) i e) := by
  have ht : t.val < 16 := t.isLt
  have e' : win0_15.index t = ![t.val / 2, 0, 0] := (idx t).2.2.2.2.2.2.2.2.2.2.2.2.2.2.2.1
  unfold bt
  blk_ext [e']

theorem fin15 (c : Dev nD) (O : FVec Ideal S16x8x128 .f32)
    (h0 : ∀ (B : Fin 16) (d : Fin 2) (h : Fin 4) (e : Fin 128), O (ix3 B (ix8 d h) e) = N2 (zk m c) (bk m c) B d h e) :
    (dats m 0 c).arrAt 15 cfg0.N = O := by
  refine (dats m 0 c).arrAt_eq_of_covers 15 _ (by decide +kernel) fun t hf y => ?_
  have ht : t.val % 2 = 1 := (flush0_15 t).mp hf
  obtain ⟨p, i, e, rfl⟩ : ∃ (p : Fin 2) (i : Fin 8) (e : Fin 128), y = (ix3 p i e : S2x8x128.Idx) := ⟨y 0, y 1, y 2, eq_ix3 y⟩
  obtain ⟨d, h, rfl⟩ := ix8_of i
  refine Eq.trans ?_ (we15 O t p (ix8 d h) e).symm
  blk_simp
  rw [after0_15]
  exact (oB15 m c t p d h ht e).trans (h0 (bt t p) d h e).symm

theorem we16 (O : FVec Ideal S16x8x128 .f32) (t : Fin cfg0.N) (p : Fin 2) (i : Fin 8) (e : Fin 128) :
    O (((cfg0.win 16).blk t).view.emb (ix3 p i e)) = O (ix3 (bt t p) i e) := by
  have ht : t.val < 16 := t.isLt
  have e' : win0_16.index t = ![t.val / 2, 0, 0] := (idx t).2.2.2.2.2.2.2.2.2.2.2.2.2.2.2.2
  unfold bt
  blk_ext [e']

theorem fin16 (c : Dev nD) (O : FVec Ideal S16x8x128 .f32)
    (h0 : ∀ (B : Fin 16) (d : Fin 2) (h : Fin 4) (e : Fin 128), O (ix3 B (ix8 d h) e) = M2 (zk m c) (bk m c) B d h) :
    (dats m 0 c).arrAt 16 cfg0.N = O := by
  refine (dats m 0 c).arrAt_eq_of_covers 16 _ (by decide +kernel) fun t hf y => ?_
  have ht : t.val % 2 = 1 := (flush0_16 t).mp hf
  obtain ⟨p, i, e, rfl⟩ : ∃ (p : Fin 2) (i : Fin 8) (e : Fin 128), y = (ix3 p i e : S2x8x128.Idx) := ⟨y 0, y 1, y 2, eq_ix3 y⟩
  obtain ⟨d, h, rfl⟩ := ix8_of i
  refine Eq.trans ?_ (we16 O t p (ix8 d h) e).symm
  blk_simp
  rw [after0_16]
  exact (oB16 m c t p d h ht e).trans (h0 (bt t p) d h e).symm

end Cert.MlstmIdeal.Read
-- ==== Proof.MlstmCumsum.lean ====
module

public import proofs.«01_k».proof.Proof.Gen.MlstmRefIdeal.Run
public import proofs.«01_k».proof.Proof.MlstmSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmRefIdeal.Read

open Cert.MlstmRefIdeal Cert.MlstmRefIdeal.Gen Cert.Chunk

/-- Position `n` of the window is its index `(0, 0, n)`. -/
theorem symm3 (n : Fin (⟨3, ![1, 1, 128]⟩ : Shape).numel) (a : Fin 3) :
    ((⟨3, ![1, 1, 128]⟩ : Shape).rowMajor.symm n a).val = if a = 2 then n.val else 0 := by
  have h := Shape.rowMajor_val_three ((⟨3, ![1, 1, 128]⟩ : Shape).rowMajor.symm n)
  rw [Equiv.apply_symm_apply] at h
  have h0 : ((⟨3, ![1, 1, 128]⟩ : Shape).rowMajor.symm n 0).val < 1 := ((⟨3, ![1, 1, 128]⟩ : Shape).rowMajor.symm n 0).isLt
  have h1 : ((⟨3, ![1, 1, 128]⟩ : Shape).rowMajor.symm n 1).val < 1 := ((⟨3, ![1, 1, 128]⟩ : Shape).rowMajor.symm n 1).isLt
  have e1 : (![1, 1, 128] : Fin 3 → Nat) 1 = 1 := rfl
  have e2 : (![1, 1, 128] : Fin 3 → Nat) 2 = 128 := rfl
  rw [e1, e2] at h
  fin_cases a
  · show ((⟨3, ![1, 1, 128]⟩ : Shape).rowMajor.symm n 0).val = 0
    omega
  · show ((⟨3, ![1, 1, 128]⟩ : Shape).rowMajor.symm n 1).val = 0
    omega
  · show ((⟨3, ![1, 1, 128]⟩ : Shape).rowMajor.symm n 2).val = n.val
    omega

theorem foldl_add_sum {β : Type} (L : List β) (f : β → EReal) (v : EReal) : L.foldl (fun r n => r + f n) v = v + (L.map f).sum := by
  induction L generalizing v with
  | nil => simp
  | cons a L ih => rw [List.foldl_cons, ih, List.map_cons, List.sum_cons, add_assoc]

theorem sum_shift (f : Fin 128 → EReal) (t : Fin 128) :
    (∑ n : Fin 128, if h : 127 ≤ t.val + n.val then f ⟨t.val + n.val - 127, by omega⟩ else 0)
      = ∑ s : Fin 128, if s ≤ t then f s else 0 := by
  refine Eq.trans ?_ (Equiv.sum_comp (Equiv.addRight (t + 1)) fun s : Fin 128 => if s ≤ t then f s else 0)
  refine Finset.sum_congr rfl fun n _ => ?_
  have ht := t.isLt
  have hn := n.isLt
  have hv : (n + (t + 1)).val = (n.val + (t.val + 1)) % 128 := by
    rw [Fin.val_add, Fin.val_add]
    show (n.val + (t.val + 1) % 128) % 128 = _
    omega
  show _ = if n + (t + 1) ≤ t then f (n + (t + 1)) else 0
  by_cases h : 127 ≤ t.val + n.val
  · rw [dif_pos h, if_pos (Fin.le_def.2 (by rw [hv]; omega))]
    refine congrArg f (Fin.ext ?_)
    rw [hv]
    show t.val + n.val - 127 = _
    omega
  · rw [dif_neg h, if_neg (fun hle => by have := Fin.le_def.1 hle; rw [hv] at this; omega)]

theorem numel3 : (⟨3, ![1, 1, 128]⟩ : Shape).numel = 128 := by decide

/-- The running sum along the last axis, written as a padded window sum. -/
theorem cumsum_at (x : FVec Ideal S16x4x128 .f32) (v : EReal) (hv : v = 0) (b : Fin 16) (h : Fin 4) (t : Fin 128) :
    Ideal.hostReduceWindowAdd ![1, 1, 128] ![1, 1, 1] ![0, 0, 127] ![0, 0, 0] reduceWindows_S16x4x128_S16x4x128_w1s1p0_0_w1s1p0_0_w128s1p127_0 x v (ix3 b h t)
      = ∑ s : Fin 128, if s ≤ t then x (ix3 b h s) else 0 := by
  subst hv
  unfold Ideal.hostReduceWindowAdd Host.reduceWindow
  refine (foldl_add_sum _ _ _).trans ?_
  rw [zero_add, ← sum_shift, ← List.ofFn_eq_map, List.sum_ofFn]
  refine (Equiv.sum_comp (finCongr numel3.symm) _).symm.trans (Finset.sum_congr rfl fun n _ => ?_)
  have hb := b.isLt
  have hh := h.isLt
  have ht := t.isLt
  have hn := n.isLt
  have w0 := symm3 (finCongr numel3.symm n) 0
  have w1 := symm3 (finCongr numel3.symm n) 1
  have w2 : ((⟨3, ![1, 1, 128]⟩ : Shape).rowMajor.symm (finCongr numel3.symm n) 2).val = n.val := symm3 (finCongr numel3.symm n) 2
  rw [if_neg (by decide)] at w0 w1
  by_cases hle : 127 ≤ t.val + n.val
  · rw [dif_pos hle, dif_pos]
    · refine congrArg x (funext fun a => Fin.ext ?_)
      match a with
      | ⟨0, _⟩ =>
        show b.val * 1 + ((⟨3, ![1, 1, 128]⟩ : Shape).rowMajor.symm (finCongr numel3.symm n) 0).val - 0 = b.val
        rw [w0]; omega
      | ⟨1, _⟩ =>
        show h.val * 1 + ((⟨3, ![1, 1, 128]⟩ : Shape).rowMajor.symm (finCongr numel3.symm n) 1).val - 0 = h.val
        rw [w1]; omega
      | ⟨2, _⟩ =>
        show t.val * 1 + ((⟨3, ![1, 1, 128]⟩ : Shape).rowMajor.symm (finCongr numel3.symm n) 2).val - 127 = t.val + n.val - 127
        rw [w2]; omega
    · intro a
      match a with
      | ⟨0, _⟩ =>
        show 0 ≤ b.val * 1 + ((⟨3, ![1, 1, 128]⟩ : Shape).rowMajor.symm (finCongr numel3.symm n) 0).val ∧ b.val * 1 + ((⟨3, ![1, 1, 128]⟩ : Shape).rowMajor.symm (finCongr numel3.symm n) 0).val - 0 < 16
        rw [w0]; omega
      | ⟨1, _⟩ =>
        show 0 ≤ h.val * 1 + ((⟨3, ![1, 1, 128]⟩ : Shape).rowMajor.symm (finCongr numel3.symm n) 1).val ∧ h.val * 1 + ((⟨3, ![1, 1, 128]⟩ : Shape).rowMajor.symm (finCongr numel3.symm n) 1).val - 0 < 4
        rw [w1]; omega
      | ⟨2, _⟩ =>
        show 127 ≤ t.val * 1 + ((⟨3, ![1, 1, 128]⟩ : Shape).rowMajor.symm (finCongr numel3.symm n) 2).val ∧ t.val * 1 + ((⟨3, ![1, 1, 128]⟩ : Shape).rowMajor.symm (finCongr numel3.symm n) 2).val - 127 < 128
        rw [w2]; omega
  · rw [dif_neg hle, dif_neg]
    intro hin
    have h2 := (hin 2).1
    change 127 ≤ t.val * 1 + ((⟨3, ![1, 1, 128]⟩ : Shape).rowMajor.symm (finCongr numel3.symm n) 2).val at h2
    rw [w2] at h2
    omega

end Cert.MlstmRefIdeal.Read
-- ==== Proof.MlstmRefChunk.lean ====
module

public import proofs.«01_k».proof.Proof.Gen.MlstmRefIdeal.Run
public import proofs.«01_k».proof.Proof.MlstmCumsum
public import proofs.«01_k».proof.Proof.MlstmVal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmRefIdeal.Read

open Cert.MlstmRefIdeal Cert.MlstmRefIdeal.Gen Cert.Chunk
open Cert.MlstmIdeal.Read (lo up)

/-- The running sum of the forget gates along a chunk. -/
def rB (x : FVec Ideal S16x4x128 .f32) : FVec Ideal S16x4x128 .f32 :=
  Host.reduceWindowAdd ![1, 1, 128] ![1, 1, 1] ![0, 0, 127] ![0, 0, 0] x (broadcastInDim S_ ![] bcast_S_S_ (constant S_ .f32 0x00000000#32)) reduceWindows_S16x4x128_S16x4x128_w1s1p0_0_w1s1p0_0_w128s1p127_0 h_S_

/-- The carried stabilizer added to the running sum. -/
def rA (b : FVec Ideal S16x4x128 .f32) (m : FVec Ideal S16x4 .f32) : FVec Ideal S16x4x128 .f32 :=
  addf b (broadcastInDim S16x4x128 ![0, 1, 2] bcast_S16x4x1_S16x4x128_0_1_2 (broadcastInDim S16x4x1 ![0, 1] bcast_S16x4_S16x4x1_0_1 m))

/-- The decay matrix, −∞ above the diagonal. -/
def rD (b li : FVec Ideal S16x4x128 .f32) : FVec Ideal S16x4x128x128 .f32 :=
  select (broadcastInDim S16x4x128x128 ![2, 3] bcast_S128x128_S16x4x128x128_2_3 (cmpi .sge (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (addf (subf (broadcastInDim S16x4x128x128 ![0, 1, 2, 3] bcast_S16x4x128x1_S16x4x128x128_0_1_2_3 (broadcastInDim S16x4x128x1 ![0, 1, 2] bcast_S16x4x128_S16x4x128x1_0_1_2 b)) (broadcastInDim S16x4x128x128 ![0, 1, 2, 3] bcast_S16x4x1x128_S16x4x128x128_0_1_2_3 (broadcastInDim S16x4x1x128 ![0, 1, 3] bcast_S16x4x128_S16x4x1x128_0_1_3 b))) (broadcastInDim S16x4x128x128 ![0, 1, 2, 3] bcast_S16x4x1x128_S16x4x128x128_0_1_2_3 (broadcastInDim S16x4x1x128 ![0, 1, 3] bcast_S16x4x128_S16x4x1x128_0_1_3 li))) (broadcastInDim S16x4x128x128 ![] bcast_S_S16x4x128x128 (id (constant S_ .f32 0xFF800000#32)))

/-- The stabilizer of every row. -/
def rM (a : FVec Ideal S16x4x128 .f32) (d : FVec Ideal S16x4x128x128 .f32) : FVec Ideal S16x4x128 .f32 :=
  maximumf a (Host.reduce FloatOps.maximumf d (constant S_ .f32 0xFF800000#32) reducesTo_S16x4x128x128_S16x4x128_d3 h_S_)

/-- The weights of a chunk's rows. -/
def rW (d : FVec Ideal S16x4x128x128 .f32) (mt : FVec Ideal S16x4x128 .f32) : FVec Ideal S16x4x128x128 .f32 :=
  Host.exp (subf d (broadcastInDim S16x4x128x128 ![0, 1, 2, 3] bcast_S16x4x128x1_S16x4x128x128_0_1_2_3 (broadcastInDim S16x4x128x1 ![0, 1, 2] bcast_S16x4x128_S16x4x128x1_0_1_2 mt)))

/-- The weight of the carried state. -/
def rW0 (a mt : FVec Ideal S16x4x128 .f32) : FVec Ideal S16x4x128 .f32 :=
  Host.exp (subf a mt)

/-- The weighted products of queries and keys. -/
def rS (w q k : FVec Ideal S16x4x128x128 .f32) : FVec Ideal S16x4x128x128 .f32 :=
  mulf w (Host.dotGeneral dot_S16x4x128x128_S16x4x128x128_S16x4x128x128_3_3_2_2_01_01 none q k)

/-- A chunk's hidden rows. -/
def rH (w0 : FVec Ideal S16x4x128 .f32) (q v : FVec Ideal S16x4x128x128 .f32) (s C : FVec Ideal S16x4x128x128 .f32) (n mt : FVec Ideal S16x4x128 .f32) : FVec Ideal S16x4x128x128 .f32 :=
  (Host.divf (addf (mulf (broadcastInDim S16x4x128x128 ![0, 1, 2, 3] bcast_S16x4x128x1_S16x4x128x128_0_1_2_3 (broadcastInDim S16x4x128x1 ![0, 1, 2] bcast_S16x4x128_S16x4x128x1_0_1_2 w0)) (Host.dotGeneral dot_S16x4x128x128_S16x4x128x128_S16x4x128x128_3_3_2_2_01_01 none q C)) (Host.dotGeneral dot_S16x4x128x128_S16x4x128x128_S16x4x128x128_3_2_2_3_01_01 none s v)) (broadcastInDim S16x4x128x128 ![0, 1, 2, 3] bcast_S16x4x128x1_S16x4x128x128_0_1_2_3 (broadcastInDim S16x4x128x1 ![0, 1, 2] bcast_S16x4x128_S16x4x128x1_0_1_2 (maximumf (Host.absf (addf (mulf w0 (Host.dotGeneral dot_S16x4x128_S16x4x128x128_S16x4x128_2_3_n_2_01_01 none n q)) (Host.reduceAdd s (constant S_ .f32 0x00000000#32) reducesTo_S16x4x128x128_S16x4x128_d3 h_S_))) (Host.exp (Host.negf mt))))))

/-- The last row of the weights. -/
def rWE (w : FVec Ideal S16x4x128x128 .f32) : FVec Ideal S16x4x128 .f32 :=
  shapeCast _ (extractStridedSlice S16x4x1x128 ![0, 0, 127, 0] w slices_S16x4x128x128_S16x4x1x128_0_0_127_0) shapeCasts_S16x4x1x128_S16x4x128

/-- The last of the carried state's weights. -/
def rW0E (w0 : FVec Ideal S16x4x128 .f32) : FVec Ideal S16x4 .f32 :=
  shapeCast _ (extractStridedSlice S16x4x1 ![0, 0, 127] w0 slices_S16x4x128_S16x4x1_0_0_127) shapeCasts_S16x4x1_S16x4

/-- The next matrix state. -/
def rC (we : FVec Ideal S16x4x128 .f32) (w0e : FVec Ideal S16x4 .f32) (k v C : FVec Ideal S16x4x128x128 .f32) : FVec Ideal S16x4x128x128 .f32 :=
  addf (mulf (broadcastInDim S16x4x128x128 ![0, 1, 2, 3] bcast_S16x4x1x1_S16x4x128x128_0_1_2_3 (broadcastInDim S16x4x1x1 ![0, 1] bcast_S16x4_S16x4x1x1_0_1 w0e)) C) (Host.dotGeneral dot_S16x4x128x128_S16x4x128x128_S16x4x128x128_2_2_3_3_01_01 none (mulf (broadcastInDim S16x4x128x128 ![0, 1, 2, 3] bcast_S16x4x128x1_S16x4x128x128_0_1_2_3 (broadcastInDim S16x4x128x1 ![0, 1, 2] bcast_S16x4x128_S16x4x128x1_0_1_2 we)) v) k)

/-- The next normalizer. -/
def rN (we : FVec Ideal S16x4x128 .f32) (w0e : FVec Ideal S16x4 .f32) (k : FVec Ideal S16x4x128x128 .f32) (n : FVec Ideal S16x4x128 .f32) : FVec Ideal S16x4x128 .f32 :=
  addf (mulf (broadcastInDim S16x4x128 ![0, 1, 2] bcast_S16x4x1_S16x4x128_0_1_2 (broadcastInDim S16x4x1 ![0, 1] bcast_S16x4_S16x4x1_0_1 w0e)) n) (Host.dotGeneral dot_S16x4x128_S16x4x128x128_S16x4x128_2_2_n_3_01_01 none we k)

/-- The next stabilizer. -/
def rME (mt : FVec Ideal S16x4x128 .f32) : FVec Ideal S16x4 .f32 :=
  (shapeCast _ (extractStridedSlice S16x4x1 ![0, 0, 127] mt slices_S16x4x128_S16x4x1_0_0_127) shapeCasts_S16x4x1_S16x4)

theorem rB_at (x : FVec Ideal S16x4x128 .f32) (b : Fin 16) (h : Fin 4) (t : Fin 128) :
    rB x (ix3 b h t) = bS lo (fun s => x (ix3 b h s)) t := by
  refine (cumsum_at x _ (by pointwise) b h t).trans ?_
  simp only [bS, lo, decide_eq_true_eq]

theorem rA_at (b : FVec Ideal S16x4x128 .f32) (m : FVec Ideal S16x4 .f32) (B : Fin 16) (h : Fin 4) (t : Fin 128) :
    rA b m (ix3 B h t) = b (ix3 B h t) + m (ix2 B h) := by
  pointwise [rA]

theorem sge_lo (t s : Fin 128) :
    IntOp.cmpi .sge (BitVec.ofNat 32 t.val) (BitVec.ofNat 32 s.val) = if lo t s then 1#1 else 0#1 := by
  revert t s
  decide +kernel

theorem rD_at (b li : FVec Ideal S16x4x128 .f32) (B : Fin 16) (h : Fin 4) (t s : Fin 128) :
    rD b li (ix4 B h t s) = dS lo (fun s => b (ix3 B h s)) (fun s => li (ix3 B h s)) t s := by
  pointwise [rD]
  rw [sge_lo]
  unfold dS
  by_cases hk : lo t s = true
  · rw [if_pos hk, if_pos hk]
    rfl
  · rw [if_neg hk, if_neg hk]
    exact Cert.MlstmIdeal.Read.ninf

theorem rM_at (a : FVec Ideal S16x4x128 .f32) (d : FVec Ideal S16x4x128x128 .f32) (B : Fin 16) (h : Fin 4) (t : Fin 128) :
    rM a d (ix3 B h t) = max (a (ix3 B h t)) (⨆ s : Fin 128, d (ix4 B h t s)) := by
  pointwise [rM]
  rw [Cert.MlstmIdeal.Read.fold_max_ninf]

theorem rW_at (d : FVec Ideal S16x4x128x128 .f32) (mt : FVec Ideal S16x4x128 .f32) (B : Fin 16) (h : Fin 4) (t s : Fin 128) :
    rW d mt (ix4 B h t s) = Ideal.exp (d (ix4 B h t s) - mt (ix3 B h t)) := by
  pointwise [rW]

theorem rW0_at (a mt : FVec Ideal S16x4x128 .f32) (B : Fin 16) (h : Fin 4) (t : Fin 128) :
    rW0 a mt (ix3 B h t) = Ideal.exp (a (ix3 B h t) - mt (ix3 B h t)) := by
  pointwise [rW0]

theorem rS_at (w q k : FVec Ideal S16x4x128x128 .f32) (B : Fin 16) (h : Fin 4) (t s : Fin 128) :
    rS w q k (ix4 B h t s) = w (ix4 B h t s) * ∑ e : Fin 128, q (ix4 B h t e) * k (ix4 B h s e) := by
  pointwise [rS]

theorem rH_at (w0 : FVec Ideal S16x4x128 .f32) (q v s C : FVec Ideal S16x4x128x128 .f32) (n mt : FVec Ideal S16x4x128 .f32)
    (B : Fin 16) (h : Fin 4) (t d : Fin 128) :
    rH w0 q v s C n mt (ix4 B h t d)
      = Ideal.div (w0 (ix3 B h t) * (∑ e : Fin 128, q (ix4 B h t e) * C (ix4 B h d e)) + ∑ s' : Fin 128, s (ix4 B h t s') * v (ix4 B h s' d))
          (max (max (w0 (ix3 B h t) * (∑ e : Fin 128, n (ix3 B h e) * q (ix4 B h t e)) + ∑ s' : Fin 128, s (ix4 B h t s'))
            (-(w0 (ix3 B h t) * (∑ e : Fin 128, n (ix3 B h e) * q (ix4 B h t e)) + ∑ s' : Fin 128, s (ix4 B h t s'))))
            (Ideal.exp (-mt (ix3 B h t)))) := by
  pointwise [rH]
  rfl

theorem rWE_at (w : FVec Ideal S16x4x128x128 .f32) (B : Fin 16) (h : Fin 4) (s : Fin 128) :
    rWE w (ix3 B h s) = w (ix4 B h 127 s) := by
  pointwise [rWE]

theorem rW0E_at (w0 : FVec Ideal S16x4x128 .f32) (B : Fin 16) (h : Fin 4) :
    rW0E w0 (ix2 B h) = w0 (ix3 B h 127) := by
  pointwise [rW0E]

theorem rC_at (we : FVec Ideal S16x4x128 .f32) (w0e : FVec Ideal S16x4 .f32) (k v C : FVec Ideal S16x4x128x128 .f32)
    (B : Fin 16) (h : Fin 4) (d e : Fin 128) :
    rC we w0e k v C (ix4 B h d e) = w0e (ix2 B h) * C (ix4 B h d e) + ∑ s : Fin 128, we (ix3 B h s) * v (ix4 B h s d) * k (ix4 B h s e) := by
  pointwise [rC]

theorem rN_at (we : FVec Ideal S16x4x128 .f32) (w0e : FVec Ideal S16x4 .f32) (k : FVec Ideal S16x4x128x128 .f32)
    (n : FVec Ideal S16x4x128 .f32) (B : Fin 16) (h : Fin 4) (e : Fin 128) :
    rN we w0e k n (ix3 B h e) = w0e (ix2 B h) * n (ix3 B h e) + ∑ s : Fin 128, we (ix3 B h s) * k (ix4 B h s e) := by
  pointwise [rN]

theorem rME_at (mt : FVec Ideal S16x4x128 .f32) (B : Fin 16) (h : Fin 4) : rME mt (ix2 B h) = mt (ix3 B h 127) := by
  pointwise [rME]

end Cert.MlstmRefIdeal.Read
-- ==== Proof.MlstmRefStep.lean ====
module

public import proofs.«01_k».proof.Proof.MlstmRefChunk
public import proofs.«01_k».proof.Proof.MlstmGoal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmRefIdeal.Read

open Cert.MlstmRefIdeal Cert.MlstmRefIdeal.Gen Cert.Chunk
open Cert.MlstmIdeal.Read (lo up)

/-- One chunk's stabilizers, decay weights and state weights from its gates and the carried stabilizer. -/
def sM (lf li : FVec Ideal S16x4x128 .f32) (m : FVec Ideal S16x4 .f32) : FVec Ideal S16x4x128 .f32 := rM (rA (rB lf) m) (rD (rB lf) li)
/-- The decay weights. -/
def sW (lf li : FVec Ideal S16x4x128 .f32) (m : FVec Ideal S16x4 .f32) : FVec Ideal S16x4x128x128 .f32 := rW (rD (rB lf) li) (sM lf li m)
/-- The state weights. -/
def sW0 (lf li : FVec Ideal S16x4x128 .f32) (m : FVec Ideal S16x4 .f32) : FVec Ideal S16x4x128 .f32 := rW0 (rA (rB lf) m) (sM lf li m)
/-- The hidden rows. -/
def sH (lf li : FVec Ideal S16x4x128 .f32) (m : FVec Ideal S16x4 .f32) (q k v C : FVec Ideal S16x4x128x128 .f32) (n : FVec Ideal S16x4x128 .f32) : FVec Ideal S16x4x128x128 .f32 :=
  rH (sW0 lf li m) q v (rS (sW lf li m) q k) C n (sM lf li m)
/-- The next matrix state. -/
def sC (lf li : FVec Ideal S16x4x128 .f32) (m : FVec Ideal S16x4 .f32) (k v C : FVec Ideal S16x4x128x128 .f32) : FVec Ideal S16x4x128x128 .f32 := rC (rWE (sW lf li m)) (rW0E (sW0 lf li m)) k v C
/-- The next normalizer. -/
def sN (lf li : FVec Ideal S16x4x128 .f32) (m : FVec Ideal S16x4 .f32) (k : FVec Ideal S16x4x128x128 .f32) (n : FVec Ideal S16x4x128 .f32) : FVec Ideal S16x4x128 .f32 := rN (rWE (sW lf li m)) (rW0E (sW0 lf li m)) k n

section
variable (lf li : FVec Ideal S16x4x128 .f32) (m : FVec Ideal S16x4 .f32) (B : Fin 16) (h : Fin 4)

theorem sM_at (t : Fin 128) : sM lf li m (ix3 B h t)
    = mS lo (bS lo fun s => lf (ix3 B h s)) (fun s => li (ix3 B h s)) (m (ix2 B h)) t := by
  unfold sM
  rw [rM_at, rA_at]
  simp only [rD_at, rB_at]
  rfl

theorem sW_at (t s : Fin 128) : sW lf li m (ix4 B h t s)
    = wS lo (bS lo fun s => lf (ix3 B h s)) (fun s => li (ix3 B h s)) (m (ix2 B h)) t s := by
  unfold sW
  rw [rW_at, sM_at, rD_at]
  simp only [rB_at]
  rfl

theorem sW0_at (t : Fin 128) : sW0 lf li m (ix3 B h t)
    = w0S lo (bS lo fun s => lf (ix3 B h s)) (fun s => li (ix3 B h s)) (m (ix2 B h)) t := by
  unfold sW0
  rw [rW0_at, sM_at, rA_at, rB_at]
  rfl

theorem sH_at (q k v C : FVec Ideal S16x4x128x128 .f32) (n : FVec Ideal S16x4x128 .f32) (t j : Fin 128) : sH lf li m q k v C n (ix4 B h t j)
    = hS lo (bS lo fun s => lf (ix3 B h s)) (fun s => li (ix3 B h s)) (m (ix2 B h)) (fun s e => q (ix4 B h s e))
        (fun s e => k (ix4 B h s e)) (fun s e => v (ix4 B h s e)) (fun a e => C (ix4 B h a e)) (fun e => n (ix3 B h e)) t j := by
  unfold sH
  rw [rH_at]
  simp only [rS_at, sW_at, sW0_at, sM_at, mul_comm (n _)]
  rfl

theorem sC_at (k v C : FVec Ideal S16x4x128x128 .f32) (a e : Fin 128) : sC lf li m k v C (ix4 B h a e)
    = CS lo (bS lo fun s => lf (ix3 B h s)) (fun s => li (ix3 B h s)) (m (ix2 B h))
        (fun s e => k (ix4 B h s e)) (fun s e => v (ix4 B h s e)) (fun a e => C (ix4 B h a e)) 127 a e := by
  unfold sC
  rw [rC_at, rW0E_at]
  simp only [rWE_at, sW_at, sW0_at]
  rfl

theorem sN_at (k : FVec Ideal S16x4x128x128 .f32) (n : FVec Ideal S16x4x128 .f32) (e : Fin 128) : sN lf li m k n (ix3 B h e)
    = nS lo (bS lo fun s => lf (ix3 B h s)) (fun s => li (ix3 B h s)) (m (ix2 B h))
        (fun s e => k (ix4 B h s e)) (fun e => n (ix3 B h e)) 127 e := by
  unfold sN
  rw [rN_at, rW0E_at]
  simp only [rWE_at, sW_at, sW0_at]
  rfl

end

/-- How direction `d`'s rows lie in a chunk of the reference: the second direction's are reversed. -/
def eD (d : Fin 2) : Equiv.Perm (Fin 128) := ![Equiv.refl _, Fin.revPerm] d

theorem hK (d : Fin 2) : ∀ t s, lo t s = KK d (eD d t) (eD d s) := by
  fin_cases d
  · intro t s; rfl
  · intro t s
    exact (decide_eq_decide.2 Fin.rev_le_rev.symm)

theorem eD_end (d : Fin 2) : eD d 127 = TE d := by
  fin_cases d <;> rfl

section
variable (z : Fin 16 → Fin 256 → Fin 3856 → EReal) (bg : Fin 4 → Fin 4 → EReal) (d : Fin 2)
  (lf0 li0 lf1 li1 : FVec Ideal S16x4x128 .f32) (m0 : FVec Ideal S16x4 .f32) (q0 k0 v0 C0 q1 k1 v1 : FVec Ideal S16x4x128x128 .f32) (n0 : FVec Ideal S16x4x128 .f32) (B : Fin 16) (h : Fin 4)
  (hlf0 : ∀ s, lf0 (ix3 B h s) = gF z bg B d h 0 (eD d s)) (hli0 : ∀ s, li0 (ix3 B h s) = gI z bg B d h 0 (eD d s))
  (hlf1 : ∀ s, lf1 (ix3 B h s) = gF z bg B d h 1 (eD d s)) (hli1 : ∀ s, li1 (ix3 B h s) = gI z bg B d h 1 (eD d s))
  (hq0 : ∀ s e, q0 (ix4 B h s e) = xQ z B d h 0 (eD d s) e) (hk0 : ∀ s e, k0 (ix4 B h s e) = xK z B d h 0 (eD d s) e)
  (hv0 : ∀ s e, v0 (ix4 B h s e) = xV z B d h 0 (eD d s) e)
  (hq1 : ∀ s e, q1 (ix4 B h s e) = xQ z B d h 1 (eD d s) e) (hk1 : ∀ s e, k1 (ix4 B h s e) = xK z B d h 1 (eD d s) e)
  (hv1 : ∀ s e, v1 (ix4 B h s e) = xV z B d h 1 (eD d s) e)
  (hm : m0 (ix2 B h) = 0) (hC : ∀ a e, C0 (ix4 B h a e) = 0) (hn : ∀ e, n0 (ix3 B h e) = 0)

include hlf0 hli0 hm in
theorem m1_ref : rME (sM lf0 li0 m0) (ix2 B h) = M1 z bg B d h := by
  rw [rME_at, sM_at]
  simp only [hlf0, hli0, hm, bS_perm (eD d) (KK d) lo (hK d)]
  rw [funext (fun t => bS_perm (eD d) (KK d) lo (hK d) (gF z bg B d h 0) t), mS_perm (eD d) (KK d) lo (hK d), eD_end]
  rfl

include hlf0 hli0 hk0 hv0 hm hC in
theorem c1_ref (a e : Fin 128) : sC lf0 li0 m0 k0 v0 C0 (ix4 B h a e) = C1 z bg B d h a e := by
  rw [sC_at]
  simp only [hlf0, hli0, hk0, hv0, hm, hC]
  rw [funext (fun t => bS_perm (eD d) (KK d) lo (hK d) (gF z bg B d h 0) t)]
  refine (CS_perm (eD d) (KK d) lo (hK d) _ _ _ (xK z B d h 0) (xV z B d h 0) _ _ _ _).trans ?_
  rw [eD_end]
  rfl

include hlf0 hli0 hk0 hm hn in
theorem n1_ref (e : Fin 128) : sN lf0 li0 m0 k0 n0 (ix3 B h e) = N1 z bg B d h e := by
  rw [sN_at]
  simp only [hlf0, hli0, hk0, hm, hn]
  rw [funext (fun t => bS_perm (eD d) (KK d) lo (hK d) (gF z bg B d h 0) t)]
  refine (nS_perm (eD d) (KK d) lo (hK d) _ _ _ (xK z B d h 0) _ _ _).trans ?_
  rw [eD_end]
  rfl

include hlf0 hli0 hq0 hk0 hv0 hm hC hn in
theorem h0_ref (t j : Fin 128) : sH lf0 li0 m0 q0 k0 v0 C0 n0 (ix4 B h t j) = H0 z bg B d h (eD d t) j := by
  rw [sH_at]
  simp only [hlf0, hli0, hq0, hk0, hv0, hm, hC, hn]
  rw [funext (fun t => bS_perm (eD d) (KK d) lo (hK d) (gF z bg B d h 0) t)]
  exact hS_perm (eD d) (KK d) lo (hK d) _ _ _ (xQ z B d h 0) (xK z B d h 0) (xV z B d h 0) _ _ _ _

include hlf0 hli0 hlf1 hli1 hm in
theorem m2_ref : rME (sM lf1 li1 (rME (sM lf0 li0 m0))) (ix2 B h) = M2 z bg B d h := by
  rw [rME_at, sM_at]
  simp only [hlf1, hli1, m1_ref z bg d lf0 li0 m0 B h hlf0 hli0 hm]
  rw [funext (fun t => bS_perm (eD d) (KK d) lo (hK d) (gF z bg B d h 1) t), mS_perm (eD d) (KK d) lo (hK d), eD_end]
  rfl

include hlf0 hli0 hlf1 hli1 hk0 hv0 hk1 hv1 hm hC in
theorem c2_ref (a e : Fin 128) : sC lf1 li1 (rME (sM lf0 li0 m0)) k1 v1 (sC lf0 li0 m0 k0 v0 C0) (ix4 B h a e) = C2 z bg B d h a e := by
  rw [sC_at]
  simp only [hlf1, hli1, hk1, hv1, m1_ref z bg d lf0 li0 m0 B h hlf0 hli0 hm, c1_ref z bg d lf0 li0 m0 k0 v0 C0 B h hlf0 hli0 hk0 hv0 hm hC]
  rw [funext (fun t => bS_perm (eD d) (KK d) lo (hK d) (gF z bg B d h 1) t)]
  refine (CS_perm (eD d) (KK d) lo (hK d) _ _ _ (xK z B d h 1) (xV z B d h 1) _ _ _ _).trans ?_
  rw [eD_end]
  rfl

include hlf0 hli0 hlf1 hli1 hk0 hk1 hm hn in
theorem n2_ref (e : Fin 128) : sN lf1 li1 (rME (sM lf0 li0 m0)) k1 (sN lf0 li0 m0 k0 n0) (ix3 B h e) = N2 z bg B d h e := by
  rw [sN_at]
  simp only [hlf1, hli1, hk1, m1_ref z bg d lf0 li0 m0 B h hlf0 hli0 hm, n1_ref z bg d lf0 li0 m0 k0 n0 B h hlf0 hli0 hk0 hm hn]
  rw [funext (fun t => bS_perm (eD d) (KK d) lo (hK d) (gF z bg B d h 1) t)]
  refine (nS_perm (eD d) (KK d) lo (hK d) _ _ _ (xK z B d h 1) _ _ _).trans ?_
  rw [eD_end]
  rfl

include hlf0 hli0 hlf1 hli1 hk0 hv0 hq1 hk1 hv1 hm hC hn in
theorem h1_ref (t j : Fin 128) :
    sH lf1 li1 (rME (sM lf0 li0 m0)) q1 k1 v1 (sC lf0 li0 m0 k0 v0 C0) (sN lf0 li0 m0 k0 n0) (ix4 B h t j) = H1 z bg B d h (eD d t) j := by
  rw [sH_at]
  simp only [hlf1, hli1, hq1, hk1, hv1, m1_ref z bg d lf0 li0 m0 B h hlf0 hli0 hm,
    c1_ref z bg d lf0 li0 m0 k0 v0 C0 B h hlf0 hli0 hk0 hv0 hm hC, n1_ref z bg d lf0 li0 m0 k0 n0 B h hlf0 hli0 hk0 hm hn]
  rw [funext (fun t => bS_perm (eD d) (KK d) lo (hK d) (gF z bg B d h 1) t)]
  exact hS_perm (eD d) (KK d) lo (hK d) _ _ _ (xQ z B d h 1) (xK z B d h 1) (xV z B d h 1) _ _ _ _

end

end Cert.MlstmRefIdeal.Read
-- ==== Proof.MlstmRefArr.lean ====
module

public import proofs.«01_k».proof.Proof.MlstmRefStep
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmRefIdeal.Read

open Cert.MlstmRefIdeal Cert.MlstmRefIdeal.Gen Cert.Chunk
open Cert.MlstmIdeal.Read (lo up scl)

/-- The queries. -/
def aQ (z : FVec Ideal S16x256x3856 .f32) : FVec Ideal S16x256x4x128 .f32 :=
  shapeCast _ (extractStridedSlice S16x256x512 ![0, 0, 0] z slices_S16x256x3856_S16x256x512_0_0_0) shapeCasts_S16x256x512_S16x256x4x128

/-- The scaled keys. -/
def aK (z : FVec Ideal S16x256x3856 .f32) : FVec Ideal S16x256x4x128 .f32 :=
  mulf (shapeCast _ (extractStridedSlice S16x256x512 ![0, 0, 512] z slices_S16x256x3856_S16x256x512_0_0_512) shapeCasts_S16x256x512_S16x256x4x128) (broadcastInDim S16x256x4x128 ![] bcast_S_S16x256x4x128 (constant S_ .f32 0x3DB504F3#32))

/-- The values. -/
def aV (z : FVec Ideal S16x256x3856 .f32) : FVec Ideal S16x256x4x128 .f32 :=
  shapeCast _ (extractStridedSlice S16x256x512 ![0, 0, 1024] z slices_S16x256x3856_S16x256x512_0_0_1024) shapeCasts_S16x256x512_S16x256x4x128

/-- The gates. -/
def aG (z : FVec Ideal S16x256x3856 .f32) (b : FVec Ideal S4x4 .f32) : FVec Ideal S16x256x4x4 .f32 :=
  addf (shapeCast _ (extractStridedSlice S16x256x16 ![0, 0, 2048] z slices_S16x256x3856_S16x256x16_0_0_2048) shapeCasts_S16x256x16_S16x256x4x4) (broadcastInDim S16x256x4x4 ![0, 1, 2, 3] bcast_S1x1x4x4_S16x256x4x4_0_1_2_3 (broadcastInDim S1x1x4x4 ![2, 3] bcast_S4x4_S1x1x4x4_2_3 b))

/-- Gate 0 of every head. -/
def g0 (g : FVec Ideal S16x256x4x4 .f32) : FVec Ideal S16x256x4 .f32 :=
  shapeCast _ (extractStridedSlice S16x256x1x4 ![0, 0, 0, 0] g slices_S16x256x4x4_S16x256x1x4_0_0_0_0) shapeCasts_S16x256x1x4_S16x256x4

/-- Gate 1 of every head. -/
def g1 (g : FVec Ideal S16x256x4x4 .f32) : FVec Ideal S16x256x4 .f32 :=
  shapeCast _ (extractStridedSlice S16x256x1x4 ![0, 0, 1, 0] g slices_S16x256x4x4_S16x256x1x4_0_0_1_0) shapeCasts_S16x256x1x4_S16x256x4

/-- Gate 2 of every head. -/
def g2 (g : FVec Ideal S16x256x4x4 .f32) : FVec Ideal S16x256x4 .f32 :=
  shapeCast _ (extractStridedSlice S16x256x1x4 ![0, 0, 2, 0] g slices_S16x256x4x4_S16x256x1x4_0_0_2_0) shapeCasts_S16x256x1x4_S16x256x4

/-- Gate 3 of every head. -/
def g3 (g : FVec Ideal S16x256x4x4 .f32) : FVec Ideal S16x256x4 .f32 :=
  shapeCast _ (extractStridedSlice S16x256x1x4 ![0, 0, 3, 0] g slices_S16x256x4x4_S16x256x1x4_0_0_3_0) shapeCasts_S16x256x1x4_S16x256x4

/-- Logarithm of the sigmoid. -/
def ls (g : FVec Ideal S16x256x4 .f32) : FVec Ideal S16x256x4 .f32 :=
  Host.negf (select (cmpf .une (subf (Host.negf g) (broadcastInDim S16x256x4 ![] bcast_S_S16x256x4 (constant S_ .f32 0x00000000#32))) (subf (Host.negf g) (broadcastInDim S16x256x4 ![] bcast_S_S16x256x4 (constant S_ .f32 0x00000000#32)))) (addf (Host.negf g) (broadcastInDim S16x256x4 ![] bcast_S_S16x256x4 (constant S_ .f32 0x00000000#32))) (addf (maximumf (Host.negf g) (broadcastInDim S16x256x4 ![] bcast_S_S16x256x4 (constant S_ .f32 0x00000000#32))) (Host.log1p (Host.exp (Host.negf (Host.absf (subf (Host.negf g) (broadcastInDim S16x256x4 ![] bcast_S_S16x256x4 (constant S_ .f32 0x00000000#32)))))))))

/-- Chunk 0 of every head's rows. -/
def ck0 (x : FVec Ideal S16x256x4x128 .f32) : FVec Ideal S16x4x128x128 .f32 :=
  shapeCast _ (extractStridedSlice S1x16x4x128x128 ![0, 0, 0, 0, 0] (transpose S2x16x4x128x128 [1, 0, 3, 2, 4] (shapeCast _ x shapeCasts_S16x256x4x128_S16x2x128x4x128) transposes_S16x2x128x4x128_S2x16x4x128x128_1_0_3_2_4) slices_S2x16x4x128x128_S1x16x4x128x128_0_0_0_0_0) shapeCasts_S1x16x4x128x128_S16x4x128x128

/-- Chunk 1 of every head's rows. -/
def ck1 (x : FVec Ideal S16x256x4x128 .f32) : FVec Ideal S16x4x128x128 .f32 :=
  shapeCast _ (extractStridedSlice S1x16x4x128x128 ![1, 0, 0, 0, 0] (transpose S2x16x4x128x128 [1, 0, 3, 2, 4] (shapeCast _ x shapeCasts_S16x256x4x128_S16x2x128x4x128) transposes_S16x2x128x4x128_S2x16x4x128x128_1_0_3_2_4) slices_S2x16x4x128x128_S1x16x4x128x128_1_0_0_0_0) shapeCasts_S1x16x4x128x128_S16x4x128x128

/-- Chunk 0 of every head's gates. -/
def gk0 (x : FVec Ideal S16x256x4 .f32) : FVec Ideal S16x4x128 .f32 :=
  shapeCast _ (extractStridedSlice S1x16x4x128 ![0, 0, 0, 0] (transpose S2x16x4x128 [1, 0, 3, 2] (shapeCast _ x shapeCasts_S16x256x4_S16x2x128x4) transposes_S16x2x128x4_S2x16x4x128_1_0_3_2) slices_S2x16x4x128_S1x16x4x128_0_0_0_0) shapeCasts_S1x16x4x128_S16x4x128

/-- Chunk 1 of every head's gates. -/
def gk1 (x : FVec Ideal S16x256x4 .f32) : FVec Ideal S16x4x128 .f32 :=
  shapeCast _ (extractStridedSlice S1x16x4x128 ![1, 0, 0, 0] (transpose S2x16x4x128 [1, 0, 3, 2] (shapeCast _ x shapeCasts_S16x256x4_S16x2x128x4) transposes_S16x2x128x4_S2x16x4x128_1_0_3_2) slices_S2x16x4x128_S1x16x4x128_1_0_0_0) shapeCasts_S1x16x4x128_S16x4x128

/-- The rows from the last to the first. -/
def rv4 (x : FVec Ideal S16x256x4x128 .f32) : FVec Ideal S16x256x4x128 .f32 :=
  Host.reverse [1] x

/-- The gates from the last to the first. -/
def rv3 (x : FVec Ideal S16x256x4 .f32) : FVec Ideal S16x256x4 .f32 :=
  Host.reverse [1] x

/-- The matrix state at the start. -/
def z4  : FVec Ideal S16x4x128x128 .f32 :=
  broadcastInDim S16x4x128x128 ![] bcast_S_S16x4x128x128 (constant S_ .f32 0x00000000#32)

/-- The normalizer at the start. -/
def z3  : FVec Ideal S16x4x128 .f32 :=
  broadcastInDim S16x4x128 ![] bcast_S_S16x4x128 (constant S_ .f32 0x00000000#32)

/-- The stabilizer at the start. -/
def z2  : FVec Ideal S16x4 .f32 :=
  broadcastInDim S16x4 ![] bcast_S_S16x4 (constant S_ .f32 0x00000000#32)

/-- Two chunks of hidden rows, back in the order of the rows. -/
def st (a b : FVec Ideal S16x4x128x128 .f32) : FVec Ideal S16x256x4x128 .f32 :=
  shapeCast _ (transpose S16x2x128x4x128 [1, 0, 3, 2, 4] (concatenate S2x16x4x128x128 0 [⟨S1x16x4x128x128, (broadcastInDim S1x16x4x128x128 ![1, 2, 3, 4] bcast_S16x4x128x128_S1x16x4x128x128_1_2_3_4 a)⟩, ⟨S1x16x4x128x128, (broadcastInDim S1x16x4x128x128 ![1, 2, 3, 4] bcast_S16x4x128x128_S1x16x4x128x128_1_2_3_4 b)⟩] concatenates_S1x16x4x128x128_S1x16x4x128x128_S2x16x4x128x128_d0) transposes_S2x16x4x128x128_S16x2x128x4x128_1_0_3_2_4) shapeCasts_S16x2x128x4x128_S16x256x4x128

/-- The heads of a row side by side. -/
def fl (x : FVec Ideal S16x256x4x128 .f32) : FVec Ideal S16x256x512 .f32 :=
  shapeCast _ x shapeCasts_S16x256x4x128_S16x256x512

/-- The matrix states of both directions. -/
def jC (a b : FVec Ideal S16x4x128x128 .f32) : FVec Ideal S16x8x128x128 .f32 :=
  concatenate S16x8x128x128 1 [⟨S16x4x128x128, a⟩, ⟨S16x4x128x128, b⟩] concatenates_S16x4x128x128_S16x4x128x128_S16x8x128x128_d1

/-- The normalizers of both directions. -/
def jN (a b : FVec Ideal S16x4x128 .f32) : FVec Ideal S16x8x128 .f32 :=
  concatenate S16x8x128 1 [⟨S16x4x128, a⟩, ⟨S16x4x128, b⟩] concatenates_S16x4x128_S16x4x128_S16x8x128_d1

/-- The stabilizers of both directions, along the lanes. -/
def jM (a b : FVec Ideal S16x4 .f32) : FVec Ideal S16x8x128 .f32 :=
  broadcastInDim S16x8x128 ![0, 1, 2] bcast_S16x8x1_S16x8x128_0_1_2 (broadcastInDim S16x8x1 ![0, 1] bcast_S16x8_S16x8x1_0_1 (concatenate S16x8 1 [⟨S16x4, a⟩, ⟨S16x4, b⟩] concatenates_S16x4_S16x4_S16x8_d1))

section
variable (z : FVec Ideal S16x256x3856 .f32) (b : FVec Ideal S4x4 .f32)

/-- The first direction's hidden rows. -/
def oF  : FVec Ideal S16x256x512 .f32 :=
  fl (st (sH (gk0 (ls (g1 (aG z b)))) (gk0 (g0 (aG z b))) z2 (ck0 (aQ z)) (ck0 (aK z)) (ck0 (aV z)) z4 z3) (sH (gk1 (ls (g1 (aG z b)))) (gk1 (g0 (aG z b))) (rME (sM (gk0 (ls (g1 (aG z b)))) (gk0 (g0 (aG z b))) z2)) (ck1 (aQ z)) (ck1 (aK z)) (ck1 (aV z)) (sC (gk0 (ls (g1 (aG z b)))) (gk0 (g0 (aG z b))) z2 (ck0 (aK z)) (ck0 (aV z)) z4) (sN (gk0 (ls (g1 (aG z b)))) (gk0 (g0 (aG z b))) z2 (ck0 (aK z)) z3)))

/-- The second direction's hidden rows. -/
def oB  : FVec Ideal S16x256x512 .f32 :=
  fl (rv4 (st (sH (gk0 (rv3 (ls (g3 (aG z b))))) (gk0 (rv3 (g2 (aG z b)))) z2 (ck0 (rv4 (aQ z))) (ck0 (rv4 (aK z))) (ck0 (rv4 (aV z))) z4 z3) (sH (gk1 (rv3 (ls (g3 (aG z b))))) (gk1 (rv3 (g2 (aG z b)))) (rME (sM (gk0 (rv3 (ls (g3 (aG z b))))) (gk0 (rv3 (g2 (aG z b)))) z2)) (ck1 (rv4 (aQ z))) (ck1 (rv4 (aK z))) (ck1 (rv4 (aV z))) (sC (gk0 (rv3 (ls (g3 (aG z b))))) (gk0 (rv3 (g2 (aG z b)))) z2 (ck0 (rv4 (aK z))) (ck0 (rv4 (aV z))) z4) (sN (gk0 (rv3 (ls (g3 (aG z b))))) (gk0 (rv3 (g2 (aG z b)))) z2 (ck0 (rv4 (aK z))) z3))))

/-- The matrix states. -/
def oC  : FVec Ideal S16x8x128x128 .f32 :=
  jC (sC (gk1 (ls (g1 (aG z b)))) (gk1 (g0 (aG z b))) (rME (sM (gk0 (ls (g1 (aG z b)))) (gk0 (g0 (aG z b))) z2)) (ck1 (aK z)) (ck1 (aV z)) (sC (gk0 (ls (g1 (aG z b)))) (gk0 (g0 (aG z b))) z2 (ck0 (aK z)) (ck0 (aV z)) z4)) (sC (gk1 (rv3 (ls (g3 (aG z b))))) (gk1 (rv3 (g2 (aG z b)))) (rME (sM (gk0 (rv3 (ls (g3 (aG z b))))) (gk0 (rv3 (g2 (aG z b)))) z2)) (ck1 (rv4 (aK z))) (ck1 (rv4 (aV z))) (sC (gk0 (rv3 (ls (g3 (aG z b))))) (gk0 (rv3 (g2 (aG z b)))) z2 (ck0 (rv4 (aK z))) (ck0 (rv4 (aV z))) z4))

/-- The normalizers. -/
def oN  : FVec Ideal S16x8x128 .f32 :=
  jN (sN (gk1 (ls (g1 (aG z b)))) (gk1 (g0 (aG z b))) (rME (sM (gk0 (ls (g1 (aG z b)))) (gk0 (g0 (aG z b))) z2)) (ck1 (aK z)) (sN (gk0 (ls (g1 (aG z b)))) (gk0 (g0 (aG z b))) z2 (ck0 (aK z)) z3)) (sN (gk1 (rv3 (ls (g3 (aG z b))))) (gk1 (rv3 (g2 (aG z b)))) (rME (sM (gk0 (rv3 (ls (g3 (aG z b))))) (gk0 (rv3 (g2 (aG z b)))) z2)) (ck1 (rv4 (aK z))) (sN (gk0 (rv3 (ls (g3 (aG z b))))) (gk0 (rv3 (g2 (aG z b)))) z2 (ck0 (rv4 (aK z))) z3))

/-- The stabilizers. -/
def oM  : FVec Ideal S16x8x128 .f32 :=
  jM (rME (sM (gk1 (ls (g1 (aG z b)))) (gk1 (g0 (aG z b))) (rME (sM (gk0 (ls (g1 (aG z b)))) (gk0 (g0 (aG z b))) z2)))) (rME (sM (gk1 (rv3 (ls (g3 (aG z b))))) (gk1 (rv3 (g2 (aG z b)))) (rME (sM (gk0 (rv3 (ls (g3 (aG z b))))) (gk0 (rv3 (g2 (aG z b)))) z2))))

end

theorem g0_at (g : FVec Ideal S16x256x4x4 .f32) (B : Fin 16) (s : Fin 256) (h : Fin 4) : g0 g (ix3 B s h) = g (ix4 B s 0 h) := by
  pointwise [g0]

theorem g1_at (g : FVec Ideal S16x256x4x4 .f32) (B : Fin 16) (s : Fin 256) (h : Fin 4) : g1 g (ix3 B s h) = g (ix4 B s 1 h) := by
  pointwise [g1]

theorem g2_at (g : FVec Ideal S16x256x4x4 .f32) (B : Fin 16) (s : Fin 256) (h : Fin 4) : g2 g (ix3 B s h) = g (ix4 B s 2 h) := by
  pointwise [g2]

theorem g3_at (g : FVec Ideal S16x256x4x4 .f32) (B : Fin 16) (s : Fin 256) (h : Fin 4) : g3 g (ix3 B s h) = g (ix4 B s 3 h) := by
  pointwise [g3]

theorem aQ_at (z : FVec Ideal S16x256x3856 .f32) (B : Fin 16) (s : Fin 256) (h : Fin 4) (e : Fin 128) :
    aQ z (ix4 B s h e) = z (ix3 B s ⟨h.val * 128 + e.val, by omega⟩) := by
  pointwise [aQ]

theorem aK_at (z : FVec Ideal S16x256x3856 .f32) (B : Fin 16) (s : Fin 256) (h : Fin 4) (e : Fin 128) :
    aK z (ix4 B s h e) = z (ix3 B s ⟨512 + (h.val * 128 + e.val), by omega⟩) * scl := by
  pointwise [aK, scl]

theorem aV_at (z : FVec Ideal S16x256x3856 .f32) (B : Fin 16) (s : Fin 256) (h : Fin 4) (e : Fin 128) :
    aV z (ix4 B s h e) = z (ix3 B s ⟨1024 + (h.val * 128 + e.val), by omega⟩) := by
  pointwise [aV]

theorem aG_at (z : FVec Ideal S16x256x3856 .f32) (b : FVec Ideal S4x4 .f32) (B : Fin 16) (s : Fin 256) (g h : Fin 4) :
    aG z b (ix4 B s g h) = z (ix3 B s ⟨2048 + (g.val * 4 + h.val), by omega⟩) + b (ix2 g h) := by
  pointwise [aG]

theorem ls_at (g : FVec Ideal S16x256x4 .f32) (B : Fin 16) (s : Fin 256) (h : Fin 4) : ls g (ix3 B s h) = lsig (g (ix3 B s h)) := by
  rw [← lsig_neg]
  pointwise [ls]
  rw [if_neg (by simp)]
  rfl

theorem ck0_at (x : FVec Ideal S16x256x4x128 .f32) (B : Fin 16) (h : Fin 4) (s e : Fin 128) :
    ck0 x (ix4 B h s e) = x (ix4 B ⟨s.val, by omega⟩ h e) := by
  pointwise [ck0]

theorem ck1_at (x : FVec Ideal S16x256x4x128 .f32) (B : Fin 16) (h : Fin 4) (s e : Fin 128) :
    ck1 x (ix4 B h s e) = x (ix4 B ⟨128 + s.val, by omega⟩ h e) := by
  pointwise [ck1]

theorem gk0_at (x : FVec Ideal S16x256x4 .f32) (B : Fin 16) (h : Fin 4) (s : Fin 128) :
    gk0 x (ix3 B h s) = x (ix3 B ⟨s.val, by omega⟩ h) := by
  pointwise [gk0]

theorem gk1_at (x : FVec Ideal S16x256x4 .f32) (B : Fin 16) (h : Fin 4) (s : Fin 128) :
    gk1 x (ix3 B h s) = x (ix3 B ⟨128 + s.val, by omega⟩ h) := by
  pointwise [gk1]

theorem rv4_at (x : FVec Ideal S16x256x4x128 .f32) (B : Fin 16) (s : Fin 256) (h : Fin 4) (e : Fin 128) :
    rv4 x (ix4 B s h e) = x (ix4 B ⟨255 - s.val, by omega⟩ h e) := by
  unfold rv4 Host.reverse
  refine congrArg x (funext fun a => ?_)
  fin_cases a
  · rfl
  · refine Fin.ext ?_
    show (Fin.rev s).val = 255 - s.val
    rw [Fin.val_rev]
    omega
  · rfl
  · rfl

theorem rv3_at (x : FVec Ideal S16x256x4 .f32) (B : Fin 16) (s : Fin 256) (h : Fin 4) :
    rv3 x (ix3 B s h) = x (ix3 B ⟨255 - s.val, by omega⟩ h) := by
  unfold rv3 Host.reverse
  refine congrArg x (funext fun a => ?_)
  fin_cases a
  · rfl
  · refine Fin.ext ?_
    show (Fin.rev s).val = 255 - s.val
    rw [Fin.val_rev]
    omega
  · rfl

theorem z4_at (B : Fin 16) (h : Fin 4) (a e : Fin 128) : z4 (ix4 B h a e) = 0 := by
  pointwise [z4]

theorem z3_at (B : Fin 16) (h : Fin 4) (e : Fin 128) : z3 (ix3 B h e) = 0 := by
  pointwise [z3]

theorem z2_at (B : Fin 16) (h : Fin 4) : z2 (ix2 B h) = 0 := by
  pointwise [z2]

theorem st_at0 (a b : FVec Ideal S16x4x128x128 .f32) (B : Fin 16) (s : Fin 128) (h : Fin 4) (e : Fin 128) :
    st a b (ix4 B ⟨s.val, by omega⟩ h e) = a (ix4 B h s e) := by
  pointwise [st]
  have hs := s.isLt
  rw [dif_pos (by omega)]
  refine congrArg a (congrArg (fun r => (ix4 B h r e : S16x4x128x128.Idx)) (Fin.ext ?_))
  show s.val % 128 = s.val
  omega

theorem st_at1 (a b : FVec Ideal S16x4x128x128 .f32) (B : Fin 16) (s : Fin 128) (h : Fin 4) (e : Fin 128) :
    st a b (ix4 B ⟨128 + s.val, by omega⟩ h e) = b (ix4 B h s e) := by
  pointwise [st]
  rw [dif_neg (by omega)]

theorem fl_at (x : FVec Ideal S16x256x4x128 .f32) (B : Fin 16) (s : Fin 256) (h : Fin 4) (e : Fin 128) :
    fl x (ix3 B s ⟨h.val * 128 + e.val, by omega⟩) = x (ix4 B s h e) := by
  pointwise [fl]

theorem jC_at (a b : FVec Ideal S16x4x128x128 .f32) (B : Fin 16) (d : Fin 2) (h : Fin 4) (i j : Fin 128) :
    jC a b (ix4 B ⟨4 * d.val + h.val, by omega⟩ i j) = (![a, b] d) (ix4 B h i j) := by
  fin_cases d
  · pointwise [jC]
  · pointwise [jC]

theorem jN_at (a b : FVec Ideal S16x4x128 .f32) (B : Fin 16) (d : Fin 2) (h : Fin 4) (j : Fin 128) :
    jN a b (ix3 B ⟨4 * d.val + h.val, by omega⟩ j) = (![a, b] d) (ix3 B h j) := by
  fin_cases d
  · pointwise [jN]
  · pointwise [jN]

theorem jM_at (a b : FVec Ideal S16x4 .f32) (B : Fin 16) (d : Fin 2) (h : Fin 4) (j : Fin 128) :
    jM a b (ix3 B ⟨4 * d.val + h.val, by omega⟩ j) = (![a, b] d) (ix2 B h) := by
  fin_cases d
  · pointwise [jM]
  · pointwise [jM]

/-- A three-axis array as a function of its coordinates. -/
def zf (z : FVec Ideal S16x256x3856 .f32) : Fin 16 → Fin 256 → Fin 3856 → EReal := fun B s l => z (ix3 B s l)
/-- The gates' bias as a function of its coordinates. -/
def bf (b : FVec Ideal S4x4 .f32) : Fin 4 → Fin 4 → EReal := fun g h => b (ix2 g h)

section
variable (z : FVec Ideal S16x256x3856 .f32) (b : FVec Ideal S4x4 .f32) (B : Fin 16) (h : Fin 4)

theorem hf00 (s : Fin 128) : gk0 (ls (g1 (aG z b))) (ix3 B h s) = gF (zf z) (bf b) B 0 h 0 (eD 0 s) := by
  rw [gk0_at, ls_at, g1_at, aG_at]
  have hs := s.isLt
  have hr : (⟨s.val, by omega⟩ : Fin 256) = row 0 0 (eD 0 s) := Fin.ext (by
    simp only [row, eD]
    try (show _ = _ * 128 + (Fin.rev s).val; rw [Fin.val_rev])
    simp <;> omega)
  rw [hr]
  simp only [gF, zf, bf]
  refine congrArg lsig (congrArg₂ (· + ·) (congrArg (fun l => z (ix3 B _ l)) (Fin.ext ?_)) rfl)
  simp <;> omega

theorem hi00 (s : Fin 128) : gk0 (g0 (aG z b)) (ix3 B h s) = gI (zf z) (bf b) B 0 h 0 (eD 0 s) := by
  rw [gk0_at, g0_at, aG_at]
  have hs := s.isLt
  have hr : (⟨s.val, by omega⟩ : Fin 256) = row 0 0 (eD 0 s) := Fin.ext (by
    simp only [row, eD]
    try (show _ = _ * 128 + (Fin.rev s).val; rw [Fin.val_rev])
    simp <;> omega)
  rw [hr]
  simp only [gI, zf, bf]
  refine congrArg₂ (· + ·) (congrArg (fun l => z (ix3 B _ l)) (Fin.ext ?_)) rfl
  simp <;> omega

theorem hq00 (s e : Fin 128) : ck0 (aQ z) (ix4 B h s e) = xQ (zf z) B 0 h 0 (eD 0 s) e := by
  rw [ck0_at, aQ_at]
  have hs := s.isLt
  have hr : (⟨s.val, by omega⟩ : Fin 256) = row 0 0 (eD 0 s) := Fin.ext (by
    simp only [row, eD]
    try (show _ = _ * 128 + (Fin.rev s).val; rw [Fin.val_rev])
    simp <;> omega)
  rw [hr]
  rfl

theorem hk00 (s e : Fin 128) : ck0 (aK z) (ix4 B h s e) = xK (zf z) B 0 h 0 (eD 0 s) e := by
  rw [ck0_at, aK_at]
  have hs := s.isLt
  have hr : (⟨s.val, by omega⟩ : Fin 256) = row 0 0 (eD 0 s) := Fin.ext (by
    simp only [row, eD]
    try (show _ = _ * 128 + (Fin.rev s).val; rw [Fin.val_rev])
    simp <;> omega)
  rw [hr]
  rfl

theorem hv00 (s e : Fin 128) : ck0 (aV z) (ix4 B h s e) = xV (zf z) B 0 h 0 (eD 0 s) e := by
  rw [ck0_at, aV_at]
  have hs := s.isLt
  have hr : (⟨s.val, by omega⟩ : Fin 256) = row 0 0 (eD 0 s) := Fin.ext (by
    simp only [row, eD]
    try (show _ = _ * 128 + (Fin.rev s).val; rw [Fin.val_rev])
    simp <;> omega)
  rw [hr]
  rfl

theorem hf01 (s : Fin 128) : gk1 (ls (g1 (aG z b))) (ix3 B h s) = gF (zf z) (bf b) B 0 h 1 (eD 0 s) := by
  rw [gk1_at, ls_at, g1_at, aG_at]
  have hs := s.isLt
  have hr : (⟨128 + s.val, by omega⟩ : Fin 256) = row 0 1 (eD 0 s) := Fin.ext (by
    simp only [row, eD]
    try (show _ = _ * 128 + (Fin.rev s).val; rw [Fin.val_rev])
    simp <;> omega)
  rw [hr]
  simp only [gF, zf, bf]
  refine congrArg lsig (congrArg₂ (· + ·) (congrArg (fun l => z (ix3 B _ l)) (Fin.ext ?_)) rfl)
  simp <;> omega

theorem hi01 (s : Fin 128) : gk1 (g0 (aG z b)) (ix3 B h s) = gI (zf z) (bf b) B 0 h 1 (eD 0 s) := by
  rw [gk1_at, g0_at, aG_at]
  have hs := s.isLt
  have hr : (⟨128 + s.val, by omega⟩ : Fin 256) = row 0 1 (eD 0 s) := Fin.ext (by
    simp only [row, eD]
    try (show _ = _ * 128 + (Fin.rev s).val; rw [Fin.val_rev])
    simp <;> omega)
  rw [hr]
  simp only [gI, zf, bf]
  refine congrArg₂ (· + ·) (congrArg (fun l => z (ix3 B _ l)) (Fin.ext ?_)) rfl
  simp <;> omega

theorem hq01 (s e : Fin 128) : ck1 (aQ z) (ix4 B h s e) = xQ (zf z) B 0 h 1 (eD 0 s) e := by
  rw [ck1_at, aQ_at]
  have hs := s.isLt
  have hr : (⟨128 + s.val, by omega⟩ : Fin 256) = row 0 1 (eD 0 s) := Fin.ext (by
    simp only [row, eD]
    try (show _ = _ * 128 + (Fin.rev s).val; rw [Fin.val_rev])
    simp <;> omega)
  rw [hr]
  rfl

theorem hk01 (s e : Fin 128) : ck1 (aK z) (ix4 B h s e) = xK (zf z) B 0 h 1 (eD 0 s) e := by
  rw [ck1_at, aK_at]
  have hs := s.isLt
  have hr : (⟨128 + s.val, by omega⟩ : Fin 256) = row 0 1 (eD 0 s) := Fin.ext (by
    simp only [row, eD]
    try (show _ = _ * 128 + (Fin.rev s).val; rw [Fin.val_rev])
    simp <;> omega)
  rw [hr]
  rfl

theorem hv01 (s e : Fin 128) : ck1 (aV z) (ix4 B h s e) = xV (zf z) B 0 h 1 (eD 0 s) e := by
  rw [ck1_at, aV_at]
  have hs := s.isLt
  have hr : (⟨128 + s.val, by omega⟩ : Fin 256) = row 0 1 (eD 0 s) := Fin.ext (by
    simp only [row, eD]
    try (show _ = _ * 128 + (Fin.rev s).val; rw [Fin.val_rev])
    simp <;> omega)
  rw [hr]
  rfl

theorem hf10 (s : Fin 128) : gk0 (rv3 (ls (g3 (aG z b)))) (ix3 B h s) = gF (zf z) (bf b) B 1 h 0 (eD 1 s) := by
  rw [gk0_at, rv3_at, ls_at, g3_at, aG_at]
  have hs := s.isLt
  have hr : (⟨255 - (⟨s.val, by omega⟩ : Fin 256).val, by omega⟩ : Fin 256) = row 1 0 (eD 1 s) := Fin.ext (by
    simp only [row, eD]
    try (show _ = _ * 128 + (Fin.rev s).val; rw [Fin.val_rev])
    simp <;> omega)
  rw [hr]
  simp only [gF, zf, bf]
  refine congrArg lsig (congrArg₂ (· + ·) (congrArg (fun l => z (ix3 B _ l)) (Fin.ext ?_)) rfl)
  simp <;> omega

theorem hi10 (s : Fin 128) : gk0 (rv3 (g2 (aG z b))) (ix3 B h s) = gI (zf z) (bf b) B 1 h 0 (eD 1 s) := by
  rw [gk0_at, rv3_at, g2_at, aG_at]
  have hs := s.isLt
  have hr : (⟨255 - (⟨s.val, by omega⟩ : Fin 256).val, by omega⟩ : Fin 256) = row 1 0 (eD 1 s) := Fin.ext (by
    simp only [row, eD]
    try (show _ = _ * 128 + (Fin.rev s).val; rw [Fin.val_rev])
    simp <;> omega)
  rw [hr]
  simp only [gI, zf, bf]
  refine congrArg₂ (· + ·) (congrArg (fun l => z (ix3 B _ l)) (Fin.ext ?_)) rfl
  simp <;> omega

theorem hq10 (s e : Fin 128) : ck0 (rv4 (aQ z)) (ix4 B h s e) = xQ (zf z) B 1 h 0 (eD 1 s) e := by
  rw [ck0_at, rv4_at, aQ_at]
  have hs := s.isLt
  have hr : (⟨255 - (⟨s.val, by omega⟩ : Fin 256).val, by omega⟩ : Fin 256) = row 1 0 (eD 1 s) := Fin.ext (by
    simp only [row, eD]
    try (show _ = _ * 128 + (Fin.rev s).val; rw [Fin.val_rev])
    simp <;> omega)
  rw [hr]
  rfl

theorem hk10 (s e : Fin 128) : ck0 (rv4 (aK z)) (ix4 B h s e) = xK (zf z) B 1 h 0 (eD 1 s) e := by
  rw [ck0_at, rv4_at, aK_at]
  have hs := s.isLt
  have hr : (⟨255 - (⟨s.val, by omega⟩ : Fin 256).val, by omega⟩ : Fin 256) = row 1 0 (eD 1 s) := Fin.ext (by
    simp only [row, eD]
    try (show _ = _ * 128 + (Fin.rev s).val; rw [Fin.val_rev])
    simp <;> omega)
  rw [hr]
  rfl

theorem hv10 (s e : Fin 128) : ck0 (rv4 (aV z)) (ix4 B h s e) = xV (zf z) B 1 h 0 (eD 1 s) e := by
  rw [ck0_at, rv4_at, aV_at]
  have hs := s.isLt
  have hr : (⟨255 - (⟨s.val, by omega⟩ : Fin 256).val, by omega⟩ : Fin 256) = row 1 0 (eD 1 s) := Fin.ext (by
    simp only [row, eD]
    try (show _ = _ * 128 + (Fin.rev s).val; rw [Fin.val_rev])
    simp <;> omega)
  rw [hr]
  rfl

theorem hf11 (s : Fin 128) : gk1 (rv3 (ls (g3 (aG z b)))) (ix3 B h s) = gF (zf z) (bf b) B 1 h 1 (eD 1 s) := by
  rw [gk1_at, rv3_at, ls_at, g3_at, aG_at]
  have hs := s.isLt
  have hr : (⟨255 - (⟨128 + s.val, by omega⟩ : Fin 256).val, by omega⟩ : Fin 256) = row 1 1 (eD 1 s) := Fin.ext (by
    simp only [row, eD]
    try (show _ = _ * 128 + (Fin.rev s).val; rw [Fin.val_rev])
    simp <;> omega)
  rw [hr]
  simp only [gF, zf, bf]
  refine congrArg lsig (congrArg₂ (· + ·) (congrArg (fun l => z (ix3 B _ l)) (Fin.ext ?_)) rfl)
  simp <;> omega

theorem hi11 (s : Fin 128) : gk1 (rv3 (g2 (aG z b))) (ix3 B h s) = gI (zf z) (bf b) B 1 h 1 (eD 1 s) := by
  rw [gk1_at, rv3_at, g2_at, aG_at]
  have hs := s.isLt
  have hr : (⟨255 - (⟨128 + s.val, by omega⟩ : Fin 256).val, by omega⟩ : Fin 256) = row 1 1 (eD 1 s) := Fin.ext (by
    simp only [row, eD]
    try (show _ = _ * 128 + (Fin.rev s).val; rw [Fin.val_rev])
    simp <;> omega)
  rw [hr]
  simp only [gI, zf, bf]
  refine congrArg₂ (· + ·) (congrArg (fun l => z (ix3 B _ l)) (Fin.ext ?_)) rfl
  simp <;> omega

theorem hq11 (s e : Fin 128) : ck1 (rv4 (aQ z)) (ix4 B h s e) = xQ (zf z) B 1 h 1 (eD 1 s) e := by
  rw [ck1_at, rv4_at, aQ_at]
  have hs := s.isLt
  have hr : (⟨255 - (⟨128 + s.val, by omega⟩ : Fin 256).val, by omega⟩ : Fin 256) = row 1 1 (eD 1 s) := Fin.ext (by
    simp only [row, eD]
    try (show _ = _ * 128 + (Fin.rev s).val; rw [Fin.val_rev])
    simp <;> omega)
  rw [hr]
  rfl

theorem hk11 (s e : Fin 128) : ck1 (rv4 (aK z)) (ix4 B h s e) = xK (zf z) B 1 h 1 (eD 1 s) e := by
  rw [ck1_at, rv4_at, aK_at]
  have hs := s.isLt
  have hr : (⟨255 - (⟨128 + s.val, by omega⟩ : Fin 256).val, by omega⟩ : Fin 256) = row 1 1 (eD 1 s) := Fin.ext (by
    simp only [row, eD]
    try (show _ = _ * 128 + (Fin.rev s).val; rw [Fin.val_rev])
    simp <;> omega)
  rw [hr]
  rfl

theorem hv11 (s e : Fin 128) : ck1 (rv4 (aV z)) (ix4 B h s e) = xV (zf z) B 1 h 1 (eD 1 s) e := by
  rw [ck1_at, rv4_at, aV_at]
  have hs := s.isLt
  have hr : (⟨255 - (⟨128 + s.val, by omega⟩ : Fin 256).val, by omega⟩ : Fin 256) = row 1 1 (eD 1 s) := Fin.ext (by
    simp only [row, eD]
    try (show _ = _ * 128 + (Fin.rev s).val; rw [Fin.val_rev])
    simp <;> omega)
  rw [hr]
  rfl

theorem rM0 : (rME (sM (gk1 (ls (g1 (aG z b)))) (gk1 (g0 (aG z b))) (rME (sM (gk0 (ls (g1 (aG z b)))) (gk0 (g0 (aG z b))) z2)))) (ix2 B h) = M2 (zf z) (bf b) B 0 h :=
  m2_ref (zf z) (bf b) 0 _ _ _ _ _ B h (hf00 z b B h) (hi00 z b B h) (hf01 z b B h) (hi01 z b B h) (z2_at B h)

theorem rC0 (a e : Fin 128) : (sC (gk1 (ls (g1 (aG z b)))) (gk1 (g0 (aG z b))) (rME (sM (gk0 (ls (g1 (aG z b)))) (gk0 (g0 (aG z b))) z2)) (ck1 (aK z)) (ck1 (aV z)) (sC (gk0 (ls (g1 (aG z b)))) (gk0 (g0 (aG z b))) z2 (ck0 (aK z)) (ck0 (aV z)) z4)) (ix4 B h a e) = C2 (zf z) (bf b) B 0 h a e :=
  c2_ref (zf z) (bf b) 0 _ _ _ _ _ _ _ _ _ _ B h (hf00 z b B h) (hi00 z b B h) (hf01 z b B h) (hi01 z b B h) (hk00 z B h) (hv00 z B h) (hk01 z B h) (hv01 z B h) (z2_at B h) (z4_at B h) a e

theorem rN0 (e : Fin 128) : (sN (gk1 (ls (g1 (aG z b)))) (gk1 (g0 (aG z b))) (rME (sM (gk0 (ls (g1 (aG z b)))) (gk0 (g0 (aG z b))) z2)) (ck1 (aK z)) (sN (gk0 (ls (g1 (aG z b)))) (gk0 (g0 (aG z b))) z2 (ck0 (aK z)) z3)) (ix3 B h e) = N2 (zf z) (bf b) B 0 h e :=
  n2_ref (zf z) (bf b) 0 _ _ _ _ _ _ _ _ B h (hf00 z b B h) (hi00 z b B h) (hf01 z b B h) (hi01 z b B h) (hk00 z B h) (hk01 z B h) (z2_at B h) (z3_at B h) e

theorem rH00 (t j : Fin 128) : (sH (gk0 (ls (g1 (aG z b)))) (gk0 (g0 (aG z b))) z2 (ck0 (aQ z)) (ck0 (aK z)) (ck0 (aV z)) z4 z3) (ix4 B h t j) = H0 (zf z) (bf b) B 0 h (eD 0 t) j :=
  h0_ref (zf z) (bf b) 0 _ _ _ _ _ _ _ _ B h (hf00 z b B h) (hi00 z b B h) (hq00 z B h) (hk00 z B h) (hv00 z B h) (z2_at B h) (z4_at B h) (z3_at B h) t j

theorem rH10 (t j : Fin 128) : (sH (gk1 (ls (g1 (aG z b)))) (gk1 (g0 (aG z b))) (rME (sM (gk0 (ls (g1 (aG z b)))) (gk0 (g0 (aG z b))) z2)) (ck1 (aQ z)) (ck1 (aK z)) (ck1 (aV z)) (sC (gk0 (ls (g1 (aG z b)))) (gk0 (g0 (aG z b))) z2 (ck0 (aK z)) (ck0 (aV z)) z4) (sN (gk0 (ls (g1 (aG z b)))) (gk0 (g0 (aG z b))) z2 (ck0 (aK z)) z3)) (ix4 B h t j) = H1 (zf z) (bf b) B 0 h (eD 0 t) j :=
  h1_ref (zf z) (bf b) 0 _ _ _ _ _ _ _ _ _ _ _ _ B h (hf00 z b B h) (hi00 z b B h) (hf01 z b B h) (hi01 z b B h) (hk00 z B h) (hv00 z B h) (hq01 z B h) (hk01 z B h) (hv01 z B h) (z2_at B h) (z4_at B h) (z3_at B h) t j

theorem rM1 : (rME (sM (gk1 (rv3 (ls (g3 (aG z b))))) (gk1 (rv3 (g2 (aG z b)))) (rME (sM (gk0 (rv3 (ls (g3 (aG z b))))) (gk0 (rv3 (g2 (aG z b)))) z2)))) (ix2 B h) = M2 (zf z) (bf b) B 1 h :=
  m2_ref (zf z) (bf b) 1 _ _ _ _ _ B h (hf10 z b B h) (hi10 z b B h) (hf11 z b B h) (hi11 z b B h) (z2_at B h)

theorem rC1 (a e : Fin 128) : (sC (gk1 (rv3 (ls (g3 (aG z b))))) (gk1 (rv3 (g2 (aG z b)))) (rME (sM (gk0 (rv3 (ls (g3 (aG z b))))) (gk0 (rv3 (g2 (aG z b)))) z2)) (ck1 (rv4 (aK z))) (ck1 (rv4 (aV z))) (sC (gk0 (rv3 (ls (g3 (aG z b))))) (gk0 (rv3 (g2 (aG z b)))) z2 (ck0 (rv4 (aK z))) (ck0 (rv4 (aV z))) z4)) (ix4 B h a e) = C2 (zf z) (bf b) B 1 h a e :=
  c2_ref (zf z) (bf b) 1 _ _ _ _ _ _ _ _ _ _ B h (hf10 z b B h) (hi10 z b B h) (hf11 z b B h) (hi11 z b B h) (hk10 z B h) (hv10 z B h) (hk11 z B h) (hv11 z B h) (z2_at B h) (z4_at B h) a e

theorem rN1 (e : Fin 128) : (sN (gk1 (rv3 (ls (g3 (aG z b))))) (gk1 (rv3 (g2 (aG z b)))) (rME (sM (gk0 (rv3 (ls (g3 (aG z b))))) (gk0 (rv3 (g2 (aG z b)))) z2)) (ck1 (rv4 (aK z))) (sN (gk0 (rv3 (ls (g3 (aG z b))))) (gk0 (rv3 (g2 (aG z b)))) z2 (ck0 (rv4 (aK z))) z3)) (ix3 B h e) = N2 (zf z) (bf b) B 1 h e :=
  n2_ref (zf z) (bf b) 1 _ _ _ _ _ _ _ _ B h (hf10 z b B h) (hi10 z b B h) (hf11 z b B h) (hi11 z b B h) (hk10 z B h) (hk11 z B h) (z2_at B h) (z3_at B h) e

theorem rH01 (t j : Fin 128) : (sH (gk0 (rv3 (ls (g3 (aG z b))))) (gk0 (rv3 (g2 (aG z b)))) z2 (ck0 (rv4 (aQ z))) (ck0 (rv4 (aK z))) (ck0 (rv4 (aV z))) z4 z3) (ix4 B h t j) = H0 (zf z) (bf b) B 1 h (eD 1 t) j :=
  h0_ref (zf z) (bf b) 1 _ _ _ _ _ _ _ _ B h (hf10 z b B h) (hi10 z b B h) (hq10 z B h) (hk10 z B h) (hv10 z B h) (z2_at B h) (z4_at B h) (z3_at B h) t j

theorem rH11 (t j : Fin 128) : (sH (gk1 (rv3 (ls (g3 (aG z b))))) (gk1 (rv3 (g2 (aG z b)))) (rME (sM (gk0 (rv3 (ls (g3 (aG z b))))) (gk0 (rv3 (g2 (aG z b)))) z2)) (ck1 (rv4 (aQ z))) (ck1 (rv4 (aK z))) (ck1 (rv4 (aV z))) (sC (gk0 (rv3 (ls (g3 (aG z b))))) (gk0 (rv3 (g2 (aG z b)))) z2 (ck0 (rv4 (aK z))) (ck0 (rv4 (aV z))) z4) (sN (gk0 (rv3 (ls (g3 (aG z b))))) (gk0 (rv3 (g2 (aG z b)))) z2 (ck0 (rv4 (aK z))) z3)) (ix4 B h t j) = H1 (zf z) (bf b) B 1 h (eD 1 t) j :=
  h1_ref (zf z) (bf b) 1 _ _ _ _ _ _ _ _ _ _ _ _ B h (hf10 z b B h) (hi10 z b B h) (hf11 z b B h) (hi11 z b B h) (hk10 z B h) (hv10 z B h) (hq11 z B h) (hk11 z B h) (hv11 z B h) (z2_at B h) (z4_at B h) (z3_at B h) t j

theorem oC_at (d : Fin 2) (a e : Fin 128) : oC z b (ix4 B ⟨4 * d.val + h.val, by omega⟩ a e) = C2 (zf z) (bf b) B d h a e := by
  unfold oC
  rw [jC_at]
  fin_cases d
  · exact rC0 z b B h a e
  · exact rC1 z b B h a e

theorem oN_at (d : Fin 2) (e : Fin 128) : oN z b (ix3 B ⟨4 * d.val + h.val, by omega⟩ e) = N2 (zf z) (bf b) B d h e := by
  unfold oN
  rw [jN_at]
  fin_cases d
  · exact rN0 z b B h e
  · exact rN1 z b B h e

theorem oM_at (d : Fin 2) (e : Fin 128) : oM z b (ix3 B ⟨4 * d.val + h.val, by omega⟩ e) = M2 (zf z) (bf b) B d h := by
  unfold oM
  rw [jM_at]
  fin_cases d
  · exact rM0 z b B h
  · exact rM1 z b B h

theorem oF_at0 (t e : Fin 128) : oF z b (ix3 B ⟨t.val, by omega⟩ ⟨h.val * 128 + e.val, by omega⟩) = H0 (zf z) (bf b) B 0 h t e := by
  unfold oF
  rw [fl_at, st_at0]
  exact rH00 z b B h t e

theorem oF_at1 (t e : Fin 128) : oF z b (ix3 B ⟨128 + t.val, by omega⟩ ⟨h.val * 128 + e.val, by omega⟩) = H1 (zf z) (bf b) B 0 h t e := by
  unfold oF
  rw [fl_at, st_at1]
  exact rH10 z b B h t e

theorem oB_at0 (t e : Fin 128) : oB z b (ix3 B ⟨128 + t.val, by omega⟩ ⟨h.val * 128 + e.val, by omega⟩) = H0 (zf z) (bf b) B 1 h t e := by
  unfold oB
  rw [fl_at, rv4_at]
  have ht := t.isLt
  have hr : (⟨255 - (⟨128 + t.val, by omega⟩ : Fin 256).val, by omega⟩ : Fin 256) = ⟨(Fin.rev t).val, by omega⟩ := Fin.ext (by
    rw [Fin.val_rev]
    show 255 - (128 + t.val) = 128 - (t.val + 1)
    omega)
  rw [hr, st_at0]
  refine (rH01 z b B h _ e).trans ?_
  show H0 (zf z) (bf b) B 1 h (Fin.rev (Fin.rev t)) e = _
  rw [Fin.rev_rev]

theorem oB_at1 (t e : Fin 128) : oB z b (ix3 B ⟨t.val, by omega⟩ ⟨h.val * 128 + e.val, by omega⟩) = H1 (zf z) (bf b) B 1 h t e := by
  unfold oB
  rw [fl_at, rv4_at]
  have ht := t.isLt
  have hr : (⟨255 - (⟨t.val, by omega⟩ : Fin 256).val, by omega⟩ : Fin 256) = ⟨128 + (Fin.rev t).val, by omega⟩ := Fin.ext (by
    show 255 - t.val = 128 + (Fin.rev t).val
    rw [Fin.val_rev]
    omega)
  rw [hr, st_at1]
  refine (rH11 z b B h _ e).trans ?_
  show H1 (zf z) (bf b) B 1 h (Fin.rev (Fin.rev t)) e = _
  rw [Fin.rev_rev]

end

end Cert.MlstmRefIdeal.Read
-- ==== Proof.MlstmAlg.lean ====
module

public import proofs.«01_k».proof.Proof.MlstmFin
public import proofs.«01_k».proof.Proof.MlstmRefArr
public import proofs.«01_k».proof.Defs
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmIdeal.Read

open Cert.MlstmIdeal Cert.MlstmIdeal.Gen Cert.Chunk

variable (m : (ℓ : Loc nD τ sig) → Buf (Elt Ideal) ℓ) (c : Dev nD)

/-- The layer's two operands. -/
def az : FVec Ideal S16x256x3856 .f32 := m ((c : Thread nD τ).loc main_arg0)
def ab : FVec Ideal S4x4 .f32 := m ((c : Thread nD τ).loc main_arg1)

theorem p12_0 (B : Fin 16) (h : Fin 4) (s e : Fin 128) :
    (Cert.MlstmRefIdeal.Read.oF (az m c) (ab m c) : FVec Ideal S16x256x512 .f32) (ix3 B (row 0 0 s) (cl h e)) = H0 (zk m c) (bk m c) B 0 h s e := by
  have hr : row 0 0 s = ⟨s.val, by omega⟩ := Fin.ext (by
    show (0 + 0) % 2 * 128 + s.val = s.val
    omega)
  rw [hr]
  exact Cert.MlstmRefIdeal.Read.oF_at0 (az m c) (ab m c) B h s e

theorem p12_1 (B : Fin 16) (h : Fin 4) (s e : Fin 128) :
    (Cert.MlstmRefIdeal.Read.oF (az m c) (ab m c) : FVec Ideal S16x256x512 .f32) (ix3 B (row 0 1 s) (cl h e)) = H1 (zk m c) (bk m c) B 0 h s e := by
  have hr : row 0 1 s = ⟨128 + s.val, by omega⟩ := Fin.ext (by
    show (1 + 0) % 2 * 128 + s.val = 128 + s.val
    omega)
  rw [hr]
  exact Cert.MlstmRefIdeal.Read.oF_at1 (az m c) (ab m c) B h s e

theorem p13_0 (B : Fin 16) (h : Fin 4) (s e : Fin 128) :
    (Cert.MlstmRefIdeal.Read.oB (az m c) (ab m c) : FVec Ideal S16x256x512 .f32) (ix3 B (row 1 0 s) (cl h e)) = H0 (zk m c) (bk m c) B 1 h s e := by
  have hr : row 1 0 s = ⟨128 + s.val, by omega⟩ := Fin.ext (by
    show (0 + 1) % 2 * 128 + s.val = 128 + s.val
    omega)
  rw [hr]
  exact Cert.MlstmRefIdeal.Read.oB_at0 (az m c) (ab m c) B h s e

theorem p13_1 (B : Fin 16) (h : Fin 4) (s e : Fin 128) :
    (Cert.MlstmRefIdeal.Read.oB (az m c) (ab m c) : FVec Ideal S16x256x512 .f32) (ix3 B (row 1 1 s) (cl h e)) = H1 (zk m c) (bk m c) B 1 h s e := by
  have hr : row 1 1 s = ⟨s.val, by omega⟩ := Fin.ext (by
    show (1 + 1) % 2 * 128 + s.val = s.val
    omega)
  rw [hr]
  exact Cert.MlstmRefIdeal.Read.oB_at1 (az m c) (ab m c) B h s e

theorem final12 : (dats m 0 c).arrAt 12 cfg0.N = Cert.MlstmRefIdeal.Read.oF (m ((c : Thread nD τ).loc main_arg0)) (m ((c : Thread nD τ).loc main_arg1)) :=
  fin12 m c (Cert.MlstmRefIdeal.Read.oF (az m c) (ab m c)) (p12_0 m c) (p12_1 m c)

theorem final13 : (dats m 0 c).arrAt 13 cfg0.N = Cert.MlstmRefIdeal.Read.oB (m ((c : Thread nD τ).loc main_arg0)) (m ((c : Thread nD τ).loc main_arg1)) :=
  fin13 m c (Cert.MlstmRefIdeal.Read.oB (az m c) (ab m c)) (p13_0 m c) (p13_1 m c)

theorem final14 : (dats m 0 c).arrAt 14 cfg0.N = Cert.MlstmRefIdeal.Read.oC (m ((c : Thread nD τ).loc main_arg0)) (m ((c : Thread nD τ).loc main_arg1)) :=
  fin14 m c (Cert.MlstmRefIdeal.Read.oC (az m c) (ab m c)) (fun B d h a e => Cert.MlstmRefIdeal.Read.oC_at (az m c) (ab m c) B h d a e)

theorem final15 : (dats m 0 c).arrAt 15 cfg0.N = Cert.MlstmRefIdeal.Read.oN (m ((c : Thread nD τ).loc main_arg0)) (m ((c : Thread nD τ).loc main_arg1)) :=
  fin15 m c (Cert.MlstmRefIdeal.Read.oN (az m c) (ab m c)) (fun B d h e => Cert.MlstmRefIdeal.Read.oN_at (az m c) (ab m c) B h d e)

theorem final16 : (dats m 0 c).arrAt 16 cfg0.N = Cert.MlstmRefIdeal.Read.oM (m ((c : Thread nD τ).loc main_arg0)) (m ((c : Thread nD τ).loc main_arg1)) :=
  fin16 m c (Cert.MlstmRefIdeal.Read.oM (az m c) (ab m c)) (fun B d h e => Cert.MlstmRefIdeal.Read.oM_at (az m c) (ab m c) B h d e)

/-- Over the extended reals the recurrence's kernel and the reference return the same five arrays. -/
theorem algebraic : Cert.algebraic_MlstmIdeal_MlstmRefIdeal (hMlstmIdeal := Cert.MlstmIdeal.Gen.facts) (hMlstmRefIdeal := Cert.MlstmRefIdeal.Gen.facts) :=
  fun m ρ m' ρ' _ hag =>
    ⟨fun c => (dats m 0 c).arrAt 12 cfg0.N, fun c => (dats m 0 c).arrAt 13 cfg0.N, fun c => (dats m 0 c).arrAt 14 cfg0.N,
     fun c => (dats m 0 c).arrAt 15 cfg0.N, fun c => (dats m 0 c).arrAt 16 cfg0.N,
     Cert.MlstmIdeal.Value.run_blocks m ρ,
     (θ_run _ _ _).mono (fun _ h c => by
        obtain ⟨h0, h1⟩ := hag c
        obtain ⟨k0, k1, k2, k3, k4, k5⟩ := h c
        refine ⟨k0.trans ?_, k1.trans ?_, k2.trans ?_, k3.trans ?_, k4.trans ?_, k5⟩
        · refine Eq.trans ?_ (final12 m c).symm
          rw [← h0, ← h1]
          rfl
        · refine Eq.trans ?_ (final13 m c).symm
          rw [← h0, ← h1]
          rfl
        · refine Eq.trans ?_ (final14 m c).symm
          rw [← h0, ← h1]
          rfl
        · refine Eq.trans ?_ (final15 m c).symm
          rw [← h0, ← h1]
          rfl
        · refine Eq.trans ?_ (final16 m c).symm
          rw [← h0, ← h1]
          rfl) (Cert.MlstmRefIdeal.Value.run m' ρ')⟩

end Cert.MlstmIdeal.Read
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.RefFrames
public import proofs.«01_k».proof.Proof.ProjAlg
public import proofs.«01_k».proof.Proof.MergeAlg
public import proofs.«01_k».proof.Proof.MlstmAlg
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Mlstm
public import proofs.«01_k».proof.Proof.Gen.Mlstm.Skeleton
public import proofs.«01_k».proof.Proof.Gen.Mlstm.Launch
public import proofs.«01_k».proof.Proof.Gen.Mlstm.Points
public import proofs.«01_k».proof.Proof.Gen.Mlstm.Frame
public import proofs.«01_k».proof.Proof.Gen.MlstmIdeal
public import proofs.«01_k».proof.Proof.Gen.MlstmIdeal.Skeleton
public import proofs.«01_k».proof.Proof.Gen.MlstmIdeal.Launch
public import proofs.«01_k».proof.Proof.Gen.MlstmIdeal.Points
public import proofs.«01_k».proof.Proof.Gen.MlstmIdeal.Frame
public import proofs.«01_k».proof.Proof.Gen.MlstmRefIdeal
public import proofs.«01_k».proof.Proof.Gen.AttnIdeal.Value
public import proofs.«01_k».proof.Proof.Gen.ProjIdeal.Value
public import proofs.«01_k».proof.Proof.Gen.MergeIdeal.Value
public import proofs.«01_k».proof.Proof.Gen.MlstmIdeal.Value
public import proofs.«01_k».proof.Proof.Gen.AttnRefIdeal.Run
public import proofs.«01_k».proof.Proof.Gen.ProjRefIdeal.Run
public import proofs.«01_k».proof.Proof.Gen.MergeRefIdeal.Run
public import proofs.«01_k».proof.Proof.Gen.MlstmRefIdeal.Run
public import Idealize.ShloMosaic.Adequacy
public import Idealize.ShloMosaic.Init

@[expose] public section

noncomputable section

namespace Cert.Proof

open Idealize.ShloMosaic Idealize.SL.Sem Cert.Attn

theorem claim : Cert.Claim :=
  ⟨Cert.Attn.Gen.facts, Cert.AttnIdeal.Gen.facts, Cert.AttnRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Mlstm.Gen.facts, Cert.MlstmIdeal.Gen.facts, Cert.MlstmRefIdeal.Gen.facts,
   fun m ρ _ => Cert.Attn.Gen.frame m ρ,
   fun m ρ _ => Cert.AttnIdeal.Gen.frame m ρ,
   Cert.AttnRefIdeal.Read.frame,
   fun m ρ _ => Cert.Proj.Gen.frame m ρ,
   fun m ρ _ => Cert.ProjIdeal.Gen.frame m ρ,
   Cert.ProjRefIdeal.Read.frame,
   fun m ρ _ => Cert.Merge.Gen.frame m ρ,
   fun m ρ _ => Cert.MergeIdeal.Gen.frame m ρ,
   Cert.MergeRefIdeal.Read.frame,
   fun m ρ _ => Cert.Mlstm.Gen.frame m ρ,
   fun m ρ _ => Cert.MlstmIdeal.Gen.frame m ρ,
   Cert.MlstmRefIdeal.Read.frame,
   IdealRules.named_const.statement _ _ _ _ _ rfl,
   trivial, Cert.ProjIdeal.Read.algebraic, trivial, Cert.MergeIdeal.Read.algebraic, trivial, Cert.MlstmIdeal.Read.algebraic⟩

end Cert.Proof

end
